-- ==== Defs.lean ====
def Pre_KernelIdeal [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelReferenceIdeal [hPre_inputs_finite : Cert.Pre_inputs_finite.Facts] (m : (ℓ : Loc Cert.KernelReferenceIdeal.nD Cert.KernelReferenceIdeal.τ Cert.KernelReferenceIdeal.sig) → Buf (Elt Ideal) ℓ) : Prop :=
  ∀ c : Dev Cert.KernelReferenceIdeal.nD,
    (Cert.Pre_inputs_finite.fn (F := Ideal) (m ((c.tc : Thread Cert.KernelReferenceIdeal.nD Cert.KernelReferenceIdeal.τ).loc Cert.KernelReferenceIdeal.main_arg0)) (m ((c.tc : Thread Cert.KernelReferenceIdeal.nD Cert.KernelReferenceIdeal.τ).loc Cert.KernelReferenceIdeal.main_arg1)) (m ((c.tc : Thread Cert.KernelReferenceIdeal.nD Cert.KernelReferenceIdeal.τ).loc Cert.KernelReferenceIdeal.main_arg2)) (m ((c.tc : Thread Cert.KernelReferenceIdeal.nD Cert.KernelReferenceIdeal.τ).loc Cert.KernelReferenceIdeal.main_arg3)) (m ((c.tc : Thread Cert.KernelReferenceIdeal.nD Cert.KernelReferenceIdeal.τ).loc Cert.KernelReferenceIdeal.main_arg4)) (m ((c.tc : Thread Cert.KernelReferenceIdeal.nD Cert.KernelReferenceIdeal.τ).loc Cert.KernelReferenceIdeal.main_arg5)) (m ((c.tc : Thread Cert.KernelReferenceIdeal.nD Cert.KernelReferenceIdeal.τ).loc Cert.KernelReferenceIdeal.main_arg6)) (m ((c.tc : Thread Cert.KernelReferenceIdeal.nD Cert.KernelReferenceIdeal.τ).loc Cert.KernelReferenceIdeal.main_arg7)) (m ((c.tc : Thread Cert.KernelReferenceIdeal.nD Cert.KernelReferenceIdeal.τ).loc Cert.KernelReferenceIdeal.main_arg8)) (m ((c.tc : Thread Cert.KernelReferenceIdeal.nD Cert.KernelReferenceIdeal.τ).loc Cert.KernelReferenceIdeal.main_arg9)) (m ((c.tc : Thread Cert.KernelReferenceIdeal.nD Cert.KernelReferenceIdeal.τ).loc Cert.KernelReferenceIdeal.main_arg10)) (m ((c.tc : Thread Cert.KernelReferenceIdeal.nD Cert.KernelReferenceIdeal.τ).loc Cert.KernelReferenceIdeal.main_arg11)) (m ((c.tc : Thread Cert.KernelReferenceIdeal.nD Cert.KernelReferenceIdeal.τ).loc Cert.KernelReferenceIdeal.main_arg12)) (m ((c.tc : Thread Cert.KernelReferenceIdeal.nD Cert.KernelReferenceIdeal.τ).loc Cert.KernelReferenceIdeal.main_arg13)) (m ((c.tc : Thread Cert.KernelReferenceIdeal.nD Cert.KernelReferenceIdeal.τ).loc Cert.KernelReferenceIdeal.main_arg14))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Route [hPre_means_finite : Cert.Pre_means_finite.Facts] (m : (ℓ : Loc Cert.Route.nD Cert.Route.τ Cert.Route.sig) → Buf (Elt Bits) ℓ) : Prop :=
  ∀ c : Dev Cert.Route.nD,
    (Cert.Pre_means_finite.fn (F := Bits) (m ((c.tc : Thread Cert.Route.nD Cert.Route.τ).loc Cert.Route.main_arg0))) = (fun _ => 1#1)

def Pre_RouteIdeal [hPre_means_finite : Cert.Pre_means_finite.Facts] (m : (ℓ : Loc Cert.RouteIdeal.nD Cert.RouteIdeal.τ Cert.RouteIdeal.sig) → Buf (Elt Ideal) ℓ) : Prop :=
  ∀ c : Dev Cert.RouteIdeal.nD,
    (Cert.Pre_means_finite.fn (F := Ideal) (m ((c.tc : Thread Cert.RouteIdeal.nD Cert.RouteIdeal.τ).loc Cert.RouteIdeal.main_arg0))) = (fun _ => 1#1)

def Pre_RouteReferenceIdeal [hPre_means_finite : Cert.Pre_means_finite.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_means_finite.fn (F := Ideal) (m ((c.tc : Thread Cert.RouteReferenceIdeal.nD Cert.RouteReferenceIdeal.τ).loc Cert.RouteReferenceIdeal.main_arg0))) = (fun _ => 1#1)

def Pre_Attn [hPre_windows_exist : Cert.Pre_windows_exist.Facts] (m : (ℓ : Loc Cert.Attn.nD Cert.Attn.τ Cert.Attn.sig) → Buf (Elt Bits) ℓ) : Prop :=
  ∀ c : Dev Cert.Attn.nD,
    (Cert.Pre_windows_exist.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2))) = (fun _ => 1#1)

def Pre_AttnIdeal [hPre_windows_exist : Cert.Pre_windows_exist.Facts] (m : (ℓ : Loc Cert.AttnIdeal.nD Cert.AttnIdeal.τ Cert.AttnIdeal.sig) → Buf (Elt Ideal) ℓ) : Prop :=
  ∀ c : Dev Cert.AttnIdeal.nD,
    (Cert.Pre_windows_exist.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnReferenceIdeal [hPre_windows_exist : Cert.Pre_windows_exist.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_windows_exist.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_Lepe (m : (ℓ : Loc Cert.Lepe.nD Cert.Lepe.τ Cert.Lepe.sig) → Buf (Elt Bits) ℓ) : Prop :=
  True

def Pre_LepeIdeal (m : (ℓ : Loc Cert.LepeIdeal.nD Cert.LepeIdeal.τ Cert.LepeIdeal.sig) → Buf (Elt Ideal) ℓ) : Prop :=
  True

def Pre_LepeReferenceIdeal (m : (ℓ : Loc Cert.LepeReferenceIdeal.nD Cert.LepeReferenceIdeal.τ Cert.LepeReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def quiescent_KernelIdeal [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelReferenceIdeal [hKernelReferenceIdeal : Cert.KernelReferenceIdeal.Facts] [hPre_inputs_finite : Cert.Pre_inputs_finite.Facts] : Prop :=
  ∀ (m : (ℓ : Loc Cert.KernelReferenceIdeal.nD Cert.KernelReferenceIdeal.τ Cert.KernelReferenceIdeal.sig) → Buf (Elt Ideal) ℓ) (g : Dev Cert.KernelReferenceIdeal.nD → PrngReg), Pre_KernelReferenceIdeal m →
    θ_run (Cert.KernelReferenceIdeal.defs (F := Ideal)) (onTc (τ := Cert.KernelReferenceIdeal.τ) (Cert.KernelReferenceIdeal.main (F := Ideal))) ⟨m, fun _ => 0, g⟩ (fun r => (∀ c : Dev Cert.KernelReferenceIdeal.nD,
      r.2.mem ((c.tc : Thread Cert.KernelReferenceIdeal.nD Cert.KernelReferenceIdeal.τ).loc Cert.KernelReferenceIdeal.main_arg0) = m ((c.tc : Thread Cert.KernelReferenceIdeal.nD Cert.KernelReferenceIdeal.τ).loc Cert.KernelReferenceIdeal.main_arg0)
      ∧ r.2.mem ((c.tc : Thread Cert.KernelReferenceIdeal.nD Cert.KernelReferenceIdeal.τ).loc Cert.KernelReferenceIdeal.main_arg1) = m ((c.tc : Thread Cert.KernelReferenceIdeal.nD Cert.KernelReferenceIdeal.τ).loc Cert.KernelReferenceIdeal.main_arg1)
      ∧ r.2.mem ((c.tc : Thread Cert.KernelReferenceIdeal.nD Cert.KernelReferenceIdeal.τ).loc Cert.KernelReferenceIdeal.main_arg2) = m ((c.tc : Thread Cert.KernelReferenceIdeal.nD Cert.KernelReferenceIdeal.τ).loc Cert.KernelReferenceIdeal.main_arg2)
      ∧ r.2.mem ((c.tc : Thread Cert.KernelReferenceIdeal.nD Cert.KernelReferenceIdeal.τ).loc Cert.KernelReferenceIdeal.main_arg3) = m ((c.tc : Thread Cert.KernelReferenceIdeal.nD Cert.KernelReferenceIdeal.τ).loc Cert.KernelReferenceIdeal.main_arg3)
      ∧ r.2.mem ((c.tc : Thread Cert.KernelReferenceIdeal.nD Cert.KernelReferenceIdeal.τ).loc Cert.KernelReferenceIdeal.main_arg4) = m ((c.tc : Thread Cert.KernelReferenceIdeal.nD Cert.KernelReferenceIdeal.τ).loc Cert.KernelReferenceIdeal.main_arg4)
      ∧ r.2.mem ((c.tc : Thread Cert.KernelReferenceIdeal.nD Cert.KernelReferenceIdeal.τ).loc Cert.KernelReferenceIdeal.main_arg5) = m ((c.tc : Thread Cert.KernelReferenceIdeal.nD Cert.KernelReferenceIdeal.τ).loc Cert.KernelReferenceIdeal.main_arg5)
      ∧ r.2.mem ((c.tc : Thread Cert.KernelReferenceIdeal.nD Cert.KernelReferenceIdeal.τ).loc Cert.KernelReferenceIdeal.main_arg6) = m ((c.tc : Thread Cert.KernelReferenceIdeal.nD Cert.KernelReferenceIdeal.τ).loc Cert.KernelReferenceIdeal.main_arg6)
      ∧ r.2.mem ((c.tc : Thread Cert.KernelReferenceIdeal.nD Cert.KernelReferenceIdeal.τ).loc Cert.KernelReferenceIdeal.main_arg7) = m ((c.tc : Thread Cert.KernelReferenceIdeal.nD Cert.KernelReferenceIdeal.τ).loc Cert.KernelReferenceIdeal.main_arg7)
      ∧ r.2.mem ((c.tc : Thread Cert.KernelReferenceIdeal.nD Cert.KernelReferenceIdeal.τ).loc Cert.KernelReferenceIdeal.main_arg8) = m ((c.tc : Thread Cert.KernelReferenceIdeal.nD Cert.KernelReferenceIdeal.τ).loc Cert.KernelReferenceIdeal.main_arg8)
      ∧ r.2.mem ((c.tc : Thread Cert.KernelReferenceIdeal.nD Cert.KernelReferenceIdeal.τ).loc Cert.KernelReferenceIdeal.main_arg9) = m ((c.tc : Thread Cert.KernelReferenceIdeal.nD Cert.KernelReferenceIdeal.τ).loc Cert.KernelReferenceIdeal.main_arg9)
      ∧ r.2.mem ((c.tc : Thread Cert.KernelReferenceIdeal.nD Cert.KernelReferenceIdeal.τ).loc Cert.KernelReferenceIdeal.main_arg10) = m ((c.tc : Thread Cert.KernelReferenceIdeal.nD Cert.KernelReferenceIdeal.τ).loc Cert.KernelReferenceIdeal.main_arg10)
      ∧ r.2.mem ((c.tc : Thread Cert.KernelReferenceIdeal.nD Cert.KernelReferenceIdeal.τ).loc Cert.KernelReferenceIdeal.main_arg11) = m ((c.tc : Thread Cert.KernelReferenceIdeal.nD Cert.KernelReferenceIdeal.τ).loc Cert.KernelReferenceIdeal.main_arg11)
      ∧ r.2.mem ((c.tc : Thread Cert.KernelReferenceIdeal.nD Cert.KernelReferenceIdeal.τ).loc Cert.KernelReferenceIdeal.main_arg12) = m ((c.tc : Thread Cert.KernelReferenceIdeal.nD Cert.KernelReferenceIdeal.τ).loc Cert.KernelReferenceIdeal.main_arg12)
      ∧ r.2.mem ((c.tc : Thread Cert.KernelReferenceIdeal.nD Cert.KernelReferenceIdeal.τ).loc Cert.KernelReferenceIdeal.main_arg13) = m ((c.tc : Thread Cert.KernelReferenceIdeal.nD Cert.KernelReferenceIdeal.τ).loc Cert.KernelReferenceIdeal.main_arg13)
      ∧ r.2.mem ((c.tc : Thread Cert.KernelReferenceIdeal.nD Cert.KernelReferenceIdeal.τ).loc Cert.KernelReferenceIdeal.main_arg14) = m ((c.tc : Thread Cert.KernelReferenceIdeal.nD Cert.KernelReferenceIdeal.τ).loc Cert.KernelReferenceIdeal.main_arg14))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_Route [hRoute : Cert.Route.Facts] [hPre_means_finite : Cert.Pre_means_finite.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0))
      ∧ r.2.sem = fun _ => 0)

def quiescent_RouteIdeal [hRouteIdeal : Cert.RouteIdeal.Facts] [hPre_means_finite : Cert.Pre_means_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ r.2.sem = fun _ => 0)

def quiescent_RouteReferenceIdeal [hRouteReferenceIdeal : Cert.RouteReferenceIdeal.Facts] [hPre_means_finite : Cert.Pre_means_finite.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0))
      ∧ r.2.sem = fun _ => 0)

def quiescent_Attn [hAttn : Cert.Attn.Facts] [hPre_windows_exist : Cert.Pre_windows_exist.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] [hPre_windows_exist : Cert.Pre_windows_exist.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnReferenceIdeal [hAttnReferenceIdeal : Cert.AttnReferenceIdeal.Facts] [hPre_windows_exist : Cert.Pre_windows_exist.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_Lepe [hLepe : Cert.Lepe.Facts] : Prop :=
  ∀ (m : (ℓ : Loc Cert.Lepe.nD Cert.Lepe.τ Cert.Lepe.sig) → Buf (Elt Bits) ℓ) (g : Dev Cert.Lepe.nD → PrngReg), Pre_Lepe m →
    θ_run (Cert.Lepe.defs (F := Bits)) (onTc (τ := Cert.Lepe.τ) (Cert.Lepe.main (F := Bits))) ⟨m, fun _ => 0, g⟩ (fun r => (∀ c : Dev Cert.Lepe.nD,
      r.2.mem ((c.tc : Thread Cert.Lepe.nD Cert.Lepe.τ).loc Cert.Lepe.main_arg0) = m ((c.tc : Thread Cert.Lepe.nD Cert.Lepe.τ).loc Cert.Lepe.main_arg0)
      ∧ r.2.mem ((c.tc : Thread Cert.Lepe.nD Cert.Lepe.τ).loc Cert.Lepe.main_arg1) = m ((c.tc : Thread Cert.Lepe.nD Cert.Lepe.τ).loc Cert.Lepe.main_arg1)
      ∧ r.2.mem ((c.tc : Thread Cert.Lepe.nD Cert.Lepe.τ).loc Cert.Lepe.main_arg2) = m ((c.tc : Thread Cert.Lepe.nD Cert.Lepe.τ).loc Cert.Lepe.main_arg2)
      ∧ r.2.mem ((c.tc : Thread Cert.Lepe.nD Cert.Lepe.τ).loc Cert.Lepe.main_arg3) = m ((c.tc : Thread Cert.Lepe.nD Cert.Lepe.τ).loc Cert.Lepe.main_arg3)
      ∧ r.2.mem ((c.tc : Thread Cert.Lepe.nD Cert.Lepe.τ).loc Cert.Lepe.main_arg4) = m ((c.tc : Thread Cert.Lepe.nD Cert.Lepe.τ).loc Cert.Lepe.main_arg4)
      ∧ r.2.mem ((c.tc : Thread Cert.Lepe.nD Cert.Lepe.τ).loc Cert.Lepe.main_arg5) = m ((c.tc : Thread Cert.Lepe.nD Cert.Lepe.τ).loc Cert.Lepe.main_arg5)
      ∧ r.2.mem ((c.tc : Thread Cert.Lepe.nD Cert.Lepe.τ).loc Cert.Lepe.main_arg6) = m ((c.tc : Thread Cert.Lepe.nD Cert.Lepe.τ).loc Cert.Lepe.main_arg6))
      ∧ r.2.sem = fun _ => 0)

def quiescent_LepeIdeal [hLepeIdeal : Cert.LepeIdeal.Facts] : Prop :=
  ∀ (m : (ℓ : Loc Cert.LepeIdeal.nD Cert.LepeIdeal.τ Cert.LepeIdeal.sig) → Buf (Elt Ideal) ℓ) (g : Dev Cert.LepeIdeal.nD → PrngReg), Pre_LepeIdeal m →
    θ_run (Cert.LepeIdeal.defs (F := Ideal)) (onTc (τ := Cert.LepeIdeal.τ) (Cert.LepeIdeal.main (F := Ideal))) ⟨m, fun _ => 0, g⟩ (fun r => (∀ c : Dev Cert.LepeIdeal.nD,
      r.2.mem ((c.tc : Thread Cert.LepeIdeal.nD Cert.LepeIdeal.τ).loc Cert.LepeIdeal.main_arg0) = m ((c.tc : Thread Cert.LepeIdeal.nD Cert.LepeIdeal.τ).loc Cert.LepeIdeal.main_arg0)
      ∧ r.2.mem ((c.tc : Thread Cert.LepeIdeal.nD Cert.LepeIdeal.τ).loc Cert.LepeIdeal.main_arg1) = m ((c.tc : Thread Cert.LepeIdeal.nD Cert.LepeIdeal.τ).loc Cert.LepeIdeal.main_arg1)
      ∧ r.2.mem ((c.tc : Thread Cert.LepeIdeal.nD Cert.LepeIdeal.τ).loc Cert.LepeIdeal.main_arg2) = m ((c.tc : Thread Cert.LepeIdeal.nD Cert.LepeIdeal.τ).loc Cert.LepeIdeal.main_arg2)
      ∧ r.2.mem ((c.tc : Thread Cert.LepeIdeal.nD Cert.LepeIdeal.τ).loc Cert.LepeIdeal.main_arg3) = m ((c.tc : Thread Cert.LepeIdeal.nD Cert.LepeIdeal.τ).loc Cert.LepeIdeal.main_arg3)
      ∧ r.2.mem ((c.tc : Thread Cert.LepeIdeal.nD Cert.LepeIdeal.τ).loc Cert.LepeIdeal.main_arg4) = m ((c.tc : Thread Cert.LepeIdeal.nD Cert.LepeIdeal.τ).loc Cert.LepeIdeal.main_arg4)
      ∧ r.2.mem ((c.tc : Thread Cert.LepeIdeal.nD Cert.LepeIdeal.τ).loc Cert.LepeIdeal.main_arg5) = m ((c.tc : Thread Cert.LepeIdeal.nD Cert.LepeIdeal.τ).loc Cert.LepeIdeal.main_arg5)
      ∧ r.2.mem ((c.tc : Thread Cert.LepeIdeal.nD Cert.LepeIdeal.τ).loc Cert.LepeIdeal.main_arg6) = m ((c.tc : Thread Cert.LepeIdeal.nD Cert.LepeIdeal.τ).loc Cert.LepeIdeal.main_arg6))
      ∧ r.2.sem = fun _ => 0)

def quiescent_LepeReferenceIdeal [hLepeReferenceIdeal : Cert.LepeReferenceIdeal.Facts] : Prop :=
  ∀ (m : (ℓ : Loc Cert.LepeReferenceIdeal.nD Cert.LepeReferenceIdeal.τ Cert.LepeReferenceIdeal.sig) → Buf (Elt Ideal) ℓ) (g : Dev Cert.LepeReferenceIdeal.nD → PrngReg), Pre_LepeReferenceIdeal m →
    θ_run (Cert.LepeReferenceIdeal.defs (F := Ideal)) (onTc (τ := Cert.LepeReferenceIdeal.τ) (Cert.LepeReferenceIdeal.main (F := Ideal))) ⟨m, fun _ => 0, g⟩ (fun r => (∀ c : Dev Cert.LepeReferenceIdeal.nD,
      r.2.mem ((c.tc : Thread Cert.LepeReferenceIdeal.nD Cert.LepeReferenceIdeal.τ).loc Cert.LepeReferenceIdeal.main_arg0) = m ((c.tc : Thread Cert.LepeReferenceIdeal.nD Cert.LepeReferenceIdeal.τ).loc Cert.LepeReferenceIdeal.main_arg0)
      ∧ r.2.mem ((c.tc : Thread Cert.LepeReferenceIdeal.nD Cert.LepeReferenceIdeal.τ).loc Cert.LepeReferenceIdeal.main_arg1) = m ((c.tc : Thread Cert.LepeReferenceIdeal.nD Cert.LepeReferenceIdeal.τ).loc Cert.LepeReferenceIdeal.main_arg1)
      ∧ r.2.mem ((c.tc : Thread Cert.LepeReferenceIdeal.nD Cert.LepeReferenceIdeal.τ).loc Cert.LepeReferenceIdeal.main_arg2) = m ((c.tc : Thread Cert.LepeReferenceIdeal.nD Cert.LepeReferenceIdeal.τ).loc Cert.LepeReferenceIdeal.main_arg2)
      ∧ r.2.mem ((c.tc : Thread Cert.LepeReferenceIdeal.nD Cert.LepeReferenceIdeal.τ).loc Cert.LepeReferenceIdeal.main_arg3) = m ((c.tc : Thread Cert.LepeReferenceIdeal.nD Cert.LepeReferenceIdeal.τ).loc Cert.LepeReferenceIdeal.main_arg3)
      ∧ r.2.mem ((c.tc : Thread Cert.LepeReferenceIdeal.nD Cert.LepeReferenceIdeal.τ).loc Cert.LepeReferenceIdeal.main_arg4) = m ((c.tc : Thread Cert.LepeReferenceIdeal.nD Cert.LepeReferenceIdeal.τ).loc Cert.LepeReferenceIdeal.main_arg4)
      ∧ r.2.mem ((c.tc : Thread Cert.LepeReferenceIdeal.nD Cert.LepeReferenceIdeal.τ).loc Cert.LepeReferenceIdeal.main_arg5) = m ((c.tc : Thread Cert.LepeReferenceIdeal.nD Cert.LepeReferenceIdeal.τ).loc Cert.LepeReferenceIdeal.main_arg5)
      ∧ r.2.mem ((c.tc : Thread Cert.LepeReferenceIdeal.nD Cert.LepeReferenceIdeal.τ).loc Cert.LepeReferenceIdeal.main_arg6) = m ((c.tc : Thread Cert.LepeReferenceIdeal.nD Cert.LepeReferenceIdeal.τ).loc Cert.LepeReferenceIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def algebraic_KernelIdeal_KernelReferenceIdeal [hKernelIdeal : Cert.KernelIdeal.Facts] [hKernelReferenceIdeal : Cert.KernelReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelReferenceIdeal.nD Cert.KernelReferenceIdeal.τ Cert.KernelReferenceIdeal.sig) → Buf (Elt Ideal) ℓ) (g' : Dev Cert.KernelReferenceIdeal.nD → PrngReg), Pre_KernelIdeal m →
    (∀ c : Dev Cert.KernelIdeal.nD,
      m' ((c.tc : Thread Cert.KernelReferenceIdeal.nD Cert.KernelReferenceIdeal.τ).loc Cert.KernelReferenceIdeal.main_arg0) = m ((c.tc : Thread Cert.KernelIdeal.nD Cert.KernelIdeal.τ).loc Cert.KernelIdeal.main_arg0)
      ∧ m' ((c.tc : Thread Cert.KernelReferenceIdeal.nD Cert.KernelReferenceIdeal.τ).loc Cert.KernelReferenceIdeal.main_arg1) = m ((c.tc : Thread Cert.KernelIdeal.nD Cert.KernelIdeal.τ).loc Cert.KernelIdeal.main_arg1)
      ∧ m' ((c.tc : Thread Cert.KernelReferenceIdeal.nD Cert.KernelReferenceIdeal.τ).loc Cert.KernelReferenceIdeal.main_arg2) = m ((c.tc : Thread Cert.KernelIdeal.nD Cert.KernelIdeal.τ).loc Cert.KernelIdeal.main_arg2)
      ∧ m' ((c.tc : Thread Cert.KernelReferenceIdeal.nD Cert.KernelReferenceIdeal.τ).loc Cert.KernelReferenceIdeal.main_arg3) = m ((c.tc : Thread Cert.KernelIdeal.nD Cert.KernelIdeal.τ).loc Cert.KernelIdeal.main_arg3)
      ∧ m' ((c.tc : Thread Cert.KernelReferenceIdeal.nD Cert.KernelReferenceIdeal.τ).loc Cert.KernelReferenceIdeal.main_arg4) = m ((c.tc : Thread Cert.KernelIdeal.nD Cert.KernelIdeal.τ).loc Cert.KernelIdeal.main_arg4)
      ∧ m' ((c.tc : Thread Cert.KernelReferenceIdeal.nD Cert.KernelReferenceIdeal.τ).loc Cert.KernelReferenceIdeal.main_arg5) = m ((c.tc : Thread Cert.KernelIdeal.nD Cert.KernelIdeal.τ).loc Cert.KernelIdeal.main_arg5)
      ∧ m' ((c.tc : Thread Cert.KernelReferenceIdeal.nD Cert.KernelReferenceIdeal.τ).loc Cert.KernelReferenceIdeal.main_arg6) = m ((c.tc : Thread Cert.KernelIdeal.nD Cert.KernelIdeal.τ).loc Cert.KernelIdeal.main_arg6)
      ∧ m' ((c.tc : Thread Cert.KernelReferenceIdeal.nD Cert.KernelReferenceIdeal.τ).loc Cert.KernelReferenceIdeal.main_arg7) = m ((c.tc : Thread Cert.KernelIdeal.nD Cert.KernelIdeal.τ).loc Cert.KernelIdeal.main_arg7)
      ∧ m' ((c.tc : Thread Cert.KernelReferenceIdeal.nD Cert.KernelReferenceIdeal.τ).loc Cert.KernelReferenceIdeal.main_arg8) = m ((c.tc : Thread Cert.KernelIdeal.nD Cert.KernelIdeal.τ).loc Cert.KernelIdeal.main_arg8)
      ∧ m' ((c.tc : Thread Cert.KernelReferenceIdeal.nD Cert.KernelReferenceIdeal.τ).loc Cert.KernelReferenceIdeal.main_arg9) = m ((c.tc : Thread Cert.KernelIdeal.nD Cert.KernelIdeal.τ).loc Cert.KernelIdeal.main_arg9)
      ∧ m' ((c.tc : Thread Cert.KernelReferenceIdeal.nD Cert.KernelReferenceIdeal.τ).loc Cert.KernelReferenceIdeal.main_arg10) = m ((c.tc : Thread Cert.KernelIdeal.nD Cert.KernelIdeal.τ).loc Cert.KernelIdeal.main_arg10)
      ∧ m' ((c.tc : Thread Cert.KernelReferenceIdeal.nD Cert.KernelReferenceIdeal.τ).loc Cert.KernelReferenceIdeal.main_arg11) = m ((c.tc : Thread Cert.KernelIdeal.nD Cert.KernelIdeal.τ).loc Cert.KernelIdeal.main_arg11)
      ∧ m' ((c.tc : Thread Cert.KernelReferenceIdeal.nD Cert.KernelReferenceIdeal.τ).loc Cert.KernelReferenceIdeal.main_arg12) = m ((c.tc : Thread Cert.KernelIdeal.nD Cert.KernelIdeal.τ).loc Cert.KernelIdeal.main_arg12)
      ∧ m' ((c.tc : Thread Cert.KernelReferenceIdeal.nD Cert.KernelReferenceIdeal.τ).loc Cert.KernelReferenceIdeal.main_arg13) = m ((c.tc : Thread Cert.KernelIdeal.nD Cert.KernelIdeal.τ).loc Cert.KernelIdeal.main_arg13)
      ∧ m' ((c.tc : Thread Cert.KernelReferenceIdeal.nD Cert.KernelReferenceIdeal.τ).loc Cert.KernelReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.KernelReferenceIdeal.defs (F := Ideal)) (onTc (τ := Cert.KernelReferenceIdeal.τ) (Cert.KernelReferenceIdeal.main (F := Ideal))) ⟨m', fun _ => 0, g'⟩ (fun r => ∀ c : Dev Cert.KernelReferenceIdeal.nD,
          r.2.mem ((c.tc : Thread Cert.KernelReferenceIdeal.nD Cert.KernelReferenceIdeal.τ).loc Cert.KernelReferenceIdeal.main_v309) = v0 c
          ∧ r.2.mem ((c.tc : Thread Cert.KernelReferenceIdeal.nD Cert.KernelReferenceIdeal.τ).loc Cert.KernelReferenceIdeal.main_arg0) = m' ((c.tc : Thread Cert.KernelReferenceIdeal.nD Cert.KernelReferenceIdeal.τ).loc Cert.KernelReferenceIdeal.main_arg0)
          ∧ r.2.mem ((c.tc : Thread Cert.KernelReferenceIdeal.nD Cert.KernelReferenceIdeal.τ).loc Cert.KernelReferenceIdeal.main_arg1) = m' ((c.tc : Thread Cert.KernelReferenceIdeal.nD Cert.KernelReferenceIdeal.τ).loc Cert.KernelReferenceIdeal.main_arg1)
          ∧ r.2.mem ((c.tc : Thread Cert.KernelReferenceIdeal.nD Cert.KernelReferenceIdeal.τ).loc Cert.KernelReferenceIdeal.main_arg2) = m' ((c.tc : Thread Cert.KernelReferenceIdeal.nD Cert.KernelReferenceIdeal.τ).loc Cert.KernelReferenceIdeal.main_arg2)
          ∧ r.2.mem ((c.tc : Thread Cert.KernelReferenceIdeal.nD Cert.KernelReferenceIdeal.τ).loc Cert.KernelReferenceIdeal.main_arg3) = m' ((c.tc : Thread Cert.KernelReferenceIdeal.nD Cert.KernelReferenceIdeal.τ).loc Cert.KernelReferenceIdeal.main_arg3)
          ∧ r.2.mem ((c.tc : Thread Cert.KernelReferenceIdeal.nD Cert.KernelReferenceIdeal.τ).loc Cert.KernelReferenceIdeal.main_arg4) = m' ((c.tc : Thread Cert.KernelReferenceIdeal.nD Cert.KernelReferenceIdeal.τ).loc Cert.KernelReferenceIdeal.main_arg4)
          ∧ r.2.mem ((c.tc : Thread Cert.KernelReferenceIdeal.nD Cert.KernelReferenceIdeal.τ).loc Cert.KernelReferenceIdeal.main_arg5) = m' ((c.tc : Thread Cert.KernelReferenceIdeal.nD Cert.KernelReferenceIdeal.τ).loc Cert.KernelReferenceIdeal.main_arg5)
          ∧ r.2.mem ((c.tc : Thread Cert.KernelReferenceIdeal.nD Cert.KernelReferenceIdeal.τ).loc Cert.KernelReferenceIdeal.main_arg6) = m' ((c.tc : Thread Cert.KernelReferenceIdeal.nD Cert.KernelReferenceIdeal.τ).loc Cert.KernelReferenceIdeal.main_arg6)
          ∧ r.2.mem ((c.tc : Thread Cert.KernelReferenceIdeal.nD Cert.KernelReferenceIdeal.τ).loc Cert.KernelReferenceIdeal.main_arg7) = m' ((c.tc : Thread Cert.KernelReferenceIdeal.nD Cert.KernelReferenceIdeal.τ).loc Cert.KernelReferenceIdeal.main_arg7)
          ∧ r.2.mem ((c.tc : Thread Cert.KernelReferenceIdeal.nD Cert.KernelReferenceIdeal.τ).loc Cert.KernelReferenceIdeal.main_arg8) = m' ((c.tc : Thread Cert.KernelReferenceIdeal.nD Cert.KernelReferenceIdeal.τ).loc Cert.KernelReferenceIdeal.main_arg8)
          ∧ r.2.mem ((c.tc : Thread Cert.KernelReferenceIdeal.nD Cert.KernelReferenceIdeal.τ).loc Cert.KernelReferenceIdeal.main_arg9) = m' ((c.tc : Thread Cert.KernelReferenceIdeal.nD Cert.KernelReferenceIdeal.τ).loc Cert.KernelReferenceIdeal.main_arg9)
          ∧ r.2.mem ((c.tc : Thread Cert.KernelReferenceIdeal.nD Cert.KernelReferenceIdeal.τ).loc Cert.KernelReferenceIdeal.main_arg10) = m' ((c.tc : Thread Cert.KernelReferenceIdeal.nD Cert.KernelReferenceIdeal.τ).loc Cert.KernelReferenceIdeal.main_arg10)
          ∧ r.2.mem ((c.tc : Thread Cert.KernelReferenceIdeal.nD Cert.KernelReferenceIdeal.τ).loc Cert.KernelReferenceIdeal.main_arg11) = m' ((c.tc : Thread Cert.KernelReferenceIdeal.nD Cert.KernelReferenceIdeal.τ).loc Cert.KernelReferenceIdeal.main_arg11)
          ∧ r.2.mem ((c.tc : Thread Cert.KernelReferenceIdeal.nD Cert.KernelReferenceIdeal.τ).loc Cert.KernelReferenceIdeal.main_arg12) = m' ((c.tc : Thread Cert.KernelReferenceIdeal.nD Cert.KernelReferenceIdeal.τ).loc Cert.KernelReferenceIdeal.main_arg12)
          ∧ r.2.mem ((c.tc : Thread Cert.KernelReferenceIdeal.nD Cert.KernelReferenceIdeal.τ).loc Cert.KernelReferenceIdeal.main_arg13) = m' ((c.tc : Thread Cert.KernelReferenceIdeal.nD Cert.KernelReferenceIdeal.τ).loc Cert.KernelReferenceIdeal.main_arg13)
          ∧ r.2.mem ((c.tc : Thread Cert.KernelReferenceIdeal.nD Cert.KernelReferenceIdeal.τ).loc Cert.KernelReferenceIdeal.main_arg14) = m' ((c.tc : Thread Cert.KernelReferenceIdeal.nD Cert.KernelReferenceIdeal.τ).loc Cert.KernelReferenceIdeal.main_arg14))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v22_0)) (v1 : (c : Dev Cert.QkvIdeal.nD) → Buf (Elt Ideal) ((c.tc : Thread Cert.QkvIdeal.nD Cert.QkvIdeal.τ).loc Cert.QkvIdeal.main_v22_1)) (v2 : (c : Dev Cert.QkvIdeal.nD) → Buf (Elt Ideal) ((c.tc : Thread Cert.QkvIdeal.nD Cert.QkvIdeal.τ).loc Cert.QkvIdeal.main_v22_2)) (v3 : (c : Dev Cert.QkvIdeal.nD) → Buf (Elt Ideal) ((c.tc : Thread Cert.QkvIdeal.nD Cert.QkvIdeal.τ).loc Cert.QkvIdeal.main_v22_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v22_0) = v0 c
          ∧ r.2.mem ((c.tc : Thread Cert.QkvIdeal.nD Cert.QkvIdeal.τ).loc Cert.QkvIdeal.main_v22_1) = v1 c
          ∧ r.2.mem ((c.tc : Thread Cert.QkvIdeal.nD Cert.QkvIdeal.τ).loc Cert.QkvIdeal.main_v22_2) = v2 c
          ∧ r.2.mem ((c.tc : Thread Cert.QkvIdeal.nD Cert.QkvIdeal.τ).loc Cert.QkvIdeal.main_v22_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v46) = v0 c
          ∧ r.2.mem ((c.tc : Thread Cert.QkvReferenceIdeal.nD Cert.QkvReferenceIdeal.τ).loc Cert.QkvReferenceIdeal.main_v50) = v1 c
          ∧ r.2.mem ((c.tc : Thread Cert.QkvReferenceIdeal.nD Cert.QkvReferenceIdeal.τ).loc Cert.QkvReferenceIdeal.main_v33) = v2 c
          ∧ r.2.mem ((c.tc : Thread Cert.QkvReferenceIdeal.nD Cert.QkvReferenceIdeal.τ).loc Cert.QkvReferenceIdeal.main_v44) = v3 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_Route_RouteIdeal : Prop :=
  True

def algebraic_RouteIdeal_RouteReferenceIdeal [hRouteIdeal : Cert.RouteIdeal.Facts] [hRouteReferenceIdeal : Cert.RouteReferenceIdeal.Facts] [hPre_means_finite : Cert.Pre_means_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)) →
    ∃ (v0 : (c : Dev Cert.RouteIdeal.nD) → Buf (Elt Ideal) ((c.tc : Thread Cert.RouteIdeal.nD Cert.RouteIdeal.τ).loc Cert.RouteIdeal.main_v0)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v0) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v9) = v0 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0))

def preserves_Attn_AttnIdeal : Prop :=
  True

def algebraic_AttnIdeal_AttnReferenceIdeal [hAttnIdeal : Cert.AttnIdeal.Facts] [hAttnReferenceIdeal : Cert.AttnReferenceIdeal.Facts] [hPre_windows_exist : Cert.Pre_windows_exist.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v35) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_Lepe_LepeIdeal : Prop :=
  True

def algebraic_LepeIdeal_LepeReferenceIdeal [hLepeIdeal : Cert.LepeIdeal.Facts] [hLepeReferenceIdeal : Cert.LepeReferenceIdeal.Facts] : Prop :=
  ∀ (m : (ℓ : Loc Cert.LepeIdeal.nD Cert.LepeIdeal.τ Cert.LepeIdeal.sig) → Buf (Elt Ideal) ℓ) (g : Dev Cert.LepeIdeal.nD → PrngReg)
    (m' : (ℓ : Loc Cert.LepeReferenceIdeal.nD Cert.LepeReferenceIdeal.τ Cert.LepeReferenceIdeal.sig) → Buf (Elt Ideal) ℓ) (g' : Dev Cert.LepeReferenceIdeal.nD → PrngReg), Pre_LepeIdeal m →
    (∀ c : Dev Cert.LepeIdeal.nD,
      m' ((c.tc : Thread Cert.LepeReferenceIdeal.nD Cert.LepeReferenceIdeal.τ).loc Cert.LepeReferenceIdeal.main_arg0) = m ((c.tc : Thread Cert.LepeIdeal.nD Cert.LepeIdeal.τ).loc Cert.LepeIdeal.main_arg0)
      ∧ m' ((c.tc : Thread Cert.LepeReferenceIdeal.nD Cert.LepeReferenceIdeal.τ).loc Cert.LepeReferenceIdeal.main_arg1) = m ((c.tc : Thread Cert.LepeIdeal.nD Cert.LepeIdeal.τ).loc Cert.LepeIdeal.main_arg1)
      ∧ m' ((c.tc : Thread Cert.LepeReferenceIdeal.nD Cert.LepeReferenceIdeal.τ).loc Cert.LepeReferenceIdeal.main_arg2) = m ((c.tc : Thread Cert.LepeIdeal.nD Cert.LepeIdeal.τ).loc Cert.LepeIdeal.main_arg2)
      ∧ m' ((c.tc : Thread Cert.LepeReferenceIdeal.nD Cert.LepeReferenceIdeal.τ).loc Cert.LepeReferenceIdeal.main_arg3) = m ((c.tc : Thread Cert.LepeIdeal.nD Cert.LepeIdeal.τ).loc Cert.LepeIdeal.main_arg3)
      ∧ m' ((c.tc : Thread Cert.LepeReferenceIdeal.nD Cert.LepeReferenceIdeal.τ).loc Cert.LepeReferenceIdeal.main_arg4) = m ((c.tc : Thread Cert.LepeIdeal.nD Cert.LepeIdeal.τ).loc Cert.LepeIdeal.main_arg4)
      ∧ m' ((c.tc : Thread Cert.LepeReferenceIdeal.nD Cert.LepeReferenceIdeal.τ).loc Cert.LepeReferenceIdeal.main_arg5) = m ((c.tc : Thread Cert.LepeIdeal.nD Cert.LepeIdeal.τ).loc Cert.LepeIdeal.main_arg5)
      ∧ m' ((c.tc : Thread Cert.LepeReferenceIdeal.nD Cert.LepeReferenceIdeal.τ).loc Cert.LepeReferenceIdeal.main_arg6) = m ((c.tc : Thread Cert.LepeIdeal.nD Cert.LepeIdeal.τ).loc Cert.LepeIdeal.main_arg6)) →
    ∃ (v0 : (c : Dev Cert.LepeIdeal.nD) → Buf (Elt Ideal) ((c.tc : Thread Cert.LepeIdeal.nD Cert.LepeIdeal.τ).loc Cert.LepeIdeal.main_v4)),
      θ_run (Cert.LepeIdeal.defs (F := Ideal)) (onTc (τ := Cert.LepeIdeal.τ) (Cert.LepeIdeal.main (F := Ideal))) ⟨m, fun _ => 0, g⟩ (fun r => ∀ c : Dev Cert.LepeIdeal.nD,
          r.2.mem ((c.tc : Thread Cert.LepeIdeal.nD Cert.LepeIdeal.τ).loc Cert.LepeIdeal.main_v4) = v0 c
          ∧ r.2.mem ((c.tc : Thread Cert.LepeIdeal.nD Cert.LepeIdeal.τ).loc Cert.LepeIdeal.main_arg0) = m ((c.tc : Thread Cert.LepeIdeal.nD Cert.LepeIdeal.τ).loc Cert.LepeIdeal.main_arg0)
          ∧ r.2.mem ((c.tc : Thread Cert.LepeIdeal.nD Cert.LepeIdeal.τ).loc Cert.LepeIdeal.main_arg1) = m ((c.tc : Thread Cert.LepeIdeal.nD Cert.LepeIdeal.τ).loc Cert.LepeIdeal.main_arg1)
          ∧ r.2.mem ((c.tc : Thread Cert.LepeIdeal.nD Cert.LepeIdeal.τ).loc Cert.LepeIdeal.main_arg2) = m ((c.tc : Thread Cert.LepeIdeal.nD Cert.LepeIdeal.τ).loc Cert.LepeIdeal.main_arg2)
          ∧ r.2.mem ((c.tc : Thread Cert.LepeIdeal.nD Cert.LepeIdeal.τ).loc Cert.LepeIdeal.main_arg3) = m ((c.tc : Thread Cert.LepeIdeal.nD Cert.LepeIdeal.τ).loc Cert.LepeIdeal.main_arg3)
          ∧ r.2.mem ((c.tc : Thread Cert.LepeIdeal.nD Cert.LepeIdeal.τ).loc Cert.LepeIdeal.main_arg4) = m ((c.tc : Thread Cert.LepeIdeal.nD Cert.LepeIdeal.τ).loc Cert.LepeIdeal.main_arg4)
          ∧ r.2.mem ((c.tc : Thread Cert.LepeIdeal.nD Cert.LepeIdeal.τ).loc Cert.LepeIdeal.main_arg5) = m ((c.tc : Thread Cert.LepeIdeal.nD Cert.LepeIdeal.τ).loc Cert.LepeIdeal.main_arg5)
          ∧ r.2.mem ((c.tc : Thread Cert.LepeIdeal.nD Cert.LepeIdeal.τ).loc Cert.LepeIdeal.main_arg6) = m ((c.tc : Thread Cert.LepeIdeal.nD Cert.LepeIdeal.τ).loc Cert.LepeIdeal.main_arg6))
      ∧ θ_run (Cert.LepeReferenceIdeal.defs (F := Ideal)) (onTc (τ := Cert.LepeReferenceIdeal.τ) (Cert.LepeReferenceIdeal.main (F := Ideal))) ⟨m', fun _ => 0, g'⟩ (fun r => ∀ c : Dev Cert.LepeReferenceIdeal.nD,
          r.2.mem ((c.tc : Thread Cert.LepeReferenceIdeal.nD Cert.LepeReferenceIdeal.τ).loc Cert.LepeReferenceIdeal.main_v187) = v0 c
          ∧ r.2.mem ((c.tc : Thread Cert.LepeReferenceIdeal.nD Cert.LepeReferenceIdeal.τ).loc Cert.LepeReferenceIdeal.main_arg0) = m' ((c.tc : Thread Cert.LepeReferenceIdeal.nD Cert.LepeReferenceIdeal.τ).loc Cert.LepeReferenceIdeal.main_arg0)
          ∧ r.2.mem ((c.tc : Thread Cert.LepeReferenceIdeal.nD Cert.LepeReferenceIdeal.τ).loc Cert.LepeReferenceIdeal.main_arg1) = m' ((c.tc : Thread Cert.LepeReferenceIdeal.nD Cert.LepeReferenceIdeal.τ).loc Cert.LepeReferenceIdeal.main_arg1)
          ∧ r.2.mem ((c.tc : Thread Cert.LepeReferenceIdeal.nD Cert.LepeReferenceIdeal.τ).loc Cert.LepeReferenceIdeal.main_arg2) = m' ((c.tc : Thread Cert.LepeReferenceIdeal.nD Cert.LepeReferenceIdeal.τ).loc Cert.LepeReferenceIdeal.main_arg2)
          ∧ r.2.mem ((c.tc : Thread Cert.LepeReferenceIdeal.nD Cert.LepeReferenceIdeal.τ).loc Cert.LepeReferenceIdeal.main_arg3) = m' ((c.tc : Thread Cert.LepeReferenceIdeal.nD Cert.LepeReferenceIdeal.τ).loc Cert.LepeReferenceIdeal.main_arg3)
          ∧ r.2.mem ((c.tc : Thread Cert.LepeReferenceIdeal.nD Cert.LepeReferenceIdeal.τ).loc Cert.LepeReferenceIdeal.main_arg4) = m' ((c.tc : Thread Cert.LepeReferenceIdeal.nD Cert.LepeReferenceIdeal.τ).loc Cert.LepeReferenceIdeal.main_arg4)
          ∧ r.2.mem ((c.tc : Thread Cert.LepeReferenceIdeal.nD Cert.LepeReferenceIdeal.τ).loc Cert.LepeReferenceIdeal.main_arg5) = m' ((c.tc : Thread Cert.LepeReferenceIdeal.nD Cert.LepeReferenceIdeal.τ).loc Cert.LepeReferenceIdeal.main_arg5)
          ∧ r.2.mem ((c.tc : Thread Cert.LepeReferenceIdeal.nD Cert.LepeReferenceIdeal.τ).loc Cert.LepeReferenceIdeal.main_arg6) = m' ((c.tc : Thread Cert.LepeReferenceIdeal.nD Cert.LepeReferenceIdeal.τ).loc Cert.LepeReferenceIdeal.main_arg6))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v34) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def Claim : Prop :=
  ∃ (hKernelIdeal : Cert.KernelIdeal.Facts) (hKernelReferenceIdeal : Cert.KernelReferenceIdeal.Facts) (hQkv : Cert.Qkv.Facts) (hQkvIdeal : Cert.QkvIdeal.Facts) (hQkvReferenceIdeal : Cert.QkvReferenceIdeal.Facts) (hRoute : Cert.Route.Facts) (hRouteIdeal : Cert.RouteIdeal.Facts) (hRouteReferenceIdeal : Cert.RouteReferenceIdeal.Facts) (hAttn : Cert.Attn.Facts) (hAttnIdeal : Cert.AttnIdeal.Facts) (hAttnReferenceIdeal : Cert.AttnReferenceIdeal.Facts) (hLepe : Cert.Lepe.Facts) (hLepeIdeal : Cert.LepeIdeal.Facts) (hLepeReferenceIdeal : Cert.LepeReferenceIdeal.Facts) (hMlp : Cert.Mlp.Facts) (hMlpIdeal : Cert.MlpIdeal.Facts) (hMlpReferenceIdeal : Cert.MlpReferenceIdeal.Facts) (hPre_inputs_finite : Cert.Pre_inputs_finite.Facts) (hPre_means_finite : Cert.Pre_means_finite.Facts) (hPre_windows_exist : Cert.Pre_windows_exist.Facts),
    quiescent_KernelIdeal (hKernelIdeal := hKernelIdeal) (hPre_inputs_finite := hPre_inputs_finite)
    ∧ quiescent_KernelReferenceIdeal (hKernelReferenceIdeal := hKernelReferenceIdeal) (hPre_inputs_finite := hPre_inputs_finite)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Route (hRoute := hRoute) (hPre_means_finite := hPre_means_finite)
    ∧ quiescent_RouteIdeal (hRouteIdeal := hRouteIdeal) (hPre_means_finite := hPre_means_finite)
    ∧ quiescent_RouteReferenceIdeal (hRouteReferenceIdeal := hRouteReferenceIdeal) (hPre_means_finite := hPre_means_finite)
    ∧ quiescent_Attn (hAttn := hAttn) (hPre_windows_exist := hPre_windows_exist)
    ∧ quiescent_AttnIdeal (hAttnIdeal := hAttnIdeal) (hPre_windows_exist := hPre_windows_exist)
    ∧ quiescent_AttnReferenceIdeal (hAttnReferenceIdeal := hAttnReferenceIdeal) (hPre_windows_exist := hPre_windows_exist)
    ∧ quiescent_Lepe (hLepe := hLepe)
    ∧ quiescent_LepeIdeal (hLepeIdeal := hLepeIdeal)
    ∧ quiescent_LepeReferenceIdeal (hLepeReferenceIdeal := hLepeReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ algebraic_KernelIdeal_KernelReferenceIdeal (hKernelIdeal := hKernelIdeal) (hKernelReferenceIdeal := hKernelReferenceIdeal) (hPre_inputs_finite := hPre_inputs_finite)
    ∧ preserves_Qkv_QkvIdeal
    ∧ algebraic_QkvIdeal_QkvReferenceIdeal (hQkvIdeal := hQkvIdeal) (hQkvReferenceIdeal := hQkvReferenceIdeal)
    ∧ preserves_Route_RouteIdeal
    ∧ algebraic_RouteIdeal_RouteReferenceIdeal (hRouteIdeal := hRouteIdeal) (hRouteReferenceIdeal := hRouteReferenceIdeal) (hPre_means_finite := hPre_means_finite)
    ∧ preserves_Attn_AttnIdeal
    ∧ algebraic_AttnIdeal_AttnReferenceIdeal (hAttnIdeal := hAttnIdeal) (hAttnReferenceIdeal := hAttnReferenceIdeal) (hPre_windows_exist := hPre_windows_exist)
    ∧ preserves_Lepe_LepeIdeal
    ∧ algebraic_LepeIdeal_LepeReferenceIdeal (hLepeIdeal := hLepeIdeal) (hLepeReferenceIdeal := hLepeReferenceIdeal)
    ∧ preserves_Mlp_MlpIdeal
    ∧ algebraic_MlpIdeal_MlpReferenceIdeal (hMlpIdeal := hMlpIdeal) (hMlpReferenceIdeal := hMlpReferenceIdeal)
-- ==== Pre_inputs_finite.lean ====
abbrev S1x384x224x224 : Shape := ⟨4, ![1, 384, 224, 224]⟩
abbrev S384 : Shape := ⟨1, ![384]⟩
abbrev S384x1152 : Shape := ⟨2, ![384, 1152]⟩
abbrev S1152 : Shape := ⟨1, ![1152]⟩
abbrev S5x5x1x384 : Shape := ⟨4, ![5, 5, 1, 384]⟩
abbrev S384x384 : Shape := ⟨2, ![384, 384]⟩
abbrev S384x1536 : Shape := ⟨2, ![384, 1536]⟩
abbrev S1536 : Shape := ⟨1, ![1536]⟩
abbrev S1536x384 : Shape := ⟨2, ![1536, 384]⟩
abbrev S_ : Shape := ⟨0, ![]⟩

class Facts : Prop where
  bcast_S_S1x384x224x224 : S_.BroadcastsInDim S1x384x224x224 (![] : Fin 0 → Fin S1x384x224x224.rank)
  reducesTo_S1x384x224x224_S_d0_1_2_3 : S1x384x224x224.ReducesTo [0, 1, 2, 3] S_
  h_S_ : 0 < S_.numel
  bcast_S_S384 : S_.BroadcastsInDim S384 (![] : Fin 0 → Fin S384.rank)
  reducesTo_S384_S_d0 : S384.ReducesTo [0] S_
  bcast_S_S384x1152 : S_.BroadcastsInDim S384x1152 (![] : Fin 0 → Fin S384x1152.rank)
  reducesTo_S384x1152_S_d0_1 : S384x1152.ReducesTo [0, 1] S_
  bcast_S_S1152 : S_.BroadcastsInDim S1152 (![] : Fin 0 → Fin S1152.rank)
  reducesTo_S1152_S_d0 : S1152.ReducesTo [0] S_

variable [Facts]

def fn_part1 {F : FTy → Type} [FloatOps F] (main_arg4 : FVec F S1152 .f32) (main_v13 : IVec S_ 1) (main_v16 : IVec S384x1152 1) : IVec S_ 1 :=
  let main_c_5 : IVec S_ 1 := constantI S_ 1 1#1
  let main_v17 : IVec S_ 1 := (fun x v => Host.reduce IntOp.andi x v reducesTo_S384x1152_S_d0_1 h_S_) main_v16 main_c_5
  let main_v18 : IVec S_ 1 := andi main_v13 main_v17
  let main_v19 : FVec F S1152 .f32 := Host.absf main_arg4
  let main_cst_6 : FVec F S_ .f32 := constant S_ .f32 0x7F800000#32
  let main_v20 : FVec F S1152 .f32 := broadcastInDim S1152 ![] bcast_S_S1152 main_cst_6
  let main_v21 : IVec S1152 1 := cmpf .olt main_v19 main_v20
  let main_c_7 : IVec S_ 1 := constantI S_ 1 1#1
  let main_v22 : IVec S_ 1 := (fun x v => Host.reduce IntOp.andi x v reducesTo_S1152_S_d0 h_S_) main_v21 main_c_7
  let main_v23 : IVec S_ 1 := andi main_v18 main_v22
  main_v23

def fn {F : FTy → Type} [FloatOps F] (main_arg0 : FVec F S1x384x224x224 .f32) (main_arg1 : FVec F S384 .f32) (main_arg2 : FVec F S384 .f32) (main_arg3 : FVec F S384x1152 .f32) (main_arg4 : FVec F S1152 .f32) (main_arg5 : FVec F S5x5x1x384 .f32) (main_arg6 : FVec F S384 .f32) (main_arg7 : FVec F S384x384 .f32) (main_arg8 : FVec F S384 .f32) (main_arg9 : FVec F S384 .f32) (main_arg10 : FVec F S384 .f32) (main_arg11 : FVec F S384x1536 .f32) (main_arg12 : FVec F S1536 .f32) (main_arg13 : FVec F S1536x384 .f32) (main_arg14 : FVec F S384 .f32) : IVec S_ 1 :=
  let main_v0 : FVec F S1x384x224x224 .f32 := Host.absf main_arg0
  let main_cst : FVec F S_ .f32 := constant S_ .f32 0x7F800000#32
  let main_v1 : FVec F S1x384x224x224 .f32 := broadcastInDim S1x384x224x224 ![] bcast_S_S1x384x224x224 main_cst
  let main_v2 : IVec S1x384x224x224 1 := cmpf .olt main_v0 main_v1
  let main_c : IVec S_ 1 := constantI S_ 1 1#1
  let main_v3 : IVec S_ 1 := (fun x v => Host.reduce IntOp.andi x v reducesTo_S1x384x224x224_S_d0_1_2_3 h_S_) main_v2 main_c
  let main_v4 : FVec F S384 .f32 := Host.absf main_arg1
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x1152 .f32 := Host.absf main_arg3
  let main_cst_4 : FVec F S_ .f32 := constant S_ .f32 0x7F800000#32
  let main_v15 : FVec F S384x1152 .f32 := broadcastInDim S384x1152 ![] bcast_S_S384x1152 main_cst_4
  let main_v16 : IVec S384x1152 1 := cmpf .olt main_v14 main_v15
  fn_part1 (F := F) main_arg4 main_v13 main_v16
-- ==== Pre_means_finite.lean ====
abbrev S49x8x384 : Shape := ⟨3, ![49, 8, 384]⟩
abbrev S49x2x384 : Shape := ⟨3, ![49, 2, 384]⟩
abbrev S_ : Shape := ⟨0, ![]⟩

class Facts : Prop where
  slices_S49x8x384_S49x2x384_0_0_0 : S49x8x384.Slices ![0, 0, 0] S49x2x384
  bcast_S_S49x2x384 : S_.BroadcastsInDim S49x2x384 (![] : Fin 0 → Fin S49x2x384.rank)

variable [Facts]

def fn {F : FTy → Type} [FloatOps F] (main_arg0 : FVec F S49x8x384 .f32) : IVec S49x2x384 1 :=
  let main_v0 : FVec F S49x2x384 .f32 := (extractStridedSlice S49x2x384 ![0, 0, 0] · slices_S49x8x384_S49x2x384_0_0_0) main_arg0
  let main_v1 : FVec F S49x2x384 .f32 := Host.absf main_v0
  let main_cst : FVec F S_ .f32 := constant S_ .f32 0x7F800000#32
  let main_v2 : FVec F S49x2x384 .f32 := broadcastInDim S49x2x384 ![] bcast_S_S49x2x384 main_cst
  let main_v3 : IVec S49x2x384 1 := cmpf .olt main_v1 main_v2
  main_v3
-- ==== Pre_windows_exist.lean ====
abbrev S49x1024x384 : Shape := ⟨3, ![49, 1024, 384]⟩
abbrev S49x16x768 : Shape := ⟨3, ![49, 16, 768]⟩
abbrev S49x4 : Shape := ⟨2, ![49, 4]⟩
abbrev S_ : Shape := ⟨0, ![]⟩

class Facts : Prop where
  bcast_S_S49x4 : S_.BroadcastsInDim S49x4 (![] : Fin 0 → Fin S49x4.rank)

variable [Facts]

def fn {F : FTy → Type} [FloatOps F] (main_arg0 : FVec F S49x1024x384 .bf16) (main_arg1 : FVec F S49x16x768 .f32) (main_arg2 : IVec S49x4 32) : IVec S49x4 1 :=
  let main_c : IVec S_ 32 := constantI S_ 32 0#32
  let main_v0 : IVec S49x4 32 := broadcastInDim S49x4 ![] bcast_S_S49x4 main_c
  let main_v1 : IVec S49x4 1 := cmpi .sge main_arg2 main_v0
  let main_c_0 : IVec S_ 32 := constantI S_ 32 49#32
  let main_v2 : IVec S49x4 32 := broadcastInDim S49x4 ![] bcast_S_S49x4 main_c_0
  let main_v3 : IVec S49x4 1 := cmpi .slt main_arg2 main_v2
  let main_v4 : IVec S49x4 1 := andi main_v1 main_v3
  main_v4
-- ==== KernelIdeal.lean ====
abbrev S1x384x224x224 : Shape := ⟨4, ![1, 384, 224, 224]⟩
abbrev S384 : Shape := ⟨1, ![384]⟩
abbrev S384x1152 : Shape := ⟨2, ![384, 1152]⟩
abbrev S1152 : Shape := ⟨1, ![1152]⟩
abbrev S5x5x1x384 : Shape := ⟨4, ![5, 5, 1, 384]⟩
abbrev S384x384 : Shape := ⟨2, ![384, 384]⟩
abbrev S384x1536 : Shape := ⟨2, ![384, 1536]⟩
abbrev S1536 : Shape := ⟨1, ![1536]⟩
abbrev S1536x384 : Shape := ⟨2, ![1536, 384]⟩
abbrev S384x224x224 : Shape := ⟨3, ![384, 224, 224]⟩
abbrev S224x224x384 : Shape := ⟨3, ![224, 224, 384]⟩
abbrev S1024 : Shape := ⟨1, ![1024]⟩
abbrev S_ : Shape := ⟨0, ![]⟩
abbrev S1x1024 : Shape := ⟨2, ![1, 1024]⟩
abbrev S16 : Shape := ⟨1, ![16]⟩
abbrev S16x1 : Shape := ⟨2, ![16, 1]⟩
abbrev S16x1024 : Shape := ⟨2, ![16, 1024]⟩
abbrev S1x384 : Shape := ⟨2, ![1, 384]⟩
abbrev S1x1152 : Shape := ⟨2, ![1, 1152]⟩
abbrev S49x1024x384 : Shape := ⟨3, ![49, 1024, 384]⟩
abbrev S49x16x768 : Shape := ⟨3, ![49, 16, 768]⟩
abbrev S49x8x384 : Shape := ⟨3, ![49, 8, 384]⟩
abbrev S32x32x384 : Shape := ⟨3, ![32, 32, 384]⟩
abbrev S1x1024x384 : Shape := ⟨3, ![1, 1024, 384]⟩
abbrev S1x16x768 : Shape := ⟨3, ![1, 16, 768]⟩
abbrev S1x8x384 : Shape := ⟨3, ![1, 8, 384]⟩
abbrev S1024x384 : Shape := ⟨2, ![1024, 384]⟩
abbrev S1024x1 : Shape := ⟨2, ![1024, 1]⟩
abbrev S1024x1152 : Shape := ⟨2, ![1024, 1152]⟩
abbrev S16x384 : Shape := ⟨2, ![16, 384]⟩
abbrev S16x768 : Shape := ⟨2, ![16, 768]⟩
abbrev S6x384 : Shape := ⟨2, ![6, 384]⟩
abbrev S8x384 : Shape := ⟨2, ![8, 384]⟩
abbrev S49x8 : Shape := ⟨2, ![49, 8]⟩
abbrev S49x1x384 : Shape := ⟨3, ![49, 1, 384]⟩
abbrev S49x384 : Shape := ⟨2, ![49, 384]⟩
abbrev S49x49 : Shape := ⟨2, ![49, 49]⟩
abbrev S49 : Shape := ⟨1, ![49]⟩
abbrev S49x1 : Shape := ⟨2, ![49, 1]⟩
abbrev S49x4 : Shape := ⟨2, ![49, 4]⟩
abbrev S1x1 : Shape := ⟨2, ![1, 1]⟩
abbrev S64x768 : Shape := ⟨2, ![64, 768]⟩
abbrev S64x384 : Shape := ⟨2, ![64, 384]⟩
abbrev S384x64 : Shape := ⟨2, ![384, 64]⟩
abbrev S48x64 : Shape := ⟨2, ![48, 64]⟩
abbrev S48x448 : Shape := ⟨2, ![48, 448]⟩
abbrev S48x512 : Shape := ⟨2, ![48, 512]⟩
abbrev S64x48 : Shape := ⟨2, ![64, 48]⟩
abbrev S64x336 : Shape := ⟨2, ![64, 336]⟩
abbrev S48x384 : Shape := ⟨2, ![48, 384]⟩
abbrev S64x288 : Shape := ⟨2, ![64, 288]⟩
abbrev S48x128 : Shape := ⟨2, ![48, 128]⟩
abbrev S48x320 : Shape := ⟨2, ![48, 320]⟩
abbrev S64x96 : Shape := ⟨2, ![64, 96]⟩
abbrev S64x240 : Shape := ⟨2, ![64, 240]⟩
abbrev S48x192 : Shape := ⟨2, ![48, 192]⟩
abbrev S48x256 : Shape := ⟨2, ![48, 256]⟩
abbrev S64x144 : Shape := ⟨2, ![64, 144]⟩
abbrev S64x192 : Shape := ⟨2, ![64, 192]⟩
abbrev S384x512 : Shape := ⟨2, ![384, 512]⟩
abbrev S512x384 : Shape := ⟨2, ![512, 384]⟩
abbrev S1024x512 : Shape := ⟨2, ![1024, 512]⟩
abbrev S1024x8x64 : Shape := ⟨3, ![1024, 8, 64]⟩
abbrev S1024x8 : Shape := ⟨2, ![1024, 8]⟩
abbrev S1024x8x1 : Shape := ⟨3, ![1024, 8, 1]⟩
abbrev S25x1x384 : Shape := ⟨3, ![25, 1, 384]⟩
abbrev S25x384 : Shape := ⟨2, ![25, 384]⟩
abbrev S4x224x384 : Shape := ⟨3, ![4, 224, 384]⟩
abbrev S2x224x384 : Shape := ⟨3, ![2, 224, 384]⟩
abbrev S8x224x384 : Shape := ⟨3, ![8, 224, 384]⟩
abbrev S8x2x384 : Shape := ⟨3, ![8, 2, 384]⟩
abbrev S8x228x384 : Shape := ⟨3, ![8, 228, 384]⟩
abbrev S1x1x384 : Shape := ⟨3, ![1, 1, 384]⟩
abbrev S896x384 : Shape := ⟨2, ![896, 384]⟩
abbrev S1x1536 : Shape := ⟨2, ![1, 1536]⟩
abbrev S896 : Shape := ⟨1, ![896]⟩
abbrev S896x1 : Shape := ⟨2, ![896, 1]⟩
abbrev S896x1536 : Shape := ⟨2, ![896, 1536]⟩

abbrev nBuf : Space → Nat
  | .hbm => 129
  | .vmem => 55
  | .smem => 1
  | _ => 0

abbrev hbmTy0_0 (i : Nat) : BufTy := match i % 128 with
  | 0 => ⟨S1x384x224x224, .f32⟩
  | 1 => ⟨S384, .f32⟩
  | 2 => ⟨S384, .f32⟩
  | 3 => ⟨S384x1152, .f32⟩
  | 4 => ⟨S1152, .f32⟩
  | 5 => ⟨S5x5x1x384, .f32⟩
  | 6 => ⟨S384, .f32⟩
  | 7 => ⟨S384x384, .f32⟩
  | 8 => ⟨S384, .f32⟩
  | 9 => ⟨S384, .f32⟩
  | 10 => ⟨S384, .f32⟩
  | 11 => ⟨S384x1536, .f32⟩
  | 12 => ⟨S1536, .f32⟩
  | 13 => ⟨S1536x384, .f32⟩
  | 14 => ⟨S384, .f32⟩
  | 15 => ⟨S384x224x224, .f32⟩
  | 16 => ⟨S224x224x384, .f32⟩
  | 17 => ⟨S1024, .i32⟩
  | 18 => ⟨S_, .i32⟩
  | 19 => ⟨S_, .i32⟩
  | 20 => ⟨S1024, .i32⟩
  | 21 => ⟨S1024, .i32⟩
  | 22 => ⟨S1024, .i32⟩
  | 23 => ⟨S_, .i32⟩
  | 24 => ⟨S1024, .i32⟩
  | 25 => ⟨S1024, .i1⟩
  | 26 => ⟨S1024, .i32⟩
  | 27 => ⟨S1024, .i32⟩
  | 28 => ⟨S_, .i32⟩
  | 29 => ⟨S1024, .i32⟩
  | 30 => ⟨S1024, .i1⟩
  | 31 => ⟨S1024, .i1⟩
  | 32 => ⟨S_, .i32⟩
  | 33 => ⟨S1024, .i32⟩
  | 34 => ⟨S1024, .i32⟩
  | 35 => ⟨S1024, .i32⟩
  | 36 => ⟨S_, .i32⟩
  | 37 => ⟨S_, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i1⟩
  | 44 => ⟨S1024, .i32⟩
  | 45 => ⟨S1024, .i32⟩
  | 46 => ⟨S_, .i32⟩
  | 47 => ⟨S1024, .i32⟩
  | 48 => ⟨S1024, .i1⟩
  | 49 => ⟨S1024, .i1⟩
  | 50 => ⟨S_, .i32⟩
  | 51 => ⟨S1024, .i32⟩
  | 52 => ⟨S1024, .i32⟩
  | 53 => ⟨S1024, .i32⟩
  | 54 => ⟨S_, .i32⟩
  | 55 => ⟨S1024, .i32⟩
  | 56 => ⟨S1024, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1024, .i32⟩
  | 64 => ⟨S1024, .i32⟩
  | 65 => ⟨S_, .i32⟩
  | 66 => ⟨S1024, .i32⟩
  | 67 => ⟨S1024, .i1⟩
  | 68 => ⟨S_, .i32⟩
  | 69 => ⟨S1024, .i32⟩
  | 70 => ⟨S1024, .i1⟩
  | 71 => ⟨S_, .i32⟩
  | 72 => ⟨S_, .i1⟩
  | 73 => ⟨S1024, .i1⟩
  | 74 => ⟨S1024, .i1⟩
  | 75 => ⟨S1024, .i1⟩
  | 76 => ⟨S1024, .i32⟩
  | 77 => ⟨S1024, .i32⟩
  | 78 => ⟨S1024, .i32⟩
  | 79 => ⟨S_, .i32⟩
  | 80 => ⟨S_, .i32⟩
  | 81 => ⟨S1024, .i32⟩
  | 82 => ⟨S1024, .i32⟩
  | 83 => ⟨S1024, .i32⟩
  | 84 => ⟨S_, .i32⟩
  | 85 => ⟨S1024, .i32⟩
  | 86 => ⟨S1024, .i1⟩
  | 87 => ⟨S1024, .i32⟩
  | 88 => ⟨S1024, .i32⟩
  | 89 => ⟨S_, .i32⟩
  | 90 => ⟨S1024, .i32⟩
  | 91 => ⟨S1024, .i1⟩
  | 92 => ⟨S1024, .i1⟩
  | 93 => ⟨S_, .i32⟩
  | 94 => ⟨S1024, .i32⟩
  | 95 => ⟨S1024, .i32⟩
  | 96 => ⟨S1024, .i32⟩
  | 97 => ⟨S1024, .i32⟩
  | 98 => ⟨S1x1024, .i32⟩
  | 99 => ⟨S16, .i32⟩
  | 100 => ⟨S16x1, .i32⟩
  | 101 => ⟨S16x1024, .i32⟩
  | 102 => ⟨S16x1024, .i32⟩
  | 103 => ⟨S16x1024, .i1⟩
  | 104 => ⟨S16x1024, .f32⟩
  | 105 => ⟨S_, .f32⟩
  | 106 => ⟨S16x1024, .f32⟩
  | 107 => ⟨S16x1024, .f32⟩
  | 108 => ⟨S1x384, .f32⟩
  | 109 => ⟨S1x384, .f32⟩
  | 110 => ⟨S1x1152, .f32⟩
  | 111 => ⟨S49x1024x384, .bf16⟩
  | 112 => ⟨S224x224x384, .bf16⟩
  | 113 => ⟨S49x16x768, .f32⟩
  | 114 => ⟨S49x8x384, .f32⟩
  | 115 => ⟨S49x8, .i32⟩
  | 116 => ⟨S224x224x384, .bf16⟩
  | 117 => ⟨S25x1x384, .f32⟩
  | 118 => ⟨S25x384, .f32⟩
  | 119 => ⟨S1x384, .f32⟩
  | 120 => ⟨S1x384, .f32⟩
  | 121 => ⟨S224x224x384, .f32⟩
  | 122 => ⟨S1x384, .f32⟩
  | 123 => ⟨S1x384, .f32⟩
  | 124 => ⟨S1x1536, .f32⟩
  | 125 => ⟨S1x384, .f32⟩
  | 126 => ⟨S224x224x384, .f32⟩
  | 127 => ⟨S384x224x224, .f32⟩
  | _ => ⟨S1x384x224x224, .f32⟩

abbrev hbmTy0_1 (i : Nat) : BufTy := match i % 128 with
  | 0 => ⟨S1x384x224x224, .f32⟩
  | _ => ⟨S1x384x224x224, .f32⟩

abbrev hbmTy (i : Nat) : BufTy := match i / 128 with
  | 0 => hbmTy0_0 i
  | 1 => hbmTy0_1 i
  | _ => ⟨S1x384x224x224, .f32⟩

abbrev bufTy : (tb : Table) → Fin (tcTables nBuf tb) → BufTy
  | .hbm, ⟨i, _⟩ => hbmTy i
  | .local _ .vmem, ⟨0, _⟩ => ⟨S32x32x384, .f32⟩
  | .local _ .vmem, ⟨1, _⟩ => ⟨S32x32x384, .f32⟩
  | .local _ .vmem, ⟨2, _⟩ => ⟨S1x384, .f32⟩
  | .local _ .vmem, ⟨3, _⟩ => ⟨S1x384, .f32⟩
  | .local _ .vmem, ⟨4, _⟩ => ⟨S384x1152, .f32⟩
  | .local _ .vmem, ⟨5, _⟩ => ⟨S1x1152, .f32⟩
  | .local _ .vmem, ⟨6, _⟩ => ⟨S16x1024, .f32⟩
  | .local _ .vmem, ⟨7, _⟩ => ⟨S1x1024x384, .bf16⟩
  | .local _ .vmem, ⟨8, _⟩ => ⟨S1x1024x384, .bf16⟩
  | .local _ .vmem, ⟨9, _⟩ => ⟨S32x32x384, .bf16⟩
  | .local _ .vmem, ⟨10, _⟩ => ⟨S32x32x384, .bf16⟩
  | .local _ .vmem, ⟨11, _⟩ => ⟨S1x16x768, .f32⟩
  | .local _ .vmem, ⟨12, _⟩ => ⟨S1x16x768, .f32⟩
  | .local _ .vmem, ⟨13, _⟩ => ⟨S1x8x384, .f32⟩
  | .local _ .vmem, ⟨14, _⟩ => ⟨S1x8x384, .f32⟩
  | .local _ .vmem, ⟨15, _⟩ => ⟨S49x8x384, .f32⟩
  | .local _ .vmem, ⟨16, _⟩ => ⟨S49x8, .i32⟩
  | .local _ .vmem, ⟨17, _⟩ => ⟨S1x1024x384, .bf16⟩
  | .local _ .vmem, ⟨18, _⟩ => ⟨S1x1024x384, .bf16⟩
  | .local _ .vmem, ⟨19, _⟩ => ⟨S1x16x768, .f32⟩
  | .local _ .vmem, ⟨20, _⟩ => ⟨S1x16x768, .f32⟩
  | .local _ .vmem, ⟨21, _⟩ => ⟨S1x16x768, .f32⟩
  | .local _ .vmem, ⟨22, _⟩ => ⟨S1x16x768, .f32⟩
  | .local _ .vmem, ⟨23, _⟩ => ⟨S1x16x768, .f32⟩
  | .local _ .vmem, ⟨24, _⟩ => ⟨S1x16x768, .f32⟩
  | .local _ .vmem, ⟨25, _⟩ => ⟨S1x16x768, .f32⟩
  | .local _ .vmem, ⟨26, _⟩ => ⟨S1x16x768, .f32⟩
  | .local _ .vmem, ⟨27, _⟩ => ⟨S32x32x384, .bf16⟩
  | .local _ .vmem, ⟨28, _⟩ => ⟨S32x32x384, .bf16⟩
  | .local _ .vmem, ⟨29, _⟩ => ⟨S4x224x384, .bf16⟩
  | .local _ .vmem, ⟨30, _⟩ => ⟨S4x224x384, .bf16⟩
  | .local _ .vmem, ⟨31, _⟩ => ⟨S4x224x384, .bf16⟩
  | .local _ .vmem, ⟨32, _⟩ => ⟨S4x224x384, .bf16⟩
  | .local _ .vmem, ⟨33, _⟩ => ⟨S4x224x384, .bf16⟩
  | .local _ .vmem, ⟨34, _⟩ => ⟨S4x224x384, .bf16⟩
  | .local _ .vmem, ⟨35, _⟩ => ⟨S4x224x384, .bf16⟩
  | .local _ .vmem, ⟨36, _⟩ => ⟨S4x224x384, .bf16⟩
  | .local _ .vmem, ⟨37, _⟩ => ⟨S4x224x384, .f32⟩
  | .local _ .vmem, ⟨38, _⟩ => ⟨S4x224x384, .f32⟩
  | .local _ .vmem, ⟨39, _⟩ => ⟨S25x384, .f32⟩
  | .local _ .vmem, ⟨40, _⟩ => ⟨S1x384, .f32⟩
  | .local _ .vmem, ⟨41, _⟩ => ⟨S384x384, .f32⟩
  | .local _ .vmem, ⟨42, _⟩ => ⟨S1x384, .f32⟩
  | .local _ .vmem, ⟨43, _⟩ => ⟨S4x224x384, .f32⟩
  | .local _ .vmem, ⟨44, _⟩ => ⟨S4x224x384, .f32⟩
  | .local _ .vmem, ⟨45, _⟩ => ⟨S4x224x384, .f32⟩
  | .local _ .vmem, ⟨46, _⟩ => ⟨S4x224x384, .f32⟩
  | .local _ .vmem, ⟨47, _⟩ => ⟨S1x384, .f32⟩
  | .local _ .vmem, ⟨48, _⟩ => ⟨S1x384, .f32⟩
  | .local _ .vmem, ⟨49, _⟩ => ⟨S384x1536, .f32⟩
  | .local _ .vmem, ⟨50, _⟩ => ⟨S1x1536, .f32⟩
  | .local _ .vmem, ⟨51, _⟩ => ⟨S1536x384, .f32⟩
  | .local _ .vmem, ⟨52, _⟩ => ⟨S1x384, .f32⟩
  | .local _ .vmem, ⟨53, _⟩ => ⟨S4x224x384, .f32⟩
  | .local _ .vmem, ⟨54, _⟩ => ⟨S4x224x384, .f32⟩
  | .local _ .smem, ⟨0, _⟩ => ⟨S49x4, .i32⟩
  | _, _ => ⟨S1x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v3 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v4 : Ref sig .tc := ⟨.hbm, 53, rfl⟩
abbrev main_c_1 : Ref sig .tc := ⟨.hbm, 54, rfl⟩
abbrev main_v5 : Ref sig .tc := ⟨.hbm, 55, rfl⟩
abbrev main_v6 : Ref sig .tc := ⟨.hbm, 56, rfl⟩
abbrev main_c_2 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v7 : Ref sig .tc := ⟨.hbm, 78, rfl⟩
abbrev main_c_3 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v8 : Ref sig .tc := ⟨.hbm, 96, rfl⟩
abbrev main_v9 : Ref sig .tc := ⟨.hbm, 97, rfl⟩
abbrev main_v10 : Ref sig .tc := ⟨.hbm, 98, rfl⟩
abbrev main_v11 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_v16 : Ref sig .tc := ⟨.hbm, 104, rfl⟩
abbrev main_cst : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_v22_0 : Ref sig .tc := ⟨.hbm, 111, rfl⟩
abbrev main_v22_1 : Ref sig .tc := ⟨.hbm, 112, rfl⟩
abbrev main_v22_2 : Ref sig .tc := ⟨.hbm, 113, rfl⟩
abbrev main_v22_3 : Ref sig .tc := ⟨.hbm, 114, rfl⟩
abbrev main_v23 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v24 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg1_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem1_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x32x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S49x8x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S49x8 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![49], ![false]⟩

abbrev pre2 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (i : grid2.Coords) : Fin 2 → Nat :=
  let arg0 : BitVec 32 := BitVec.ofNat 32 (i 0).val
  let v0 : Index := Scalar.indexCast arg0
  let c1 : Index := 1#32
  ![v0.toNat, 1]
def k2_off3 (i : grid2.Coords) : Fin 2 → Nat :=
  let arg0 : BitVec 32 := BitVec.ofNat 32 (i 0).val
  let v0 : Index := Scalar.indexCast arg0
  let c2 : Index := 2#32
  ![v0.toNat, 2]
def k2_off4 (i : grid2.Coords) : Fin 2 → Nat :=
  let arg0 : BitVec 32 := BitVec.ofNat 32 (i 0).val
  let v0 : Index := Scalar.indexCast arg0
  let c3 : Index := 3#32
  ![v0.toNat, 3]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (k2_off1_inb : ∀ i : grid2.Coords, ∀ a, (k2_off1 i) a + S1x1.size a ≤ S49x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c0 : Index := 0#32
  let v1 : BitVec 32 := pf.at 0 (Rect.unit (s := S49x4) ![v0.toNat, 0] S1x1.size (k2_off1_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_2 (k2_off2_inb : ∀ i : grid2.Coords, ∀ a, (k2_off2 i) a + S1x1.size a ≤ S49x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c1 : Index := 1#32
  let v1 : BitVec 32 := pf.at 0 (Rect.unit (s := S49x4) ![v0.toNat, 1] S1x1.size (k2_off2_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_3 (k2_off3_inb : ∀ i : grid2.Coords, ∀ a, (k2_off3 i) a + S1x1.size a ≤ S49x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c2 : Index := 2#32
  let v1 : BitVec 32 := pf.at 0 (Rect.unit (s := S49x4) ![v0.toNat, 2] S1x1.size (k2_off3_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_4 (k2_off4_inb : ∀ i : grid2.Coords, ∀ a, (k2_off4 i) a + S1x1.size a ≤ S49x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c3 : Index := 3#32
  let v1 : BitVec 32 := pf.at 0 (Rect.unit (s := S49x4) ![v0.toNat, 3] S1x1.size (k2_off4_inb i)) numel1_S1x1
  let c0_i32 : BitVec 32 := 0#32
  let c0_i32_0 : BitVec 32 := 0#32
  let c0_i32_1 : BitVec 32 := 0#32
  ![v1.toNat, c0_i32.toNat, c0_i32_0.toNat]

def cc2_transform_5 (i : grid2.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage2_0 : Fin 2 → Memref sig .tc .vmem S1x1024x384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x16x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x16x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x16x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S32x32x384 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![56], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc3_transform_2 (i : grid3.Coords) : Fin 3 → Nat :=
  let arg0 : BitVec 32 := BitVec.ofNat 32 (i 0).val
  let c1_i32 : BitVec 32 := 1#32
  let v0 : BitVec 32 := Scalar.addi arg0 c1_i32
  let c55_i32 : BitVec 32 := 55#32
  let v1 : BitVec 32 := Scalar.minsi v0 c55_i32
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4x224x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x224x384 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4x224x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4x224x384 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4x224x384 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S25x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x384 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S384x384 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x384 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4x224x384 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![56], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S4x224x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x384 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S384x1536 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1536 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1536x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x384 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4x224x384 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== KernelReferenceIdeal.lean ====
abbrev S1x384x224x224 : Shape := ⟨4, ![1, 384, 224, 224]⟩
abbrev S384 : Shape := ⟨1, ![384]⟩
abbrev S384x1152 : Shape := ⟨2, ![384, 1152]⟩
abbrev S1152 : Shape := ⟨1, ![1152]⟩
abbrev S5x5x1x384 : Shape := ⟨4, ![5, 5, 1, 384]⟩
abbrev S384x384 : Shape := ⟨2, ![384, 384]⟩
abbrev S384x1536 : Shape := ⟨2, ![384, 1536]⟩
abbrev S1536 : Shape := ⟨1, ![1536]⟩
abbrev S1536x384 : Shape := ⟨2, ![1536, 384]⟩
abbrev S384x224x224 : Shape := ⟨3, ![384, 224, 224]⟩
abbrev S224x224x384 : Shape := ⟨3, ![224, 224, 384]⟩
abbrev S_ : Shape := ⟨0, ![]⟩
abbrev S224x224 : Shape := ⟨2, ![224, 224]⟩
abbrev S224x224x1 : Shape := ⟨3, ![224, 224, 1]⟩
abbrev S1x1x384 : Shape := ⟨3, ![1, 1, 384]⟩
abbrev S7x32x7x32x384 : Shape := ⟨5, ![7, 32, 7, 32, 384]⟩
abbrev S7x7x32x32x384 : Shape := ⟨5, ![7, 7, 32, 32, 384]⟩
abbrev S7x7x32x32x1152 : Shape := ⟨5, ![7, 7, 32, 32, 1152]⟩
abbrev S1x1x1x1x1152 : Shape := ⟨5, ![1, 1, 1, 1, 1152]⟩
abbrev S7x7x32x32x768 : Shape := ⟨5, ![7, 7, 32, 32, 768]⟩
abbrev S7x7x384 : Shape := ⟨3, ![7, 7, 384]⟩
abbrev S49x384 : Shape := ⟨2, ![49, 384]⟩
abbrev S384x49 : Shape := ⟨2, ![384, 49]⟩
abbrev S49x49 : Shape := ⟨2, ![49, 49]⟩
abbrev S49x4 : Shape := ⟨2, ![49, 4]⟩
abbrev S49x1024x384 : Shape := ⟨3, ![49, 1024, 384]⟩
abbrev S49x4x8x4x8x768 : Shape := ⟨6, ![49, 4, 8, 4, 8, 768]⟩
abbrev S49x4x4x8x8x768 : Shape := ⟨6, ![49, 4, 4, 8, 8, 768]⟩
abbrev S49x16x64x768 : Shape := ⟨4, ![49, 16, 64, 768]⟩
abbrev S49x16x768 : Shape := ⟨3, ![49, 16, 768]⟩
abbrev S49x4x1 : Shape := ⟨3, ![49, 4, 1]⟩
abbrev S49x4x16x768 : Shape := ⟨4, ![49, 4, 16, 768]⟩
abbrev S49x4x16x384 : Shape := ⟨4, ![49, 4, 16, 384]⟩
abbrev S49x64x8x48 : Shape := ⟨4, ![49, 64, 8, 48]⟩
abbrev S49x8x48x64 : Shape := ⟨4, ![49, 8, 48, 64]⟩
abbrev S49x8x64x48 : Shape := ⟨4, ![49, 8, 64, 48]⟩
abbrev S49x1024x8x48 : Shape := ⟨4, ![49, 1024, 8, 48]⟩
abbrev S49x8x1024x48 : Shape := ⟨4, ![49, 8, 1024, 48]⟩
abbrev S49x8x1024x64 : Shape := ⟨4, ![49, 8, 1024, 64]⟩
abbrev S49x8x1024 : Shape := ⟨3, ![49, 8, 1024]⟩
abbrev S49x8x1024x1 : Shape := ⟨4, ![49, 8, 1024, 1]⟩
abbrev S228x228x384 : Shape := ⟨3, ![228, 228, 384]⟩
abbrev S1x1x1x384 : Shape := ⟨4, ![1, 1, 1, 384]⟩
abbrev S224x224x1536 : Shape := ⟨3, ![224, 224, 1536]⟩
abbrev S1x1x1536 : Shape := ⟨3, ![1, 1, 1536]⟩

abbrev nBuf : Space → Nat
  | .hbm => 398
  | .vmem => 0
  | .smem => 0
  | _ => 0

abbrev hbmTy0_0 (i : Nat) : BufTy := match i % 128 with
  | 0 => ⟨S1x384x224x224, .f32⟩
  | 1 => ⟨S384, .f32⟩
  | 2 => ⟨S384, .f32⟩
  | 3 => ⟨S384x1152, .f32⟩
  | 4 => ⟨S1152, .f32⟩
  | 5 => ⟨S5x5x1x384, .f32⟩
  | 6 => ⟨S384, .f32⟩
  | 7 => ⟨S384x384, .f32⟩
  | 8 => ⟨S384, .f32⟩
  | 9 => ⟨S384, .f32⟩
  | 10 => ⟨S384, .f32⟩
  | 11 => ⟨S384x1536, .f32⟩
  | 12 => ⟨S1536, .f32⟩
  | 13 => ⟨S1536x384, .f32⟩
  | 14 => ⟨S384, .f32⟩
  | 15 => ⟨S384x224x224, .f32⟩
  | 16 => ⟨S224x224x384, .f32⟩
  | 17 => ⟨S_, .f32⟩
  | 18 => ⟨S224x224, .f32⟩
  | 19 => ⟨S224x224x1, .f32⟩
  | 20 => ⟨S_, .f32⟩
  | 21 => ⟨S224x224x1, .f32⟩
  | 22 => ⟨S224x224x1, .f32⟩
  | 23 => ⟨S_, .i32⟩
  | 24 => ⟨S_, .f32⟩
  | 25 => ⟨S224x224, .f32⟩
  | 26 => ⟨S224x224x1, .f32⟩
  | 27 => ⟨S_, .f32⟩
  | 28 => ⟨S224x224x1, .f32⟩
  | 29 => ⟨S224x224x1, .f32⟩
  | 30 => ⟨S224x224x384, .f32⟩
  | 31 => ⟨S224x224x384, .f32⟩
  | 32 => ⟨S224x224x384, .f32⟩
  | 33 => ⟨S_, .f32⟩
  | 34 => ⟨S_, .f32⟩
  | 35 => ⟨S_, .f32⟩
  | 36 => ⟨S_, .f32⟩
  | 37 => ⟨S224x224, .f32⟩
  | 38 => ⟨S224x224x1, .f32⟩
  | 39 => ⟨S224x224x1, .f32⟩
  | 40 => ⟨S224x224x1, .f32⟩
  | 41 => ⟨S_, .f32⟩
  | 42 => ⟨S_, .i1⟩
  | 43 => ⟨S_, .f32⟩
  | 44 => ⟨S_, .f32⟩
  | 45 => ⟨S224x224x1, .f32⟩
  | 46 => ⟨S224x224x1, .f32⟩
  | 47 => ⟨S224x224x384, .f32⟩
  | 48 => ⟨S224x224x384, .f32⟩
  | 49 => ⟨S_, .f32⟩
  | 50 => ⟨S224x224x1, .f32⟩
  | 51 => ⟨S224x224x1, .f32⟩
  | 52 => ⟨S224x224x1, .f32⟩
  | 53 => ⟨S224x224x384, .f32⟩
  | 54 => ⟨S224x224x384, .f32⟩
  | 55 => ⟨S1x1x384, .f32⟩
  | 56 => ⟨S224x224x384, .f32⟩
  | 57 => ⟨S224x224x384, .f32⟩
  | 58 => ⟨S1x1x384, .f32⟩
  | 59 => ⟨S224x224x384, .f32⟩
  | 60 => ⟨S224x224x384, .f32⟩
  | 61 => ⟨S7x32x7x32x384, .f32⟩
  | 62 => ⟨S7x7x32x32x384, .f32⟩
  | 63 => ⟨S7x7x32x32x1152, .f32⟩
  | 64 => ⟨S1x1x1x1x1152, .f32⟩
  | 65 => ⟨S7x7x32x32x1152, .f32⟩
  | 66 => ⟨S7x7x32x32x1152, .f32⟩
  | 67 => ⟨S7x7x32x32x384, .f32⟩
  | 68 => ⟨S7x7x32x32x768, .f32⟩
  | 69 => ⟨S_, .f32⟩
  | 70 => ⟨S7x7x384, .f32⟩
  | 71 => ⟨S_, .f32⟩
  | 72 => ⟨S7x7x384, .f32⟩
  | 73 => ⟨S7x7x384, .f32⟩
  | 74 => ⟨S49x384, .f32⟩
  | 75 => ⟨S7x7x32x32x384, .f32⟩
  | 76 => ⟨S_, .f32⟩
  | 77 => ⟨S7x7x384, .f32⟩
  | 78 => ⟨S_, .f32⟩
  | 79 => ⟨S7x7x384, .f32⟩
  | 80 => ⟨S7x7x384, .f32⟩
  | 81 => ⟨S49x384, .f32⟩
  | 82 => ⟨S_, .f32⟩
  | 83 => ⟨S49x384, .f32⟩
  | 84 => ⟨S49x384, .f32⟩
  | 85 => ⟨S384x49, .f32⟩
  | 86 => ⟨S49x49, .f32⟩
  | 87 => ⟨S49x4, .f32⟩
  | 88 => ⟨S49x4, .i32⟩
  | 89 => ⟨S49x1024x384, .f32⟩
  | 90 => ⟨S49x4x8x4x8x768, .f32⟩
  | 91 => ⟨S49x4x4x8x8x768, .f32⟩
  | 92 => ⟨S49x16x64x768, .f32⟩
  | 93 => ⟨S_, .f32⟩
  | 94 => ⟨S49x16x768, .f32⟩
  | 95 => ⟨S_, .f32⟩
  | 96 => ⟨S49x16x768, .f32⟩
  | 97 => ⟨S49x16x768, .f32⟩
  | 98 => ⟨S_, .i32⟩
  | 99 => ⟨S49x4, .i32⟩
  | 100 => ⟨S49x4, .i1⟩
  | 101 => ⟨S_, .i32⟩
  | 102 => ⟨S49x4, .i32⟩
  | 103 => ⟨S49x4, .i32⟩
  | 104 => ⟨S49x4, .i32⟩
  | 105 => ⟨S49x4x1, .i32⟩
  | 106 => ⟨S49x4x16x768, .f32⟩
  | 107 => ⟨S49x4x16x384, .f32⟩
  | 108 => ⟨S49x64x8x48, .f32⟩
  | 109 => ⟨S49x8x48x64, .f32⟩
  | 110 => ⟨S49x4x16x384, .f32⟩
  | 111 => ⟨S49x64x8x48, .f32⟩
  | 112 => ⟨S49x8x64x48, .f32⟩
  | 113 => ⟨S49x1024x8x48, .f32⟩
  | 114 => ⟨S49x8x1024x48, .f32⟩
  | 115 => ⟨S_, .f32⟩
  | 116 => ⟨S49x8x1024x48, .f32⟩
  | 117 => ⟨S49x8x1024x48, .f32⟩
  | 118 => ⟨S49x8x1024x64, .f32⟩
  | 119 => ⟨S_, .f32⟩
  | 120 => ⟨S49x8x1024, .f32⟩
  | 121 => ⟨S_, .f32⟩
  | 122 => ⟨S49x8x1024, .f32⟩
  | 123 => ⟨S49x8x1024, .f32⟩
  | 124 => ⟨S49x8x1024x1, .f32⟩
  | 125 => ⟨S49x8x1024x64, .f32⟩
  | 126 => ⟨S49x8x1024x64, .f32⟩
  | 127 => ⟨S49x8x1024x64, .f32⟩
  | _ => ⟨S1x384x224x224, .f32⟩

abbrev hbmTy0_1 (i : Nat) : BufTy := match i % 128 with
  | 0 => ⟨S_, .f32⟩
  | 1 => ⟨S49x8x1024, .f32⟩
  | 2 => ⟨S49x8x1024x1, .f32⟩
  | 3 => ⟨S49x8x1024x64, .f32⟩
  | 4 => ⟨S49x8x1024x64, .f32⟩
  | 5 => ⟨S49x8x1024x48, .f32⟩
  | 6 => ⟨S49x1024x8x48, .f32⟩
  | 7 => ⟨S7x7x32x32x384, .f32⟩
  | 8 => ⟨S7x32x7x32x384, .f32⟩
  | 9 => ⟨S224x224x384, .f32⟩
  | 10 => ⟨S7x7x32x32x384, .f32⟩
  | 11 => ⟨S7x32x7x32x384, .f32⟩
  | 12 => ⟨S224x224x384, .f32⟩
  | 13 => ⟨S384x224x224, .f32⟩
  | 14 => ⟨S224x224x384, .f32⟩
  | 15 => ⟨S_, .i32⟩
  | 16 => ⟨S_, .f32⟩
  | 17 => ⟨S228x228x384, .f32⟩
  | 18 => ⟨S224x224x384, .f32⟩
  | 19 => ⟨S1x1x1x384, .f32⟩
  | 20 => ⟨S384, .f32⟩
  | 21 => ⟨S1x1x384, .f32⟩
  | 22 => ⟨S224x224x384, .f32⟩
  | 23 => ⟨S224x224x384, .f32⟩
  | 24 => ⟨S_, .f32⟩
  | 25 => ⟨S224x224x384, .f32⟩
  | 26 => ⟨S224x224x384, .f32⟩
  | 27 => ⟨S224x224x384, .f32⟩
  | 28 => ⟨S1x1x1x384, .f32⟩
  | 29 => ⟨S384, .f32⟩
  | 30 => ⟨S1x1x384, .f32⟩
  | 31 => ⟨S224x224x384, .f32⟩
  | 32 => ⟨S224x224x384, .f32⟩
  | 33 => ⟨S224x224x384, .f32⟩
  | 34 => ⟨S224x224x384, .f32⟩
  | 35 => ⟨S1x1x1x384, .f32⟩
  | 36 => ⟨S384, .f32⟩
  | 37 => ⟨S1x1x384, .f32⟩
  | 38 => ⟨S224x224x384, .f32⟩
  | 39 => ⟨S224x224x384, .f32⟩
  | 40 => ⟨S224x224x384, .f32⟩
  | 41 => ⟨S224x224x384, .f32⟩
  | 42 => ⟨S1x1x1x384, .f32⟩
  | 43 => ⟨S384, .f32⟩
  | 44 => ⟨S1x1x384, .f32⟩
  | 45 => ⟨S224x224x384, .f32⟩
  | 46 => ⟨S224x224x384, .f32⟩
  | 47 => ⟨S224x224x384, .f32⟩
  | 48 => ⟨S224x224x384, .f32⟩
  | 49 => ⟨S1x1x1x384, .f32⟩
  | 50 => ⟨S384, .f32⟩
  | 51 => ⟨S1x1x384, .f32⟩
  | 52 => ⟨S224x224x384, .f32⟩
  | 53 => ⟨S224x224x384, .f32⟩
  | 54 => ⟨S224x224x384, .f32⟩
  | 55 => ⟨S224x224x384, .f32⟩
  | 56 => ⟨S1x1x1x384, .f32⟩
  | 57 => ⟨S384, .f32⟩
  | 58 => ⟨S1x1x384, .f32⟩
  | 59 => ⟨S224x224x384, .f32⟩
  | 60 => ⟨S224x224x384, .f32⟩
  | 61 => ⟨S224x224x384, .f32⟩
  | 62 => ⟨S224x224x384, .f32⟩
  | 63 => ⟨S1x1x1x384, .f32⟩
  | 64 => ⟨S384, .f32⟩
  | 65 => ⟨S1x1x384, .f32⟩
  | 66 => ⟨S224x224x384, .f32⟩
  | 67 => ⟨S224x224x384, .f32⟩
  | 68 => ⟨S224x224x384, .f32⟩
  | 69 => ⟨S224x224x384, .f32⟩
  | 70 => ⟨S1x1x1x384, .f32⟩
  | 71 => ⟨S384, .f32⟩
  | 72 => ⟨S1x1x384, .f32⟩
  | 73 => ⟨S224x224x384, .f32⟩
  | 74 => ⟨S224x224x384, .f32⟩
  | 75 => ⟨S224x224x384, .f32⟩
  | 76 => ⟨S224x224x384, .f32⟩
  | 77 => ⟨S1x1x1x384, .f32⟩
  | 78 => ⟨S384, .f32⟩
  | 79 => ⟨S1x1x384, .f32⟩
  | 80 => ⟨S224x224x384, .f32⟩
  | 81 => ⟨S224x224x384, .f32⟩
  | 82 => ⟨S224x224x384, .f32⟩
  | 83 => ⟨S224x224x384, .f32⟩
  | 84 => ⟨S1x1x1x384, .f32⟩
  | 85 => ⟨S384, .f32⟩
  | 86 => ⟨S1x1x384, .f32⟩
  | 87 => ⟨S224x224x384, .f32⟩
  | 88 => ⟨S224x224x384, .f32⟩
  | 89 => ⟨S224x224x384, .f32⟩
  | 90 => ⟨S224x224x384, .f32⟩
  | 91 => ⟨S1x1x1x384, .f32⟩
  | 92 => ⟨S384, .f32⟩
  | 93 => ⟨S1x1x384, .f32⟩
  | 94 => ⟨S224x224x384, .f32⟩
  | 95 => ⟨S224x224x384, .f32⟩
  | 96 => ⟨S224x224x384, .f32⟩
  | 97 => ⟨S224x224x384, .f32⟩
  | 98 => ⟨S1x1x1x384, .f32⟩
  | 99 => ⟨S384, .f32⟩
  | 100 => ⟨S1x1x384, .f32⟩
  | 101 => ⟨S224x224x384, .f32⟩
  | 102 => ⟨S224x224x384, .f32⟩
  | 103 => ⟨S224x224x384, .f32⟩
  | 104 => ⟨S224x224x384, .f32⟩
  | 105 => ⟨S1x1x1x384, .f32⟩
  | 106 => ⟨S384, .f32⟩
  | 107 => ⟨S1x1x384, .f32⟩
  | 108 => ⟨S224x224x384, .f32⟩
  | 109 => ⟨S224x224x384, .f32⟩
  | 110 => ⟨S224x224x384, .f32⟩
  | 111 => ⟨S224x224x384, .f32⟩
  | 112 => ⟨S1x1x1x384, .f32⟩
  | 113 => ⟨S384, .f32⟩
  | 114 => ⟨S1x1x384, .f32⟩
  | 115 => ⟨S224x224x384, .f32⟩
  | 116 => ⟨S224x224x384, .f32⟩
  | 117 => ⟨S224x224x384, .f32⟩
  | 118 => ⟨S224x224x384, .f32⟩
  | 119 => ⟨S1x1x1x384, .f32⟩
  | 120 => ⟨S384, .f32⟩
  | 121 => ⟨S1x1x384, .f32⟩
  | 122 => ⟨S224x224x384, .f32⟩
  | 123 => ⟨S224x224x384, .f32⟩
  | 124 => ⟨S224x224x384, .f32⟩
  | 125 => ⟨S224x224x384, .f32⟩
  | 126 => ⟨S1x1x1x384, .f32⟩
  | 127 => ⟨S384, .f32⟩
  | _ => ⟨S1x384x224x224, .f32⟩

abbrev hbmTy0_2 (i : Nat) : BufTy := match i % 128 with
  | 0 => ⟨S1x1x384, .f32⟩
  | 1 => ⟨S224x224x384, .f32⟩
  | 2 => ⟨S224x224x384, .f32⟩
  | 3 => ⟨S224x224x384, .f32⟩
  | 4 => ⟨S224x224x384, .f32⟩
  | 5 => ⟨S1x1x1x384, .f32⟩
  | 6 => ⟨S384, .f32⟩
  | 7 => ⟨S1x1x384, .f32⟩
  | 8 => ⟨S224x224x384, .f32⟩
  | 9 => ⟨S224x224x384, .f32⟩
  | 10 => ⟨S224x224x384, .f32⟩
  | 11 => ⟨S224x224x384, .f32⟩
  | 12 => ⟨S1x1x1x384, .f32⟩
  | 13 => ⟨S384, .f32⟩
  | 14 => ⟨S1x1x384, .f32⟩
  | 15 => ⟨S224x224x384, .f32⟩
  | 16 => ⟨S224x224x384, .f32⟩
  | 17 => ⟨S224x224x384, .f32⟩
  | 18 => ⟨S224x224x384, .f32⟩
  | 19 => ⟨S1x1x1x384, .f32⟩
  | 20 => ⟨S384, .f32⟩
  | 21 => ⟨S1x1x384, .f32⟩
  | 22 => ⟨S224x224x384, .f32⟩
  | 23 => ⟨S224x224x384, .f32⟩
  | 24 => ⟨S224x224x384, .f32⟩
  | 25 => ⟨S224x224x384, .f32⟩
  | 26 => ⟨S1x1x1x384, .f32⟩
  | 27 => ⟨S384, .f32⟩
  | 28 => ⟨S1x1x384, .f32⟩
  | 29 => ⟨S224x224x384, .f32⟩
  | 30 => ⟨S224x224x384, .f32⟩
  | 31 => ⟨S224x224x384, .f32⟩
  | 32 => ⟨S224x224x384, .f32⟩
  | 33 => ⟨S1x1x1x384, .f32⟩
  | 34 => ⟨S384, .f32⟩
  | 35 => ⟨S1x1x384, .f32⟩
  | 36 => ⟨S224x224x384, .f32⟩
  | 37 => ⟨S224x224x384, .f32⟩
  | 38 => ⟨S224x224x384, .f32⟩
  | 39 => ⟨S224x224x384, .f32⟩
  | 40 => ⟨S1x1x1x384, .f32⟩
  | 41 => ⟨S384, .f32⟩
  | 42 => ⟨S1x1x384, .f32⟩
  | 43 => ⟨S224x224x384, .f32⟩
  | 44 => ⟨S224x224x384, .f32⟩
  | 45 => ⟨S224x224x384, .f32⟩
  | 46 => ⟨S224x224x384, .f32⟩
  | 47 => ⟨S1x1x1x384, .f32⟩
  | 48 => ⟨S384, .f32⟩
  | 49 => ⟨S1x1x384, .f32⟩
  | 50 => ⟨S224x224x384, .f32⟩
  | 51 => ⟨S224x224x384, .f32⟩
  | 52 => ⟨S224x224x384, .f32⟩
  | 53 => ⟨S224x224x384, .f32⟩
  | 54 => ⟨S1x1x1x384, .f32⟩
  | 55 => ⟨S384, .f32⟩
  | 56 => ⟨S1x1x384, .f32⟩
  | 57 => ⟨S224x224x384, .f32⟩
  | 58 => ⟨S224x224x384, .f32⟩
  | 59 => ⟨S224x224x384, .f32⟩
  | 60 => ⟨S224x224x384, .f32⟩
  | 61 => ⟨S1x1x1x384, .f32⟩
  | 62 => ⟨S384, .f32⟩
  | 63 => ⟨S1x1x384, .f32⟩
  | 64 => ⟨S224x224x384, .f32⟩
  | 65 => ⟨S224x224x384, .f32⟩
  | 66 => ⟨S224x224x384, .f32⟩
  | 67 => ⟨S1x1x384, .f32⟩
  | 68 => ⟨S224x224x384, .f32⟩
  | 69 => ⟨S224x224x384, .f32⟩
  | 70 => ⟨S224x224x384, .f32⟩
  | 71 => ⟨S224x224x384, .f32⟩
  | 72 => ⟨S1x1x384, .f32⟩
  | 73 => ⟨S224x224x384, .f32⟩
  | 74 => ⟨S224x224x384, .f32⟩
  | 75 => ⟨S224x224x384, .f32⟩
  | 76 => ⟨S_, .f32⟩
  | 77 => ⟨S224x224, .f32⟩
  | 78 => ⟨S224x224x1, .f32⟩
  | 79 => ⟨S_, .f32⟩
  | 80 => ⟨S224x224x1, .f32⟩
  | 81 => ⟨S224x224x1, .f32⟩
  | 82 => ⟨S_, .i32⟩
  | 83 => ⟨S_, .f32⟩
  | 84 => ⟨S224x224, .f32⟩
  | 85 => ⟨S224x224x1, .f32⟩
  | 86 => ⟨S_, .f32⟩
  | 87 => ⟨S224x224x1, .f32⟩
  | 88 => ⟨S224x224x1, .f32⟩
  | 89 => ⟨S224x224x384, .f32⟩
  | 90 => ⟨S224x224x384, .f32⟩
  | 91 => ⟨S224x224x384, .f32⟩
  | 92 => ⟨S_, .f32⟩
  | 93 => ⟨S_, .f32⟩
  | 94 => ⟨S_, .f32⟩
  | 95 => ⟨S_, .f32⟩
  | 96 => ⟨S224x224, .f32⟩
  | 97 => ⟨S224x224x1, .f32⟩
  | 98 => ⟨S224x224x1, .f32⟩
  | 99 => ⟨S224x224x1, .f32⟩
  | 100 => ⟨S_, .f32⟩
  | 101 => ⟨S_, .i1⟩
  | 102 => ⟨S_, .f32⟩
  | 103 => ⟨S_, .f32⟩
  | 104 => ⟨S224x224x1, .f32⟩
  | 105 => ⟨S224x224x1, .f32⟩
  | 106 => ⟨S224x224x384, .f32⟩
  | 107 => ⟨S224x224x384, .f32⟩
  | 108 => ⟨S_, .f32⟩
  | 109 => ⟨S224x224x1, .f32⟩
  | 110 => ⟨S224x224x1, .f32⟩
  | 111 => ⟨S224x224x1, .f32⟩
  | 112 => ⟨S224x224x384, .f32⟩
  | 113 => ⟨S224x224x384, .f32⟩
  | 114 => ⟨S1x1x384, .f32⟩
  | 115 => ⟨S224x224x384, .f32⟩
  | 116 => ⟨S224x224x384, .f32⟩
  | 117 => ⟨S1x1x384, .f32⟩
  | 118 => ⟨S224x224x384, .f32⟩
  | 119 => ⟨S224x224x384, .f32⟩
  | 120 => ⟨S224x224x1536, .f32⟩
  | 121 => ⟨S1x1x1536, .f32⟩
  | 122 => ⟨S224x224x1536, .f32⟩
  | 123 => ⟨S224x224x1536, .f32⟩
  | 124 => ⟨S_, .f32⟩
  | 125 => ⟨S224x224x1536, .f32⟩
  | 126 => ⟨S224x224x1536, .f32⟩
  | 127 => ⟨S_, .f32⟩
  | _ => ⟨S1x384x224x224, .f32⟩

abbrev hbmTy0_3 (i : Nat) : BufTy := match i % 128 with
  | 0 => ⟨S224x224x1536, .f32⟩
  | 1 => ⟨S224x224x1536, .f32⟩
  | 2 => ⟨S224x224x1536, .f32⟩
  | 3 => ⟨S_, .f32⟩
  | 4 => ⟨S224x224x1536, .f32⟩
  | 5 => ⟨S224x224x1536, .f32⟩
  | 6 => ⟨S224x224x1536, .f32⟩
  | 7 => ⟨S224x224x384, .f32⟩
  | 8 => ⟨S1x1x384, .f32⟩
  | 9 => ⟨S224x224x384, .f32⟩
  | 10 => ⟨S224x224x384, .f32⟩
  | 11 => ⟨S224x224x384, .f32⟩
  | 12 => ⟨S384x224x224, .f32⟩
  | 13 => ⟨S1x384x224x224, .f32⟩
  | _ => ⟨S1x384x224x224, .f32⟩

abbrev hbmTy (i : Nat) : BufTy := match i / 128 with
  | 0 => hbmTy0_0 i
  | 1 => hbmTy0_1 i
  | 2 => hbmTy0_2 i
  | 3 => hbmTy0_3 i
  | _ => ⟨S1x384x224x224, .f32⟩

abbrev bufTy : (tb : Table) → Fin (tcTables nBuf tb) → BufTy
  | .hbm, ⟨i, _⟩ => hbmTy i
  | _, _ => ⟨S1x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_2 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_4 : Ref sig .tc := ⟨.hbm, 76, rfl⟩
abbrev main_v33 : Ref sig .tc := ⟨.hbm, 77, rfl⟩
abbrev main_cst_5 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_6 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_values : Ref sig .tc := ⟨.hbm, 87, rfl⟩
abbrev main_indices : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_7 : Ref sig .tc := ⟨.hbm, 93, rfl⟩
abbrev main_v45 : Ref sig .tc := ⟨.hbm, 94, rfl⟩
abbrev main_cst_8 : Ref sig .tc := ⟨.hbm, 95, rfl⟩
abbrev main_v46 : Ref sig .tc := ⟨.hbm, 96, rfl⟩
abbrev main_v47 : Ref sig .tc := ⟨.hbm, 97, rfl⟩
abbrev main_c_9 : Ref sig .tc := ⟨.hbm, 98, rfl⟩
abbrev main_v48 : Ref sig .tc := ⟨.hbm, 99, rfl⟩
abbrev main_v49 : Ref sig .tc := ⟨.hbm, 100, rfl⟩
abbrev main_c_10 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_11 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_12 : Ref sig .tc := ⟨.hbm, 119, rfl⟩
abbrev main_v66 : Ref sig .tc := ⟨.hbm, 120, rfl⟩
abbrev main_cst_13 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_14 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_15 : Ref sig .tc := ⟨.hbm, 143, rfl⟩
abbrev main_call1_v0 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_16 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_cst_17 : Ref sig .tc := ⟨.hbm, 332, rfl⟩
abbrev main_v273 : Ref sig .tc := ⟨.hbm, 333, rfl⟩
abbrev main_v274 : Ref sig .tc := ⟨.hbm, 334, rfl⟩
abbrev main_cst_18 : Ref sig .tc := ⟨.hbm, 335, rfl⟩
abbrev main_v275 : Ref sig .tc := ⟨.hbm, 336, rfl⟩
abbrev main_v276 : Ref sig .tc := ⟨.hbm, 337, rfl⟩
abbrev main_c_19 : Ref sig .tc := ⟨.hbm, 338, rfl⟩
abbrev main_call2_cst : Ref sig .tc := ⟨.hbm, 339, rfl⟩
abbrev main_call2_v0 : Ref sig .tc := ⟨.hbm, 340, rfl⟩
abbrev main_call2_v1 : Ref sig .tc := ⟨.hbm, 341, rfl⟩
abbrev main_call2_cst_0 : Ref sig .tc := ⟨.hbm, 342, rfl⟩
abbrev main_call2_v2 : Ref sig .tc := ⟨.hbm, 343, rfl⟩
abbrev main_call2_v3 : Ref sig .tc := ⟨.hbm, 344, rfl⟩
abbrev main_call2_v4 : Ref sig .tc := ⟨.hbm, 345, rfl⟩
abbrev main_call2_v5 : Ref sig .tc := ⟨.hbm, 346, rfl⟩
abbrev main_call2_v6 : Ref sig .tc := ⟨.hbm, 347, rfl⟩
abbrev main_call2_v7 : Ref sig .tc := ⟨.hbm, 348, rfl⟩
abbrev main_call2_cst_1 : Ref sig .tc := ⟨.hbm, 349, rfl⟩
abbrev main_call2_v8 : Ref sig .tc := ⟨.hbm, 350, rfl⟩
abbrev main_call2_cst_2 : Ref sig .tc := ⟨.hbm, 351, rfl⟩
abbrev main_call2_v9 : Ref sig .tc := ⟨.hbm, 352, rfl⟩
abbrev main_call2_v10 : Ref sig .tc := ⟨.hbm, 353, rfl⟩
abbrev main_call2_v11 : Ref sig .tc := ⟨.hbm, 354, rfl⟩
abbrev main_call2_v12 : Ref sig .tc := ⟨.hbm, 355, rfl⟩
abbrev main_call2_cst_3 : Ref sig .tc := ⟨.hbm, 356, rfl⟩
abbrev main_call2_v13 : Ref sig .tc := ⟨.hbm, 357, rfl⟩
abbrev main_call2_cst_4 : Ref sig .tc := ⟨.hbm, 358, rfl⟩
abbrev main_call2_call0_v0 : Ref sig .tc := ⟨.hbm, 359, rfl⟩
abbrev main_call2_call0_v1 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_cst_20 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_cst_21 : Ref sig .tc := ⟨.hbm, 380, rfl⟩
abbrev main_v295 : Ref sig .tc := ⟨.hbm, 381, rfl⟩
abbrev main_v296 : Ref sig .tc := ⟨.hbm, 382, rfl⟩
abbrev main_cst_22 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_cst_23 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩

abbrev nD : Nat := 1
abbrev τ : Topo := Topo.v7x

variable {F : FTy → Type} [FloatOps F]
-- ==== Qkv.lean ====
abbrev S1x384x224x224 : Shape := ⟨4, ![1, 384, 224, 224]⟩
abbrev S384 : Shape := ⟨1, ![384]⟩
abbrev S384x1152 : Shape := ⟨2, ![384, 1152]⟩
abbrev S1152 : Shape := ⟨1, ![1152]⟩
abbrev S384x224x224 : Shape := ⟨3, ![384, 224, 224]⟩
abbrev S224x224x384 : Shape := ⟨3, ![224, 224, 384]⟩
abbrev S1024 : Shape := ⟨1, ![1024]⟩
abbrev S_ : Shape := ⟨0, ![]⟩
abbrev S1x1024 : Shape := ⟨2, ![1, 1024]⟩
abbrev S16 : Shape := ⟨1, ![16]⟩
abbrev S16x1 : Shape := ⟨2, ![16, 1]⟩
abbrev S16x1024 : Shape := ⟨2, ![16, 1024]⟩
abbrev S1x384 : Shape := ⟨2, ![1, 384]⟩
abbrev S1x1152 : Shape := ⟨2, ![1, 1152]⟩
abbrev S49x1024x384 : Shape := ⟨3, ![49, 1024, 384]⟩
abbrev S49x16x768 : Shape := ⟨3, ![49, 16, 768]⟩
abbrev S49x8x384 : Shape := ⟨3, ![49, 8, 384]⟩
abbrev S32x32x384 : Shape := ⟨3, ![32, 32, 384]⟩
abbrev S1x1024x384 : Shape := ⟨3, ![1, 1024, 384]⟩
abbrev S1x16x768 : Shape := ⟨3, ![1, 16, 768]⟩
abbrev S1x8x384 : Shape := ⟨3, ![1, 8, 384]⟩
abbrev S1024x384 : Shape := ⟨2, ![1024, 384]⟩
abbrev S1024x1 : Shape := ⟨2, ![1024, 1]⟩
abbrev S1024x1152 : Shape := ⟨2, ![1024, 1152]⟩
abbrev S16x384 : Shape := ⟨2, ![16, 384]⟩
abbrev S16x768 : Shape := ⟨2, ![16, 768]⟩
abbrev S6x384 : Shape := ⟨2, ![6, 384]⟩
abbrev S8x384 : Shape := ⟨2, ![8, 384]⟩

abbrev nBuf : Space → Nat
  | .hbm => 105
  | .vmem => 15
  | .smem => 0
  | _ => 0

abbrev bufTy : (tb : Table) → Fin (tcTables nBuf tb) → BufTy
  | .hbm, ⟨0, _⟩ => ⟨S1x384x224x224, .f32⟩
  | .hbm, ⟨1, _⟩ => ⟨S384, .f32⟩
  | .hbm, ⟨2, _⟩ => ⟨S384, .f32⟩
  | .hbm, ⟨3, _⟩ => ⟨S384x1152, .f32⟩
  | .hbm, ⟨4, _⟩ => ⟨S1152, .f32⟩
  | .hbm, ⟨5, _⟩ => ⟨S384x224x224, .f32⟩
  | .hbm, ⟨6, _⟩ => ⟨S224x224x384, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S_, .i1⟩
  | .hbm, ⟨63, _⟩ => ⟨S1024, .i1⟩
  | .hbm, ⟨64, _⟩ => ⟨S1024, .i1⟩
  | .hbm, ⟨65, _⟩ => ⟨S1024, .i1⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S_, .i32⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S_, .i32⟩
  | .hbm, ⟨75, _⟩ => ⟨S1024, .i32⟩
  | .hbm, ⟨76, _⟩ => ⟨S1024, .i1⟩
  | .hbm, ⟨77, _⟩ => ⟨S1024, .i32⟩
  | .hbm, ⟨78, _⟩ => ⟨S1024, .i32⟩
  | .hbm, ⟨79, _⟩ => ⟨S_, .i32⟩
  | .hbm, ⟨80, _⟩ => ⟨S1024, .i32⟩
  | .hbm, ⟨81, _⟩ => ⟨S1024, .i1⟩
  | .hbm, ⟨82, _⟩ => ⟨S1024, .i1⟩
  | .hbm, ⟨83, _⟩ => ⟨S_, .i32⟩
  | .hbm, ⟨84, _⟩ => ⟨S1024, .i32⟩
  | .hbm, ⟨85, _⟩ => ⟨S1024, .i32⟩
  | .hbm, ⟨86, _⟩ => ⟨S1024, .i32⟩
  | .hbm, ⟨87, _⟩ => ⟨S1024, .i32⟩
  | .hbm, ⟨88, _⟩ => ⟨S1x1024, .i32⟩
  | .hbm, ⟨89, _⟩ => ⟨S16, .i32⟩
  | .hbm, ⟨90, _⟩ => ⟨S16x1, .i32⟩
  | .hbm, ⟨91, _⟩ => ⟨S16x1024, .i32⟩
  | .hbm, ⟨92, _⟩ => ⟨S16x1024, .i32⟩
  | .hbm, ⟨93, _⟩ => ⟨S16x1024, .i1⟩
  | .hbm, ⟨94, _⟩ => ⟨S16x1024, .f32⟩
  | .hbm, ⟨95, _⟩ => ⟨S_, .f32⟩
  | .hbm, ⟨96, _⟩ => ⟨S16x1024, .f32⟩
  | .hbm, ⟨97, _⟩ => ⟨S16x1024, .f32⟩
  | .hbm, ⟨98, _⟩ => ⟨S1x384, .f32⟩
  | .hbm, ⟨99, _⟩ => ⟨S1x384, .f32⟩
  | .hbm, ⟨100, _⟩ => ⟨S1x1152, .f32⟩
  | .hbm, ⟨101, _⟩ => ⟨S49x1024x384, .bf16⟩
  | .hbm, ⟨102, _⟩ => ⟨S224x224x384, .bf16⟩
  | .hbm, ⟨103, _⟩ => ⟨S49x16x768, .f32⟩
  | .hbm, ⟨104, _⟩ => ⟨S49x8x384, .f32⟩
  | .local _ .vmem, ⟨0, _⟩ => ⟨S32x32x384, .f32⟩
  | .local _ .vmem, ⟨1, _⟩ => ⟨S32x32x384, .f32⟩
  | .local _ .vmem, ⟨2, _⟩ => ⟨S1x384, .f32⟩
  | .local _ .vmem, ⟨3, _⟩ => ⟨S1x384, .f32⟩
  | .local _ .vmem, ⟨4, _⟩ => ⟨S384x1152, .f32⟩
  | .local _ .vmem, ⟨5, _⟩ => ⟨S1x1152, .f32⟩
  | .local _ .vmem, ⟨6, _⟩ => ⟨S16x1024, .f32⟩
  | .local _ .vmem, ⟨7, _⟩ => ⟨S1x1024x384, .bf16⟩
  | .local _ .vmem, ⟨8, _⟩ => ⟨S1x1024x384, .bf16⟩
  | .local _ .vmem, ⟨9, _⟩ => ⟨S32x32x384, .bf16⟩
  | .local _ .vmem, ⟨10, _⟩ => ⟨S32x32x384, .bf16⟩
  | .local _ .vmem, ⟨11, _⟩ => ⟨S1x16x768, .f32⟩
  | .local _ .vmem, ⟨12, _⟩ => ⟨S1x16x768, .f32⟩
  | .local _ .vmem, ⟨13, _⟩ => ⟨S1x8x384, .f32⟩
  | .local _ .vmem, ⟨14, _⟩ => ⟨S1x8x384, .f32⟩
  | _, _ => ⟨S1x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v4 : Ref sig .tc := ⟨.hbm, 43, rfl⟩
abbrev main_c_1 : Ref sig .tc := ⟨.hbm, 44, rfl⟩
abbrev main_v5 : Ref sig .tc := ⟨.hbm, 45, rfl⟩
abbrev main_v6 : Ref sig .tc := ⟨.hbm, 46, rfl⟩
abbrev main_c_2 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_1 : Ref sig .tc := ⟨.hbm, 55, rfl⟩
abbrev main_call2_v5 : Ref sig .tc := ⟨.hbm, 56, rfl⟩
abbrev main_call2_v6 : Ref sig .tc := ⟨.hbm, 57, rfl⟩
abbrev main_call2_c_2 : Ref sig .tc := ⟨.hbm, 58, rfl⟩
abbrev main_call2_v7 : Ref sig .tc := ⟨.hbm, 59, rfl⟩
abbrev main_call2_v8 : Ref sig .tc := ⟨.hbm, 60, rfl⟩
abbrev main_call2_c_3 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_v7 : Ref sig .tc := ⟨.hbm, 68, rfl⟩
abbrev main_c_3 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v8 : Ref sig .tc := ⟨.hbm, 86, rfl⟩
abbrev main_v9 : Ref sig .tc := ⟨.hbm, 87, rfl⟩
abbrev main_v10 : Ref sig .tc := ⟨.hbm, 88, rfl⟩
abbrev main_v11 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_cst : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22_0 : Ref sig .tc := ⟨.hbm, 101, rfl⟩
abbrev main_v22_1 : Ref sig .tc := ⟨.hbm, 102, rfl⟩
abbrev main_v22_2 : Ref sig .tc := ⟨.hbm, 103, rfl⟩
abbrev main_v22_3 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x32x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvReferenceIdeal.lean ====
abbrev S1x384x224x224 : Shape := ⟨4, ![1, 384, 224, 224]⟩
abbrev S384 : Shape := ⟨1, ![384]⟩
abbrev S384x1152 : Shape := ⟨2, ![384, 1152]⟩
abbrev S1152 : Shape := ⟨1, ![1152]⟩
abbrev S384x224x224 : Shape := ⟨3, ![384, 224, 224]⟩
abbrev S224x224x384 : Shape := ⟨3, ![224, 224, 384]⟩
abbrev S_ : Shape := ⟨0, ![]⟩
abbrev S224x224 : Shape := ⟨2, ![224, 224]⟩
abbrev S224x224x1 : Shape := ⟨3, ![224, 224, 1]⟩
abbrev S1x1x384 : Shape := ⟨3, ![1, 1, 384]⟩
abbrev S7x32x7x32x384 : Shape := ⟨5, ![7, 32, 7, 32, 384]⟩
abbrev S7x7x32x32x384 : Shape := ⟨5, ![7, 7, 32, 32, 384]⟩
abbrev S7x7x32x32x1152 : Shape := ⟨5, ![7, 7, 32, 32, 1152]⟩
abbrev S1x1x1x1x1152 : Shape := ⟨5, ![1, 1, 1, 1, 1152]⟩
abbrev S7x7x32x32x768 : Shape := ⟨5, ![7, 7, 32, 32, 768]⟩
abbrev S49x4x8x4x8x768 : Shape := ⟨6, ![49, 4, 8, 4, 8, 768]⟩
abbrev S49x4x4x8x8x768 : Shape := ⟨6, ![49, 4, 4, 8, 8, 768]⟩
abbrev S49x16x64x768 : Shape := ⟨4, ![49, 16, 64, 768]⟩
abbrev S49x16x768 : Shape := ⟨3, ![49, 16, 768]⟩
abbrev S7x7x384 : Shape := ⟨3, ![7, 7, 384]⟩
abbrev S49x1x384 : Shape := ⟨3, ![49, 1, 384]⟩
abbrev S49x6x384 : Shape := ⟨3, ![49, 6, 384]⟩
abbrev S49x8x384 : Shape := ⟨3, ![49, 8, 384]⟩
abbrev S49x1024x384 : Shape := ⟨3, ![49, 1024, 384]⟩

abbrev nBuf : Space → Nat
  | .hbm => 89
  | .vmem => 0
  | .smem => 0
  | _ => 0

abbrev bufTy : (tb : Table) → Fin (tcTables nBuf tb) → BufTy
  | .hbm, ⟨0, _⟩ => ⟨S1x384x224x224, .f32⟩
  | .hbm, ⟨1, _⟩ => ⟨S384, .f32⟩
  | .hbm, ⟨2, _⟩ => ⟨S384, .f32⟩
  | .hbm, ⟨3, _⟩ => ⟨S384x1152, .f32⟩
  | .hbm, ⟨4, _⟩ => ⟨S1152, .f32⟩
  | .hbm, ⟨5, _⟩ => ⟨S384x224x224, .f32⟩
  | .hbm, ⟨6, _⟩ => ⟨S224x224x384, .f32⟩
  | .hbm, ⟨7, _⟩ => ⟨S_, .f32⟩
  | .hbm, ⟨8, _⟩ => ⟨S224x224, .f32⟩
  | .hbm, ⟨9, _⟩ => ⟨S224x224x1, .f32⟩
  | .hbm, ⟨10, _⟩ => ⟨S_, .f32⟩
  | .hbm, ⟨11, _⟩ => ⟨S224x224x1, .f32⟩
  | .hbm, ⟨12, _⟩ => ⟨S224x224x1, .f32⟩
  | .hbm, ⟨13, _⟩ => ⟨S_, .i32⟩
  | .hbm, ⟨14, _⟩ => ⟨S_, .f32⟩
  | .hbm, ⟨15, _⟩ => ⟨S224x224, .f32⟩
  | .hbm, ⟨16, _⟩ => ⟨S224x224x1, .f32⟩
  | .hbm, ⟨17, _⟩ => ⟨S_, .f32⟩
  | .hbm, ⟨18, _⟩ => ⟨S224x224x1, .f32⟩
  | .hbm, ⟨19, _⟩ => ⟨S224x224x1, .f32⟩
  | .hbm, ⟨20, _⟩ => ⟨S224x224x384, .f32⟩
  | .hbm, ⟨21, _⟩ => ⟨S224x224x384, .f32⟩
  | .hbm, ⟨22, _⟩ => ⟨S224x224x384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S224x224, .f32⟩
  | .hbm, ⟨28, _⟩ => ⟨S224x224x1, .f32⟩
  | .hbm, ⟨29, _⟩ => ⟨S224x224x1, .f32⟩
  | .hbm, ⟨30, _⟩ => ⟨S224x224x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S224x224x1, .f32⟩
  | .hbm, ⟨36, _⟩ => ⟨S224x224x1, .f32⟩
  | .hbm, ⟨37, _⟩ => ⟨S224x224x384, .f32⟩
  | .hbm, ⟨38, _⟩ => ⟨S224x224x384, .f32⟩
  | .hbm, ⟨39, _⟩ => ⟨S_, .f32⟩
  | .hbm, ⟨40, _⟩ => ⟨S224x224x1, .f32⟩
  | .hbm, ⟨41, _⟩ => ⟨S224x224x1, .f32⟩
  | .hbm, ⟨42, _⟩ => ⟨S224x224x1, .f32⟩
  | .hbm, ⟨43, _⟩ => ⟨S224x224x384, .f32⟩
  | .hbm, ⟨44, _⟩ => ⟨S224x224x384, .f32⟩
  | .hbm, ⟨45, _⟩ => ⟨S1x1x384, .f32⟩
  | .hbm, ⟨46, _⟩ => ⟨S224x224x384, .f32⟩
  | .hbm, ⟨47, _⟩ => ⟨S224x224x384, .f32⟩
  | .hbm, ⟨48, _⟩ => ⟨S1x1x384, .f32⟩
  | .hbm, ⟨49, _⟩ => ⟨S224x224x384, .f32⟩
  | .hbm, ⟨50, _⟩ => ⟨S224x224x384, .f32⟩
  | .hbm, ⟨51, _⟩ => ⟨S7x32x7x32x384, .f32⟩
  | .hbm, ⟨52, _⟩ => ⟨S7x7x32x32x384, .f32⟩
  | .hbm, ⟨53, _⟩ => ⟨S7x7x32x32x1152, .f32⟩
  | .hbm, ⟨54, _⟩ => ⟨S1x1x1x1x1152, .f32⟩
  | .hbm, ⟨55, _⟩ => ⟨S7x7x32x32x1152, .f32⟩
  | .hbm, ⟨56, _⟩ => ⟨S7x7x32x32x1152, .f32⟩
  | .hbm, ⟨57, _⟩ => ⟨S7x7x32x32x384, .f32⟩
  | .hbm, ⟨58, _⟩ => ⟨S7x7x32x32x768, .f32⟩
  | .hbm, ⟨59, _⟩ => ⟨S49x4x8x4x8x768, .f32⟩
  | .hbm, ⟨60, _⟩ => ⟨S49x4x4x8x8x768, .f32⟩
  | .hbm, ⟨61, _⟩ => ⟨S49x16x64x768, .f32⟩
  | .hbm, ⟨62, _⟩ => ⟨S_, .f32⟩
  | .hbm, ⟨63, _⟩ => ⟨S49x16x768, .f32⟩
  | .hbm, ⟨64, _⟩ => ⟨S_, .f32⟩
  | .hbm, ⟨65, _⟩ => ⟨S49x16x768, .f32⟩
  | .hbm, ⟨66, _⟩ => ⟨S49x16x768, .f32⟩
  | .hbm, ⟨67, _⟩ => ⟨S_, .f32⟩
  | .hbm, ⟨68, _⟩ => ⟨S7x7x384, .f32⟩
  | .hbm, ⟨69, _⟩ => ⟨S_, .f32⟩
  | .hbm, ⟨70, _⟩ => ⟨S7x7x384, .f32⟩
  | .hbm, ⟨71, _⟩ => ⟨S7x7x384, .f32⟩
  | .hbm, ⟨72, _⟩ => ⟨S49x1x384, .f32⟩
  | .hbm, ⟨73, _⟩ => ⟨S7x7x32x32x384, .f32⟩
  | .hbm, ⟨74, _⟩ => ⟨S_, .f32⟩
  | .hbm, ⟨75, _⟩ => ⟨S7x7x384, .f32⟩
  | .hbm, ⟨76, _⟩ => ⟨S_, .f32⟩
  | .hbm, ⟨77, _⟩ => ⟨S7x7x384, .f32⟩
  | .hbm, ⟨78, _⟩ => ⟨S7x7x384, .f32⟩
  | .hbm, ⟨79, _⟩ => ⟨S49x1x384, .f32⟩
  | .hbm, ⟨80, _⟩ => ⟨S_, .f32⟩
  | .hbm, ⟨81, _⟩ => ⟨S49x6x384, .f32⟩
  | .hbm, ⟨82, _⟩ => ⟨S49x8x384, .f32⟩
  | .hbm, ⟨83, _⟩ => ⟨S49x1024x384, .f32⟩
  | .hbm, ⟨84, _⟩ => ⟨S49x1024x384, .bf16⟩
  | .hbm, ⟨85, _⟩ => ⟨S7x7x32x32x384, .f32⟩
  | .hbm, ⟨86, _⟩ => ⟨S7x32x7x32x384, .f32⟩
  | .hbm, ⟨87, _⟩ => ⟨S224x224x384, .f32⟩
  | .hbm, ⟨88, _⟩ => ⟨S224x224x384, .bf16⟩
  | _, _ => ⟨S1x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_8 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v7x

variable {F : FTy → Type} [FloatOps F]
-- ==== Route.lean ====
abbrev S49x8x384 : Shape := ⟨3, ![49, 8, 384]⟩
abbrev S49x8 : Shape := ⟨2, ![49, 8]⟩
abbrev S49x1x384 : Shape := ⟨3, ![49, 1, 384]⟩
abbrev S49x384 : Shape := ⟨2, ![49, 384]⟩
abbrev S49x49 : Shape := ⟨2, ![49, 49]⟩
abbrev S49 : Shape := ⟨1, ![49]⟩
abbrev S49x1 : Shape := ⟨2, ![49, 1]⟩
abbrev S49x4 : Shape := ⟨2, ![49, 4]⟩

abbrev nBuf : Space → Nat
  | .hbm => 2
  | .vmem => 2
  | .smem => 0
  | _ => 0

abbrev bufTy : (tb : Table) → Fin (tcTables nBuf tb) → BufTy
  | .hbm, ⟨0, _⟩ => ⟨S49x8x384, .f32⟩
  | .hbm, ⟨1, _⟩ => ⟨S49x8, .i32⟩
  | .local _ .vmem, ⟨0, _⟩ => ⟨S49x8x384, .f32⟩
  | .local _ .vmem, ⟨1, _⟩ => ⟨S49x8, .i32⟩
  | _, _ => ⟨S49x8x384, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S49x8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S49x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== RouteReferenceIdeal.lean ====
abbrev S49x8x384 : Shape := ⟨3, ![49, 8, 384]⟩
abbrev S49x1x384 : Shape := ⟨3, ![49, 1, 384]⟩
abbrev S49x384 : Shape := ⟨2, ![49, 384]⟩
abbrev S_ : Shape := ⟨0, ![]⟩
abbrev S384x49 : Shape := ⟨2, ![384, 49]⟩
abbrev S49x49 : Shape := ⟨2, ![49, 49]⟩
abbrev S49x4 : Shape := ⟨2, ![49, 4]⟩
abbrev S49x8 : Shape := ⟨2, ![49, 8]⟩

abbrev nBuf : Space → Nat
  | .hbm => 15
  | .vmem => 0
  | .smem => 0
  | _ => 0

abbrev bufTy : (tb : Table) → Fin (tcTables nBuf tb) → BufTy
  | .hbm, ⟨0, _⟩ => ⟨S49x8x384, .f32⟩
  | .hbm, ⟨1, _⟩ => ⟨S49x1x384, .f32⟩
  | .hbm, ⟨2, _⟩ => ⟨S49x384, .f32⟩
  | .hbm, ⟨3, _⟩ => ⟨S49x1x384, .f32⟩
  | .hbm, ⟨4, _⟩ => ⟨S49x384, .f32⟩
  | .hbm, ⟨5, _⟩ => ⟨S_, .f32⟩
  | .hbm, ⟨6, _⟩ => ⟨S49x384, .f32⟩
  | .hbm, ⟨7, _⟩ => ⟨S49x384, .f32⟩
  | .hbm, ⟨8, _⟩ => ⟨S384x49, .f32⟩
  | .hbm, ⟨9, _⟩ => ⟨S49x49, .f32⟩
  | .hbm, ⟨10, _⟩ => ⟨S49x4, .f32⟩
  | .hbm, ⟨11, _⟩ => ⟨S49x4, .i32⟩
  | .hbm, ⟨12, _⟩ => ⟨S_, .i32⟩
  | .hbm, ⟨13, _⟩ => ⟨S49x4, .i32⟩
  | .hbm, ⟨14, _⟩ => ⟨S49x8, .i32⟩
  | _, _ => ⟨S49x8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Attn.lean ====
abbrev S49x1024x384 : Shape := ⟨3, ![49, 1024, 384]⟩
abbrev S49x16x768 : Shape := ⟨3, ![49, 16, 768]⟩
abbrev S49x4 : Shape := ⟨2, ![49, 4]⟩
abbrev S224x224x384 : Shape := ⟨3, ![224, 224, 384]⟩
abbrev S1x1024x384 : Shape := ⟨3, ![1, 1024, 384]⟩
abbrev S1x16x768 : Shape := ⟨3, ![1, 16, 768]⟩
abbrev S1x1 : Shape := ⟨2, ![1, 1]⟩
abbrev S32x32x384 : Shape := ⟨3, ![32, 32, 384]⟩
abbrev S1024x384 : Shape := ⟨2, ![1024, 384]⟩
abbrev S16x768 : Shape := ⟨2, ![16, 768]⟩
abbrev S64x768 : Shape := ⟨2, ![64, 768]⟩
abbrev S64x384 : Shape := ⟨2, ![64, 384]⟩
abbrev S384x64 : Shape := ⟨2, ![384, 64]⟩
abbrev S48x64 : Shape := ⟨2, ![48, 64]⟩
abbrev S48x448 : Shape := ⟨2, ![48, 448]⟩
abbrev S48x512 : Shape := ⟨2, ![48, 512]⟩
abbrev S64x48 : Shape := ⟨2, ![64, 48]⟩
abbrev S64x336 : Shape := ⟨2, ![64, 336]⟩
abbrev S48x384 : Shape := ⟨2, ![48, 384]⟩
abbrev S64x288 : Shape := ⟨2, ![64, 288]⟩
abbrev S48x128 : Shape := ⟨2, ![48, 128]⟩
abbrev S48x320 : Shape := ⟨2, ![48, 320]⟩
abbrev S64x96 : Shape := ⟨2, ![64, 96]⟩
abbrev S64x240 : Shape := ⟨2, ![64, 240]⟩
abbrev S48x192 : Shape := ⟨2, ![48, 192]⟩
abbrev S48x256 : Shape := ⟨2, ![48, 256]⟩
abbrev S64x144 : Shape := ⟨2, ![64, 144]⟩
abbrev S64x192 : Shape := ⟨2, ![64, 192]⟩
abbrev S384x512 : Shape := ⟨2, ![384, 512]⟩
abbrev S512x384 : Shape := ⟨2, ![512, 384]⟩
abbrev S1024x512 : Shape := ⟨2, ![1024, 512]⟩
abbrev S1024x8x64 : Shape := ⟨3, ![1024, 8, 64]⟩
abbrev S1024x8 : Shape := ⟨2, ![1024, 8]⟩
abbrev S1024x8x1 : Shape := ⟨3, ![1024, 8, 1]⟩

abbrev nBuf : Space → Nat
  | .hbm => 3
  | .vmem => 12
  | .smem => 1
  | _ => 0

abbrev bufTy : (tb : Table) → Fin (tcTables nBuf tb) → BufTy
  | .hbm, ⟨0, _⟩ => ⟨S49x1024x384, .bf16⟩
  | .hbm, ⟨1, _⟩ => ⟨S49x16x768, .f32⟩
  | .hbm, ⟨2, _⟩ => ⟨S224x224x384, .bf16⟩
  | .local _ .vmem, ⟨0, _⟩ => ⟨S1x1024x384, .bf16⟩
  | .local _ .vmem, ⟨1, _⟩ => ⟨S1x1024x384, .bf16⟩
  | .local _ .vmem, ⟨2, _⟩ => ⟨S1x16x768, .f32⟩
  | .local _ .vmem, ⟨3, _⟩ => ⟨S1x16x768, .f32⟩
  | .local _ .vmem, ⟨4, _⟩ => ⟨S1x16x768, .f32⟩
  | .local _ .vmem, ⟨5, _⟩ => ⟨S1x16x768, .f32⟩
  | .local _ .vmem, ⟨6, _⟩ => ⟨S1x16x768, .f32⟩
  | .local _ .vmem, ⟨7, _⟩ => ⟨S1x16x768, .f32⟩
  | .local _ .vmem, ⟨8, _⟩ => ⟨S1x16x768, .f32⟩
  | .local _ .vmem, ⟨9, _⟩ => ⟨S1x16x768, .f32⟩
  | .local _ .vmem, ⟨10, _⟩ => ⟨S32x32x384, .bf16⟩
  | .local _ .vmem, ⟨11, _⟩ => ⟨S32x32x384, .bf16⟩
  | .local _ .smem, ⟨0, _⟩ => ⟨S49x4, .i32⟩
  | _, _ => ⟨S49x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![49], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1x1.size a ≤ S49x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S49x4) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off2_inb : ∀ i : grid0.Coords, ∀ a, (k0_off2 i) a + S1x1.size a ≤ S49x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S49x4) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off3_inb : ∀ i : grid0.Coords, ∀ a, (k0_off3 i) a + S1x1.size a ≤ S49x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S49x4) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off4_inb : ∀ i : grid0.Coords, ∀ a, (k0_off4 i) a + S1x1.size a ≤ S49x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S49x4) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x32x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnReferenceIdeal.lean ====
abbrev S49x1024x384 : Shape := ⟨3, ![49, 1024, 384]⟩
abbrev S49x16x768 : Shape := ⟨3, ![49, 16, 768]⟩
abbrev S49x4 : Shape := ⟨2, ![49, 4]⟩
abbrev S_ : Shape := ⟨0, ![]⟩
abbrev S49x4x1 : Shape := ⟨3, ![49, 4, 1]⟩
abbrev S49x4x16x768 : Shape := ⟨4, ![49, 4, 16, 768]⟩
abbrev S49x4x16x384 : Shape := ⟨4, ![49, 4, 16, 384]⟩
abbrev S49x64x8x48 : Shape := ⟨4, ![49, 64, 8, 48]⟩
abbrev S49x8x48x64 : Shape := ⟨4, ![49, 8, 48, 64]⟩
abbrev S49x8x64x48 : Shape := ⟨4, ![49, 8, 64, 48]⟩
abbrev S49x1024x8x48 : Shape := ⟨4, ![49, 1024, 8, 48]⟩
abbrev S49x8x1024x48 : Shape := ⟨4, ![49, 8, 1024, 48]⟩
abbrev S49x8x1024x64 : Shape := ⟨4, ![49, 8, 1024, 64]⟩
abbrev S49x8x1024 : Shape := ⟨3, ![49, 8, 1024]⟩
abbrev S49x8x1024x1 : Shape := ⟨4, ![49, 8, 1024, 1]⟩
abbrev S7x7x32x32x384 : Shape := ⟨5, ![7, 7, 32, 32, 384]⟩
abbrev S7x32x7x32x384 : Shape := ⟨5, ![7, 32, 7, 32, 384]⟩
abbrev S224x224x384 : Shape := ⟨3, ![224, 224, 384]⟩

abbrev nBuf : Space → Nat
  | .hbm => 45
  | .vmem => 0
  | .smem => 0
  | _ => 0

abbrev bufTy : (tb : Table) → Fin (tcTables nBuf tb) → BufTy
  | .hbm, ⟨0, _⟩ => ⟨S49x1024x384, .bf16⟩
  | .hbm, ⟨1, _⟩ => ⟨S49x16x768, .f32⟩
  | .hbm, ⟨2, _⟩ => ⟨S49x4, .i32⟩
  | .hbm, ⟨3, _⟩ => ⟨S_, .i32⟩
  | .hbm, ⟨4, _⟩ => ⟨S49x4, .i32⟩
  | .hbm, ⟨5, _⟩ => ⟨S49x4, .i1⟩
  | .hbm, ⟨6, _⟩ => ⟨S_, .i32⟩
  | .hbm, ⟨7, _⟩ => ⟨S49x4, .i32⟩
  | .hbm, ⟨8, _⟩ => ⟨S49x4, .i32⟩
  | .hbm, ⟨9, _⟩ => ⟨S49x4, .i32⟩
  | .hbm, ⟨10, _⟩ => ⟨S49x4x1, .i32⟩
  | .hbm, ⟨11, _⟩ => ⟨S49x4x16x768, .f32⟩
  | .hbm, ⟨12, _⟩ => ⟨S49x4x16x384, .f32⟩
  | .hbm, ⟨13, _⟩ => ⟨S49x64x8x48, .f32⟩
  | .hbm, ⟨14, _⟩ => ⟨S49x8x48x64, .f32⟩
  | .hbm, ⟨15, _⟩ => ⟨S49x4x16x384, .f32⟩
  | .hbm, ⟨16, _⟩ => ⟨S49x64x8x48, .f32⟩
  | .hbm, ⟨17, _⟩ => ⟨S49x8x64x48, .f32⟩
  | .hbm, ⟨18, _⟩ => ⟨S49x1024x384, .f32⟩
  | .hbm, ⟨19, _⟩ => ⟨S49x1024x8x48, .f32⟩
  | .hbm, ⟨20, _⟩ => ⟨S49x8x1024x48, .f32⟩
  | .hbm, ⟨21, _⟩ => ⟨S_, .f32⟩
  | .hbm, ⟨22, _⟩ => ⟨S49x8x1024x48, .f32⟩
  | .hbm, ⟨23, _⟩ => ⟨S49x8x1024x48, .f32⟩
  | .hbm, ⟨24, _⟩ => ⟨S49x8x1024x64, .f32⟩
  | .hbm, ⟨25, _⟩ => ⟨S_, .f32⟩
  | .hbm, ⟨26, _⟩ => ⟨S49x8x1024, .f32⟩
  | .hbm, ⟨27, _⟩ => ⟨S_, .f32⟩
  | .hbm, ⟨28, _⟩ => ⟨S49x8x1024, .f32⟩
  | .hbm, ⟨29, _⟩ => ⟨S49x8x1024, .f32⟩
  | .hbm, ⟨30, _⟩ => ⟨S49x8x1024x1, .f32⟩
  | .hbm, ⟨31, _⟩ => ⟨S49x8x1024x64, .f32⟩
  | .hbm, ⟨32, _⟩ => ⟨S49x8x1024x64, .f32⟩
  | .hbm, ⟨33, _⟩ => ⟨S49x8x1024x64, .f32⟩
  | .hbm, ⟨34, _⟩ => ⟨S_, .f32⟩
  | .hbm, ⟨35, _⟩ => ⟨S49x8x1024, .f32⟩
  | .hbm, ⟨36, _⟩ => ⟨S49x8x1024x1, .f32⟩
  | .hbm, ⟨37, _⟩ => ⟨S49x8x1024x64, .f32⟩
  | .hbm, ⟨38, _⟩ => ⟨S49x8x1024x64, .f32⟩
  | .hbm, ⟨39, _⟩ => ⟨S49x8x1024x48, .f32⟩
  | .hbm, ⟨40, _⟩ => ⟨S49x1024x8x48, .f32⟩
  | .hbm, ⟨41, _⟩ => ⟨S7x7x32x32x384, .f32⟩
  | .hbm, ⟨42, _⟩ => ⟨S7x32x7x32x384, .f32⟩
  | .hbm, ⟨43, _⟩ => ⟨S224x224x384, .f32⟩
  | .hbm, ⟨44, _⟩ => ⟨S224x224x384, .bf16⟩
  | _, _ => ⟨S49x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Lepe.lean ====
abbrev S224x224x384 : Shape := ⟨3, ![224, 224, 384]⟩
abbrev S5x5x1x384 : Shape := ⟨4, ![5, 5, 1, 384]⟩
abbrev S384 : Shape := ⟨1, ![384]⟩
abbrev S384x384 : Shape := ⟨2, ![384, 384]⟩
abbrev S25x1x384 : Shape := ⟨3, ![25, 1, 384]⟩
abbrev S25x384 : Shape := ⟨2, ![25, 384]⟩
abbrev S1x384 : Shape := ⟨2, ![1, 384]⟩
abbrev S4x224x384 : Shape := ⟨3, ![4, 224, 384]⟩
abbrev S2x224x384 : Shape := ⟨3, ![2, 224, 384]⟩
abbrev S8x224x384 : Shape := ⟨3, ![8, 224, 384]⟩
abbrev S8x2x384 : Shape := ⟨3, ![8, 2, 384]⟩
abbrev S8x228x384 : Shape := ⟨3, ![8, 228, 384]⟩
abbrev S1x1x384 : Shape := ⟨3, ![1, 1, 384]⟩
abbrev S896x384 : Shape := ⟨2, ![896, 384]⟩

abbrev nBuf : Space → Nat
  | .hbm => 12
  | .vmem => 16
  | .smem => 0
  | _ => 0

abbrev bufTy : (tb : Table) → Fin (tcTables nBuf tb) → BufTy
  | .hbm, ⟨0, _⟩ => ⟨S224x224x384, .bf16⟩
  | .hbm, ⟨1, _⟩ => ⟨S224x224x384, .bf16⟩
  | .hbm, ⟨2, _⟩ => ⟨S224x224x384, .f32⟩
  | .hbm, ⟨3, _⟩ => ⟨S5x5x1x384, .f32⟩
  | .hbm, ⟨4, _⟩ => ⟨S384, .f32⟩
  | .hbm, ⟨5, _⟩ => ⟨S384x384, .f32⟩
  | .hbm, ⟨6, _⟩ => ⟨S384, .f32⟩
  | .hbm, ⟨7, _⟩ => ⟨S25x1x384, .f32⟩
  | .hbm, ⟨8, _⟩ => ⟨S25x384, .f32⟩
  | .hbm, ⟨9, _⟩ => ⟨S1x384, .f32⟩
  | .hbm, ⟨10, _⟩ => ⟨S1x384, .f32⟩
  | .hbm, ⟨11, _⟩ => ⟨S224x224x384, .f32⟩
  | .local _ .vmem, ⟨0, _⟩ => ⟨S4x224x384, .bf16⟩
  | .local _ .vmem, ⟨1, _⟩ => ⟨S4x224x384, .bf16⟩
  | .local _ .vmem, ⟨2, _⟩ => ⟨S4x224x384, .bf16⟩
  | .local _ .vmem, ⟨3, _⟩ => ⟨S4x224x384, .bf16⟩
  | .local _ .vmem, ⟨4, _⟩ => ⟨S4x224x384, .bf16⟩
  | .local _ .vmem, ⟨5, _⟩ => ⟨S4x224x384, .bf16⟩
  | .local _ .vmem, ⟨6, _⟩ => ⟨S4x224x384, .bf16⟩
  | .local _ .vmem, ⟨7, _⟩ => ⟨S4x224x384, .bf16⟩
  | .local _ .vmem, ⟨8, _⟩ => ⟨S4x224x384, .f32⟩
  | .local _ .vmem, ⟨9, _⟩ => ⟨S4x224x384, .f32⟩
  | .local _ .vmem, ⟨10, _⟩ => ⟨S25x384, .f32⟩
  | .local _ .vmem, ⟨11, _⟩ => ⟨S1x384, .f32⟩
  | .local _ .vmem, ⟨12, _⟩ => ⟨S384x384, .f32⟩
  | .local _ .vmem, ⟨13, _⟩ => ⟨S1x384, .f32⟩
  | .local _ .vmem, ⟨14, _⟩ => ⟨S4x224x384, .f32⟩
  | .local _ .vmem, ⟨15, _⟩ => ⟨S4x224x384, .f32⟩
  | _, _ => ⟨S224x224x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![56], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c55_i32 : BitVec 32 := 55#32
  let v1 : BitVec 32 := Scalar.minsi v0 c55_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x224x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x224x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x224x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x224x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x224x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S25x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x224x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LepeReferenceIdeal.lean ====
abbrev S224x224x384 : Shape := ⟨3, ![224, 224, 384]⟩
abbrev S5x5x1x384 : Shape := ⟨4, ![5, 5, 1, 384]⟩
abbrev S384 : Shape := ⟨1, ![384]⟩
abbrev S384x384 : Shape := ⟨2, ![384, 384]⟩
abbrev S_ : Shape := ⟨0, ![]⟩
abbrev S228x228x384 : Shape := ⟨3, ![228, 228, 384]⟩
abbrev S1x1x1x384 : Shape := ⟨4, ![1, 1, 1, 384]⟩
abbrev S1x1x384 : Shape := ⟨3, ![1, 1, 384]⟩

abbrev nBuf : Space → Nat
  | .hbm => 198
  | .vmem => 0
  | .smem => 0
  | _ => 0

abbrev hbmTy0_0 (i : Nat) : BufTy := match i % 128 with
  | 0 => ⟨S224x224x384, .bf16⟩
  | 1 => ⟨S224x224x384, .bf16⟩
  | 2 => ⟨S224x224x384, .f32⟩
  | 3 => ⟨S5x5x1x384, .f32⟩
  | 4 => ⟨S384, .f32⟩
  | 5 => ⟨S384x384, .f32⟩
  | 6 => ⟨S384, .f32⟩
  | 7 => ⟨S224x224x384, .f32⟩
  | 8 => ⟨S_, .i32⟩
  | 9 => ⟨S_, .f32⟩
  | 10 => ⟨S228x228x384, .f32⟩
  | 11 => ⟨S224x224x384, .f32⟩
  | 12 => ⟨S1x1x1x384, .f32⟩
  | 13 => ⟨S384, .f32⟩
  | 14 => ⟨S1x1x384, .f32⟩
  | 15 => ⟨S224x224x384, .f32⟩
  | 16 => ⟨S224x224x384, .f32⟩
  | 17 => ⟨S_, .f32⟩
  | 18 => ⟨S224x224x384, .f32⟩
  | 19 => ⟨S224x224x384, .f32⟩
  | 20 => ⟨S224x224x384, .f32⟩
  | 21 => ⟨S1x1x1x384, .f32⟩
  | 22 => ⟨S384, .f32⟩
  | 23 => ⟨S1x1x384, .f32⟩
  | 24 => ⟨S224x224x384, .f32⟩
  | 25 => ⟨S224x224x384, .f32⟩
  | 26 => ⟨S224x224x384, .f32⟩
  | 27 => ⟨S224x224x384, .f32⟩
  | 28 => ⟨S1x1x1x384, .f32⟩
  | 29 => ⟨S384, .f32⟩
  | 30 => ⟨S1x1x384, .f32⟩
  | 31 => ⟨S224x224x384, .f32⟩
  | 32 => ⟨S224x224x384, .f32⟩
  | 33 => ⟨S224x224x384, .f32⟩
  | 34 => ⟨S224x224x384, .f32⟩
  | 35 => ⟨S1x1x1x384, .f32⟩
  | 36 => ⟨S384, .f32⟩
  | 37 => ⟨S1x1x384, .f32⟩
  | 38 => ⟨S224x224x384, .f32⟩
  | 39 => ⟨S224x224x384, .f32⟩
  | 40 => ⟨S224x224x384, .f32⟩
  | 41 => ⟨S224x224x384, .f32⟩
  | 42 => ⟨S1x1x1x384, .f32⟩
  | 43 => ⟨S384, .f32⟩
  | 44 => ⟨S1x1x384, .f32⟩
  | 45 => ⟨S224x224x384, .f32⟩
  | 46 => ⟨S224x224x384, .f32⟩
  | 47 => ⟨S224x224x384, .f32⟩
  | 48 => ⟨S224x224x384, .f32⟩
  | 49 => ⟨S1x1x1x384, .f32⟩
  | 50 => ⟨S384, .f32⟩
  | 51 => ⟨S1x1x384, .f32⟩
  | 52 => ⟨S224x224x384, .f32⟩
  | 53 => ⟨S224x224x384, .f32⟩
  | 54 => ⟨S224x224x384, .f32⟩
  | 55 => ⟨S224x224x384, .f32⟩
  | 56 => ⟨S1x1x1x384, .f32⟩
  | 57 => ⟨S384, .f32⟩
  | 58 => ⟨S1x1x384, .f32⟩
  | 59 => ⟨S224x224x384, .f32⟩
  | 60 => ⟨S224x224x384, .f32⟩
  | 61 => ⟨S224x224x384, .f32⟩
  | 62 => ⟨S224x224x384, .f32⟩
  | 63 => ⟨S1x1x1x384, .f32⟩
  | 64 => ⟨S384, .f32⟩
  | 65 => ⟨S1x1x384, .f32⟩
  | 66 => ⟨S224x224x384, .f32⟩
  | 67 => ⟨S224x224x384, .f32⟩
  | 68 => ⟨S224x224x384, .f32⟩
  | 69 => ⟨S224x224x384, .f32⟩
  | 70 => ⟨S1x1x1x384, .f32⟩
  | 71 => ⟨S384, .f32⟩
  | 72 => ⟨S1x1x384, .f32⟩
  | 73 => ⟨S224x224x384, .f32⟩
  | 74 => ⟨S224x224x384, .f32⟩
  | 75 => ⟨S224x224x384, .f32⟩
  | 76 => ⟨S224x224x384, .f32⟩
  | 77 => ⟨S1x1x1x384, .f32⟩
  | 78 => ⟨S384, .f32⟩
  | 79 => ⟨S1x1x384, .f32⟩
  | 80 => ⟨S224x224x384, .f32⟩
  | 81 => ⟨S224x224x384, .f32⟩
  | 82 => ⟨S224x224x384, .f32⟩
  | 83 => ⟨S224x224x384, .f32⟩
  | 84 => ⟨S1x1x1x384, .f32⟩
  | 85 => ⟨S384, .f32⟩
  | 86 => ⟨S1x1x384, .f32⟩
  | 87 => ⟨S224x224x384, .f32⟩
  | 88 => ⟨S224x224x384, .f32⟩
  | 89 => ⟨S224x224x384, .f32⟩
  | 90 => ⟨S224x224x384, .f32⟩
  | 91 => ⟨S1x1x1x384, .f32⟩
  | 92 => ⟨S384, .f32⟩
  | 93 => ⟨S1x1x384, .f32⟩
  | 94 => ⟨S224x224x384, .f32⟩
  | 95 => ⟨S224x224x384, .f32⟩
  | 96 => ⟨S224x224x384, .f32⟩
  | 97 => ⟨S224x224x384, .f32⟩
  | 98 => ⟨S1x1x1x384, .f32⟩
  | 99 => ⟨S384, .f32⟩
  | 100 => ⟨S1x1x384, .f32⟩
  | 101 => ⟨S224x224x384, .f32⟩
  | 102 => ⟨S224x224x384, .f32⟩
  | 103 => ⟨S224x224x384, .f32⟩
  | 104 => ⟨S224x224x384, .f32⟩
  | 105 => ⟨S1x1x1x384, .f32⟩
  | 106 => ⟨S384, .f32⟩
  | 107 => ⟨S1x1x384, .f32⟩
  | 108 => ⟨S224x224x384, .f32⟩
  | 109 => ⟨S224x224x384, .f32⟩
  | 110 => ⟨S224x224x384, .f32⟩
  | 111 => ⟨S224x224x384, .f32⟩
  | 112 => ⟨S1x1x1x384, .f32⟩
  | 113 => ⟨S384, .f32⟩
  | 114 => ⟨S1x1x384, .f32⟩
  | 115 => ⟨S224x224x384, .f32⟩
  | 116 => ⟨S224x224x384, .f32⟩
  | 117 => ⟨S224x224x384, .f32⟩
  | 118 => ⟨S224x224x384, .f32⟩
  | 119 => ⟨S1x1x1x384, .f32⟩
  | 120 => ⟨S384, .f32⟩
  | 121 => ⟨S1x1x384, .f32⟩
  | 122 => ⟨S224x224x384, .f32⟩
  | 123 => ⟨S224x224x384, .f32⟩
  | 124 => ⟨S224x224x384, .f32⟩
  | 125 => ⟨S224x224x384, .f32⟩
  | 126 => ⟨S1x1x1x384, .f32⟩
  | 127 => ⟨S384, .f32⟩
  | _ => ⟨S224x224x384, .bf16⟩

abbrev hbmTy0_1 (i : Nat) : BufTy := match i % 128 with
  | 0 => ⟨S1x1x384, .f32⟩
  | 1 => ⟨S224x224x384, .f32⟩
  | 2 => ⟨S224x224x384, .f32⟩
  | 3 => ⟨S224x224x384, .f32⟩
  | 4 => ⟨S224x224x384, .f32⟩
  | 5 => ⟨S1x1x1x384, .f32⟩
  | 6 => ⟨S384, .f32⟩
  | 7 => ⟨S1x1x384, .f32⟩
  | 8 => ⟨S224x224x384, .f32⟩
  | 9 => ⟨S224x224x384, .f32⟩
  | 10 => ⟨S224x224x384, .f32⟩
  | 11 => ⟨S224x224x384, .f32⟩
  | 12 => ⟨S1x1x1x384, .f32⟩
  | 13 => ⟨S384, .f32⟩
  | 14 => ⟨S1x1x384, .f32⟩
  | 15 => ⟨S224x224x384, .f32⟩
  | 16 => ⟨S224x224x384, .f32⟩
  | 17 => ⟨S224x224x384, .f32⟩
  | 18 => ⟨S224x224x384, .f32⟩
  | 19 => ⟨S1x1x1x384, .f32⟩
  | 20 => ⟨S384, .f32⟩
  | 21 => ⟨S1x1x384, .f32⟩
  | 22 => ⟨S224x224x384, .f32⟩
  | 23 => ⟨S224x224x384, .f32⟩
  | 24 => ⟨S224x224x384, .f32⟩
  | 25 => ⟨S224x224x384, .f32⟩
  | 26 => ⟨S1x1x1x384, .f32⟩
  | 27 => ⟨S384, .f32⟩
  | 28 => ⟨S1x1x384, .f32⟩
  | 29 => ⟨S224x224x384, .f32⟩
  | 30 => ⟨S224x224x384, .f32⟩
  | 31 => ⟨S224x224x384, .f32⟩
  | 32 => ⟨S224x224x384, .f32⟩
  | 33 => ⟨S1x1x1x384, .f32⟩
  | 34 => ⟨S384, .f32⟩
  | 35 => ⟨S1x1x384, .f32⟩
  | 36 => ⟨S224x224x384, .f32⟩
  | 37 => ⟨S224x224x384, .f32⟩
  | 38 => ⟨S224x224x384, .f32⟩
  | 39 => ⟨S224x224x384, .f32⟩
  | 40 => ⟨S1x1x1x384, .f32⟩
  | 41 => ⟨S384, .f32⟩
  | 42 => ⟨S1x1x384, .f32⟩
  | 43 => ⟨S224x224x384, .f32⟩
  | 44 => ⟨S224x224x384, .f32⟩
  | 45 => ⟨S224x224x384, .f32⟩
  | 46 => ⟨S224x224x384, .f32⟩
  | 47 => ⟨S1x1x1x384, .f32⟩
  | 48 => ⟨S384, .f32⟩
  | 49 => ⟨S1x1x384, .f32⟩
  | 50 => ⟨S224x224x384, .f32⟩
  | 51 => ⟨S224x224x384, .f32⟩
  | 52 => ⟨S224x224x384, .f32⟩
  | 53 => ⟨S224x224x384, .f32⟩
  | 54 => ⟨S1x1x1x384, .f32⟩
  | 55 => ⟨S384, .f32⟩
  | 56 => ⟨S1x1x384, .f32⟩
  | 57 => ⟨S224x224x384, .f32⟩
  | 58 => ⟨S224x224x384, .f32⟩
  | 59 => ⟨S224x224x384, .f32⟩
  | 60 => ⟨S1x1x384, .f32⟩
  | 61 => ⟨S224x224x384, .f32⟩
  | 62 => ⟨S224x224x384, .f32⟩
  | 63 => ⟨S224x224x384, .f32⟩
  | 64 => ⟨S224x224x384, .f32⟩
  | 65 => ⟨S224x224x384, .f32⟩
  | 66 => ⟨S1x1x384, .f32⟩
  | 67 => ⟨S224x224x384, .f32⟩
  | 68 => ⟨S224x224x384, .f32⟩
  | 69 => ⟨S224x224x384, .f32⟩
  | _ => ⟨S224x224x384, .bf16⟩

abbrev hbmTy (i : Nat) : BufTy := match i / 128 with
  | 0 => hbmTy0_0 i
  | 1 => hbmTy0_1 i
  | _ => ⟨S224x224x384, .bf16⟩

abbrev bufTy : (tb : Table) → Fin (tcTables nBuf tb) → BufTy
  | .hbm, ⟨i, _⟩ => hbmTy i
  | _, _ => ⟨S224x224x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩

abbrev nD : Nat := 1
abbrev τ : Topo := Topo.v7x

variable {F : FTy → Type} [FloatOps F]
-- ==== Mlp.lean ====
abbrev S224x224x384 : Shape := ⟨3, ![224, 224, 384]⟩
abbrev S384 : Shape := ⟨1, ![384]⟩
abbrev S384x1536 : Shape := ⟨2, ![384, 1536]⟩
abbrev S1536 : Shape := ⟨1, ![1536]⟩
abbrev S1536x384 : Shape := ⟨2, ![1536, 384]⟩
abbrev S1x384 : Shape := ⟨2, ![1, 384]⟩
abbrev S1x1536 : Shape := ⟨2, ![1, 1536]⟩
abbrev S4x224x384 : Shape := ⟨3, ![4, 224, 384]⟩
abbrev S896x384 : Shape := ⟨2, ![896, 384]⟩
abbrev S896 : Shape := ⟨1, ![896]⟩
abbrev S896x1 : Shape := ⟨2, ![896, 1]⟩
abbrev S896x1536 : Shape := ⟨2, ![896, 1536]⟩

abbrev nBuf : Space → Nat
  | .hbm => 12
  | .vmem => 10
  | .smem => 0
  | _ => 0

abbrev bufTy : (tb : Table) → Fin (tcTables nBuf tb) → BufTy
  | .hbm, ⟨0, _⟩ => ⟨S224x224x384, .f32⟩
  | .hbm, ⟨1, _⟩ => ⟨S384, .f32⟩
  | .hbm, ⟨2, _⟩ => ⟨S384, .f32⟩
  | .hbm, ⟨3, _⟩ => ⟨S384x1536, .f32⟩
  | .hbm, ⟨4, _⟩ => ⟨S1536, .f32⟩
  | .hbm, ⟨5, _⟩ => ⟨S1536x384, .f32⟩
  | .hbm, ⟨6, _⟩ => ⟨S384, .f32⟩
  | .hbm, ⟨7, _⟩ => ⟨S1x384, .f32⟩
  | .hbm, ⟨8, _⟩ => ⟨S1x384, .f32⟩
  | .hbm, ⟨9, _⟩ => ⟨S1x1536, .f32⟩
  | .hbm, ⟨10, _⟩ => ⟨S1x384, .f32⟩
  | .hbm, ⟨11, _⟩ => ⟨S224x224x384, .f32⟩
  | .local _ .vmem, ⟨0, _⟩ => ⟨S4x224x384, .f32⟩
  | .local _ .vmem, ⟨1, _⟩ => ⟨S4x224x384, .f32⟩
  | .local _ .vmem, ⟨2, _⟩ => ⟨S1x384, .f32⟩
  | .local _ .vmem, ⟨3, _⟩ => ⟨S1x384, .f32⟩
  | .local _ .vmem, ⟨4, _⟩ => ⟨S384x1536, .f32⟩
  | .local _ .vmem, ⟨5, _⟩ => ⟨S1x1536, .f32⟩
  | .local _ .vmem, ⟨6, _⟩ => ⟨S1536x384, .f32⟩
  | .local _ .vmem, ⟨7, _⟩ => ⟨S1x384, .f32⟩
  | .local _ .vmem, ⟨8, _⟩ => ⟨S4x224x384, .f32⟩
  | .local _ .vmem, ⟨9, _⟩ => ⟨S4x224x384, .f32⟩
  | _, _ => ⟨S224x224x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![56], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x224x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x224x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpReferenceIdeal.lean ====
abbrev S224x224x384 : Shape := ⟨3, ![224, 224, 384]⟩
abbrev S384 : Shape := ⟨1, ![384]⟩
abbrev S384x1536 : Shape := ⟨2, ![384, 1536]⟩
abbrev S1536 : Shape := ⟨1, ![1536]⟩
abbrev S1536x384 : Shape := ⟨2, ![1536, 384]⟩
abbrev S_ : Shape := ⟨0, ![]⟩
abbrev S224x224 : Shape := ⟨2, ![224, 224]⟩
abbrev S224x224x1 : Shape := ⟨3, ![224, 224, 1]⟩
abbrev S1x1x384 : Shape := ⟨3, ![1, 1, 384]⟩
abbrev S224x224x1536 : Shape := ⟨3, ![224, 224, 1536]⟩
abbrev S1x1x1536 : Shape := ⟨3, ![1, 1, 1536]⟩

abbrev nBuf : Space → Nat
  | .hbm => 71
  | .vmem => 0
  | .smem => 0
  | _ => 0

abbrev bufTy : (tb : Table) → Fin (tcTables nBuf tb) → BufTy
  | .hbm, ⟨0, _⟩ => ⟨S224x224x384, .f32⟩
  | .hbm, ⟨1, _⟩ => ⟨S384, .f32⟩
  | .hbm, ⟨2, _⟩ => ⟨S384, .f32⟩
  | .hbm, ⟨3, _⟩ => ⟨S384x1536, .f32⟩
  | .hbm, ⟨4, _⟩ => ⟨S1536, .f32⟩
  | .hbm, ⟨5, _⟩ => ⟨S1536x384, .f32⟩
  | .hbm, ⟨6, _⟩ => ⟨S384, .f32⟩
  | .hbm, ⟨7, _⟩ => ⟨S_, .f32⟩
  | .hbm, ⟨8, _⟩ => ⟨S224x224, .f32⟩
  | .hbm, ⟨9, _⟩ => ⟨S224x224x1, .f32⟩
  | .hbm, ⟨10, _⟩ => ⟨S_, .f32⟩
  | .hbm, ⟨11, _⟩ => ⟨S224x224x1, .f32⟩
  | .hbm, ⟨12, _⟩ => ⟨S224x224x1, .f32⟩
  | .hbm, ⟨13, _⟩ => ⟨S_, .i32⟩
  | .hbm, ⟨14, _⟩ => ⟨S_, .f32⟩
  | .hbm, ⟨15, _⟩ => ⟨S224x224, .f32⟩
  | .hbm, ⟨16, _⟩ => ⟨S224x224x1, .f32⟩
  | .hbm, ⟨17, _⟩ => ⟨S_, .f32⟩
  | .hbm, ⟨18, _⟩ => ⟨S224x224x1, .f32⟩
  | .hbm, ⟨19, _⟩ => ⟨S224x224x1, .f32⟩
  | .hbm, ⟨20, _⟩ => ⟨S224x224x384, .f32⟩
  | .hbm, ⟨21, _⟩ => ⟨S224x224x384, .f32⟩
  | .hbm, ⟨22, _⟩ => ⟨S224x224x384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S224x224, .f32⟩
  | .hbm, ⟨28, _⟩ => ⟨S224x224x1, .f32⟩
  | .hbm, ⟨29, _⟩ => ⟨S224x224x1, .f32⟩
  | .hbm, ⟨30, _⟩ => ⟨S224x224x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S224x224x1, .f32⟩
  | .hbm, ⟨36, _⟩ => ⟨S224x224x1, .f32⟩
  | .hbm, ⟨37, _⟩ => ⟨S224x224x384, .f32⟩
  | .hbm, ⟨38, _⟩ => ⟨S224x224x384, .f32⟩
  | .hbm, ⟨39, _⟩ => ⟨S_, .f32⟩
  | .hbm, ⟨40, _⟩ => ⟨S224x224x1, .f32⟩
  | .hbm, ⟨41, _⟩ => ⟨S224x224x1, .f32⟩
  | .hbm, ⟨42, _⟩ => ⟨S224x224x1, .f32⟩
  | .hbm, ⟨43, _⟩ => ⟨S224x224x384, .f32⟩
  | .hbm, ⟨44, _⟩ => ⟨S224x224x384, .f32⟩
  | .hbm, ⟨45, _⟩ => ⟨S1x1x384, .f32⟩
  | .hbm, ⟨46, _⟩ => ⟨S224x224x384, .f32⟩
  | .hbm, ⟨47, _⟩ => ⟨S224x224x384, .f32⟩
  | .hbm, ⟨48, _⟩ => ⟨S1x1x384, .f32⟩
  | .hbm, ⟨49, _⟩ => ⟨S224x224x384, .f32⟩
  | .hbm, ⟨50, _⟩ => ⟨S224x224x384, .f32⟩
  | .hbm, ⟨51, _⟩ => ⟨S224x224x1536, .f32⟩
  | .hbm, ⟨52, _⟩ => ⟨S1x1x1536, .f32⟩
  | .hbm, ⟨53, _⟩ => ⟨S224x224x1536, .f32⟩
  | .hbm, ⟨54, _⟩ => ⟨S224x224x1536, .f32⟩
  | .hbm, ⟨55, _⟩ => ⟨S_, .f32⟩
  | .hbm, ⟨56, _⟩ => ⟨S224x224x1536, .f32⟩
  | .hbm, ⟨57, _⟩ => ⟨S224x224x1536, .f32⟩
  | .hbm, ⟨58, _⟩ => ⟨S_, .f32⟩
  | .hbm, ⟨59, _⟩ => ⟨S224x224x1536, .f32⟩
  | .hbm, ⟨60, _⟩ => ⟨S224x224x1536, .f32⟩
  | .hbm, ⟨61, _⟩ => ⟨S224x224x1536, .f32⟩
  | .hbm, ⟨62, _⟩ => ⟨S_, .f32⟩
  | .hbm, ⟨63, _⟩ => ⟨S224x224x1536, .f32⟩
  | .hbm, ⟨64, _⟩ => ⟨S224x224x1536, .f32⟩
  | .hbm, ⟨65, _⟩ => ⟨S224x224x1536, .f32⟩
  | .hbm, ⟨66, _⟩ => ⟨S224x224x384, .f32⟩
  | .hbm, ⟨67, _⟩ => ⟨S1x1x384, .f32⟩
  | .hbm, ⟨68, _⟩ => ⟨S224x224x384, .f32⟩
  | .hbm, ⟨69, _⟩ => ⟨S224x224x384, .f32⟩
  | .hbm, ⟨70, _⟩ => ⟨S224x224x384, .f32⟩
  | _, _ => ⟨S224x224x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_cst_3 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_4 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]
-- ==== Proof.PoolMath.lean ====
/- Hand-written: a product with the pooling matrix is the mean over a pool's sixty-four pixels. -/
module

public import Idealize.ShloMosaic.Lib.Pipeline.ValueKit
public import Idealize.ShloMosaic.Lib.Pointwise

@[expose] public section

noncomputable section

open Idealize.ShloMosaic

namespace Cert.PoolMath

/-- The word of 64 as a number. -/
theorem w64 : Ideal.ofBits .f32 0x42800000#32 = ((64 : ℝ) : EReal) := by
  simp [Ideal.ofBits, Ideal.ieee, -EReal.coe_mul]; norm_num

/-- The pool a window's pixel lies in. -/
def cell (s : Fin 1024) : ℕ := s.val / 32 / 8 * 4 + s.val % 32 / 8

/-- The pixel of a pool, by its number in the pool. -/
def pixel (u : Fin 16) (x : Fin 64) : Fin 1024 := ⟨(u.val / 4 * 8 + x.val / 8) * 32 + (u.val % 4 * 8 + x.val % 8), by omega⟩

/-- The pixels of one pool, numbered. -/
theorem sum_cell (u : Fin 16) (f : Fin 1024 → EReal) :
    (∑ s ∈ Finset.univ.filter (fun s : Fin 1024 => cell s = u.val), f s) = ∑ x : Fin 64, f (pixel u x) := by
  symm
  refine Finset.sum_nbij (pixel u) ?_ ?_ ?_ (fun _ _ => rfl)
  · intro x _
    rw [Finset.mem_filter]
    refine ⟨Finset.mem_univ _, ?_⟩
    unfold cell pixel
    show ((u.val / 4 * 8 + x.val / 8) * 32 + (u.val % 4 * 8 + x.val % 8)) / 32 / 8 * 4 + ((u.val / 4 * 8 + x.val / 8) * 32 + (u.val % 4 * 8 + x.val % 8)) % 32 / 8 = u.val
    have := u.isLt
    have := x.isLt
    omega
  · intro x _ y _ h
    have h' : (u.val / 4 * 8 + x.val / 8) * 32 + (u.val % 4 * 8 + x.val % 8) = (u.val / 4 * 8 + y.val / 8) * 32 + (u.val % 4 * 8 + y.val % 8) := congrArg Fin.val h
    have := x.isLt
    have := y.isLt
    exact Fin.ext (by omega)
  · intro s hs
    have hc : s.val / 32 / 8 * 4 + s.val % 32 / 8 = u.val := (Finset.mem_filter.1 (Finset.mem_coe.1 hs)).2
    have := s.isLt
    refine ⟨⟨s.val / 32 % 8 * 8 + s.val % 8, by omega⟩, Finset.mem_coe.2 (Finset.mem_univ _), Fin.ext ?_⟩
    show (u.val / 4 * 8 + (s.val / 32 % 8 * 8 + s.val % 8) / 8) * 32 + (u.val % 4 * 8 + (s.val / 32 % 8 * 8 + s.val % 8) % 8) = s.val
    omega

/-- Summing against the pooling matrix's row is the mean over the pool. -/
theorem pool_sum (u : Fin 16) (P f : Fin 1024 → EReal)
    (hP : ∀ s, P s = Ideal.div (if cell s = u.val then 1 else 0) (Ideal.ofBits .f32 0x42800000#32)) :
    (∑ s, P s * f s) = Ideal.div (∑ x : Fin 64, f (pixel u x)) (Ideal.ofBits .f32 0x42800000#32) := by
  have e : ∀ s, P s * f s = if cell s = u.val then f s * ((64 : ℝ) : EReal)⁻¹ else 0 := by
    intro s
    rw [hP, w64, Ideal.div, if_neg (by norm_num)]
    split
    · rw [one_mul, mul_comm]
    · rw [zero_mul, zero_mul]
  rw [Finset.sum_congr rfl (fun s _ => e s), ← Finset.sum_filter, sum_cell u (fun s => f s * ((64 : ℝ) : EReal)⁻¹), w64, Ideal.div, if_neg (by norm_num)]
  have hn : (0 : EReal) ≤ ((64 : ℝ) : EReal)⁻¹ := by
    rw [← EReal.coe_inv]; exact_mod_cast (by norm_num : (0:ℝ) ≤ 64⁻¹)
  have ht : ((64 : ℝ) : EReal)⁻¹ ≠ ⊤ := by rw [← EReal.coe_inv]; exact EReal.coe_ne_top _
  generalize ((64 : ℝ) : EReal)⁻¹ = c at hn ht
  have key : ∀ (S : Finset (Fin 64)), (∑ x ∈ S, f (pixel u x) * c) = (∑ x ∈ S, f (pixel u x)) * c := by
    intro S
    induction S using Finset.induction_on with
    | empty => simp
    | insert a S ha ih =>
      rw [Finset.sum_insert ha, Finset.sum_insert ha, ih, EReal.right_distrib_of_nonneg_of_ne_top hn ht]
  exact key _

/-- The pixels of a window, by row and column. -/
theorem sum1024 (f : Fin 1024 → EReal) :
    (∑ s, f s) = ∑ r : Fin 32, ∑ c : Fin 32, f ⟨r.val * 32 + c.val, by omega⟩ := by
  rw [← Fintype.sum_prod_type' (f := fun (r : Fin 32) (c : Fin 32) => f ⟨r.val * 32 + c.val, by omega⟩)]
  refine (Fintype.sum_equiv (finProdFinEquiv (m := 32) (n := 32)) _ _ ?_).symm
  rintro ⟨r, c⟩
  refine congrArg f (Fin.ext ?_)
  show r.val * 32 + c.val = c.val + 32 * r.val
  omega

end Cert.PoolMath

end
-- ==== Proof.QkvPool.lean ====
/- Hand-written: the pooling matrix that the host builds, at one entry. -/
module

public import proofs.«01_k».proof.Proof.Gen.QkvIdeal.Frame
public import proofs.«01_k».proof.Proof.PoolMath
public import Idealize.ShloMosaic.Lib.Pipeline.ValueKit
public import Idealize.ShloMosaic.Lib.StableHlo.ReadAt

@[expose] public section

set_option pp.maxSteps 400
set_option maxRecDepth 16384

noncomputable section

open Idealize.ShloMosaic Idealize.ShloMosaic.TcCoe Idealize.SL.Sem
open Idealize.ShloMosaic.Pipeline (Dat)

namespace Cert.QkvIdeal.Entry

open Cert.QkvIdeal Cert.QkvIdeal.Gen Cert.PoolMath

variable (m : (ℓ : Loc nD τ sig) → Buf (Elt Ideal) ℓ)

/-- The pool number the host computes for a window's pixel. -/
theorem V_v10 (c : Dev nD) (s : Fin 1024) : (V m c main_v10 : IVec S1x1024 32) (ix2 0 s) = BitVec.ofNat 32 (cell s) := by
  unfold V
  after_reads_at
  revert s
  decide +kernel

/-- The host's pooling matrix: one sixty-fourth on a pool's pixels. -/
theorem V_v18 (c : Dev nD) (u : Fin 16) (s : Fin 1024) :
    (V m c main_v18 : FVec Ideal S16x1024 .f32) (ix2 u s) = Ideal.div (if cell s = u.val then 1 else 0) (Ideal.ofBits .f32 0x42800000#32) := by
  have key : (V m c main_v18 : FVec Ideal S16x1024 .f32) (ix2 u s)
      = Ideal.div (FloatOps.uitofp (F := Ideal) .f32 (IntOp.cmpi .eq ((V m c main_v10 : IVec S1x1024 32) (ix2 0 s)) (BitVec.ofNat 32 u.val))) (Ideal.ofBits .f32 0x42800000#32) := by
    unfold V
    after_reads_at
  rw [key, V_v10]
  have hb : IntOp.cmpi .eq (BitVec.ofNat 32 (cell s)) (BitVec.ofNat 32 u.val) = if cell s = u.val then 1#1 else 0#1 := by
    have h : ∀ (a : Fin 16) (u : Fin 16), IntOp.cmpi .eq (BitVec.ofNat 32 a.val) (BitVec.ofNat 32 u.val) = if a.val = u.val then 1#1 else 0#1 := by
      decide +kernel
    have hc : cell s < 16 := by unfold cell; omega
    exact h ⟨cell s, hc⟩ u
  rw [hb]
  congr 1
  split
  · show (((1#1 : BitVec 1).toNat : ℝ) : EReal) = 1
    simp
  · show (((0#1 : BitVec 1).toNat : ℝ) : EReal) = 0
    simp

end Cert.QkvIdeal.Entry

end
-- ==== Proof.RowMath.lean ====
/- Hand-written: layer normalisation of one row of 384 numbers and the Gaussian error unit, as plain functions on the
   extended reals, with the two laws both programs need: dividing by a square root is scaling by the reciprocal root,
   and the row's variance plus the floor is positive. -/
module

public import Idealize.ShloMosaic.Lib.Pipeline.ValueKit
public import Idealize.ShloMosaic.Lib.Pointwise

@[expose] public section

noncomputable section

open Idealize.ShloMosaic

namespace Cert.RowMath

/-- The word of 384 as a number. -/
theorem w384 : Ideal.ofBits .f32 0x43C00000#32 = ((384 : ℝ) : EReal) := by
  simp [Ideal.ofBits, Ideal.ieee, -EReal.coe_mul]; norm_num

/-- The word of the variance floor is a positive real. -/
theorem wEps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- Taking the integer zero, read as a number, from 384 leaves it. -/
theorem w384_sub : Ideal.ofBits .f32 0x43C00000#32 - FloatOps.sitofp (F := Ideal) .f32 (0#32) = Ideal.ofBits .f32 0x43C00000#32 := by
  rw [show FloatOps.sitofp (F := Ideal) .f32 (0#32) = (0 : EReal) from by
    show (((0#32 : BitVec 32).toInt : ℝ) : EReal) = 0
    simp]
  simp

/-- Over a positive number (plus infinity included), dividing by the root is multiplying by the reciprocal root. -/
theorem div_sqrt (x v : EReal) (hv : 0 < v) : Ideal.div x (Ideal.sqrt v) = x * Ideal.rsqrt v := by
  induction v with
  | bot => exact absurd hv (by simp)
  | top => rw [Ideal.sqrt_top, Ideal.rsqrt_top, Ideal.div, if_neg (by simp), EReal.inv_top]
  | coe r =>
    have hr : 0 < r := by exact_mod_cast hv
    have hs : Real.sqrt r ≠ 0 := (Real.sqrt_pos.2 hr).ne'
    have h1 : Ideal.sqrt (r : EReal) = ((Real.sqrt r : ℝ) : EReal) := by rw [Ideal.sqrt_coe, if_neg (not_lt.2 hr.le)]
    rw [h1, Ideal.rsqrt_coe, if_neg (not_lt.2 hr.le), if_neg hr.ne', Ideal.div, if_neg (by exact_mod_cast hs), EReal.coe_inv]

/-- The square of an extended real is not negative. -/
theorem mul_self_nonneg (x : EReal) : 0 ≤ x * x := by
  induction x with
  | bot => simp
  | top => simp
  | coe r => exact_mod_cast _root_.mul_self_nonneg r

/-- The mean of a row of 384. -/
def mean (r : Fin 384 → EReal) : EReal := Ideal.div (∑ k, r k) (Ideal.ofBits .f32 0x43C00000#32)

/-- The mean of the squared deviations of a row of 384. -/
def var (r : Fin 384 → EReal) : EReal :=
  Ideal.div (∑ k, (r k - mean r) * (r k - mean r)) (Ideal.ofBits .f32 0x43C00000#32)

/-- The variance with its floor is positive, whatever the row holds. -/
theorem var_pos (r : Fin 384 → EReal) : 0 < var r + Ideal.ofBits .f32 0x358637BD#32 := by
  obtain ⟨e, he, hw⟩ := wEps
  have h0 : 0 ≤ var r := by
    unfold var
    rw [w384, Ideal.div, if_neg (by norm_num)]
    exact mul_nonneg (Finset.sum_nonneg fun k _ => mul_self_nonneg _) (by rw [← EReal.coe_inv]; exact_mod_cast (by norm_num : (0:ℝ) ≤ 384⁻¹))
  rw [hw]
  have : (0 : EReal) < (e : EReal) := by exact_mod_cast he
  exact lt_of_lt_of_le this (le_add_of_nonneg_left h0)

/-- One row normalised, scaled and shifted. -/
def lnRow (r g b : Fin 384 → EReal) (k : Fin 384) : EReal :=
  (r k - mean r) * Ideal.rsqrt (var r + Ideal.ofBits .f32 0x358637BD#32) * g k + b k

/-- The Gaussian error unit of one number. -/
def gelu (x : EReal) : EReal :=
  Ideal.ofBits .f32 0x3F000000#32 * x * (Ideal.ofBits .f32 0x3F800000#32 + Ideal.erf (x * Ideal.ofBits .f32 0x3F3504F3#32))

/-- One output of a dense layer with bias. -/
def dense {n l : Nat} (r : Fin n → EReal) (w : Fin n → Fin l → EReal) (b : Fin l → EReal) (j : Fin l) : EReal :=
  (∑ k, r k * w k j) + b j

/-- One row through the residual two-layer block. -/
def mlpRow (r g b : Fin 384 → EReal) (w1 : Fin 384 → Fin 1536 → EReal) (b1 : Fin 1536 → EReal) (w2 : Fin 1536 → Fin 384 → EReal)
    (b2 : Fin 384 → EReal) (l : Fin 384) : EReal :=
  r l + dense (fun j => gelu (dense (lnRow r g b) w1 b1 j)) w2 b2 l

end Cert.RowMath

end
-- ==== Proof.QkvRef.lean ====
/- Hand-written: the plain layer normalised queries, keys and values, their pools and window means, each read at one entry. -/
module

public import proofs.«01_k».proof.Proof.Gen.QkvReferenceIdeal.Run
public import proofs.«01_k».proof.Proof.RowMath

@[expose] public section

set_option maxRecDepth 16384

noncomputable section

open Idealize.ShloMosaic Idealize.ShloMosaic.TcCoe Idealize.SL.Sem

namespace Cert.QkvReferenceIdeal.Entry

open Cert.QkvReferenceIdeal Cert.QkvReferenceIdeal.Gen Cert.RowMath

/-- The image with its channels last. -/
abbrev img (a0 : FVec Ideal S1x384x224x224 .f32) : FVec Ideal S224x224x384 .f32 :=
  transpose S224x224x384 [1, 2, 0] (shapeCast _ a0 shapeCasts_S1x384x224x224_S384x224x224) transposes_S384x224x224_S224x224x384_1_2_0

/-- The layer normalisation as composed by the host operations. -/
abbrev lnRef (X : FVec Ideal S224x224x384 .f32) (a1 a2 : FVec Ideal S384 .f32) : FVec Ideal S224x224x384 .f32 :=
  addf (mulf (Host.divf (subf X (broadcastInDim S224x224x384 ![0, 1, 2] bcast_S224x224x1_S224x224x384_0_1_2 (Host.divf (broadcastInDim S224x224x1 ![0, 1] bcast_S224x224_S224x224x1_0_1 (Host.reduceAdd X (constant S_ .f32 0x00000000#32) reducesTo_S224x224x384_S224x224_d2 h_S_)) (broadcastInDim S224x224x1 ![] bcast_S_S224x224x1 (constant S_ .f32 0x43C00000#32))))) (broadcastInDim S224x224x384 ![0, 1, 2] bcast_S224x224x1_S224x224x384_0_1_2 (Host.sqrt (addf (select (broadcastInDim S224x224x1 ![] bcast_S_S224x224x1 (cmpf .ogt (subf (constant S_ .f32 0x43C00000#32) (sitofp .f32 (constantI S_ 32 0#32)) : FVec Ideal S_ .f32) (constant S_ .f32 0x00000000#32))) (Host.divf (broadcastInDim S224x224x1 ![0, 1] bcast_S224x224_S224x224x1_0_1 (Host.reduceAdd (mulf (subf X (broadcastInDim S224x224x384 ![0, 1, 2] bcast_S224x224x1_S224x224x384_0_1_2 (Host.divf (broadcastInDim S224x224x1 ![0, 1] bcast_S224x224_S224x224x1_0_1 (Host.reduceAdd X (constant S_ .f32 0x00000000#32) reducesTo_S224x224x384_S224x224_d2 h_S_)) (broadcastInDim S224x224x1 ![] bcast_S_S224x224x1 (constant S_ .f32 0x43C00000#32))))) (subf X (broadcastInDim S224x224x384 ![0, 1, 2] bcast_S224x224x1_S224x224x384_0_1_2 (Host.divf (broadcastInDim S224x224x1 ![0, 1] bcast_S224x224_S224x224x1_0_1 (Host.reduceAdd X (constant S_ .f32 0x00000000#32) reducesTo_S224x224x384_S224x224_d2 h_S_)) (broadcastInDim S224x224x1 ![] bcast_S_S224x224x1 (constant S_ .f32 0x43C00000#32)))))) (constant S_ .f32 0x00000000#32) reducesTo_S224x224x384_S224x224_d2 h_S_)) (broadcastInDim S224x224x1 ![] bcast_S_S224x224x1 (subf (constant S_ .f32 0x43C00000#32) (sitofp .f32 (constantI S_ 32 0#32))))) (broadcastInDim S224x224x1 ![] bcast_S_S224x224x1 (id (constant S_ .f32 0x7FC00000#32)))) (broadcastInDim S224x224x1 ![] bcast_S_S224x224x1 (constant S_ .f32 0x358637BD#32)))))) (broadcastInDim S224x224x384 ![0, 1, 2] bcast_S1x1x384_S224x224x384_0_1_2 (broadcastInDim S1x1x384 ![2] bcast_S384_S1x1x384_2 a1))) (broadcastInDim S224x224x384 ![0, 1, 2] bcast_S1x1x384_S224x224x384_0_1_2 (broadcastInDim S1x1x384 ![2] bcast_S384_S1x1x384_2 a2))

/-- The projection of the windows' pixels. -/
abbrev qkvRef (L : FVec Ideal S224x224x384 .f32) (a3 : FVec Ideal S384x1152 .f32) (a4 : FVec Ideal S1152 .f32) : FVec Ideal S7x7x32x32x1152 .f32 :=
  addf (Host.dotGeneral dot_S7x7x32x32x384_S384x1152_S7x7x32x32x1152_4_0_0123_1_n_n none (transpose S7x7x32x32x384 [0, 2, 1, 3, 4] (shapeCast _ L shapeCasts_S224x224x384_S7x32x7x32x384) transposes_S7x32x7x32x384_S7x7x32x32x384_0_2_1_3_4) a3) (broadcastInDim S7x7x32x32x1152 ![0, 1, 2, 3, 4] bcast_S1x1x1x1x1152_S7x7x32x32x1152_0_1_2_3_4 (broadcastInDim S1x1x1x1x1152 ![4] bcast_S1152_S1x1x1x1x1152_4 a4))

/-- The queries by window. -/
abbrev qRef (Q : FVec Ideal S7x7x32x32x1152 .f32) : FVec Ideal S49x1024x384 .bf16 :=
  truncf .bf16 (shapeCast _ (extractStridedSlice S7x7x32x32x384 ![0, 0, 0, 0, 0] Q slices_S7x7x32x32x1152_S7x7x32x32x384_0_0_0_0_0) shapeCasts_S7x7x32x32x384_S49x1024x384) bitsLt_bf16_f32

/-- The values as an image. -/
abbrev vRef (Q : FVec Ideal S7x7x32x32x1152 .f32) : FVec Ideal S224x224x384 .bf16 :=
  truncf .bf16 (shapeCast _ (transpose S7x32x7x32x384 [0, 2, 1, 3, 4] (extractStridedSlice S7x7x32x32x384 ![0, 0, 0, 0, 384] (extractStridedSlice S7x7x32x32x768 ![0, 0, 0, 0, 384] Q slices_S7x7x32x32x1152_S7x7x32x32x768_0_0_0_0_384) slices_S7x7x32x32x768_S7x7x32x32x384_0_0_0_0_384) transposes_S7x7x32x32x384_S7x32x7x32x384_0_2_1_3_4) shapeCasts_S7x32x7x32x384_S224x224x384) bitsLt_bf16_f32

/-- The pooled keys and values. -/
abbrev kvpRef (Q : FVec Ideal S7x7x32x32x1152 .f32) : FVec Ideal S49x16x768 .f32 :=
  Host.divf (Host.reduceAdd (shapeCast _ (transpose S49x4x4x8x8x768 [0, 1, 3, 2, 4, 5] (shapeCast _ (extractStridedSlice S7x7x32x32x768 ![0, 0, 0, 0, 384] Q slices_S7x7x32x32x1152_S7x7x32x32x768_0_0_0_0_384) shapeCasts_S7x7x32x32x768_S49x4x8x4x8x768) transposes_S49x4x8x4x8x768_S49x4x4x8x8x768_0_1_3_2_4_5) shapeCasts_S49x4x4x8x8x768_S49x16x64x768) (constant S_ .f32 0x00000000#32) reducesTo_S49x16x64x768_S49x16x768_d2 h_S_) (broadcastInDim S49x16x768 ![] bcast_S_S49x16x768 (constant S_ .f32 0x42800000#32))

/-- The window means. -/
abbrev winRef (Q : FVec Ideal S7x7x32x32x1152 .f32) : FVec Ideal S49x8x384 .f32 :=
  (concatenate S49x8x384 1 [⟨S49x1x384, ((shapeCast _ (Host.divf (Host.reduceAdd (extractStridedSlice S7x7x32x32x384 ![0, 0, 0, 0, 0] Q slices_S7x7x32x32x1152_S7x7x32x32x384_0_0_0_0_0) (constant S_ .f32 0x00000000#32) reducesTo_S7x7x32x32x384_S7x7x384_d2_3 h_S_) (broadcastInDim S7x7x384 ![] bcast_S_S7x7x384 (constant S_ .f32 0x44800000#32))) shapeCasts_S7x7x384_S49x1x384) : FVec Ideal S49x1x384 .f32)⟩, ⟨S49x1x384, ((shapeCast _ (Host.divf (Host.reduceAdd (extractStridedSlice S7x7x32x32x384 ![0, 0, 0, 0, 0] (extractStridedSlice S7x7x32x32x768 ![0, 0, 0, 0, 384] Q slices_S7x7x32x32x1152_S7x7x32x32x768_0_0_0_0_384) slices_S7x7x32x32x768_S7x7x32x32x384_0_0_0_0_0) (constant S_ .f32 0x00000000#32) reducesTo_S7x7x32x32x384_S7x7x384_d2_3 h_S_) (broadcastInDim S7x7x384 ![] bcast_S_S7x7x384 (constant S_ .f32 0x44800000#32))) shapeCasts_S7x7x384_S49x1x384) : FVec Ideal S49x1x384 .f32)⟩, ⟨S49x6x384, ((broadcastInDim S49x6x384 ![] bcast_S_S49x6x384 (constant S_ .f32 0x00000000#32)) : FVec Ideal S49x6x384 .f32)⟩] concatenates_S49x1x384_S49x1x384_S49x6x384_S49x8x384_d1 : FVec Ideal S49x8x384 .f32)

/-- All of the projection, from the arguments. -/
abbrev QREF (a0 : FVec Ideal S1x384x224x224 .f32) (a1 a2 : FVec Ideal S384 .f32) (a3 : FVec Ideal S384x1152 .f32) (a4 : FVec Ideal S1152 .f32) : FVec Ideal S7x7x32x32x1152 .f32 :=
  qkvRef (lnRef (img a0) a1 a2) a3 a4

/-- The layer normalisation at one entry: the row's own. -/
theorem lnRef_apply (a0 : FVec Ideal S224x224x384 .f32) (a1 a2 : FVec Ideal S384 .f32) (p q : Fin 224) (k : Fin 384) :
    lnRef a0 a1 a2 (ix3 p q k) = lnRow (fun j => a0 (ix3 p q j)) (fun j => a1 (ix1 j)) (fun j => a2 (ix1 j)) k := by
  unfold lnRow
  rw [← div_sqrt _ _ (var_pos _)]
  pointwise [lnRef, lnRow, var, mean]
  rw [w384_sub, if_pos (by rw [w384]; norm_num)]

/-- One pixel's projection. -/
abbrev pix (a0 : FVec Ideal S1x384x224x224 .f32) (a1 a2 : FVec Ideal S384 .f32) (a3 : FVec Ideal S384x1152 .f32) (a4 : FVec Ideal S1152 .f32) (p q : Fin 224) (n : Fin 1152) : EReal :=
  dense (lnRow (fun k => a0 (ix4 0 k p q)) (fun j => a1 (ix1 j)) (fun j => a2 (ix1 j))) (fun k j => a3 (ix2 k j)) (fun j => a4 (ix1 j)) n

/-- The projection at one window's pixel. -/
theorem QREF_apply (a0 : FVec Ideal S1x384x224x224 .f32) (a1 a2 : FVec Ideal S384 .f32) (a3 : FVec Ideal S384x1152 .f32) (a4 : FVec Ideal S1152 .f32)
    (i j : Fin 7) (r s : Fin 32) (n : Fin 1152) :
    QREF a0 a1 a2 a3 a4 (ix5 i j r s n) = pix a0 a1 a2 a3 a4 ⟨i.val * 32 + r.val, by omega⟩ ⟨j.val * 32 + s.val, by omega⟩ n := by
  have hi : ∀ (p q : Fin 224) (k : Fin 384), img a0 (ix3 p q k) = a0 (ix4 0 k p q) := by
    intro p q k
    pointwise
  unfold QREF pix
  generalize hX : img a0 = X
  generalize hL : lnRef X a1 a2 = L
  pointwise [dense]
  subst hL hX
  simp only [lnRef_apply, hi]

/-- The queries at one entry. -/
theorem qRef_apply (Q : FVec Ideal S7x7x32x32x1152 .f32) (w : Fin 49) (s : Fin 1024) (k : Fin 384) :
    qRef Q (ix3 w s k) = Q (ix5 (⟨w.val / 7, by omega⟩ : Fin 7) (⟨w.val % 7, by omega⟩ : Fin 7) (⟨s.val / 32, by omega⟩ : Fin 32) (⟨s.val % 32, by omega⟩ : Fin 32) (⟨k.val, by omega⟩ : Fin 1152)) := by
  unfold qRef
  pointwise

/-- The values at one entry of the image. -/
theorem vRef_apply (Q : FVec Ideal S7x7x32x32x1152 .f32) (p q : Fin 224) (k : Fin 384) :
    vRef Q (ix3 p q k) = Q (ix5 (⟨p.val / 32, by omega⟩ : Fin 7) (⟨q.val / 32, by omega⟩ : Fin 7) (⟨p.val % 32, by omega⟩ : Fin 32) (⟨q.val % 32, by omega⟩ : Fin 32) (⟨384 + (384 + k.val), by omega⟩ : Fin 1152)) := by
  unfold vRef
  pointwise

/-- The pooled keys and values at one entry: the mean over the pool's sixty-four pixels. -/
theorem kvpRef_apply (Q : FVec Ideal S7x7x32x32x1152 .f32) (w : Fin 49) (u : Fin 16) (n : Fin 768) :
    kvpRef Q (ix3 w u n) = Ideal.div (∑ x : Fin 64, Q (ix5 (⟨w.val / 7, by omega⟩ : Fin 7) (⟨w.val % 7, by omega⟩ : Fin 7) (⟨u.val / 4 * 8 + x.val / 8, by omega⟩ : Fin 32) (⟨u.val % 4 * 8 + x.val % 8, by omega⟩ : Fin 32) (⟨384 + n.val, by omega⟩ : Fin 1152))) (Ideal.ofBits .f32 0x42800000#32) := by
  unfold kvpRef
  pointwise

/-- The window means at one entry. -/
theorem winRef_apply (Q : FVec Ideal S7x7x32x32x1152 .f32) (w : Fin 49) (r : Fin 8) (n : Fin 384) :
    winRef Q (ix3 w r n) =
      if r.val < 1 then Ideal.div (∑ x : Fin 32, ∑ y : Fin 32, Q (ix5 (⟨w.val / 7, by omega⟩ : Fin 7) (⟨w.val % 7, by omega⟩ : Fin 7) x y (⟨n.val, by omega⟩ : Fin 1152))) (Ideal.ofBits .f32 0x44800000#32)
      else if r.val - 1 < 1 then Ideal.div (∑ x : Fin 32, ∑ y : Fin 32, Q (ix5 (⟨w.val / 7, by omega⟩ : Fin 7) (⟨w.val % 7, by omega⟩ : Fin 7) x y (⟨384 + n.val, by omega⟩ : Fin 1152))) (Ideal.ofBits .f32 0x44800000#32)
      else 0 := by
  unfold winRef
  pointwise
  simp only [dite_eq_ite]

end Cert.QkvReferenceIdeal.Entry

end
-- ==== Proof.QkvValue.lean ====
/- Hand-written: what the projection kernel leaves in its four result arrays is the plain reference of its arguments. -/
module

public import proofs.«01_k».proof.Proof.QkvPool
public import proofs.«01_k».proof.Proof.QkvRef

@[expose] public section

set_option maxRecDepth 16384

noncomputable section

open Idealize.ShloMosaic Idealize.ShloMosaic.TcCoe Idealize.SL.Sem
open Idealize.ShloMosaic.Pipeline (Dat)

namespace Cert.QkvIdeal.Entry

open Cert.QkvIdeal Cert.QkvIdeal.Gen Cert.RowMath Cert.PoolMath

/-- The body's dense layer at pixel `s` of the window. -/
theorem dense5 (v0 : Vec Ideal S32x32x384 .f32) (v19 v24 : Vec Ideal S1x384 .f32) (v29 : Vec Ideal S384x1152 .f32) (v31 : Vec Ideal S1x1152 .f32)
    (s : Fin 1024) (n : Fin 1152) :
    k0_pay5 v0 v19 v24 v29 v31 (ix2 s n)
      = dense (lnRow (fun k => v0 (ix3 (⟨s.val / 32, by omega⟩ : Fin 32) (⟨s.val % 32, by omega⟩ : Fin 32) k)) (fun k => v19 (ix2 0 k)) (fun k => v24 (ix2 0 k))) (fun k j => v29 (ix2 k j)) (fun j => v31 (ix2 0 j)) n := by
  unfold k0_pay5 dense lnRow
  pointwise [mean, var]

section
variable (x0 : Vec Ideal S32x32x384 .f32) (x1 x2 : Vec Ideal S1x384 .f32) (x3 : Vec Ideal S384x1152 .f32) (x4 : Vec Ideal S1x1152 .f32) (x5 : Vec Ideal S16x1024 .f32)

theorem ld0 : View.ld x0 r0_0 = x0 := by
  funext y
  idx_vars y
  pointwise

theorem ld1 (x : Vec Ideal S1x384 .f32) : View.ld x r0_1 = x := by
  funext y
  idx_vars y
  obtain rfl : y0 = 0 := Subsingleton.elim _ _
  pointwise

theorem ld3 : View.ld x3 r0_2 = x3 := by
  funext y
  idx_vars y
  pointwise

theorem ld4 : View.ld x4 r0_3 = x4 := by
  funext y
  idx_vars y
  obtain rfl : y0 = 0 := Subsingleton.elim _ _
  pointwise

/-- The queries the body stores. -/
theorem storedQ (s : Fin 1024) (k : Fin 384) (z : Fin 1) :
    k0_pay1 (k0_pay9 x0 x1 x2 x3 x4) (ix3 z s k) = k0_pay5 x0 x1 x2 x3 x4 (ix2 s (⟨k.val, by omega⟩ : Fin 1152)) := by
  unfold k0_pay1 k0_pay9 k0_pay6
  generalize k0_pay5 x0 x1 x2 x3 x4 = Q
  pointwise

/-- The values the body stores. -/
theorem storedV (a b : Fin 32) (k : Fin 384) :
    k0_pay2 (k0_pay11 x0 x1 x2 x3 x4 x5) (ix3 a b k) = k0_pay5 x0 x1 x2 x3 x4 (ix2 (⟨a.val * 32 + b.val, by omega⟩ : Fin 1024) (⟨384 + (384 + k.val), by omega⟩ : Fin 1152)) := by
  unfold k0_pay2 k0_pay11 k0_pay8
  rw [ld0, ld1, ld1, ld3, ld4]
  generalize k0_pay5 x0 x1 x2 x3 x4 = Q
  pointwise
  exact congrArg (fun j : Fin 1152 => Q (ix2 (⟨a.val * 32 + b.val, by omega⟩ : Fin 1024) j)) (Fin.mk_eq_mk.mpr (by omega))

/-- The pools the body stores: sums against the pooling matrix. -/
theorem storedP (u : Fin 16) (n : Fin 768) (z : Fin 1) :
    k0_pay3 (k0_pay10 x0 x1 x2 x3 x4 x5) (k0_pay11 x0 x1 x2 x3 x4 x5) x5 (ix3 z u n) = ∑ s : Fin 1024, x5 (ix2 u s) * k0_pay5 x0 x1 x2 x3 x4 (ix2 s (⟨384 + n.val, by omega⟩ : Fin 1152)) := by
  unfold k0_pay3 k0_pay10 k0_pay11 k0_pay7 k0_pay8
  rw [ld0, ld1, ld1, ld3, ld4]
  generalize k0_pay5 x0 x1 x2 x3 x4 = Q
  pointwise
  split
  · rfl
  · refine Finset.sum_congr rfl fun s _ => congrArg (fun j : Fin 1152 => x5 (ix2 u s) * Q (ix2 s j)) (Fin.mk_eq_mk.mpr (by omega))

/-- The window means the body stores. -/
theorem storedW (r : Fin 8) (n : Fin 384) (z : Fin 1) :
    k0_pay4 (k0_pay6 x0 x1 x2 x3 x4) (k0_pay10 x0 x1 x2 x3 x4 x5) (ix3 z r n) =
      if r.val < 1 then Ideal.div (∑ s : Fin 1024, k0_pay5 x0 x1 x2 x3 x4 (ix2 s (⟨n.val, by omega⟩ : Fin 1152))) (Ideal.ofBits .f32 0x44800000#32)
      else if r.val - 1 < 1 then Ideal.div (∑ s : Fin 1024, k0_pay5 x0 x1 x2 x3 x4 (ix2 s (⟨384 + n.val, by omega⟩ : Fin 1152))) (Ideal.ofBits .f32 0x44800000#32)
      else 0 := by
  unfold k0_pay4 k0_pay10 k0_pay6 k0_pay7
  rw [ld0, ld1, ld1, ld3, ld4]
  generalize k0_pay5 x0 x1 x2 x3 x4 = Q
  pointwise
  simp only [dite_eq_ite]

end

/-- Where each window stands at each grid point. -/
theorem idx : ∀ t : Fin cfg0.N, win0_0.index t = ![t.val / 7, t.val % 7, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0, 0]
    ∧ win0_7.index t = ![t.val / 7, t.val % 7, 0]
    ∧ win0_8.index t = ![t.val, 0, 0]
    ∧ win0_9.index t = ![t.val, 0, 0] :=
  (by decide +kernel : ∀ t : Fin grid0.N, _)

variable (m : (ℓ : Loc nD τ sig) → Buf (Elt Ideal) ℓ)

/-- A pixel's projection, from equal rows and weights. -/
theorem pix_of (r g b : Fin 384 → EReal) (w : Fin 384 → Fin 1152 → EReal) (d : Fin 1152 → EReal) (a0 : FVec Ideal S1x384x224x224 .f32) (a1 a2 : FVec Ideal S384 .f32) (a3 : FVec Ideal S384x1152 .f32) (a4 : FVec Ideal S1152 .f32) (p q : Fin 224) (n : Fin 1152)
    (h0 : ∀ k, r k = a0 (ix4 0 k p q)) (h1 : ∀ k, g k = a1 (ix1 k)) (h2 : ∀ k, b k = a2 (ix1 k)) (h3 : ∀ k j, w k j = a3 (ix2 k j)) (h4 : ∀ j, d j = a4 (ix1 j)) :
    dense (lnRow r g b) w d n = Cert.QkvReferenceIdeal.Entry.pix a0 a1 a2 a3 a4 p q n := by
  obtain rfl : r = fun k => a0 (ix4 0 k p q) := funext h0
  obtain rfl : g = fun k => a1 (ix1 k) := funext h1
  obtain rfl : b = fun k => a2 (ix1 k) := funext h2
  obtain rfl : w = fun k j => a3 (ix2 k j) := funext fun k => funext (h3 k)
  obtain rfl : d = fun j => a4 (ix1 j) := funext h4
  rfl

/-- The whole projection of the launch's arguments. -/
abbrev proj (c : Dev nD) : FVec Ideal Cert.QkvReferenceIdeal.S7x7x32x32x1152 .f32 :=
  Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4))

/-- The image the host hands to the kernel, at one entry. -/
theorem V_v1 (c : Dev nD) (p q : Fin 224) (k : Fin 384) : (V m c main_v1 : FVec Ideal S224x224x384 .f32) (ix3 p q k) = (m ((c : Thread nD τ).loc main_arg0) : FVec Ideal S1x384x224x224 .f32) (ix4 0 k p q) := by
  unfold V
  after_reads_at

/-- The scale as a row. -/
theorem V_v19 (c : Dev nD) (k : Fin 384) : (V m c main_v19 : FVec Ideal S1x384 .f32) (ix2 0 k) = (m ((c : Thread nD τ).loc main_arg1) : FVec Ideal S384 .f32) (ix1 k) := by
  unfold V
  after_reads_at

/-- The shift as a row. -/
theorem V_v20 (c : Dev nD) (k : Fin 384) : (V m c main_v20 : FVec Ideal S1x384 .f32) (ix2 0 k) = (m ((c : Thread nD τ).loc main_arg2) : FVec Ideal S384 .f32) (ix1 k) := by
  unfold V
  after_reads_at

/-- The bias as a row. -/
theorem V_v21 (c : Dev nD) (k : Fin 1152) : (V m c main_v21 : FVec Ideal S1x1152 .f32) (ix2 0 k) = (m ((c : Thread nD τ).loc main_arg4) : FVec Ideal S1152 .f32) (ix1 k) := by
  unfold V
  after_reads_at

/-- The image block at a grid point. -/
theorem blk0 (c : Dev nD) (t : Fin cfg0.N) (ht : t.val < 49) (a b : Fin 32) (k : Fin 384) :
    iblk m c 0 t (ix3 a b k) = (V m c main_v1 : FVec Ideal S224x224x384 .f32) (ix3 (⟨t.val / 7 * 32 + a.val, by omega⟩ : Fin 224) (⟨t.val % 7 * 32 + b.val, by omega⟩ : Fin 224) k) := by
  have hp : ((cfg0.win 0).blk t).view.emb (ix3 a b k) = (ix3 (⟨t.val / 7 * 32 + a.val, by omega⟩ : Fin 224) (⟨t.val % 7 * 32 + b.val, by omega⟩ : Fin 224) k) := by
    blk_ext [idx t]
  show (V m c main_v1 : FVec Ideal S224x224x384 .f32) (((cfg0.win 0).blk t).view.emb (ix3 a b k)) = _
  rw [hp]

/-- The scale at a grid point. -/
theorem blk1 (c : Dev nD) (t : Fin cfg0.N) (k : Fin 384) :
    iblk m c 1 t (ix2 0 k) = (V m c main_v19 : FVec Ideal S1x384 .f32) (ix2 0 k) := by
  have hp : ((cfg0.win 1).blk t).view.emb (ix2 0 k) = (ix2 0 k) := by
    blk_ext [idx t]
  show (V m c main_v19 : FVec Ideal S1x384 .f32) (((cfg0.win 1).blk t).view.emb (ix2 0 k)) = _
  rw [hp]

/-- The shift at a grid point. -/
theorem blk2 (c : Dev nD) (t : Fin cfg0.N) (k : Fin 384) :
    iblk m c 2 t (ix2 0 k) = (V m c main_v20 : FVec Ideal S1x384 .f32) (ix2 0 k) := by
  have hp : ((cfg0.win 2).blk t).view.emb (ix2 0 k) = (ix2 0 k) := by
    blk_ext [idx t]
  show (V m c main_v20 : FVec Ideal S1x384 .f32) (((cfg0.win 2).blk t).view.emb (ix2 0 k)) = _
  rw [hp]

/-- The weight at a grid point. -/
theorem blk3 (c : Dev nD) (t : Fin cfg0.N) (k : Fin 384) (n : Fin 1152) :
    iblk m c 3 t (ix2 k n) = (V m c main_arg3 : FVec Ideal S384x1152 .f32) (ix2 k n) := by
  have hp : ((cfg0.win 3).blk t).view.emb (ix2 k n) = (ix2 k n) := by
    blk_ext [idx t]
  show (V m c main_arg3 : FVec Ideal S384x1152 .f32) (((cfg0.win 3).blk t).view.emb (ix2 k n)) = _
  rw [hp]

/-- The bias at a grid point. -/
theorem blk4 (c : Dev nD) (t : Fin cfg0.N) (k : Fin 1152) :
    iblk m c 4 t (ix2 0 k) = (V m c main_v21 : FVec Ideal S1x1152 .f32) (ix2 0 k) := by
  have hp : ((cfg0.win 4).blk t).view.emb (ix2 0 k) = (ix2 0 k) := by
    blk_ext [idx t]
  show (V m c main_v21 : FVec Ideal S1x1152 .f32) (((cfg0.win 4).blk t).view.emb (ix2 0 k)) = _
  rw [hp]

/-- The pooling matrix at a grid point. -/
theorem blk5P (c : Dev nD) (t : Fin cfg0.N) (u : Fin 16) (s : Fin 1024) :
    iblk m c 5 t (ix2 u s) = (V m c main_v18 : FVec Ideal S16x1024 .f32) (ix2 u s) := by
  have hp : ((cfg0.win 5).blk t).view.emb (ix2 u s) = (ix2 u s) := by
    blk_ext [idx t]
  show (V m c main_v18 : FVec Ideal S16x1024 .f32) (((cfg0.win 5).blk t).view.emb (ix2 u s)) = _
  rw [hp]

/-- The projection the body computes at a grid point is its window's. -/
theorem proj5 (c : Dev nD) (t : Fin cfg0.N) (ht : t.val < 49) (s : Fin 1024) (n : Fin 1152) :
    k0_pay5 (iblk m c 0 t) (iblk m c 1 t) (iblk m c 2 t) (iblk m c 3 t) (iblk m c 4 t) (ix2 s n)
      = Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) (⟨s.val / 32, by omega⟩ : Fin 32) (⟨s.val % 32, by omega⟩ : Fin 32) n) := by
  refine (dense5 (iblk m c 0 t) (iblk m c 1 t) (iblk m c 2 t) (iblk m c 3 t) (iblk m c 4 t) s n).trans (Eq.trans ?_ (Cert.QkvReferenceIdeal.Entry.QREF_apply (m ((c : Thread nD τ).loc main_arg0)) (m ((c : Thread nD τ).loc main_arg1)) (m ((c : Thread nD τ).loc main_arg2)) (m ((c : Thread nD τ).loc main_arg3)) (m ((c : Thread nD τ).loc main_arg4)) _ _ _ _ n).symm)
  refine pix_of _ _ _ _ _ _ _ _ _ _ _ _ n ?_ ?_ ?_ ?_ ?_
  · intro k; rw [blk0 m c t ht, V_v1]
  · intro k; rw [blk1, V_v19]
  · intro k; rw [blk2, V_v20]
  · intro k j; rw [blk3, V_main_arg3]
  · intro k; rw [blk4, V_v21]

end Cert.QkvIdeal.Entry

end
-- ==== Proof.QkvFinal.lean ====
/- Hand-written: what the projection kernel leaves in its four result arrays is the plain reference of its arguments. -/
module

public import proofs.«01_k».proof.Proof.QkvValue

@[expose] public section

set_option maxRecDepth 16384

noncomputable section

open Idealize.ShloMosaic Idealize.ShloMosaic.TcCoe Idealize.SL.Sem
open Idealize.ShloMosaic.Pipeline (Dat)

namespace Cert.QkvIdeal.Entry

open Cert.QkvIdeal Cert.QkvIdeal.Gen Cert.RowMath Cert.PoolMath

variable (m : (ℓ : Loc nD τ sig) → Buf (Elt Ideal) ℓ)

/-- Two entries of the projection with equal positions. -/
theorem congr5 (Q : FVec Ideal Cert.QkvReferenceIdeal.S7x7x32x32x1152 .f32) (n : Fin 1152) (i j i' j' : Fin 7) (r s r' s' : Fin 32)
    (hi : i.val = i'.val) (hj : j.val = j'.val) (hr : r.val = r'.val) (hs : s.val = s'.val) :
    Q (ix5 i j r s n) = Q (ix5 i' j' r' s' n) := by
  rw [Fin.ext hi, Fin.ext hj, Fin.ext hr, Fin.ext hs]

/-- The pooling matrix as a grid point holds it. -/
abbrev poolBlk (c : Dev nD) (t : Fin cfg0.N) : FVec Ideal S16x1024 .f32 := iblk m c 5 t

/-- The pooling matrix's product with the projection at a grid point is the mean over each pool. -/
theorem poolSum (c : Dev nD) (t : Fin cfg0.N) (ht : t.val < 49) (u : Fin 16) (n : Fin 1152) :
    (∑ s : Fin 1024, poolBlk m c t (ix2 u s) * k0_pay5 (iblk m c 0 t) (iblk m c 1 t) (iblk m c 2 t) (iblk m c 3 t) (iblk m c 4 t) (ix2 s n))
      = Ideal.div (∑ x : Fin 64, Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) (⟨u.val / 4 * 8 + x.val / 8, by omega⟩ : Fin 32) (⟨u.val % 4 * 8 + x.val % 8, by omega⟩ : Fin 32) n)) (Ideal.ofBits .f32 0x42800000#32) := by
  have h1 : ∀ s : Fin 1024, poolBlk m c t (ix2 u s) = Ideal.div (if cell s = u.val then 1 else 0) (Ideal.ofBits .f32 0x42800000#32) := fun s =>
    (blk5P m c t u s).trans (V_v18 m c u s)
  have h2 : ∀ x : Fin 64, k0_pay5 (iblk m c 0 t) (iblk m c 1 t) (iblk m c 2 t) (iblk m c 3 t) (iblk m c 4 t) (ix2 (pixel u x) n) = Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) (⟨u.val / 4 * 8 + x.val / 8, by omega⟩ : Fin 32) (⟨u.val % 4 * 8 + x.val % 8, by omega⟩ : Fin 32) n) := by
    intro x
    refine (proj5 m c t ht _ _).trans ?_
    have h0 := x.isLt
    have h1 := u.isLt
    refine congr5 _ _ _ _ _ _ _ _ _ _ rfl rfl ?_ ?_
    · show ((u.val / 4 * 8 + x.val / 8) * 32 + (u.val % 4 * 8 + x.val % 8)) / 32 = u.val / 4 * 8 + x.val / 8
      omega
    · show ((u.val / 4 * 8 + x.val / 8) * 32 + (u.val % 4 * 8 + x.val % 8)) % 32 = u.val % 4 * 8 + x.val % 8
      omega
  generalize poolBlk m c t = P at h1 ⊢
  generalize hK : k0_pay5 (iblk m c 0 t) (iblk m c 1 t) (iblk m c 2 t) (iblk m c 3 t) (iblk m c 4 t) = K at h2 ⊢
  generalize hQ : Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) = Q at h2 ⊢
  refine (pool_sum u (fun s => P (ix2 u s)) (fun s => K (ix2 s n)) h1).trans ?_
  rw [Finset.sum_congr rfl (fun x _ => h2 x)]

/-- The queries of the launch's arguments. -/
abbrev wantQ (c : Dev nD) : FVec Ideal S49x1024x384 .bf16 :=
  Cert.QkvReferenceIdeal.Entry.qRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The queries stored at a grid point are the reference's. -/
theorem pointQ (c : Dev nD) (t : Fin cfg0.N) (y : S1x1024x384.Idx) :
    k0_pay1 (k0_pay9 (iblk m c 0 t) (iblk m c 1 t) (iblk m c 2 t) (iblk m c 3 t) (iblk m c 4 t)) y = wantQ m c (((cfg0.win 6).blk t).view.emb y) := by
  idx_vars y
  refine (storedQ (iblk m c 0 t) (iblk m c 1 t) (iblk m c 2 t) (iblk m c 3 t) (iblk m c 4 t) y1 y2 y0).trans ?_
  have hN : cfg0.N = 49 := N_0
  have ht := t.isLt
  have hp : ((cfg0.win 6).blk t).view.emb (ix3 y0 y1 y2) = (ix3 (⟨t.val, by omega⟩ : Fin 49) y1 y2) := by
    blk_ext [idx t]
  show _ = wantQ m c (((cfg0.win 6).blk t).view.emb (ix3 y0 y1 y2))
  rw [hp]
  refine Eq.trans ?_ (Cert.QkvReferenceIdeal.Entry.qRef_apply _ _ _ _).symm
  refine (proj5 m c t (by omega) y1 _).trans ?_
  rfl

/-- The queries after the run. -/
theorem finalQ (c : Dev nD) : (dats m 0 c).arrAt 6 (cfgs 0).N = wantQ m c := by
  refine (dats m 0 c).arrAt_eq_of_covers 6 _ (by decide +kernel) fun t hf y => ?_
  blk_simp; rw [after0_6]; frame_out
  exact pointQ m c t y

/-- The value image of the launch's arguments. -/
abbrev wantV (c : Dev nD) : FVec Ideal S224x224x384 .bf16 :=
  Cert.QkvReferenceIdeal.Entry.vRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The value image stored at a grid point are the reference's. -/
theorem pointV (c : Dev nD) (t : Fin cfg0.N) (y : S32x32x384.Idx) :
    k0_pay2 (k0_pay11 (iblk m c 0 t) (iblk m c 1 t) (iblk m c 2 t) (iblk m c 3 t) (iblk m c 4 t) (iblk m c 5 t)) y = wantV m c (((cfg0.win 7).blk t).view.emb y) := by
  idx_vars y
  refine (storedV (iblk m c 0 t) (iblk m c 1 t) (iblk m c 2 t) (iblk m c 3 t) (iblk m c 4 t) (iblk m c 5 t) y0 y1 y2).trans ?_
  have hN : cfg0.N = 49 := N_0
  have ht := t.isLt
  have hp : ((cfg0.win 7).blk t).view.emb (ix3 y0 y1 y2) = (ix3 (⟨t.val / 7 * 32 + y0.val, by omega⟩ : Fin 224) (⟨t.val % 7 * 32 + y1.val, by omega⟩ : Fin 224) y2) := by
    blk_ext [idx t]
  show _ = wantV m c (((cfg0.win 7).blk t).view.emb (ix3 y0 y1 y2))
  rw [hp]
  refine Eq.trans ?_ (Cert.QkvReferenceIdeal.Entry.vRef_apply _ _ _ _).symm
  refine (proj5 m c t (by omega) _ _).trans ?_
  have h0 := y0.isLt
  have h1 := y1.isLt
  refine congr5 _ _ _ _ _ _ _ _ _ _ ?_ ?_ ?_ ?_
  · show t.val / 7 = (t.val / 7 * 32 + y0.val) / 32
    omega
  · show t.val % 7 = (t.val % 7 * 32 + y1.val) / 32
    omega
  · show (y0.val * 32 + y1.val) / 32 = (t.val / 7 * 32 + y0.val) % 32
    omega
  · show (y0.val * 32 + y1.val) % 32 = (t.val % 7 * 32 + y1.val) % 32
    omega

/-- The value image after the run. -/
theorem finalV (c : Dev nD) : (dats m 0 c).arrAt 7 (cfgs 0).N = wantV m c := by
  refine (dats m 0 c).arrAt_eq_of_covers 7 _ (by decide +kernel) fun t hf y => ?_
  blk_simp; rw [after0_7]; frame_out
  exact pointV m c t y

/-- The pooled keys and values of the launch's arguments. -/
abbrev wantP (c : Dev nD) : FVec Ideal S49x16x768 .f32 :=
  Cert.QkvReferenceIdeal.Entry.kvpRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The pooled keys and values stored at a grid point are the reference's. -/
theorem pointP (c : Dev nD) (t : Fin cfg0.N) (y : S1x16x768.Idx) :
    k0_pay3 (k0_pay10 (iblk m c 0 t) (iblk m c 1 t) (iblk m c 2 t) (iblk m c 3 t) (iblk m c 4 t) (iblk m c 5 t)) (k0_pay11 (iblk m c 0 t) (iblk m c 1 t) (iblk m c 2 t) (iblk m c 3 t) (iblk m c 4 t) (iblk m c 5 t)) (iblk m c 5 t) y = wantP m c (((cfg0.win 8).blk t).view.emb y) := by
  idx_vars y
  refine (storedP (iblk m c 0 t) (iblk m c 1 t) (iblk m c 2 t) (iblk m c 3 t) (iblk m c 4 t) (iblk m c 5 t) y1 y2 y0).trans ?_
  have hN : cfg0.N = 49 := N_0
  have ht := t.isLt
  have hp : ((cfg0.win 8).blk t).view.emb (ix3 y0 y1 y2) = (ix3 (⟨t.val, by omega⟩ : Fin 49) y1 y2) := by
    blk_ext [idx t]
  show _ = wantP m c (((cfg0.win 8).blk t).view.emb (ix3 y0 y1 y2))
  rw [hp]
  refine Eq.trans ?_ (Cert.QkvReferenceIdeal.Entry.kvpRef_apply _ _ _ _).symm
  exact poolSum m c t (by omega) y1 _

/-- The pooled keys and values after the run. -/
theorem finalP (c : Dev nD) : (dats m 0 c).arrAt 8 (cfgs 0).N = wantP m c := by
  refine (dats m 0 c).arrAt_eq_of_covers 8 _ (by decide +kernel) fun t hf y => ?_
  blk_simp; rw [after0_8]; frame_out
  exact pointP m c t y

/-- The window means of the launch's arguments. -/
abbrev wantW (c : Dev nD) : FVec Ideal S49x8x384 .f32 :=
  Cert.QkvReferenceIdeal.Entry.winRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The window means stored at a grid point are the reference's. -/
theorem pointW (c : Dev nD) (t : Fin cfg0.N) (y : S1x8x384.Idx) :
    k0_pay4 (k0_pay6 (iblk m c 0 t) (iblk m c 1 t) (iblk m c 2 t) (iblk m c 3 t) (iblk m c 4 t)) (k0_pay10 (iblk m c 0 t) (iblk m c 1 t) (iblk m c 2 t) (iblk m c 3 t) (iblk m c 4 t) (iblk m c 5 t)) y = wantW m c (((cfg0.win 9).blk t).view.emb y) := by
  idx_vars y
  refine (storedW (iblk m c 0 t) (iblk m c 1 t) (iblk m c 2 t) (iblk m c 3 t) (iblk m c 4 t) (iblk m c 5 t) y1 y2 y0).trans ?_
  have hN : cfg0.N = 49 := N_0
  have ht := t.isLt
  have hp : ((cfg0.win 9).blk t).view.emb (ix3 y0 y1 y2) = (ix3 (⟨t.val, by omega⟩ : Fin 49) y1 y2) := by
    blk_ext [idx t]
  show _ = wantW m c (((cfg0.win 9).blk t).view.emb (ix3 y0 y1 y2))
  rw [hp]
  refine Eq.trans ?_ (Cert.QkvReferenceIdeal.Entry.winRef_apply _ _ _ _).symm
  have key : ∀ n : Fin 1152, (∑ s : Fin 1024, k0_pay5 (iblk m c 0 t) (iblk m c 1 t) (iblk m c 2 t) (iblk m c 3 t) (iblk m c 4 t) (ix2 s n)) = ∑ x : Fin 32, ∑ y : Fin 32, Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) x y n) := by
    intro n
    refine (sum1024 _).trans ?_
    refine Finset.sum_congr rfl fun x _ => Finset.sum_congr rfl fun y _ => ?_
    refine (proj5 m c t (by omega) _ _).trans ?_
    have h0 := x.isLt
    have h1 := y.isLt
    refine congr5 _ _ _ _ _ _ _ _ _ _ rfl rfl ?_ ?_
    · show (x.val * 32 + y.val) / 32 = x.val
      omega
    · show (x.val * 32 + y.val) % 32 = y.val
      omega
  rw [key, key]

/-- The window means after the run. -/
theorem finalW (c : Dev nD) : (dats m 0 c).arrAt 9 (cfgs 0).N = wantW m c := by
  refine (dats m 0 c).arrAt_eq_of_covers 9 _ (by decide +kernel) fun t hf y => ?_
  blk_simp; rw [after0_9]; frame_out
  exact pointW m c t y

end Cert.QkvIdeal.Entry

end
-- ==== Proof.QkvClaim.lean ====
/- Hand-written: the projection kernel's claims. -/
module

public import proofs.«01_k».proof.Defs
public import proofs.«01_k».proof.Proof.QkvFinal
public import Idealize.ShloMosaic.Lib.Claim
public import Idealize.ShloMosaic.Lib.Quiescent

@[expose] public section

set_option maxRecDepth 16384

noncomputable section

namespace Cert.Proof

open Idealize.ShloMosaic Idealize.SL.Sem

/-- The reference's queries, from the arguments. -/
def ref_q (a0 : FVec Ideal Cert.QkvReferenceIdeal.S1x384x224x224 .f32) (a1 a2 : FVec Ideal Cert.QkvReferenceIdeal.S384 .f32) (a3 : FVec Ideal Cert.QkvReferenceIdeal.S384x1152 .f32) (a4 : FVec Ideal Cert.QkvReferenceIdeal.S1152 .f32) : FVec Ideal Cert.QkvReferenceIdeal.S49x1024x384 .bf16 :=
  Cert.QkvReferenceIdeal.Entry.qRef (Cert.QkvReferenceIdeal.Entry.QREF a0 a1 a2 a3 a4)

/-- The reference's value image, from the arguments. -/
def ref_v (a0 : FVec Ideal Cert.QkvReferenceIdeal.S1x384x224x224 .f32) (a1 a2 : FVec Ideal Cert.QkvReferenceIdeal.S384 .f32) (a3 : FVec Ideal Cert.QkvReferenceIdeal.S384x1152 .f32) (a4 : FVec Ideal Cert.QkvReferenceIdeal.S1152 .f32) : FVec Ideal Cert.QkvReferenceIdeal.S224x224x384 .bf16 :=
  Cert.QkvReferenceIdeal.Entry.vRef (Cert.QkvReferenceIdeal.Entry.QREF a0 a1 a2 a3 a4)

/-- The reference's pooled keys and values, from the arguments. -/
def ref_p (a0 : FVec Ideal Cert.QkvReferenceIdeal.S1x384x224x224 .f32) (a1 a2 : FVec Ideal Cert.QkvReferenceIdeal.S384 .f32) (a3 : FVec Ideal Cert.QkvReferenceIdeal.S384x1152 .f32) (a4 : FVec Ideal Cert.QkvReferenceIdeal.S1152 .f32) : FVec Ideal Cert.QkvReferenceIdeal.S49x16x768 .f32 :=
  Cert.QkvReferenceIdeal.Entry.kvpRef (Cert.QkvReferenceIdeal.Entry.QREF a0 a1 a2 a3 a4)

/-- The reference's window means, from the arguments. -/
def ref_w (a0 : FVec Ideal Cert.QkvReferenceIdeal.S1x384x224x224 .f32) (a1 a2 : FVec Ideal Cert.QkvReferenceIdeal.S384 .f32) (a3 : FVec Ideal Cert.QkvReferenceIdeal.S384x1152 .f32) (a4 : FVec Ideal Cert.QkvReferenceIdeal.S1152 .f32) : FVec Ideal Cert.QkvReferenceIdeal.S49x8x384 .f32 :=
  Cert.QkvReferenceIdeal.Entry.winRef (Cert.QkvReferenceIdeal.Entry.QREF a0 a1 a2 a3 a4)

/-- The plain reference's run, its four results named. -/
theorem run_QkvReferenceIdeal (m : (ℓ : Loc Cert.QkvReferenceIdeal.nD Cert.QkvReferenceIdeal.τ Cert.QkvReferenceIdeal.sig) → Buf (Elt Ideal) ℓ) (ρ : Dev Cert.QkvReferenceIdeal.nD → PrngReg) :
    θ_run (Cert.QkvReferenceIdeal.defs (F := Ideal)) (onTc (τ := Cert.QkvReferenceIdeal.τ) (Cert.QkvReferenceIdeal.main (F := Ideal))) ⟨m, fun _ => 0, ρ⟩ fun r => ∀ c : Dev Cert.QkvReferenceIdeal.nD,
      r.2.mem ((c.tc : Thread Cert.QkvReferenceIdeal.nD Cert.QkvReferenceIdeal.τ).loc Cert.QkvReferenceIdeal.main_v46) = ref_q (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))
      ∧ r.2.mem ((c.tc : Thread Cert.QkvReferenceIdeal.nD Cert.QkvReferenceIdeal.τ).loc Cert.QkvReferenceIdeal.main_v50) = ref_v (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))
      ∧ r.2.mem ((c.tc : Thread Cert.QkvReferenceIdeal.nD Cert.QkvReferenceIdeal.τ).loc Cert.QkvReferenceIdeal.main_v33) = ref_p (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))
      ∧ r.2.mem ((c.tc : Thread Cert.QkvReferenceIdeal.nD Cert.QkvReferenceIdeal.τ).loc Cert.QkvReferenceIdeal.main_v44) = ref_w (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))
      ∧ r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4) :=
  (θ_run Cert.QkvReferenceIdeal.defs _ _).mono (fun _ h c => ⟨(h c).1, (h c).2.1, (h c).2.2.1, (h c).2.2.2.1, (h c).2.2.2.2⟩) (Cert.QkvReferenceIdeal.Value.run (F := Ideal) m ρ)

/-- The kernel's queries. -/
theorem ker_q (m : (ℓ : Loc Cert.QkvIdeal.nD Cert.QkvIdeal.τ Cert.QkvIdeal.sig) → Buf (Elt Ideal) ℓ) (c : Dev Cert.QkvIdeal.nD) :
    (Cert.QkvIdeal.Gen.dats m 0 c).arrAt 6 (Cert.QkvIdeal.cfgs 0).N = ref_q (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) :=
  Cert.QkvIdeal.Entry.finalQ m c

/-- The kernel's value image. -/
theorem ker_v (m : (ℓ : Loc Cert.QkvIdeal.nD Cert.QkvIdeal.τ Cert.QkvIdeal.sig) → Buf (Elt Ideal) ℓ) (c : Dev Cert.QkvIdeal.nD) :
    (Cert.QkvIdeal.Gen.dats m 0 c).arrAt 7 (Cert.QkvIdeal.cfgs 0).N = ref_v (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) :=
  Cert.QkvIdeal.Entry.finalV m c

/-- The kernel's pooled keys and values. -/
theorem ker_p (m : (ℓ : Loc Cert.QkvIdeal.nD Cert.QkvIdeal.τ Cert.QkvIdeal.sig) → Buf (Elt Ideal) ℓ) (c : Dev Cert.QkvIdeal.nD) :
    (Cert.QkvIdeal.Gen.dats m 0 c).arrAt 8 (Cert.QkvIdeal.cfgs 0).N = ref_p (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) :=
  Cert.QkvIdeal.Entry.finalP m c

/-- The kernel's window means. -/
theorem ker_w (m : (ℓ : Loc Cert.QkvIdeal.nD Cert.QkvIdeal.τ Cert.QkvIdeal.sig) → Buf (Elt Ideal) ℓ) (c : Dev Cert.QkvIdeal.nD) :
    (Cert.QkvIdeal.Gen.dats m 0 c).arrAt 9 (Cert.QkvIdeal.cfgs 0).N = ref_w (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) :=
  Cert.QkvIdeal.Entry.finalW m c

/-- The kernel's run, its four results named. -/
theorem run_QkvIdeal (m : (ℓ : Loc Cert.QkvIdeal.nD Cert.QkvIdeal.τ Cert.QkvIdeal.sig) → Buf (Elt Ideal) ℓ) (ρ : Dev Cert.QkvIdeal.nD → PrngReg) :
    θ_run (Cert.QkvIdeal.defs (F := Ideal)) (onTc (τ := Cert.QkvIdeal.τ) (Cert.QkvIdeal.main (F := Ideal))) ⟨m, fun _ => 0, ρ⟩ fun r => ∀ c : Dev Cert.QkvIdeal.nD,
      r.2.mem ((c.tc : Thread Cert.QkvIdeal.nD Cert.QkvIdeal.τ).loc Cert.QkvIdeal.main_v22_0) = ref_q (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))
      ∧ r.2.mem ((c.tc : Thread Cert.QkvIdeal.nD Cert.QkvIdeal.τ).loc Cert.QkvIdeal.main_v22_1) = ref_v (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))
      ∧ r.2.mem ((c.tc : Thread Cert.QkvIdeal.nD Cert.QkvIdeal.τ).loc Cert.QkvIdeal.main_v22_2) = ref_p (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))
      ∧ r.2.mem ((c.tc : Thread Cert.QkvIdeal.nD Cert.QkvIdeal.τ).loc Cert.QkvIdeal.main_v22_3) = ref_w (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))
      ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4) :=
  (θ_run Cert.QkvIdeal.defs _ _).mono (fun _ h c => ⟨((h.2 c).1 6).trans (ker_q m c), ((h.2 c).1 7).trans (ker_v m c), ((h.2 c).1 8).trans (ker_p m c), ((h.2 c).1 9).trans (ker_w m c), h.1 c⟩)
    (θ_run_and (Cert.QkvIdeal.Gen.unchanged m ρ) (Cert.QkvIdeal.Gen.run_main m ρ))

/-- The projection kernel, idealized, computes its plain reference. -/
theorem algebraic_QkvIdeal_QkvReferenceIdeal : Cert.algebraic_QkvIdeal_QkvReferenceIdeal := by
  intro m g m' g' _ hagree
  refine ⟨fun c => ref_q (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)), fun c => ref_v (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)), fun c => ref_p (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)), fun c => ref_w (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)), run_QkvIdeal m g, (θ_run Cert.QkvReferenceIdeal.defs _ _).mono (fun r h c => ?_) (run_QkvReferenceIdeal m' g')⟩
  obtain ⟨a0, a1, a2, a3, a4⟩ := hagree c
  have hc := h c
  rw [a0, a1, a2, a3, a4] at hc
  rw [a0, a1, a2, a3, a4]
  exact hc

/-- The plain reference runs, keeps its arguments and has no semaphore. -/
theorem frame_QkvReferenceIdeal : Cert.quiescent_QkvReferenceIdeal := fun m ρ _ =>
  θ_run_and ((θ_run Cert.QkvReferenceIdeal.defs _ _).mono (fun _ h c => (h c).2.2.2.2) (Cert.QkvReferenceIdeal.Value.run (F := Ideal) m ρ))
    ((θ_run Cert.QkvReferenceIdeal.defs _ _).mono (fun r _ => Idealize.ShloMosaic.sem_eq_zero_of_no_sems (by decide) r.2)
      (Cert.QkvReferenceIdeal.Value.run (F := Ideal) m ρ))

end Cert.Proof

end
-- ==== Proof.RouteMath.lean ====
/- Hand-written: the four largest entries of a row by repeated maximum, and by a stable sort. -/
module

public import Idealize.ShloMosaic.Lib.Pipeline.ValueKit
public import Idealize.ShloMosaic.Lib.SortPrefix
public import Idealize.ShloMosaic.PureOps.Reduce

@[expose] public section

noncomputable section

open Idealize.ShloMosaic

namespace Cert.RouteMath

/-- Stable sorts by two orders that agree on every later entry against every earlier one. -/
theorem sort_congr {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Equal lists of places name the same sort. -/
theorem sorted_congr {n : Nat} (B B' : Fin n → Fin n → Bool) (e : sortPositions n B = sortPositions n B') (i : Fin n) : sortedFrom B i = sortedFrom B' i := by
  have key : ∀ (l l' : List (Fin n)) (h : l.length = n) (h' : l'.length = n), l = l' → l.get (i.cast h.symm) = l'.get (i.cast h'.symm) := by
    intro l l' h h' e
    subst e
    rfl
  exact key _ _ (length_sortPositions n B) (length_sortPositions n B') e

/-- Larger first. -/
def larger (f : Fin 49 → EReal) (a b : Fin 49) : Bool := decide (f b < f a)
/-- Larger first, and of equals the earlier. -/
def better (f : Fin 49 → EReal) (a b : Fin 49) : Bool := decide (f b < f a) || (decide (f a = f b) && decide (a < b))

/-- The stable sort breaks ties by place. -/
theorem sorted_eq (f : Fin 49 → EReal) (i : Fin 49) : sortedFrom (larger f) i = sortedFrom (better f) i := by
  have e : sortPositions 49 (larger f) = sortPositions 49 (better f) := by
    refine sort_congr _ _ _ ((List.pairwise_lt_finRange 49).imp fun {a b} hab => ?_)
    have : ¬ b < a := not_lt.mpr hab.le
    simp [larger, better, this]
  exact sorted_congr _ _ e i

/-- `better` is a strict total order. -/
theorem better_total (f : Fin 49 → EReal) : StrictTotalBefore (better f) := by
  have := StrictTotalBefore.of_key_then_position (n := 49) (fun a b : EReal => decide (b < a)) f (by simp)
    (fun a b c h h' => by simp only [decide_eq_true_eq] at h h' ⊢; exact h'.trans h)
    (fun a b => by simp only [decide_eq_true_eq]; rcases lt_trichotomy a b with h | h | h <;> tauto)
  refine ⟨fun a => ?_, fun a b c => ?_, fun a b => ?_⟩
  · have h := this.irrefl a; unfold better; convert h
  · have h := this.trans a b c; unfold better; convert h
  · have h := this.total a b; unfold better; convert h

/-- The place of a row's largest entry, the first of equals. -/
theorem exists_best (g : Fin 49 → EReal) : ∃ a, (∀ j, g j ≤ g a) ∧ ∀ j, g j = g a → a ≤ j := by
  obtain ⟨b, -, hb⟩ := Finset.exists_max_image Finset.univ g ⟨0, Finset.mem_univ _⟩
  have hne : (Finset.univ.filter fun j => g j = g b).Nonempty := ⟨b, by simp⟩
  obtain ⟨a, ha, hmin⟩ := Finset.exists_min_image _ id hne
  have ha' : g a = g b := (Finset.mem_filter.mp ha).2
  exact ⟨a, fun j => ha' ▸ hb j (Finset.mem_univ _), fun j hj => hmin j (Finset.mem_filter.mpr ⟨Finset.mem_univ _, hj.trans ha'⟩)⟩

/-- That place. -/
def best (g : Fin 49 → EReal) : Fin 49 := (exists_best g).choose

theorem best_ge (g : Fin 49 → EReal) (j : Fin 49) : g j ≤ g (best g) := (exists_best g).choose_spec.1 j
theorem best_first (g : Fin 49 → EReal) (j : Fin 49) (h : g j = g (best g)) : best g ≤ j := (exists_best g).choose_spec.2 j h

/-- The row after `k` rounds, each putting minus infinity in the place of the largest. -/
def rows (f : Fin 49 → EReal) : Nat → Fin 49 → EReal
  | 0 => f
  | k + 1 => fun j => if j = best (rows f k) then ⊥ else rows f k j

/-- The place that round `k` picks. -/
def pick (f : Fin 49 → EReal) (k : Nat) : Fin 49 := best (rows f k)

theorem rows_eq (f : Fin 49 → EReal) (k : Nat) (j : Fin 49) :
    ((∀ i < k, pick f i ≠ j) → rows f k j = f j) ∧ ((∃ i < k, pick f i = j) → rows f k j = ⊥) := by
  induction k with
  | zero => exact ⟨fun _ => rfl, fun ⟨i, hi, _⟩ => absurd hi (Nat.not_lt_zero i)⟩
  | succ k ih =>
    constructor
    · intro h
      show (if j = best (rows f k) then ⊥ else rows f k j) = f j
      rw [if_neg fun e => h k (Nat.lt_succ_self k) e.symm]
      exact ih.1 fun i hi => h i (hi.trans (Nat.lt_succ_self k))
    · rintro ⟨i, hi, hj⟩
      show (if j = best (rows f k) then ⊥ else rows f k j) = ⊥
      split
      · rfl
      · rename_i hne
        rcases Nat.lt_succ_iff_lt_or_eq.mp hi with h | h
        · exact ih.2 ⟨i, h, hj⟩
        · subst h; exact absurd hj.symm hne

/-- Some place is left. -/
theorem left (f : Fin 49 → EReal) (k : Nat) (hk : k < 49) : ∃ j, ∀ i < k, pick f i ≠ j := by
  by_contra h
  have h' : ∀ j, ∃ i, i < k ∧ pick f i = j := by
    intro j
    by_contra hj
    exact h ⟨j, fun i hi e => hj ⟨i, hi, e⟩⟩
  have hs : (Finset.univ : Finset (Fin 49)) ⊆ (Finset.range k).image (pick f) := by
    intro j _
    obtain ⟨i, hi, hj⟩ := h' j
    exact Finset.mem_image.mpr ⟨i, Finset.mem_range.mpr hi, hj⟩
  have := (Finset.card_le_card hs).trans Finset.card_image_le
  rw [Finset.card_univ, Fintype.card_fin, Finset.card_range] at this
  omega

variable (f : Fin 49 → EReal) (hf : ∀ j, f j ≠ ⊥)
include hf

/-- A round picks a place not picked before. -/
theorem pick_new (k : Nat) (hk : k < 49) : ∀ i < k, pick f i ≠ pick f k := by
  intro i hi e
  obtain ⟨j, hj⟩ := left f k hk
  have h1 : rows f k j = f j := (rows_eq f k j).1 hj
  have h2 : rows f k (pick f k) = ⊥ := (rows_eq f k _).2 ⟨i, hi, e⟩
  have h3 := best_ge (rows f k) j
  rw [h1] at h3
  exact hf j (le_bot_iff.mp (h3.trans h2.le))

/-- Of the places not picked before, none is better. -/
theorem pick_best (k : Nat) (hk : k < 49) (p : Fin 49) (hp : ∀ i < k, pick f i ≠ p) : better f p (pick f k) = false := by
  have h1 : rows f k p = f p := (rows_eq f k p).1 hp
  have h2 : rows f k (pick f k) = f (pick f k) := (rows_eq f k _).1 (pick_new f hf k hk)
  have h3 : rows f k p ≤ rows f k (pick f k) := best_ge (rows f k) p
  have h4 : rows f k p = rows f k (pick f k) → pick f k ≤ p := best_first (rows f k) p
  rw [h1, h2] at h3 h4
  unfold better
  rw [decide_eq_false (not_lt.mpr h3), Bool.false_or]
  by_cases e : f p = f (pick f k)
  · rw [decide_eq_false (not_lt.mpr (h4 e))]; simp
  · rw [decide_eq_false e]; rfl

/-- The sort's first four places are the rounds' picks. -/
theorem sorted_pick (i : Fin 4) : sortedFrom (larger f) (i.castLE (by omega)) = pick f i.val := by
  rw [sorted_eq]
  refine (better_total f).sortedFrom_eq_of_prefix (k := 4) (by omega) (fun i => pick f i.val) ?_ ?_ ?_ i
  · intro a b hab
    by_contra hne
    rcases lt_or_gt_of_ne (fun e => hne (Fin.ext e) : a.val ≠ b.val) with h | h
    · exact pick_new f hf b.val (by omega) a.val h hab
    · exact pick_new f hf a.val (by omega) b.val h hab.symm
  · intro a b hab
    exact pick_best f hf a.val (by omega) _ fun i hi e => pick_new f hf b.val (by omega) i (hi.trans hab) e
  · intro a p hp
    exact pick_best f hf a.val (by omega) p fun i hi e => hp ⟨i, by omega⟩ e

omit hf

/-- The smallest of words read signed: a lower bound that is one of them. -/
theorem least (s : Finset (Fin 49)) (z : BitVec 32) (v : Fin 49 → BitVec 32) :
    (s.fold IntOp.minsi z v).toInt ≤ z.toInt ∧ (∀ j ∈ s, (s.fold IntOp.minsi z v).toInt ≤ (v j).toInt)
      ∧ (s.fold IntOp.minsi z v = z ∨ ∃ j ∈ s, s.fold IntOp.minsi z v = v j) := by
  induction s using Finset.induction_on with
  | empty => exact ⟨le_refl _, by simp, .inl rfl⟩
  | insert a s ha ih =>
    rw [Finset.fold_insert ha]
    generalize s.fold IntOp.minsi z v = w at ih ⊢
    have key : IntOp.minsi (v a) w = if (v a).toInt < w.toInt then v a else w := by
      unfold IntOp.minsi
      simp only [BitVec.slt, decide_eq_true_eq]
    obtain ⟨h1, h2, h3⟩ := ih
    rw [key]
    split
    · rename_i h
      refine ⟨h.le.trans h1, ?_, .inr ⟨a, by simp, rfl⟩⟩
      intro j hj
      rcases Finset.mem_insert.mp hj with rfl | hj
      · exact le_refl _
      · exact h.le.trans (h2 j hj)
    · rename_i h
      refine ⟨h1, ?_, ?_⟩
      · intro j hj
        rcases Finset.mem_insert.mp hj with rfl | hj
        · exact not_lt.mp h
        · exact h2 j hj
      · rcases h3 with h3 | ⟨j, hj, e⟩
        · exact .inl h3
        · exact .inr ⟨j, Finset.mem_insert_of_mem hj, e⟩

/-- The number of a place, as a word read signed. -/
theorem place_toInt (j : Fin 49) : (BitVec.ofNat 32 j.val).toInt = j.val := by revert j; decide

/-- A place's word names it. -/
theorem place_inj (a b : Fin 49) : BitVec.ofNat 32 a.val = BitVec.ofNat 32 b.val ↔ a = b := by
  refine ⟨fun h => Fin.ext ?_, fun h => by rw [h]⟩
  have := congrArg BitVec.toInt h
  rw [place_toInt, place_toInt] at this
  exact_mod_cast this

/-- The largest entry, as the kernel folds it. -/
def top (g : Fin 49 → EReal) : EReal := Finset.univ.fold max ⊥ g

theorem top_eq (g : Fin 49 → EReal) : top g = g (best g) := by
  have h : ∀ c, top g ≤ c ↔ ⊥ ≤ c ∧ ∀ j ∈ Finset.univ, g j ≤ c := fun c => Finset.fold_max_le c
  refine le_antisymm ((h _).mpr ⟨bot_le, fun j _ => best_ge g j⟩) ((h (top g)).mp (le_refl _) |>.2 _ (Finset.mem_univ _))

/-- The word that a round computes: the least place whose entry is the largest. -/
def word (g : Fin 49 → EReal) : BitVec 32 :=
  Finset.univ.fold IntOp.minsi 2147483647#32 fun j => if g j = top g then BitVec.ofNat 32 j.val else 49#32

theorem word_eq (g : Fin 49 → EReal) : word g = BitVec.ofNat 32 (best g).val := by
  obtain ⟨h1, h2, h3⟩ := least Finset.univ 2147483647#32 fun j => if g j = top g then BitVec.ofNat 32 j.val else 49#32
  have hb := h2 (best g) (Finset.mem_univ _)
  beta_reduce at hb
  rw [if_pos (top_eq g).symm, place_toInt] at hb
  change (word g).toInt ≤ _ at hb
  have hlt := (best g).isLt
  rcases h3 with h3 | ⟨j, -, h3⟩
  · change word g = _ at h3
    rw [h3] at hb
    have : (2147483647#32 : BitVec 32).toInt = 2147483647 := by decide
    omega
  · change word g = _ at h3
    by_cases e : g j = top g
    · rw [if_pos e] at h3
      rw [h3, place_toInt] at hb
      have hj : best g ≤ j := best_first g j (e.trans (top_eq g))
      have : j = best g := le_antisymm (by exact_mod_cast hb) hj
      rw [h3, this]
    · rw [if_neg e] at h3
      rw [h3] at hb
      have : (49#32 : BitVec 32).toInt = 49 := by decide
      omega

/-- A round's next row, as the kernel computes it. -/
theorem next_eq (k : Nat) (j : Fin 49) (f : Fin 49 → EReal) :
    (if BitVec.ofNat 32 j.val = word (rows f k) then ⊥ else rows f k j) = rows f (k + 1) j := by
  rw [word_eq]
  show _ = if j = best (rows f k) then ⊥ else rows f k j
  simp only [place_inj]

end Cert.RouteMath

end
-- ==== Proof.RouteBody.lean ====
/- Hand-written: the window choice kernel's rounds, read at one entry. -/
module

public import proofs.«01_k».proof.Proof.Gen.RouteIdeal.Skeleton
public import proofs.«01_k».proof.Proof.RouteMath
public import Idealize.ShloMosaic.Lib.Pipeline.ValueKit

@[expose] public section

set_option maxRecDepth 16384

noncomputable section

open Idealize.ShloMosaic

namespace Cert.RouteIdeal.Entry

open Cert.RouteIdeal Cert.RouteIdeal.Gen Cert.RouteMath

theorem wBot : Ideal.ofBits .f32 0xFF800000#32 = ⊥ := by simp [Ideal.ofBits, Ideal.ieee]

theorem wTop (f : Fin 49 → EReal) : Finset.fold max (Ideal.ofBits .f32 0xFF800000#32) f Finset.univ = top f := by
  rw [wBot]
  rfl

/-- A row's largest entry. -/
theorem top_apply (X : FVec Ideal S49x49 .f32) (p : Fin 49) :
    multiReduction .maximumf [1] S49 X 0xFF800000#32 reduces_S49x49_S49 (.inl rfl) rfl (ix1 p) = top fun j => X (ix2 p j) := by
  pointwise
  exact wTop _

/-- The least of a row of words. -/
theorem min_apply (X : IVec S49x49 32) (p : Fin 49) :
    multiReductionI .minsi [1] S49 X 2147483647#32 reduces_S49x49_S49 rfl (ix1 p) = Finset.univ.fold IntOp.minsi 2147483647#32 fun j : Fin 49 => X (ix2 p j) := by
  pointwise

/-- One round's choice of every row. -/
def pickOf (X : FVec Ideal S49x49 .f32) : IVec S49 32 :=
  multiReductionI .minsi [1] S49 (select (cmpf .oeq X (broadcastTo S49x49 (shapeCast S49x1 (multiReduction .maximumf [1] S49 X 0xFF800000#32 reduces_S49x49_S49 (.inl rfl) rfl) shapeCasts_S49_S49x1) broadcasts_S49x1_S49x49))
    (iota .tc S49x49 32 [1] iota_S49x49_d1_w32) (broadcast S49x49 49#32)) 2147483647#32 reduces_S49x49_S49 rfl

/-- The rows after a round. -/
def nextOf (X : FVec Ideal S49x49 .f32) (w : IVec S49 32) : FVec Ideal S49x49 .f32 :=
  select (cmpi .eq (iota .tc S49x49 32 [1] iota_S49x49_d1_w32) (broadcastTo S49x49 (shapeCast S49x1 w shapeCasts_S49_S49x1) broadcasts_S49x1_S49x49))
    (broadcast S49x49 (Scalar.ofBits .f32 0xFF800000#32)) X

theorem sel_apply (X : FVec Ideal S49x49 .f32) (M : FVec Ideal S49 .f32) (p j : Fin 49) :
    select (cmpf .oeq X (broadcastTo S49x49 (shapeCast S49x1 M shapeCasts_S49_S49x1) broadcasts_S49x1_S49x49))
      (iota .tc S49x49 32 [1] iota_S49x49_d1_w32) (broadcast S49x49 49#32) (ix2 p j)
      = if X (ix2 p j) = M (ix1 p) then BitVec.ofNat 32 j.val else 49#32 := by
  pointwise

theorem next_apply (X : FVec Ideal S49x49 .f32) (w : IVec S49 32) (p j : Fin 49) :
    nextOf X w (ix2 p j) = if BitVec.ofNat 32 j.val = w (ix1 p) then ⊥ else X (ix2 p j) := by
  unfold nextOf
  pointwise
  rw [wBot]
  have key : ∀ (a b : BitVec 32) (x y : EReal), Scalar.select (IntOp.cmpi CmpIPredicate.eq a b) x y = if a = b then x else y := by
    intro a b x y
    by_cases h : a = b
    · simp [Scalar.select, IntOp.cmpi, h]
    · have h' : (a == b) = false := beq_eq_false_iff_ne.mpr h
      simp [Scalar.select, IntOp.cmpi, h, h']
  exact key _ _ _ _

theorem pick_apply (X : FVec Ideal S49x49 .f32) (p : Fin 49) : pickOf X (ix1 p) = word fun j => X (ix2 p j) := by
  unfold pickOf word
  rw [min_apply]
  refine congrArg (fun f => Finset.univ.fold IntOp.minsi 2147483647#32 f) ?_
  funext j
  rw [sel_apply, top_apply]

/-- The rows of logits. -/
theorem logit_apply (v0 : FVec Ideal S49x8x384 .f32) (p j : Fin 49) :
    k0_pay2 (F := Ideal) v0 (ix2 p j) = ∑ k : Fin 384, v0 (ix3 p 0 k) * Ideal.ofBits .f32 0x3D5105EC#32 * v0 (ix3 j 1 k) := by
  unfold k0_pay2
  pointwise

/-- A row of the kernel's logits. -/
abbrev lg (v0 : FVec Ideal S49x8x384 .f32) (p : Fin 49) : Fin 49 → EReal := fun j => k0_pay2 (F := Ideal) v0 (ix2 p j)

theorem four (w : Nat → BitVec 32) (i : Fin 8) :
    (if i.val = 0 then w 0 else if i.val = 1 then w 1 else if i.val = 2 then w 2 else if i.val = 3 then w 3 else 0#32) = if i.val < 4 then w i.val else 0#32 := by
  fin_cases i <;> rfl

/-- The kernel's row of results. -/
theorem body_apply (v0 : FVec Ideal S49x8x384 .f32) (p : Fin 49) (i : Fin 8) :
    k0_pay1 (F := Ideal) (iota .tc S49x49 32 [1] iota_S49x49_d1_w32) (k0_pay4 (F := Ideal) v0) (k0_pay7 (F := Ideal) v0) (k0_pay8 (F := Ideal) v0) (k0_pay9 (F := Ideal) v0) (k0_pay10 (F := Ideal) v0) (ix2 p i)
      = if i.val < 4 then BitVec.ofNat 32 (pick (lg v0 p) i.val).val else 0#32 := by
  have r0 : ∀ p j, (k0_pay2 (F := Ideal) v0 : FVec Ideal S49x49 .f32) (ix2 p j) = rows (lg v0 p) 0 j := fun p j => rfl
  have w0 : ∀ p, k0_pay3 (F := Ideal) v0 (ix1 p) = word (rows (lg v0 p) 0) := fun p => pick_apply (k0_pay2 (F := Ideal) v0) p
  have r1 : ∀ p j, k0_pay5 (F := Ideal) v0 (ix2 p j) = rows (lg v0 p) 1 j := fun p j => by
    refine (next_apply (k0_pay2 (F := Ideal) v0) (k0_pay3 (F := Ideal) v0) p j).trans ?_
    rw [w0 p]; exact next_eq 0 j _
  have w1 : ∀ p, k0_pay6 (F := Ideal) v0 (ix1 p) = word (rows (lg v0 p) 1) := fun p =>
    (pick_apply (k0_pay5 (F := Ideal) v0) p).trans (congrArg word (funext fun j => r1 p j))
  have r2 : ∀ p j, k0_pay8 (F := Ideal) v0 (ix2 p j) = rows (lg v0 p) 2 j := fun p j => by
    refine (next_apply (k0_pay5 (F := Ideal) v0) (k0_pay6 (F := Ideal) v0) p j).trans ?_
    rw [w1 p, r1 p j]; exact next_eq 1 j _
  have w2 : ∀ p, k0_pay9 (F := Ideal) v0 (ix1 p) = word (rows (lg v0 p) 2) := fun p =>
    (pick_apply (k0_pay8 (F := Ideal) v0) p).trans (congrArg word (funext fun j => r2 p j))
  have r3 : ∀ p j, nextOf (k0_pay8 (F := Ideal) v0) (k0_pay9 (F := Ideal) v0) (ix2 p j) = rows (lg v0 p) 3 j := fun p j => by
    refine (next_apply (k0_pay8 (F := Ideal) v0) (k0_pay9 (F := Ideal) v0) p j).trans ?_
    rw [w2 p, r2 p j]; exact next_eq 2 j _
  have w3 : ∀ p, pickOf (nextOf (k0_pay8 (F := Ideal) v0) (k0_pay9 (F := Ideal) v0)) (ix1 p) = word (rows (lg v0 p) 3) := fun p =>
    (pick_apply _ p).trans (congrArg word (funext fun j => r3 p j))
  have e : k0_pay1 (F := Ideal) (iota .tc S49x49 32 [1] iota_S49x49_d1_w32) (k0_pay4 (F := Ideal) v0) (k0_pay7 (F := Ideal) v0) (k0_pay8 (F := Ideal) v0) (k0_pay9 (F := Ideal) v0) (k0_pay10 (F := Ideal) v0)
      = concatenate S49x8 1 [⟨S49x1, shapeCast S49x1 (k0_pay3 (F := Ideal) v0) shapeCasts_S49_S49x1⟩, ⟨S49x1, shapeCast S49x1 (k0_pay6 (F := Ideal) v0) shapeCasts_S49_S49x1⟩, ⟨S49x1, shapeCast S49x1 (k0_pay9 (F := Ideal) v0) shapeCasts_S49_S49x1⟩,
          ⟨S49x1, shapeCast S49x1 (pickOf (nextOf (k0_pay8 (F := Ideal) v0) (k0_pay9 (F := Ideal) v0))) shapeCasts_S49_S49x1⟩, ⟨S49x4, broadcast S49x4 0#32⟩] concatenates_S49x1_S49x1_S49x1_S49x1_S49x4_S49x8_d1 := rfl
  rw [e]
  simp only [pick, ← word_eq]
  have c : ∀ (a b c d : IVec S49 32), concatenate S49x8 1 [⟨S49x1, shapeCast S49x1 a shapeCasts_S49_S49x1⟩, ⟨S49x1, shapeCast S49x1 b shapeCasts_S49_S49x1⟩, ⟨S49x1, shapeCast S49x1 c shapeCasts_S49_S49x1⟩,
          ⟨S49x1, shapeCast S49x1 d shapeCasts_S49_S49x1⟩, ⟨S49x4, broadcast S49x4 0#32⟩] concatenates_S49x1_S49x1_S49x1_S49x1_S49x4_S49x8_d1 (ix2 p i)
      = if i.val = 0 then a (ix1 p) else if i.val = 1 then b (ix1 p) else if i.val = 2 then c (ix1 p) else if i.val = 3 then d (ix1 p) else 0#32 := by
    intro a b c d
    pointwise
    clear e w3 r3 w2 r2 w1 r1 w0 r0
    fin_cases i <;> rfl
  rw [c, w0, w1, w2, w3]
  exact four (fun k => word (rows (lg v0 p) k)) i

end Cert.RouteIdeal.Entry

end
-- ==== Proof.RouteRef.lean ====
/- Hand-written: the plain window choice, read at one entry. -/
module

public import proofs.«01_k».proof.Proof.Gen.RouteReferenceIdeal.Run
public import proofs.«01_k».proof.Proof.RouteMath
public import Idealize.ShloMosaic.Lib.Pipeline.ValueKit

@[expose] public section

set_option maxRecDepth 16384

noncomputable section

open Idealize.ShloMosaic Idealize.ShloMosaic.TcCoe

namespace Cert.RouteReferenceIdeal.Entry

open Cert.RouteReferenceIdeal Cert.RouteReferenceIdeal.Gen Cert.RouteMath

/-- The logits of every pair of windows. -/
def LG (a0 : FVec Ideal S49x8x384 .f32) : FVec Ideal S49x49 .f32 :=
  Host.dotGeneral dot_S49x384_S384x49_S49x49_1_0_0_1_n_n none
    (mulf (shapeCast _ (extractStridedSlice S49x1x384 ![0, 0, 0] a0 slices_S49x8x384_S49x1x384_0_0_0) shapeCasts_S49x1x384_S49x384) (broadcastInDim S49x384 ![] bcast_S_S49x384 (constant S_ .f32 0x3D5105EC#32)))
    (transpose S384x49 [1, 0] (shapeCast _ (extractStridedSlice S49x1x384 ![0, 1, 0] a0 slices_S49x8x384_S49x1x384_0_1_0) shapeCasts_S49x1x384_S49x384) transposes_S49x384_S384x49_1_0)

theorem LG_apply (a0 : FVec Ideal S49x8x384 .f32) (p j : Fin 49) :
    LG a0 (ix2 p j) = ∑ k : Fin 384, a0 (ix3 p 0 k) * Ideal.ofBits .f32 0x3D5105EC#32 * a0 (ix3 j 1 k) := by
  unfold LG
  pointwise

/-- The places of each row's four largest entries. -/
def topOf (X : FVec Ideal S49x49 .f32) : IVec S49x4 32 :=
  (Host.topK S49x4 1 (FloatOps.cmpfTotal .gt) X sliceFits_S49x49_S49x4).2

/-- The sort's order along a row. -/
theorem order_eq (X : FVec Ideal S49x49 .f32) (p : Fin 49) (j : S49x49.Idx) (hj : (j 0) = p) :
    (fun k k' : Fin 49 => FloatOps.cmpfTotal (F := Ideal) (φ := .f32) .gt (X (Shape.Idx.along j (1 : Fin 2) k)) (X (Shape.Idx.along j (1 : Fin 2) k')) == 1#1)
      = larger fun k => X (ix2 p k) := by
  have hi : ∀ k : Fin 49, Shape.Idx.along j (1 : Fin 2) k = ix2 p k := by
    intro k
    funext a
    subst hj
    fin_cases a <;> rfl
  have hb : ∀ x y : EReal, (FloatOps.cmpfTotal (F := Ideal) (φ := .f32) .gt x y == 1#1) = decide (y < x) := by
    intro x y
    show (BitVec.ofBool (decide (y < x)) == 1#1) = _
    cases decide (y < x) <;> rfl
  funext k k'
  rw [hb, hi, hi]
  rfl

/-- The place the sort along an axis names at an index. -/
def placeAt {s : Shape} (d : Fin s.rank) {α : Type} (gt : α → α → BitVec 1) (x : s.Idx → α) (j : s.Idx) : Fin (s.size d) :=
  sortedFrom (fun k k' => gt (x (j.along d k)) (x (j.along d k')) == 1#1) (j d)

/-- The index a slice at the origin reads. -/
abbrev src {s t : Shape} (h : s.Slices (fun _ => 0) t) (y : t.Idx) : s.Idx := fun a => ⟨0 + (y (a.cast h.1.symm)).val, Nat.lt_of_lt_of_le (Nat.add_lt_add_left (y _).isLt _) (h.2 a)⟩

/-- The places of the largest entries along an axis, of any shape. -/
theorem topK_places {s t : Shape} (d : Nat) (hd : d < s.rank) {α : Type} (gt : α → α → BitVec 1) (x : s.Idx → α) (h : s.Slices (fun _ => 0) t) (y : t.Idx) :
    (Host.topK t d gt x h).2 y
      = BitVec.ofNat 32 (placeAt ⟨d, hd⟩ gt x (src h y)).val := by
  unfold Host.topK Host.sort2 placeAt
  simp only [dif_pos hd, extractStridedSlice, iotaInDim]
  congr 2
  exact Function.update_self _ _ _

theorem place_eq (X : FVec Ideal S49x49 .f32) (p : Fin 49) (q : Fin 49) :
    placeAt (s := S49x49) (⟨1, Nat.one_lt_two⟩ : Fin S49x49.rank) (FloatOps.cmpfTotal (F := Ideal) (φ := .f32) .gt) X (ix2 p q) = sortedFrom (larger fun k => X (ix2 p k)) q := by
  unfold placeAt
  rw [← order_eq X p (ix2 p q) rfl]
  rfl

theorem topOf_apply (X : FVec Ideal S49x49 .f32) (p : Fin 49) (i : Fin 4) :
    topOf X (ix2 p i) = BitVec.ofNat 32 (sortedFrom (larger fun k => X (ix2 p k)) (i.castLE (by omega))).val := by
  have e : src sliceFits_S49x49_S49x4 (ix2 p i) = ix2 p (i.castLE (by omega) : Fin 49) := by
    funext a
    refine Fin.ext ?_
    fin_cases a
    · exact Nat.zero_add _
    · exact Nat.zero_add _
  unfold topOf
  refine (topK_places (s := S49x49) 1 Nat.one_lt_two _ X sliceFits_S49x49_S49x4 (ix2 p i)).trans ?_
  rw [e]
  exact congrArg (fun z : Fin 49 => BitVec.ofNat 32 z.val) (place_eq X p _)

theorem picks (X : FVec Ideal S49x49 .f32) (p : Fin 49) (hX : ∀ k, X (ix2 p k) ≠ ⊥) (i : Fin 4) :
    topOf X (ix2 p i) = BitVec.ofNat 32 (pick (fun k => X (ix2 p k)) i.val).val := by
  rw [topOf_apply, sorted_pick _ hX i]

/-- The plain choice. -/
def CH (a0 : FVec Ideal S49x8x384 .f32) : IVec S49x8 32 :=
  concatenate S49x8 1 [⟨S49x4, topOf (LG a0)⟩, ⟨S49x4, (broadcastInDim S49x4 ![] bcast_S_S49x4 (constantI S_ 32 0#32))⟩] concatenates_S49x4_S49x4_S49x8_d1

theorem CH_apply (a0 : FVec Ideal S49x8x384 .f32) (p : Fin 49) (h : ∀ k, LG a0 (ix2 p k) ≠ ⊥) (i : Fin 8) :
    CH a0 (ix2 p i) = if i.val < 4 then BitVec.ofNat 32 (pick (fun k => LG a0 (ix2 p k)) i.val).val else 0#32 := by
  have c : ∀ T : IVec S49x4 32, concatenate S49x8 1 [⟨S49x4, T⟩, ⟨S49x4, (broadcastInDim S49x4 ![] bcast_S_S49x4 (constantI S_ 32 0#32))⟩] concatenates_S49x4_S49x4_S49x8_d1 (ix2 p i)
      = if h : i.val < 4 then T (ix2 p ⟨i.val, h⟩) else 0#32 := by
    intro T
    pointwise
  unfold CH
  rw [c]
  split
  · rename_i hi
    rw [picks _ p h]
  · rfl

end Cert.RouteReferenceIdeal.Entry

end
-- ==== Proof.RouteClaim.lean ====
/- Hand-written: the window choice kernel's claims. -/
module

public import proofs.«01_k».proof.Defs
public import proofs.«01_k».proof.Proof.Gen.RouteIdeal.Frame
public import proofs.«01_k».proof.Proof.Gen.Pre_means_finite
public import proofs.«01_k».proof.Proof.RouteBody
public import proofs.«01_k».proof.Proof.RouteRef
public import Idealize.ShloMosaic.Lib.Pipeline.Covers
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.RouteIdeal.Entry

open Cert.RouteIdeal Cert.RouteIdeal.Gen Cert.RouteMath

/-- A number that is not infinite. -/
def Fin' (x : EReal) : Prop := ∃ r : ℝ, x = (r : EReal)

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_sum {n : Nat} (f : Fin n → EReal) (h : ∀ k, Fin' (f k)) : Fin' (∑ k, f k) := by
  choose r hr using h
  refine ⟨∑ k, r k, ?_⟩
  rw [Finset.sum_congr rfl fun k _ => hr k]
  exact (map_sum (⟨⟨Real.toEReal, EReal.coe_zero⟩, EReal.coe_add⟩ : ℝ →+ EReal) r Finset.univ).symm

theorem fin_scale : Fin' (Ideal.ofBits .f32 0x3D5105EC#32) := by
  refine ⟨(Ideal.ofBits .f32 0x3D5105EC#32).toReal, (EReal.coe_toReal ?_ ?_).symm⟩ <;> simp [Ideal.ofBits, Ideal.ieee] <;> rw [← EReal.coe_mul]
  · exact EReal.coe_ne_top _
  · exact EReal.coe_ne_bot _

/-- The precondition at an entry. -/
theorem pre_apply (a0 : FVec Ideal S49x8x384 .f32) (p : Fin 49) (b : Fin 2) (k : Fin 384) :
    Cert.Pre_means_finite.fn (F := Ideal) a0 (ix3 p b k) = BitVec.ofBool (decide (FloatOps.absf (F := Ideal) (φ := .f32) (a0 (ix3 p ⟨b.val, by omega⟩ k)) < Ideal.ofBits .f32 0x7F800000#32)) := by
  unfold Cert.Pre_means_finite.fn
  pointwise

theorem fin_of_pre (a0 : FVec Ideal S49x8x384 .f32) (h : Cert.Pre_means_finite.fn (F := Ideal) a0 = fun _ => 1#1) (p : Fin 49) (b : Fin 2) (k : Fin 384) :
    Fin' (a0 (ix3 p ⟨b.val, by omega⟩ k)) := by
  have h' := (pre_apply a0 p b k).symm.trans (congrFun h _)
  generalize a0 (ix3 p ⟨b.val, by omega⟩ k) = x at h' ⊢
  have one : ∀ b : Bool, BitVec.ofBool b = 1#1 → b = true := by decide
  have lt : max x (-x) < Ideal.ofBits .f32 0x7F800000#32 := of_decide_eq_true (one _ h')
  have wTop : Ideal.ofBits .f32 0x7F800000#32 = ⊤ := by simp [Ideal.ofBits, Ideal.ieee]
  rw [wTop] at lt
  refine ⟨x.toReal, (EReal.coe_toReal ?_ ?_).symm⟩
  · rintro rfl
    simp at lt
  · rintro rfl
    simp at lt

/-- The logits of finite windows are finite. -/
theorem logits_ne (a0 : FVec Ideal S49x8x384 .f32) (h : Cert.Pre_means_finite.fn (F := Ideal) a0 = fun _ => 1#1) (p j : Fin 49) :
    Cert.RouteReferenceIdeal.Entry.LG a0 (ix2 p j) ≠ ⊥ := by
  rw [Cert.RouteReferenceIdeal.Entry.LG_apply]
  obtain ⟨r, hr⟩ := fin_sum (fun k => a0 (ix3 p 0 k) * Ideal.ofBits .f32 0x3D5105EC#32 * a0 (ix3 j 1 k)) fun k =>
    fin_mul (fin_mul (fin_of_pre a0 h p 0 k) fin_scale) (fin_of_pre a0 h j 1 k)
  rw [hr]
  exact EReal.coe_ne_bot r

variable (m : (ℓ : Loc nD τ sig) → Buf (Elt Ideal) ℓ)

/-- The choice from the launch's argument. -/
abbrev want (c : Dev nD) : IVec S49x8 32 := Cert.RouteReferenceIdeal.Entry.CH (m ((c.tc : Thread nD τ).loc main_arg0))

/-- The one block of windows is the whole argument. -/
theorem blk0 (c : Dev nD) (t : Fin cfg0.N) : (iblk m c 0 t : FVec Ideal S49x8x384 .f32) = (m ((c.tc : Thread nD τ).loc main_arg0) : FVec Ideal S49x8x384 .f32) := by
  have hx : cc0_transform_0 (grid0.coords t) = ![0, 0, 0] :=
    (by decide +kernel : ∀ t : Fin grid0.N, cc0_transform_0 (grid0.coords t) = ![0, 0, 0]) t
  funext y
  show (m ((c.tc : Thread nD τ).loc main_arg0) : FVec Ideal S49x8x384 .f32) (((cfg0.win 0).blk t).view.emb y) = _
  refine congrArg (m ((c.tc : Thread nD τ).loc main_arg0) : FVec Ideal S49x8x384 .f32) ?_
  funext a
  refine Fin.ext ?_
  fin_cases a
  · show cc0_transform_0 (grid0.coords t) 0 * 49 + 1 * (y 0).val = (y 0).val
    rw [hx]
    show 0 * 49 + 1 * (y 0).val = _
    omega
  · show cc0_transform_0 (grid0.coords t) 1 * 8 + 1 * (y 1).val = (y 1).val
    rw [hx]
    show 0 * 8 + 1 * (y 1).val = _
    omega
  · show cc0_transform_0 (grid0.coords t) 2 * 384 + 1 * (y 2).val = (y 2).val
    rw [hx]
    show 0 * 384 + 1 * (y 2).val = _
    omega

/-- The place in the table of an entry of the one block. -/
theorem place (t : Fin cfg0.N) (y : S49x8.Idx) : ((cfg0.win 1).blk t).view.emb y = y := by
  have hx : cc0_transform_1 (grid0.coords t) = ![0, 0] :=
    (by decide +kernel : ∀ t : Fin grid0.N, cc0_transform_1 (grid0.coords t) = ![0, 0]) t
  funext a
  refine Fin.ext ?_
  fin_cases a
  · show cc0_transform_1 (grid0.coords t) 0 * 49 + 1 * (y 0).val = (y 0).val
    rw [hx]
    show 0 * 49 + 1 * (y 0).val = _
    omega
  · show cc0_transform_1 (grid0.coords t) 1 * 8 + 1 * (y 1).val = (y 1).val
    rw [hx]
    show 0 * 8 + 1 * (y 1).val = _
    omega

/-- Every entry of the table is stored. -/
theorem covers : (cfg0.win 1).Covers := by
  refine Pipeline.Window.covers_of_index_surj _ rfl (by decide : ∀ a : Fin 2, 0 < S49x8.size a) fun β => ?_
  have n0 : (cfg0.win 1).nblk (0 : Fin 2) = 1 := by
    show (S49x8.size 0 + S49x8.size 0 - 1) / S49x8.size 0 = 1
    decide
  have n1 : (cfg0.win 1).nblk (1 : Fin 2) = 1 := by
    show (S49x8.size 1 + S49x8.size 1 - 1) / S49x8.size 1 = 1
    decide
  have h0 : (β (0 : Fin 2)).val < 1 := (β (0 : Fin 2)).isLt.trans_eq n0
  have h1 : (β (1 : Fin 2)).val < 1 := (β (1 : Fin 2)).isLt.trans_eq n1
  obtain ⟨t, ht⟩ : ∃ t : Fin grid0.N, cc0_transform_1 (grid0.coords t) = ![0, 0] := by decide +kernel
  have key : ∀ a : Fin 2, cc0_transform_1 (grid0.coords t) a = (β a).val := by
    intro a
    rw [ht]
    fin_cases a
    · show 0 = (β (0 : Fin 2)).val
      omega
    · show 0 = (β (1 : Fin 2)).val
      omega
  exact ⟨t, key⟩

/-- What the body leaves in its block. -/
def result (v0 : FVec Ideal S49x8x384 .f32) : IVec S49x8 32 :=
  k0_pay1 (F := Ideal) (iota .tc S49x49 32 [1] iota_S49x49_d1_w32) (k0_pay4 (F := Ideal) v0) (k0_pay7 (F := Ideal) v0) (k0_pay8 (F := Ideal) v0) (k0_pay9 (F := Ideal) v0) (k0_pay10 (F := Ideal) v0)

theorem result_apply (v0 : FVec Ideal S49x8x384 .f32) (h : Cert.Pre_means_finite.fn (F := Ideal) v0 = fun _ => 1#1) (y : S49x8.Idx) :
    result v0 y = Cert.RouteReferenceIdeal.Entry.CH v0 y := by
  idx_vars y
  refine (body_apply v0 y0 y1).trans ?_
  refine Eq.trans ?_ (Cert.RouteReferenceIdeal.Entry.CH_apply v0 y0 (logits_ne v0 h y0) y1).symm
  have e : lg v0 y0 = fun k => Cert.RouteReferenceIdeal.Entry.LG v0 (ix2 y0 k) := by
    funext k
    exact (logit_apply v0 y0 k).trans (Cert.RouteReferenceIdeal.Entry.LG_apply v0 y0 k).symm
  rw [e]

theorem left_eq (x0 : Vec Ideal S49x8x384 .f32) (y : S49x8.Idx) : out0_1 x0 y = result x0 y := by
  frame_out
  rfl

/-- The table after the run is the plain choice. -/
theorem final (h : Cert.Pre_means_finite.fn (F := Ideal) (m (((0 : Dev nD).tc : Thread nD τ).loc main_arg0)) = fun _ => 1#1) (c : Dev nD) : (dats m 0 c).arrAt 1 cfg0.N = want m c := by
  obtain rfl : c = 0 := Subsingleton.elim _ _
  refine (dats m 0 0).arrAt_eq_of_covers 1 _ covers fun t hf (y : S49x8.Idx) => ?_
  blk_simp; rw [after0_1]
  refine (left_eq (iblk m 0 0 t) y).trans ?_
  rw [blk0 m 0 t]
  exact (result_apply _ h y).trans (congrArg (want m 0) (place t y).symm)

end Cert.RouteIdeal.Entry

namespace Cert.Proof

/-- The plain window choice runs, keeps its argument and has no semaphore. -/
theorem frame_RouteReferenceIdeal : Cert.quiescent_RouteReferenceIdeal := fun m ρ _ =>
  θ_run_and ((θ_run Cert.RouteReferenceIdeal.defs _ _).mono (fun _ h c => (h c).2) (Cert.RouteReferenceIdeal.Value.run (F := Ideal) m ρ))
    ((θ_run Cert.RouteReferenceIdeal.defs _ _).mono (fun r _ => Idealize.ShloMosaic.sem_eq_zero_of_no_sems (by decide) r.2)
      (Cert.RouteReferenceIdeal.Value.run (F := Ideal) m ρ))

/-- The window choice kernel, idealized, names the windows of the four largest logits of every row. -/
theorem algebraic_RouteIdeal_RouteReferenceIdeal : Cert.algebraic_RouteIdeal_RouteReferenceIdeal := by
  intro m g m' g' hpre hagree
  refine ⟨fun c => Cert.RouteIdeal.Entry.want m c,
    (θ_run Cert.RouteIdeal.defs _ _).mono (fun r h c => ⟨((h.2 c).1 1).trans (Cert.RouteIdeal.Entry.final m (hpre 0) c), h.1 c⟩)
      (θ_run_and (Cert.RouteIdeal.Gen.unchanged m g) (Cert.RouteIdeal.Gen.run_main m g)),
    (θ_run Cert.RouteReferenceIdeal.defs _ _).mono (fun r h c => ⟨(h c).1.trans ?_, (h c).2⟩) (Cert.RouteReferenceIdeal.Value.run (F := Ideal) m' g')⟩
  obtain h0 := hagree c
  rw [h0]
  rfl

end Cert.Proof

end
-- ==== Proof.AttnMath.lean ====
/- Hand-written: attention of one row over sixty-four keys, as a formula. -/
module

public import Idealize.ShloMosaic.Lib.Pipeline.ValueKit
public import Idealize.ShloMosaic.Lib.Pointwise

@[expose] public section

noncomputable section

open Idealize.ShloMosaic

namespace Cert.AttnMath

/-- The word of minus infinity. -/
theorem wBot : Ideal.ofBits .f32 0xFF800000#32 = ⊥ := by simp [Ideal.ofBits, Ideal.ieee]

/-- The channel `e` of head `h`. -/
abbrev hd (h : Fin 8) (e : Fin 48) : Fin 384 := ⟨48 * h.val + e.val, by omega⟩
/-- The place of key `k` in head `h`'s part of a row of 512. -/
abbrev hk (h : Fin 8) (k : Fin 64) : Fin 512 := ⟨64 * h.val + k.val, by omega⟩

/-- A sum over the channels, head by head. -/
theorem sum_hd (f : Fin 384 → EReal) : ∑ i, f i = ∑ h : Fin 8, ∑ e : Fin 48, f (hd h e) := by
  rw [← (finProdFinEquiv (m := 8) (n := 48)).sum_comp f, Fintype.sum_prod_type]
  refine Finset.sum_congr rfl fun h _ => Finset.sum_congr rfl fun e _ => congrArg f (Fin.ext ?_)
  show e.val + 48 * h.val = 48 * h.val + e.val
  omega

/-- A sum over the row of 512, head by head. -/
theorem sum_hk (f : Fin 512 → EReal) : ∑ i, f i = ∑ h : Fin 8, ∑ k : Fin 64, f (hk h k) := by
  rw [← (finProdFinEquiv (m := 8) (n := 64)).sum_comp f, Fintype.sum_prod_type]
  refine Finset.sum_congr rfl fun h _ => Finset.sum_congr rfl fun e _ => congrArg f (Fin.ext ?_)
  show e.val + 64 * h.val = 64 * h.val + e.val
  omega

/-- A contraction over the channels with a matrix that is zero off one head is that head's contraction. -/
theorem sum_one_head (h : Fin 8) (q g : Fin 384 → EReal) (z : ∀ h' e, h' ≠ h → g (hd h' e) = 0) :
    ∑ i, q i * g i = ∑ e : Fin 48, q (hd h e) * g (hd h e) := by
  rw [sum_hd]
  refine Finset.sum_eq_single_of_mem h (Finset.mem_univ _) fun h' _ hh => ?_
  exact Finset.sum_eq_zero fun e _ => by rw [z h' e hh, mul_zero]

/-- The same over the row of 512. -/
theorem sum_one_block (h : Fin 8) (q g : Fin 512 → EReal) (z : ∀ h' e, h' ≠ h → g (hk h' e) = 0) :
    ∑ i, q i * g i = ∑ e : Fin 64, q (hk h e) * g (hk h e) := by
  rw [sum_hk]
  refine Finset.sum_eq_single_of_mem h (Finset.mem_univ _) fun h' _ hh => ?_
  exact Finset.sum_eq_zero fun e _ => by rw [z h' e hh, mul_zero]

/-- The largest of sixty-four numbers. -/
def top (l : Fin 64 → EReal) : EReal := Finset.univ.fold max (Ideal.ofBits .f32 0xFF800000#32) l

/-- The softmax weight of key `k`. -/
def weight (l : Fin 64 → EReal) (k : Fin 64) : EReal := Ideal.div (Ideal.exp (l k - top l)) (∑ k', Ideal.exp (l k' - top l))

/-- The attention logits of one row in one head. -/
def logit (q : Fin 384 → EReal) (K : Fin 64 → Fin 384 → EReal) (h : Fin 8) (k : Fin 64) : EReal :=
  ∑ e : Fin 48, (q (hd h e) * Ideal.ofBits .f32 0x3D5105EC#32) * K k (hd h e)

/-- The attention of one row, channel `e` of head `h`. -/
def attnRow (q : Fin 384 → EReal) (K V : Fin 64 → Fin 384 → EReal) (h : Fin 8) (e : Fin 48) : EReal :=
  ∑ k : Fin 64, weight (logit q K h) k * V k (hd h e)

end Cert.AttnMath

end
-- ==== Proof.AttnRef.lean ====
/- Hand-written: the plain attention over the chosen windows, read at one entry. -/
module

public import proofs.«01_k».proof.Proof.Gen.AttnReferenceIdeal.Run
public import proofs.«01_k».proof.Proof.AttnMath

@[expose] public section

set_option maxRecDepth 16384

noncomputable section

open Idealize.ShloMosaic Idealize.ShloMosaic.TcCoe Idealize.SL.Sem

namespace Cert.AttnReferenceIdeal.Entry

open Cert.AttnReferenceIdeal Cert.AttnReferenceIdeal.Gen Cert.AttnMath

/-- The chosen windows' keys and values. -/
def gat (a1 : FVec Ideal S49x16x768 .f32) (a2 : IVec S49x4 32) : FVec Ideal S49x4x16x768 .f32 :=
  Host.gather gather_S49x16x768_S49x4x1_S49x4x16x768_23_0_n_n_0_2_116768 a1 (broadcastInDim S49x4x1 ![0, 1] bcast_S49x4_S49x4x1_0_1 (select (cmpi .slt a2 (broadcastInDim S49x4 ![] bcast_S_S49x4 (constantI S_ 32 0#32))) (addi a2 (broadcastInDim S49x4 ![] bcast_S_S49x4 (constantI S_ 32 49#32))) a2))

/-- The logits. -/
def lg (a0 : FVec Ideal S49x1024x384 .bf16) (a1 : FVec Ideal S49x16x768 .f32) (a2 : IVec S49x4 32) : FVec Ideal S49x8x1024x64 .f32 :=
  Host.dotGeneral dot_S49x8x1024x48_S49x8x48x64_S49x8x1024x64_3_2_2_3_01_01 none (mulf (transpose S49x8x1024x48 [0, 2, 1, 3] (shapeCast _ (extf .f32 a0 bitsLt_bf16_f32) shapeCasts_S49x1024x384_S49x1024x8x48) transposes_S49x1024x8x48_S49x8x1024x48_0_2_1_3) (broadcastInDim S49x8x1024x48 ![] bcast_S_S49x8x1024x48 (constant S_ .f32 0x3D5105EC#32))) (transpose S49x8x48x64 [0, 2, 3, 1] (shapeCast _ (extractStridedSlice S49x4x16x384 ![0, 0, 0, 0] (gat a1 a2) slices_S49x4x16x768_S49x4x16x384_0_0_0_0) shapeCasts_S49x4x16x384_S49x64x8x48) transposes_S49x64x8x48_S49x8x48x64_0_2_3_1)

/-- Each row's largest logit. -/
def mx (L : FVec Ideal S49x8x1024x64 .f32) : FVec Ideal S49x8x1024 .f32 :=
  Host.reduce FloatOps.maximumf L (constant S_ .f32 0xFF800000#32) reducesTo_S49x8x1024x64_S49x8x1024_d3 h_S_

/-- The exponentials of the logits, less their largest. -/
def ex (L : FVec Ideal S49x8x1024x64 .f32) : FVec Ideal S49x8x1024x64 .f32 :=
  Host.exp (subf L (broadcastInDim S49x8x1024x64 ![0, 1, 2, 3] bcast_S49x8x1024x1_S49x8x1024x64_0_1_2_3 (broadcastInDim S49x8x1024x1 ![0, 1, 2] bcast_S49x8x1024_S49x8x1024x1_0_1_2 (maximumf (broadcastInDim S49x8x1024 ![] bcast_S_S49x8x1024 (constant S_ .f32 0xFF800000#32)) (mx L)))))

/-- The weights. -/
def wt (E : FVec Ideal S49x8x1024x64 .f32) : FVec Ideal S49x8x1024x64 .f32 :=
  Host.divf E (broadcastInDim S49x8x1024x64 ![0, 1, 2, 3] bcast_S49x8x1024x1_S49x8x1024x64_0_1_2_3 (broadcastInDim S49x8x1024x1 ![0, 1, 2] bcast_S49x8x1024_S49x8x1024x1_0_1_2 (Host.reduceAdd E (constant S_ .f32 0x00000000#32) reducesTo_S49x8x1024x64_S49x8x1024_d3 h_S_)))

/-- The image of the weights and the values. -/
def outOf (W : FVec Ideal S49x8x1024x64 .f32) (G : FVec Ideal S49x4x16x768 .f32) : FVec Ideal S224x224x384 .bf16 :=
  truncf .bf16 (shapeCast _ (transpose S7x32x7x32x384 [0, 2, 1, 3, 4] (shapeCast _ (transpose S49x1024x8x48 [0, 2, 1, 3] (Host.dotGeneral dot_S49x8x1024x64_S49x8x64x48_S49x8x1024x48_3_2_2_3_01_01 none W (transpose S49x8x64x48 [0, 2, 1, 3] (shapeCast _ (extractStridedSlice S49x4x16x384 ![0, 0, 0, 384] G slices_S49x4x16x768_S49x4x16x384_0_0_0_384) shapeCasts_S49x4x16x384_S49x64x8x48) transposes_S49x64x8x48_S49x8x64x48_0_2_1_3)) transposes_S49x8x1024x48_S49x1024x8x48_0_2_1_3) shapeCasts_S49x1024x8x48_S7x7x32x32x384) transposes_S7x7x32x32x384_S7x32x7x32x384_0_2_1_3_4) shapeCasts_S7x32x7x32x384_S224x224x384) bitsLt_bf16_f32

/-- The attention's image. -/
def ATT (a0 : FVec Ideal S49x1024x384 .bf16) (a1 : FVec Ideal S49x16x768 .f32) (a2 : IVec S49x4 32) : FVec Ideal S224x224x384 .bf16 :=
  outOf (wt (ex (lg a0 a1 a2))) (gat a1 a2)

theorem res_eq (m : (ℓ : Loc nD τ sig) → Buf (Elt Ideal) ℓ) (c : Dev nD) :
    Value.res_out0 m c = ATT (m ((c.tc : Thread nD τ).loc main_arg0)) (m ((c.tc : Thread nD τ).loc main_arg1)) (m ((c.tc : Thread nD τ).loc main_arg2)) := rfl

/-- Every table word names one of the 49 windows. -/
def InRange (a2 : IVec S49x4 32) : Prop := ∀ p i, 0 ≤ (a2 (ix2 p i)).toInt ∧ (a2 (ix2 p i)).toInt < 49

/-- The window a table word names. -/
def widx (a2 : IVec S49x4 32) (h : InRange a2) (p : Fin 49) (i : Fin 4) : Fin 49 := ⟨(a2 (ix2 p i)).toInt.toNat, by have := h p i; omega⟩

theorem gat_apply (a1 : FVec Ideal S49x16x768 .f32) (a2 : IVec S49x4 32) (h : InRange a2) (p : Fin 49) (i : Fin 4) (s : Fin 16) (d : Fin 768) :
    gat a1 a2 (ix4 p i s d) = a1 (ix3 (widx a2 h p i) s d) := by
  have hs : ∀ j : IVec S49x4x1 32, j (ix3 p i 0) = a2 (ix2 p i) → GatherDims.operandIdx gather_S49x16x768_S49x4x1_S49x4x16x768_23_0_n_n_0_2_116768 (ix4 p i s d) j = ix3 (widx a2 h p i) s d := by
    intro j hj
    have hsi : GatherDims.siIdx gather_S49x16x768_S49x4x1_S49x4x16x768_23_0_n_n_0_2_116768 (ix4 p i s d) ⟨0, by decide⟩ = ix3 p i 0 := by
      funext a
      fin_cases a <;> rfl
    funext a
    refine Fin.ext ?_
    fin_cases a
    · have : GatherDims.start gather_S49x16x768_S49x4x1_S49x4x16x768_23_0_n_n_0_2_116768 (ix4 p i s d) j 0 = min (j (GatherDims.siIdx gather_S49x16x768_S49x4x1_S49x4x16x768_23_0_n_n_0_2_116768 (ix4 p i s d) ⟨0, by decide⟩)).toInt.toNat 48 := rfl
      show GatherDims.start gather_S49x16x768_S49x4x1_S49x4x16x768_23_0_n_n_0_2_116768 (ix4 p i s d) j 0 + 0 + 0 = (a2 (ix2 p i)).toInt.toNat
      rw [this, hsi, hj]
      have := h p i
      omega
    · show 0 + 0 + s.val = s.val
      omega
    · show 0 + 0 + d.val = d.val
      omega
  unfold gat
  show a1 (GatherDims.operandIdx _ _ _) = _
  rw [hs]
  have hn : IntOp.cmpi .slt (a2 (ix2 p i)) 0#32 = 0#1 := by
    have := (h p i).1
    show BitVec.ofBool _ = _
    rw [show (0#1 : BitVec 1) = BitVec.ofBool false from rfl]
    congr 1
    simp only [BitVec.slt, decide_eq_false_iff_not]
    simpa using this
  pointwise
  rw [hn]
  rfl

theorem lg_apply (a0 : FVec Ideal S49x1024x384 .bf16) (a1 : FVec Ideal S49x16x768 .f32) (a2 : IVec S49x4 32) (h : InRange a2)
    (p : Fin 49) (g : Fin 8) (r : Fin 1024) (k : Fin 64) :
    lg a0 a1 a2 (ix4 p g r k) = logit (fun d => a0 (ix3 p r d)) (fun k d => a1 (ix3 (widx a2 h p ⟨k.val / 16, by omega⟩) (⟨k.val % 16, by omega⟩ : Fin 16) (⟨d.val, by omega⟩ : Fin 768))) g k := by
  unfold lg logit
  have e : ∀ (g : Fin 8) (x : Fin 48), (⟨g.val * 48 + x.val, by omega⟩ : Fin 768) = ⟨(hd g x).val, by omega⟩ := fun g x => Fin.ext (by simp only [hd]; omega)
  have e' : ∀ (g : Fin 8) (x : Fin 48), (⟨g.val * 48 + x.val, by omega⟩ : Fin 384) = hd g x := fun g x => Fin.ext (by simp only [hd]; omega)
  generalize hG : gat a1 a2 = G
  pointwise
  subst hG
  refine Finset.sum_congr rfl fun x _ => ?_
  rw [gat_apply a1 a2 h]
  refine congr (congrArg _ (congrArg (· * _) ?_)) ?_
  · exact congrArg (fun z => a0 (ix3 p r z)) (e' g x)
  · exact congrArg (fun z => a1 (ix3 _ _ z)) (e g x)

theorem red_one (L : FVec Ideal S49x8x1024x64 .f32) (i : FVec Ideal S_ .f32) (j : S49x8x1024.Idx) (hr : Shape.Reduces S49x8x1024x64 [3] S49x8x1024) :
    Host.reduce FloatOps.maximumf L i reducesTo_S49x8x1024x64_S49x8x1024_d3 h_S_ j = Finset.fold (FloatOps.maximumf (F := Ideal) (φ := .f32)) (i (Shape.Idx.first h_S_)) (fun k : Fin 64 => L (hr.lift j k)) (Finset.univ : Finset (Fin 64)) :=
  Host.reduce_eq_fold_single FloatOps.maximumf L i reducesTo_S49x8x1024x64_S49x8x1024_d3 hr h_S_ j

theorem red_two (hr : Shape.Reduces S49x8x1024x64 [3] S49x8x1024) (p : Fin 49) (g : Fin 8) (r : Fin 1024) (k : Fin 64) :
    hr.lift (ix3 p g r) k = ix4 p g r k := by
  funext a
  refine Fin.ext ?_
  fin_cases a <;> rfl

theorem red_three : (constant (F := Ideal) S_ .f32 0xFF800000#32) (Shape.Idx.first h_S_) = Ideal.ofBits .f32 0xFF800000#32 := rfl

theorem red_four (b : EReal) (f : Fin 64 → EReal) :
    Finset.fold (FloatOps.maximumf (F := Ideal) (φ := .f32)) b f (Finset.univ : Finset (Fin 64)) = Finset.fold max b f (Finset.univ : Finset (Fin 64)) := rfl

theorem mx_apply (L : FVec Ideal S49x8x1024x64 .f32) (p : Fin 49) (g : Fin 8) (r : Fin 1024) :
    mx L (ix3 p g r) = top fun k => L (ix4 p g r k) := by
  have hr : Shape.Reduces S49x8x1024x64 [3] S49x8x1024 := by decide
  unfold mx
  rw [red_one L _ _ hr, red_three, red_four]
  unfold top
  refine congrArg (fun f => Finset.fold max (Ideal.ofBits .f32 0xFF800000#32) f (Finset.univ : Finset (Fin 64))) ?_
  funext k
  exact congrArg L (red_two hr p g r k)

theorem mxb_apply (w : BitVec 32) (M : FVec Ideal S49x8x1024 .f32) (j : S49x8x1024.Idx) :
    maximumf (broadcastInDim S49x8x1024 ![] bcast_S_S49x8x1024 (constant S_ .f32 w)) M j = max (Ideal.ofBits .f32 w) (M j) := rfl

theorem exb_apply (L : FVec Ideal S49x8x1024x64 .f32) (M : FVec Ideal S49x8x1024 .f32) (p : Fin 49) (g : Fin 8) (r : Fin 1024) (k : Fin 64) :
    Host.exp (subf L (broadcastInDim S49x8x1024x64 ![0, 1, 2, 3] bcast_S49x8x1024x1_S49x8x1024x64_0_1_2_3 (broadcastInDim S49x8x1024x1 ![0, 1, 2] bcast_S49x8x1024_S49x8x1024x1_0_1_2 M))) (ix4 p g r k)
      = Ideal.exp (L (ix4 p g r k) - M (ix3 p g r)) := by
  pointwise

theorem ex_apply (L : FVec Ideal S49x8x1024x64 .f32) (p : Fin 49) (g : Fin 8) (r : Fin 1024) (k : Fin 64) :
    ex L (ix4 p g r k) = Ideal.exp (L (ix4 p g r k) - top fun k => L (ix4 p g r k)) := by
  unfold ex
  rw [exb_apply, mxb_apply, mx_apply, wBot, max_eq_right bot_le]

theorem wt_apply (L : FVec Ideal S49x8x1024x64 .f32) (p : Fin 49) (g : Fin 8) (r : Fin 1024) (k : Fin 64) :
    wt L (ix4 p g r k) = Ideal.div (L (ix4 p g r k)) (∑ k, L (ix4 p g r k)) := by
  unfold wt
  pointwise

theorem outOf_apply (W : FVec Ideal S49x8x1024x64 .f32) (G : FVec Ideal S49x4x16x768 .f32) (y x : Fin 224) (g : Fin 8) (e : Fin 48) :
    outOf W G (ix3 y x (hd g e)) = ∑ k : Fin 64, W (ix4 (⟨y.val / 32 * 7 + x.val / 32, by omega⟩ : Fin 49) g (⟨y.val % 32 * 32 + x.val % 32, by omega⟩ : Fin 1024) k)
      * G (ix4 (⟨y.val / 32 * 7 + x.val / 32, by omega⟩ : Fin 49) (⟨k.val / 16, by omega⟩ : Fin 4) (⟨k.val % 16, by omega⟩ : Fin 16) (⟨384 + (hd g e).val, by omega⟩ : Fin 768)) := by
  have e' : (⟨384 + (g.val * 48 + e.val), by omega⟩ : Fin 768) = ⟨384 + (hd g e).val, by omega⟩ := Fin.ext (by simp only [hd]; omega)
  unfold outOf
  pointwise
  exact Finset.sum_congr rfl fun k _ => congrArg (fun z => W _ * G (ix4 _ _ _ z)) e'

theorem ATT_apply (a0 : FVec Ideal S49x1024x384 .bf16) (a1 : FVec Ideal S49x16x768 .f32) (a2 : IVec S49x4 32) (h : InRange a2)
    (y x : Fin 224) (g : Fin 8) (e : Fin 48) :
    ATT a0 a1 a2 (ix3 y x (hd g e)) = attnRow (fun d => a0 (ix3 (⟨y.val / 32 * 7 + x.val / 32, by omega⟩ : Fin 49) (⟨y.val % 32 * 32 + x.val % 32, by omega⟩ : Fin 1024) d))
      (fun k d => a1 (ix3 (widx a2 h ⟨y.val / 32 * 7 + x.val / 32, by omega⟩ ⟨k.val / 16, by omega⟩) (⟨k.val % 16, by omega⟩ : Fin 16) (⟨d.val, by omega⟩ : Fin 768)))
      (fun k d => a1 (ix3 (widx a2 h ⟨y.val / 32 * 7 + x.val / 32, by omega⟩ ⟨k.val / 16, by omega⟩) (⟨k.val % 16, by omega⟩ : Fin 16) (⟨384 + d.val, by omega⟩ : Fin 768))) g e := by
  unfold ATT
  refine (outOf_apply _ _ y x g e).trans ?_
  unfold attnRow weight
  refine Finset.sum_congr rfl fun k _ => ?_
  rw [gat_apply a1 a2 h, wt_apply]
  simp only [ex_apply, lg_apply a0 a1 a2 h]

end Cert.AttnReferenceIdeal.Entry

end
-- ==== Proof.AttnOk.lean ====
/- Hand-written: the word-level attention kernel's block indices stay inside its arrays when every chosen window exists. -/
module

public import proofs.«01_k».proof.Defs
public import proofs.«01_k».proof.Proof.Gen.Attn.Frame
public import proofs.«01_k».proof.Proof.AttnRef

@[expose] public section

set_option maxRecDepth 16384

noncomputable section

open Idealize.ShloMosaic Idealize.ShloMosaic.TcCoe Idealize.SL.Sem

namespace Cert.Attn.Entry

open Cert.Attn Cert.Attn.Gen

variable (m : (ℓ : Loc nD τ sig) → Buf (Elt Bits) ℓ)

/-- The chosen windows. -/
abbrev tab : IVec S49x4 32 := m ((((0 : Dev nD).tc : Thread nD τ)).loc main_arg2)

/-- Every chosen window exists. -/
abbrev Good : Prop := Cert.AttnReferenceIdeal.Entry.InRange (tab m)

/-- A grid point's only coordinate is its number. -/
theorem coord : ∀ t : Fin grid0.N, (grid0.coords t 0).val = t.val := by decide +kernel

/-- The block index of the keys' and values' window 0. -/
theorem tr1 (i : grid0.Coords) (p : Fin 49) (h : (i 0).val = p.val) :
    cc0_transform_1 k0_off1_inb numel1_S1x1 (tbl m) i = ![(tab m (ix2 p 0)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 0 + 1 * 0 = 0
    rfl

/-- The block index of the keys' and values' window 1. -/
theorem tr2 (i : grid0.Coords) (p : Fin 49) (h : (i 0).val = p.val) :
    cc0_transform_2 k0_off2_inb numel1_S1x1 (tbl m) i = ![(tab m (ix2 p 1)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 1 + 1 * 0 = 1
    rfl

/-- The block index of the keys' and values' window 2. -/
theorem tr3 (i : grid0.Coords) (p : Fin 49) (h : (i 0).val = p.val) :
    cc0_transform_3 k0_off3_inb numel1_S1x1 (tbl m) i = ![(tab m (ix2 p 2)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 2 + 1 * 0 = 2
    rfl

/-- The block index of the keys' and values' window 3. -/
theorem tr4 (i : grid0.Coords) (p : Fin 49) (h : (i 0).val = p.val) :
    cc0_transform_4 k0_off4_inb numel1_S1x1 (tbl m) i = ![(tab m (ix2 p 3)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 3 + 1 * 0 = 3
    rfl

/-- A word of the table names one of the 49 windows. -/
theorem word_lt (h : Good m) (p : Fin 49) (k : Fin 4) : (tab m (ix2 p k)).toNat < 49 ∧ (tab m (ix2 p k)).toInt.toNat = (tab m (ix2 p k)).toNat := by
  have := h p k
  generalize tab m (ix2 p k) = w at this ⊢
  rw [BitVec.toInt_eq_toNat_cond] at this ⊢
  split at this <;> split <;> omega

/-- The windows the table names lie in the array. -/
theorem ok (h : Good m) : Gen.Ok m := by
  have e : ∀ (w : Nat), w < 49 → ∀ a : Fin 3, ((![w, 0, 0] : Fin 3 → Nat) a + 1) * S1x16x768.size a ≤ S49x16x768.size a := by
    intro w hw a
    fin_cases a
    · show (w + 1) * 1 ≤ 49
      omega
    · show (0 + 1) * 16 ≤ 16
      omega
    · show (0 + 1) * 768 ≤ 768
      omega
  have hi : ∀ i : grid0.Coords, (i 0).val < 49 := fun i => (i 0).isLt
  refine ⟨fun i => ⟨fun a => ?_, .inl rfl⟩, fun i => ⟨fun a => ?_, .inl rfl⟩, fun i => ⟨fun a => ?_, .inl rfl⟩, fun i => ⟨fun a => ?_, .inl rfl⟩⟩
  · rw [tr1 m i ⟨(i 0).val, hi i⟩ rfl]
    exact e _ (word_lt m h _ _).1 a
  · rw [tr2 m i ⟨(i 0).val, hi i⟩ rfl]
    exact e _ (word_lt m h _ _).1 a
  · rw [tr3 m i ⟨(i 0).val, hi i⟩ rfl]
    exact e _ (word_lt m h _ _).1 a
  · rw [tr4 m i ⟨(i 0).val, hi i⟩ rfl]
    exact e _ (word_lt m h _ _).1 a

theorem point_lt (hO : Gen.Ok m) (t : Fin (cfgM m hO).N) : t.val < 49 := t.isLt

end Cert.Attn.Entry

end
-- ==== Proof.AttnPay.lean ====
/- Hand-written: the attention kernel's block-diagonal key and value matrices, at one entry. -/
module

public import proofs.«01_k».proof.Proof.Gen.AttnIdeal.Frame
public import proofs.«01_k».proof.Proof.AttnMath
public import Idealize.ShloMosaic.Lib.Pipeline.ValueKit

@[expose] public section

set_option pp.maxSteps 400
set_option maxRecDepth 16384

noncomputable section

open Idealize.ShloMosaic Idealize.ShloMosaic.TcCoe Idealize.SL.Sem
open Idealize.ShloMosaic.Pipeline (Dat)

namespace Cert.AttnIdeal.Entry

open Cert.AttnIdeal Cert.AttnIdeal.Gen Cert.AttnMath

/-- Head 0's rows of the key matrix: zero off the head's own columns. -/
theorem kb0 (v5 v7 v9 v11 : Vec Ideal S1x16x768 .f32) (e : Fin 48) (j : Fin 512) :
    k0_pay7 v5 v7 v9 v11 (ix2 e j) = if j.val / 64 = 0 then (k0_pay6 v5 v7 v9 v11) (ix2 (⟨0 + e.val, by omega⟩ : Fin 384) (⟨j.val % 64, by omega⟩ : Fin 64)) else (0 : EReal) := by
  unfold k0_pay7
  generalize k0_pay6 v5 v7 v9 v11 = X
  pointwise
  by_cases hj : j.val / 64 = 0
  · rw [if_pos hj]
    split_ifs
    all_goals first | omega | (congr 2; done) | (congr 2; exact Fin.ext (by simp; omega))
  · rw [if_neg hj]
    split_ifs
    all_goals first | omega | rfl

/-- Head 1's rows of the key matrix: zero off the head's own columns. -/
theorem kb1 (v5 v7 v9 v11 : Vec Ideal S1x16x768 .f32) (e : Fin 48) (j : Fin 512) :
    k0_pay9 v5 v7 v9 v11 (ix2 e j) = if j.val / 64 = 1 then (k0_pay6 v5 v7 v9 v11) (ix2 (⟨48 + e.val, by omega⟩ : Fin 384) (⟨j.val % 64, by omega⟩ : Fin 64)) else (0 : EReal) := by
  unfold k0_pay9
  generalize k0_pay6 v5 v7 v9 v11 = X
  pointwise
  by_cases hj : j.val / 64 = 1
  · rw [if_pos hj]
    split_ifs
    all_goals first | omega | (congr 2; done) | (congr 2; exact Fin.ext (by simp; omega))
  · rw [if_neg hj]
    split_ifs
    all_goals first | omega | rfl

/-- Head 2's rows of the key matrix: zero off the head's own columns. -/
theorem kb2 (v5 v7 v9 v11 : Vec Ideal S1x16x768 .f32) (e : Fin 48) (j : Fin 512) :
    k0_pay11 v5 v7 v9 v11 (ix2 e j) = if j.val / 64 = 2 then (k0_pay6 v5 v7 v9 v11) (ix2 (⟨96 + e.val, by omega⟩ : Fin 384) (⟨j.val % 64, by omega⟩ : Fin 64)) else (0 : EReal) := by
  unfold k0_pay11
  generalize k0_pay6 v5 v7 v9 v11 = X
  pointwise
  by_cases hj : j.val / 64 = 2
  · rw [if_pos hj]
    split_ifs
    all_goals first | omega | (congr 2; done) | (congr 2; exact Fin.ext (by simp; omega))
  · rw [if_neg hj]
    split_ifs
    all_goals first | omega | rfl

/-- Head 3's rows of the key matrix: zero off the head's own columns. -/
theorem kb3 (X : FVec Ideal S384x64 .f32) (e : Fin 48) (j : Fin 512) :
    k0_pay13 X (ix2 e j) = if j.val / 64 = 3 then (X) (ix2 (⟨144 + e.val, by omega⟩ : Fin 384) (⟨j.val % 64, by omega⟩ : Fin 64)) else (0 : EReal) := by
  unfold k0_pay13
  pointwise
  by_cases hj : j.val / 64 = 3
  · rw [if_pos hj]
    split_ifs
    all_goals first | omega | (congr 2; done) | (congr 2; exact Fin.ext (by simp; omega))
  · rw [if_neg hj]
    split_ifs
    all_goals first | omega | rfl

/-- Head 4's rows of the key matrix: zero off the head's own columns. -/
theorem kb4 (X : FVec Ideal S384x64 .f32) (e : Fin 48) (j : Fin 512) :
    k0_pay15 X (ix2 e j) = if j.val / 64 = 4 then (X) (ix2 (⟨192 + e.val, by omega⟩ : Fin 384) (⟨j.val % 64, by omega⟩ : Fin 64)) else (0 : EReal) := by
  unfold k0_pay15
  pointwise
  by_cases hj : j.val / 64 = 4
  · rw [if_pos hj]
    split_ifs
    all_goals first | omega | (congr 2; done) | (congr 2; exact Fin.ext (by simp; omega))
  · rw [if_neg hj]
    split_ifs
    all_goals first | omega | rfl

/-- Head 5's rows of the key matrix: zero off the head's own columns. -/
theorem kb5 (X : FVec Ideal S384x64 .f32) (e : Fin 48) (j : Fin 512) :
    k0_pay17 X (ix2 e j) = if j.val / 64 = 5 then (X) (ix2 (⟨240 + e.val, by omega⟩ : Fin 384) (⟨j.val % 64, by omega⟩ : Fin 64)) else (0 : EReal) := by
  unfold k0_pay17
  pointwise
  by_cases hj : j.val / 64 = 5
  · rw [if_pos hj]
    split_ifs
    all_goals first | omega | (congr 2; done) | (congr 2; exact Fin.ext (by simp; omega))
  · rw [if_neg hj]
    split_ifs
    all_goals first | omega | rfl

/-- Head 6's rows of the key matrix: zero off the head's own columns. -/
theorem kb6 (X : FVec Ideal S384x64 .f32) (e : Fin 48) (j : Fin 512) :
    k0_pay19 X (ix2 e j) = if j.val / 64 = 6 then (X) (ix2 (⟨288 + e.val, by omega⟩ : Fin 384) (⟨j.val % 64, by omega⟩ : Fin 64)) else (0 : EReal) := by
  unfold k0_pay19
  pointwise
  by_cases hj : j.val / 64 = 6
  · rw [if_pos hj]
    split_ifs
    all_goals first | omega | (congr 2; done) | (congr 2; exact Fin.ext (by simp; omega))
  · rw [if_neg hj]
    split_ifs
    all_goals first | omega | rfl

/-- Head 7's rows of the key matrix: zero off the head's own columns. -/
theorem kb7 (X : FVec Ideal S384x64 .f32) (e : Fin 48) (j : Fin 512) :
    k0_pay21 X (ix2 e j) = if j.val / 64 = 7 then (X) (ix2 (⟨336 + e.val, by omega⟩ : Fin 384) (⟨j.val % 64, by omega⟩ : Fin 64)) else (0 : EReal) := by
  unfold k0_pay21
  pointwise
  by_cases hj : j.val / 64 = 7
  · rw [if_pos hj]
    split_ifs
    all_goals first | omega | (congr 2; done) | (congr 2; exact Fin.ext (by simp; omega))
  · rw [if_neg hj]
    split_ifs
    all_goals first | omega | rfl

/-- Head 0's rows of the value matrix: zero off the head's own columns. -/
theorem vb0 (v5 v7 v9 v11 : Vec Ideal S1x16x768 .f32) (k : Fin 64) (j : Fin 384) :
    k0_pay8 v5 v7 v9 v11 (ix2 k j) = if j.val / 48 = 0 then (k0_pay5 v5 v7 v9 v11) (ix2 k j) else (0 : EReal) := by
  unfold k0_pay8
  generalize k0_pay5 v5 v7 v9 v11 = X
  pointwise
  by_cases hj : j.val / 48 = 0
  · rw [if_pos hj]
    split_ifs
    all_goals first | omega | (congr 2; done) | (congr 2; exact Fin.ext (by simp; omega))
  · rw [if_neg hj]
    split_ifs
    all_goals first | omega | rfl

/-- Head 1's rows of the value matrix: zero off the head's own columns. -/
theorem vb1 (v5 v7 v9 v11 : Vec Ideal S1x16x768 .f32) (k : Fin 64) (j : Fin 384) :
    k0_pay10 v5 v7 v9 v11 (ix2 k j) = if j.val / 48 = 1 then (k0_pay5 v5 v7 v9 v11) (ix2 k j) else (0 : EReal) := by
  unfold k0_pay10
  generalize k0_pay5 v5 v7 v9 v11 = X
  pointwise
  by_cases hj : j.val / 48 = 1
  · rw [if_pos hj]
    split_ifs
    all_goals first | omega | (congr 2; done) | (congr 2; exact Fin.ext (by simp; omega))
  · rw [if_neg hj]
    split_ifs
    all_goals first | omega | rfl

/-- Head 2's rows of the value matrix: zero off the head's own columns. -/
theorem vb2 (X : FVec Ideal S64x384 .f32) (k : Fin 64) (j : Fin 384) :
    k0_pay12 X (ix2 k j) = if j.val / 48 = 2 then (X) (ix2 k j) else (0 : EReal) := by
  unfold k0_pay12
  pointwise
  by_cases hj : j.val / 48 = 2
  · rw [if_pos hj]
    split_ifs
    all_goals first | omega | (congr 2; done) | (congr 2; exact Fin.ext (by simp; omega))
  · rw [if_neg hj]
    split_ifs
    all_goals first | omega | rfl

/-- Head 3's rows of the value matrix: zero off the head's own columns. -/
theorem vb3 (X : FVec Ideal S64x384 .f32) (k : Fin 64) (j : Fin 384) :
    k0_pay14 X (ix2 k j) = if j.val / 48 = 3 then (X) (ix2 k j) else (0 : EReal) := by
  unfold k0_pay14
  pointwise
  by_cases hj : j.val / 48 = 3
  · rw [if_pos hj]
    split_ifs
    all_goals first | omega | (congr 2; done) | (congr 2; exact Fin.ext (by simp; omega))
  · rw [if_neg hj]
    split_ifs
    all_goals first | omega | rfl

/-- Head 4's rows of the value matrix: zero off the head's own columns. -/
theorem vb4 (X : FVec Ideal S64x384 .f32) (k : Fin 64) (j : Fin 384) :
    k0_pay16 X (ix2 k j) = if j.val / 48 = 4 then (X) (ix2 k j) else (0 : EReal) := by
  unfold k0_pay16
  pointwise
  by_cases hj : j.val / 48 = 4
  · rw [if_pos hj]
    split_ifs
    all_goals first | omega | (congr 2; done) | (congr 2; exact Fin.ext (by simp; omega))
  · rw [if_neg hj]
    split_ifs
    all_goals first | omega | rfl

/-- Head 5's rows of the value matrix: zero off the head's own columns. -/
theorem vb5 (X : FVec Ideal S64x384 .f32) (k : Fin 64) (j : Fin 384) :
    k0_pay18 X (ix2 k j) = if j.val / 48 = 5 then (X) (ix2 k j) else (0 : EReal) := by
  unfold k0_pay18
  pointwise
  by_cases hj : j.val / 48 = 5
  · rw [if_pos hj]
    split_ifs
    all_goals first | omega | (congr 2; done) | (congr 2; exact Fin.ext (by simp; omega))
  · rw [if_neg hj]
    split_ifs
    all_goals first | omega | rfl

/-- Head 6's rows of the value matrix: zero off the head's own columns. -/
theorem vb6 (X : FVec Ideal S64x384 .f32) (k : Fin 64) (j : Fin 384) :
    k0_pay20 X (ix2 k j) = if j.val / 48 = 6 then (X) (ix2 k j) else (0 : EReal) := by
  unfold k0_pay20
  pointwise
  by_cases hj : j.val / 48 = 6
  · rw [if_pos hj]
    split_ifs
    all_goals first | omega | (congr 2; done) | (congr 2; exact Fin.ext (by simp; omega))
  · rw [if_neg hj]
    split_ifs
    all_goals first | omega | rfl

/-- Head 7's rows of the value matrix: zero off the head's own columns. -/
theorem vb7 (X : FVec Ideal S64x384 .f32) (k : Fin 64) (j : Fin 384) :
    concatenate S64x384 1 [⟨S64x336, k0_pay22⟩, ⟨S64x48, extractStridedSlice S64x48 ![0, 336] X slices_S64x384_o0_336_S64x48⟩] concatenates_S64x336_S64x48_S64x384_d1 (ix2 k j) = if j.val / 48 = 7 then (X) (ix2 k j) else (0 : EReal) := by
  unfold k0_pay22
  pointwise
  by_cases hj : j.val / 48 = 7
  · rw [if_pos hj]
    split_ifs
    all_goals first | omega | (congr 2; done) | (congr 2; exact Fin.ext (by simp; omega))
  · rw [if_neg hj]
    split_ifs
    all_goals first | omega | rfl

end Cert.AttnIdeal.Entry

end
-- ==== Proof.AttnBody.lean ====
/- Hand-written: what the attention kernel's body stores, as the attention of one row. -/
module

public import proofs.«01_k».proof.Proof.AttnPay

@[expose] public section

set_option maxRecDepth 16384

noncomputable section

open Idealize.ShloMosaic Idealize.ShloMosaic.TcCoe Idealize.SL.Sem
open Idealize.ShloMosaic.Pipeline (Dat)

namespace Cert.AttnIdeal.Entry

open Cert.AttnIdeal Cert.AttnIdeal.Gen Cert.AttnMath

/-- The four staged windows laid one under another: key `k`'s row. -/
def kvAt (v5 v7 v9 v11 : Vec Ideal S1x16x768 .f32) (k : Fin 64) (d : Fin 768) : EReal :=
  if k.val < 16 then v5 (ix3 0 (⟨k.val % 16, by omega⟩ : Fin 16) d) else if k.val < 32 then v7 (ix3 0 (⟨k.val % 16, by omega⟩ : Fin 16) d)
  else if k.val < 48 then v9 (ix3 0 (⟨k.val % 16, by omega⟩ : Fin 16) d) else v11 (ix3 0 (⟨k.val % 16, by omega⟩ : Fin 16) d)

theorem pay4_apply (v5 v7 v9 v11 : Vec Ideal S1x16x768 .f32) (k : Fin 64) (d : Fin 768) :
    k0_pay4 v5 v7 v9 v11 (ix2 k d) = kvAt v5 v7 v9 v11 k d := by
  unfold k0_pay4 kvAt
  pointwise
  (try split_ifs)
  all_goals first
    | omega
    | exact congrArg (fun z : Fin 16 => v5 (ix3 0 z d)) (Fin.ext (by show k.val = k.val % 16; omega))
    | (refine Eq.trans (b := v7 (ix3 0 (⟨k.val % 16, by omega⟩ : Fin 16) d)) (congrArg (fun z : Fin 16 => v7 (ix3 0 z d)) (Fin.ext (by show k.val - 16 = k.val % 16; omega))) ?_; rw [if_pos (by omega)]; done)
    | (refine Eq.trans (b := v9 (ix3 0 (⟨k.val % 16, by omega⟩ : Fin 16) d)) (congrArg (fun z : Fin 16 => v9 (ix3 0 z d)) (Fin.ext (by show k.val - 16 - 16 = k.val % 16; omega))) ?_; rw [if_neg (by omega), if_pos (by omega)]; done)
    | (refine Eq.trans (b := v11 (ix3 0 (⟨k.val % 16, by omega⟩ : Fin 16) d)) (congrArg (fun z : Fin 16 => v11 (ix3 0 z d)) (Fin.ext (by show k.val - 16 - 16 - 16 = k.val % 16; omega))) ?_; rw [if_neg (by omega), if_neg (by omega)]; done)

/-- The keys, channel by key. -/
theorem pay6_apply (v5 v7 v9 v11 : Vec Ideal S1x16x768 .f32) (k : Fin 64) (d : Fin 384) :
    k0_pay6 v5 v7 v9 v11 (ix2 d k) = kvAt v5 v7 v9 v11 k ⟨d.val, by omega⟩ := by
  unfold k0_pay6
  generalize hX : k0_pay4 v5 v7 v9 v11 = X
  pointwise
  subst hX
  exact pay4_apply ..

/-- The values, key by channel. -/
theorem pay5_apply (v5 v7 v9 v11 : Vec Ideal S1x16x768 .f32) (k : Fin 64) (d : Fin 384) :
    k0_pay5 v5 v7 v9 v11 (ix2 k d) = kvAt v5 v7 v9 v11 k ⟨384 + d.val, by omega⟩ := by
  unfold k0_pay5
  generalize hX : k0_pay4 v5 v7 v9 v11 = X
  pointwise
  subst hX
  exact pay4_apply ..

/-- Piece 0 of eight laid one under another. -/
theorem catk0 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 0 + e.val, by omega⟩ : Fin 384) j) = A0 (ix2 e j) := by
  pointwise
  (try split_ifs)
  all_goals first
    | omega
    | exact congrArg (fun z : Fin 48 => A0 (ix2 z j)) (Fin.ext (by show 0 + e.val = e.val; omega))
    | rfl

/-- Piece 1 of eight laid one under another. -/
theorem catk1 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 1 + e.val, by omega⟩ : Fin 384) j) = A1 (ix2 e j) := by
  pointwise
  (try split_ifs)
  all_goals first
    | omega
    | exact congrArg (fun z : Fin 48 => A1 (ix2 z j)) (Fin.ext (by show 48 + e.val - 48 = e.val; omega))
    | rfl

/-- Piece 2 of eight laid one under another. -/
theorem catk2 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 2 + e.val, by omega⟩ : Fin 384) j) = A2 (ix2 e j) := by
  pointwise
  (try split_ifs)
  all_goals first
    | omega
    | exact congrArg (fun z : Fin 48 => A2 (ix2 z j)) (Fin.ext (by show 96 + e.val - 48 - 48 = e.val; omega))
    | rfl

/-- Piece 3 of eight laid one under another. -/
theorem catk3 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 3 + e.val, by omega⟩ : Fin 384) j) = A3 (ix2 e j) := by
  pointwise
  (try split_ifs)
  all_goals first
    | omega
    | exact congrArg (fun z : Fin 48 => A3 (ix2 z j)) (Fin.ext (by show 144 + e.val - 48 - 48 - 48 = e.val; omega))
    | rfl

/-- Piece 4 of eight laid one under another. -/
theorem catk4 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 4 + e.val, by omega⟩ : Fin 384) j) = A4 (ix2 e j) := by
  pointwise
  (try split_ifs)
  all_goals first
    | omega
    | exact congrArg (fun z : Fin 48 => A4 (ix2 z j)) (Fin.ext (by show 192 + e.val - 48 - 48 - 48 - 48 = e.val; omega))
    | rfl

/-- Piece 5 of eight laid one under another. -/
theorem catk5 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 5 + e.val, by omega⟩ : Fin 384) j) = A5 (ix2 e j) := by
  pointwise
  (try split_ifs)
  all_goals first
    | omega
    | exact congrArg (fun z : Fin 48 => A5 (ix2 z j)) (Fin.ext (by show 240 + e.val - 48 - 48 - 48 - 48 - 48 = e.val; omega))
    | rfl

/-- Piece 6 of eight laid one under another. -/
theorem catk6 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 6 + e.val, by omega⟩ : Fin 384) j) = A6 (ix2 e j) := by
  pointwise
  (try split_ifs)
  all_goals first
    | omega
    | exact congrArg (fun z : Fin 48 => A6 (ix2 z j)) (Fin.ext (by show 288 + e.val - 48 - 48 - 48 - 48 - 48 - 48 = e.val; omega))
    | rfl

/-- Piece 7 of eight laid one under another. -/
theorem catk7 (A0 A1 A2 A3 A4 A5 A6 A7 : FVec Ideal S48x512 .f32) (e : Fin 48) (j : Fin 512) :
    concatenate S384x512 0 [⟨S48x512, A0⟩, ⟨S48x512, A1⟩, ⟨S48x512, A2⟩, ⟨S48x512, A3⟩, ⟨S48x512, A4⟩, ⟨S48x512, A5⟩, ⟨S48x512, A6⟩, ⟨S48x512, A7⟩] concatenates_S48x512_S48x512_S48x512_S48x512_S48x512_S48x512_S48x512_S48x512_S384x512_d0 (ix2 (⟨48 * 7 + e.val, by omega⟩ : Fin 384) j) = A7 (ix2 e j) := by
  pointwise
  (try split_ifs)
  all_goals first
    | omega
    | exact congrArg (fun z : Fin 48 => A7 (ix2 z j)) (Fin.ext (by show 336 + e.val - 48 - 48 - 48 - 48 - 48 - 48 - 48 = e.val; omega))
    | rfl

/-- Piece 0 of eight laid one under another. -/
theorem catv0 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 0 + e.val, by omega⟩ : Fin 512) j) = A0 (ix2 e j) := by
  pointwise
  (try split_ifs)
  all_goals first
    | omega
    | exact congrArg (fun z : Fin 64 => A0 (ix2 z j)) (Fin.ext (by show 0 + e.val = e.val; omega))
    | rfl

/-- Piece 1 of eight laid one under another. -/
theorem catv1 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 1 + e.val, by omega⟩ : Fin 512) j) = A1 (ix2 e j) := by
  pointwise
  (try split_ifs)
  all_goals first
    | omega
    | exact congrArg (fun z : Fin 64 => A1 (ix2 z j)) (Fin.ext (by show 64 + e.val - 64 = e.val; omega))
    | rfl

/-- Piece 2 of eight laid one under another. -/
theorem catv2 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 2 + e.val, by omega⟩ : Fin 512) j) = A2 (ix2 e j) := by
  pointwise
  (try split_ifs)
  all_goals first
    | omega
    | exact congrArg (fun z : Fin 64 => A2 (ix2 z j)) (Fin.ext (by show 128 + e.val - 64 - 64 = e.val; omega))
    | rfl

/-- Piece 3 of eight laid one under another. -/
theorem catv3 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 3 + e.val, by omega⟩ : Fin 512) j) = A3 (ix2 e j) := by
  pointwise
  (try split_ifs)
  all_goals first
    | omega
    | exact congrArg (fun z : Fin 64 => A3 (ix2 z j)) (Fin.ext (by show 192 + e.val - 64 - 64 - 64 = e.val; omega))
    | rfl

/-- Piece 4 of eight laid one under another. -/
theorem catv4 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 4 + e.val, by omega⟩ : Fin 512) j) = A4 (ix2 e j) := by
  pointwise
  (try split_ifs)
  all_goals first
    | omega
    | exact congrArg (fun z : Fin 64 => A4 (ix2 z j)) (Fin.ext (by show 256 + e.val - 64 - 64 - 64 - 64 = e.val; omega))
    | rfl

/-- Piece 5 of eight laid one under another. -/
theorem catv5 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 5 + e.val, by omega⟩ : Fin 512) j) = A5 (ix2 e j) := by
  pointwise
  (try split_ifs)
  all_goals first
    | omega
    | exact congrArg (fun z : Fin 64 => A5 (ix2 z j)) (Fin.ext (by show 320 + e.val - 64 - 64 - 64 - 64 - 64 = e.val; omega))
    | rfl

/-- Piece 6 of eight laid one under another. -/
theorem catv6 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 6 + e.val, by omega⟩ : Fin 512) j) = A6 (ix2 e j) := by
  pointwise
  (try split_ifs)
  all_goals first
    | omega
    | exact congrArg (fun z : Fin 64 => A6 (ix2 z j)) (Fin.ext (by show 384 + e.val - 64 - 64 - 64 - 64 - 64 - 64 = e.val; omega))
    | rfl

/-- Piece 7 of eight laid one under another. -/
theorem catv7 (A0 A1 A2 A3 A4 A5 A6 A7 : FVec Ideal S64x384 .f32) (e : Fin 64) (j : Fin 384) :
    concatenate S512x384 0 [⟨S64x384, A0⟩, ⟨S64x384, A1⟩, ⟨S64x384, A2⟩, ⟨S64x384, A3⟩, ⟨S64x384, A4⟩, ⟨S64x384, A5⟩, ⟨S64x384, A6⟩, ⟨S64x384, A7⟩] concatenates_S64x384_S64x384_S64x384_S64x384_S64x384_S64x384_S64x384_S64x384_S512x384_d0 (ix2 (⟨64 * 7 + e.val, by omega⟩ : Fin 512) j) = A7 (ix2 e j) := by
  pointwise
  (try split_ifs)
  all_goals first
    | omega
    | exact congrArg (fun z : Fin 64 => A7 (ix2 z j)) (Fin.ext (by show 448 + e.val - 64 - 64 - 64 - 64 - 64 - 64 - 64 = e.val; omega))
    | rfl

/-- The key matrix over the eight heads. -/
def kmat (v5 v7 v9 v11 : Vec Ideal S1x16x768 .f32) : FVec Ideal S384x512 .f32 :=
  concatenate S384x512 0 [⟨S48x512, k0_pay7 v5 v7 v9 v11⟩, ⟨S48x512, k0_pay9 v5 v7 v9 v11⟩, ⟨S48x512, k0_pay11 v5 v7 v9 v11⟩, ⟨S48x512, k0_pay13 (k0_pay6 v5 v7 v9 v11)⟩, ⟨S48x512, k0_pay15 (k0_pay6 v5 v7 v9 v11)⟩, ⟨S48x512, k0_pay17 (k0_pay6 v5 v7 v9 v11)⟩, ⟨S48x512, k0_pay19 (k0_pay6 v5 v7 v9 v11)⟩, ⟨S48x512, k0_pay21 (k0_pay6 v5 v7 v9 v11)⟩] concatenates_S48x512_S48x512_S48x512_S48x512_S48x512_S48x512_S48x512_S48x512_S384x512_d0

/-- The value matrix over the eight heads. -/
def vmat (v5 v7 v9 v11 : Vec Ideal S1x16x768 .f32) : FVec Ideal S512x384 .f32 :=
  k0_pay1 (k0_pay5 v5 v7 v9 v11) (k0_pay8 v5 v7 v9 v11) (k0_pay10 v5 v7 v9 v11) (k0_pay12 (k0_pay5 v5 v7 v9 v11)) (k0_pay14 (k0_pay5 v5 v7 v9 v11)) (k0_pay16 (k0_pay5 v5 v7 v9 v11)) (k0_pay18 (k0_pay5 v5 v7 v9 v11)) (k0_pay20 (k0_pay5 v5 v7 v9 v11)) k0_pay22

theorem kmat_apply (v5 v7 v9 v11 : Vec Ideal S1x16x768 .f32) (h : Fin 8) (e : Fin 48) (j : Fin 512) :
    kmat v5 v7 v9 v11 (ix2 (hd h e) j) = if j.val / 64 = h.val then kvAt v5 v7 v9 v11 (⟨j.val % 64, by omega⟩ : Fin 64) ⟨48 * h.val + e.val, by omega⟩ else (0 : EReal) := by
  unfold kmat
  fin_cases h
  · refine (catk0 _ _ _ _ _ _ _ _ e j).trans ((kb0 v5 v7 v9 v11 e j).trans ?_)
    simp only [pay6_apply]
  · refine (catk1 _ _ _ _ _ _ _ _ e j).trans ((kb1 v5 v7 v9 v11 e j).trans ?_)
    simp only [pay6_apply]
  · refine (catk2 _ _ _ _ _ _ _ _ e j).trans ((kb2 v5 v7 v9 v11 e j).trans ?_)
    simp only [pay6_apply]
  · refine (catk3 _ _ _ _ _ _ _ _ e j).trans ((kb3 _ e j).trans ?_)
    simp only [pay6_apply]
  · refine (catk4 _ _ _ _ _ _ _ _ e j).trans ((kb4 _ e j).trans ?_)
    simp only [pay6_apply]
  · refine (catk5 _ _ _ _ _ _ _ _ e j).trans ((kb5 _ e j).trans ?_)
    simp only [pay6_apply]
  · refine (catk6 _ _ _ _ _ _ _ _ e j).trans ((kb6 _ e j).trans ?_)
    simp only [pay6_apply]
  · refine (catk7 _ _ _ _ _ _ _ _ e j).trans ((kb7 _ e j).trans ?_)
    simp only [pay6_apply]

theorem vmat_apply (v5 v7 v9 v11 : Vec Ideal S1x16x768 .f32) (h : Fin 8) (k : Fin 64) (j : Fin 384) :
    vmat v5 v7 v9 v11 (ix2 (hk h k) j) = if j.val / 48 = h.val then kvAt v5 v7 v9 v11 k ⟨384 + j.val, by omega⟩ else (0 : EReal) := by
  unfold vmat k0_pay1
  fin_cases h
  · refine (catv0 _ _ _ _ _ _ _ _ k j).trans ((vb0 v5 v7 v9 v11 k j).trans ?_)
    simp only [pay5_apply]
  · refine (catv1 _ _ _ _ _ _ _ _ k j).trans ((vb1 v5 v7 v9 v11 k j).trans ?_)
    simp only [pay5_apply]
  · refine (catv2 _ _ _ _ _ _ _ _ k j).trans ((vb2 _ k j).trans ?_)
    simp only [pay5_apply]
  · refine (catv3 _ _ _ _ _ _ _ _ k j).trans ((vb3 _ k j).trans ?_)
    simp only [pay5_apply]
  · refine (catv4 _ _ _ _ _ _ _ _ k j).trans ((vb4 _ k j).trans ?_)
    simp only [pay5_apply]
  · refine (catv5 _ _ _ _ _ _ _ _ k j).trans ((vb5 _ k j).trans ?_)
    simp only [pay5_apply]
  · refine (catv6 _ _ _ _ _ _ _ _ k j).trans ((vb6 _ k j).trans ?_)
    simp only [pay5_apply]
  · refine (catv7 _ _ _ _ _ _ _ _ k j).trans ((vb7 _ k j).trans ?_)
    simp only [pay5_apply]

/-- What the body stores, from the scaled queries and the two matrices. -/
def body (v4 : FVec Ideal S1024x384 .f32) (KM : FVec Ideal S384x512 .f32) (VM : FVec Ideal S512x384 .f32) : FVec Ideal S32x32x384 .bf16 :=
  have v79 : FVec Ideal S1024x512 .f32 := matmul dot_S1024x384_S384x512_S1024x512_1_0_0_1_n_n none v4 KM (constant S1024x512 .f32 0x00000000#32)
  have v80 : FVec Ideal S1024x8x64 .f32 := shapeCast S1024x8x64 v79 shapeCasts_S1024x512_S1024x8x64
  have v81 : FVec Ideal S1024x8 .f32 := multiReduction .maximumf [2] S1024x8 v80 0xFF800000#32 reduces_S1024x8x64_S1024x8 (.inl rfl) rfl
  have v85 : FVec Ideal S1024x8x64 .f32 := exp (subf v80 (broadcastTo S1024x8x64 (shapeCast S1024x8x1 v81 shapeCasts_S1024x8_S1024x8x1) broadcasts_S1024x8x1_S1024x8x64))
  have v86 : FVec Ideal S1024x8 .f32 := multiReduction .add [2] S1024x8 v85 0x00000000#32 reduces_S1024x8x64_S1024x8 (.inl rfl) rfl
  have v89 : FVec Ideal S1024x8x64 .f32 := divf v85 (broadcastTo S1024x8x64 (shapeCast S1024x8x1 v86 shapeCasts_S1024x8_S1024x8x1) broadcasts_S1024x8x1_S1024x8x64)
  have v91 : FVec Ideal S1024x384 .f32 := matmul dot_S1024x512_S512x384_S1024x384_1_0_0_1_n_n none (shapeCast S1024x512 v89 shapeCasts_S1024x8x64_S1024x512) VM (constant S1024x384 .f32 0x00000000#32)
  shapeCast S32x32x384 (truncf .bf16 v91 bitsLt_bf16_f32) shapeCasts_S1024x384_S32x32x384

/-- The logits of row `r`, head by head. -/
def logits (v4 : FVec Ideal S1024x384 .f32) (KM : FVec Ideal S384x512 .f32) (r : Fin 1024) (h : Fin 8) (k : Fin 64) : EReal :=
  ∑ i : Fin 384, v4 (ix2 r i) * KM (ix2 i (hk h k))

theorem body_apply (v4 : FVec Ideal S1024x384 .f32) (KM : FVec Ideal S384x512 .f32) (VM : FVec Ideal S512x384 .f32) (a b : Fin 32) (l : Fin 384) :
    body v4 KM VM (ix3 a b l) = ∑ j : Fin 512, weight (logits v4 KM ⟨a.val * 32 + b.val, by omega⟩ ⟨j.val / 64, by omega⟩) ⟨j.val % 64, by omega⟩ * VM (ix2 j l) := by
  unfold body
  pointwise
  refine Finset.sum_congr rfl fun x _ => ?_
  have e1 : ∀ k : Fin 64, (⟨x.val / 64 * 64 + k.val, by omega⟩ : Fin 512) = hk ⟨x.val / 64, by omega⟩ k := fun k => Fin.ext (by show x.val / 64 * 64 + k.val = 64 * (x.val / 64) + k.val; omega)
  have e2 : hk ⟨x.val / 64, by omega⟩ ⟨x.val % 64, by omega⟩ = x := Fin.ext (by show 64 * (x.val / 64) + x.val % 64 = x.val; omega)
  have hx : ∑ i, v4 (ix2 (⟨a.val * 32 + b.val, by omega⟩ : Fin 1024) i) * KM (ix2 i x) = logits v4 KM ⟨a.val * 32 + b.val, by omega⟩ ⟨x.val / 64, by omega⟩ ⟨x.val % 64, by omega⟩ := by
    unfold logits
    rw [e2]
  simp only [e1, hx]
  rfl

/-- What the body stores at pixel `(a, b)`, channel `e` of head `h`. -/
theorem stored (v0 : Vec Ideal S1x1024x384 .bf16) (v5 v7 v9 v11 : Vec Ideal S1x16x768 .f32) (a b : Fin 32) (h : Fin 8) (e : Fin 48) :
    body (k0_pay3 v0) (kmat v5 v7 v9 v11) (vmat v5 v7 v9 v11) (ix3 a b (hd h e))
      = attnRow (fun d => v0 (ix3 0 (⟨a.val * 32 + b.val, by omega⟩ : Fin 1024) d)) (fun k d => kvAt v5 v7 v9 v11 k ⟨d.val, by omega⟩)
          (fun k d => kvAt v5 v7 v9 v11 k ⟨384 + d.val, by omega⟩) h e := by
  rw [body_apply, sum_one_block h]
  · unfold attnRow
    refine Finset.sum_congr rfl fun k _ => ?_
    have e1 : (⟨(hk h k).val / 64, by omega⟩ : Fin 8) = h := Fin.ext (by show (64 * h.val + k.val) / 64 = h.val; omega)
    have e2 : (⟨(hk h k).val % 64, by omega⟩ : Fin 64) = k := Fin.ext (by show (64 * h.val + k.val) % 64 = k.val; omega)
    rw [e1, e2, vmat_apply, if_pos (by show (48 * h.val + e.val) / 48 = h.val; omega)]
    congr 1
    congr 1
    funext k'
    unfold logits logit
    rw [sum_one_head h]
    · refine Finset.sum_congr rfl fun e' _ => ?_
      rw [kmat_apply, if_pos (by show (64 * h.val + k'.val) / 64 = h.val; omega)]
      have e3 : (⟨(hk h k').val % 64, by omega⟩ : Fin 64) = k' := Fin.ext (by show (64 * h.val + k'.val) % 64 = k'.val; omega)
      rw [e3]
      congr 1
      pointwise [k0_pay3]
    · intro h' e' hh
      rw [kmat_apply, if_neg]
      show ¬ (64 * h.val + k'.val) / 64 = h'.val
      have : h'.val ≠ h.val := fun q => hh (Fin.ext q)
      omega
  · intro h' k hh
    rw [vmat_apply, if_neg]
    show ¬ (48 * h.val + e.val) / 48 = h'.val
    have : h'.val ≠ h.val := fun q => hh (Fin.ext q)
    omega

end Cert.AttnIdeal.Entry

end
-- ==== Proof.AttnFinal.lean ====
/- Hand-written: what the attention kernel leaves in its result array is the plain attention of its arguments. -/
module

public import proofs.«01_k».proof.Defs
public import proofs.«01_k».proof.Proof.Gen.AttnIdeal.Frame
public import proofs.«01_k».proof.Proof.Gen.Pre_windows_exist
public import proofs.«01_k».proof.Proof.AttnBody
public import proofs.«01_k».proof.Proof.AttnRef
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.AttnIdeal.Entry

open Cert.AttnIdeal Cert.AttnIdeal.Gen Cert.AttnMath

variable (m : (ℓ : Loc nD τ sig) → Buf (Elt Ideal) ℓ)

/-- The chosen windows. -/
abbrev tab : IVec S49x4 32 := m ((((0 : Dev nD).tc : Thread nD τ)).loc main_arg2)

/-- Every chosen window exists. -/
abbrev Good : Prop := Cert.AttnReferenceIdeal.Entry.InRange (tab m)

/-- A grid point's only coordinate is its number. -/
theorem coord : ∀ t : Fin grid0.N, (grid0.coords t 0).val = t.val := by decide +kernel

/-- The block index of the keys' and values' window 0. -/
theorem tr1 (i : grid0.Coords) (p : Fin 49) (h : (i 0).val = p.val) :
    cc0_transform_1 k0_off1_inb numel1_S1x1 (tbl m) i = ![(tab m (ix2 p 0)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 0 + 1 * 0 = 0
    rfl

/-- The block index of the keys' and values' window 1. -/
theorem tr2 (i : grid0.Coords) (p : Fin 49) (h : (i 0).val = p.val) :
    cc0_transform_2 k0_off2_inb numel1_S1x1 (tbl m) i = ![(tab m (ix2 p 1)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 1 + 1 * 0 = 1
    rfl

/-- The block index of the keys' and values' window 2. -/
theorem tr3 (i : grid0.Coords) (p : Fin 49) (h : (i 0).val = p.val) :
    cc0_transform_3 k0_off3_inb numel1_S1x1 (tbl m) i = ![(tab m (ix2 p 2)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 2 + 1 * 0 = 2
    rfl

/-- The block index of the keys' and values' window 3. -/
theorem tr4 (i : grid0.Coords) (p : Fin 49) (h : (i 0).val = p.val) :
    cc0_transform_4 k0_off4_inb numel1_S1x1 (tbl m) i = ![(tab m (ix2 p 3)).toNat, 0, 0] := by
  have e : ∀ j j' : S49x4.Idx, j = j' → ![(tab m j).toNat, 0, 0] = ![(tab m j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 3 + 1 * 0 = 3
    rfl

/-- A word of the table names one of the 49 windows. -/
theorem word_lt (h : Good m) (p : Fin 49) (k : Fin 4) : (tab m (ix2 p k)).toNat < 49 ∧ (tab m (ix2 p k)).toInt.toNat = (tab m (ix2 p k)).toNat := by
  have := h p k
  generalize tab m (ix2 p k) = w at this ⊢
  rw [BitVec.toInt_eq_toNat_cond] at this ⊢
  split at this <;> split <;> omega

/-- The windows the table names lie in the array. -/
theorem ok (h : Good m) : Gen.Ok m := by
  have e : ∀ (w : Nat), w < 49 → ∀ a : Fin 3, ((![w, 0, 0] : Fin 3 → Nat) a + 1) * S1x16x768.size a ≤ S49x16x768.size a := by
    intro w hw a
    fin_cases a
    · show (w + 1) * 1 ≤ 49
      omega
    · show (0 + 1) * 16 ≤ 16
      omega
    · show (0 + 1) * 768 ≤ 768
      omega
  have hi : ∀ i : grid0.Coords, (i 0).val < 49 := fun i => (i 0).isLt
  refine ⟨fun i => ⟨fun a => ?_, .inl rfl⟩, fun i => ⟨fun a => ?_, .inl rfl⟩, fun i => ⟨fun a => ?_, .inl rfl⟩, fun i => ⟨fun a => ?_, .inl rfl⟩⟩
  · rw [tr1 m i ⟨(i 0).val, hi i⟩ rfl]
    exact e _ (word_lt m h _ _).1 a
  · rw [tr2 m i ⟨(i 0).val, hi i⟩ rfl]
    exact e _ (word_lt m h _ _).1 a
  · rw [tr3 m i ⟨(i 0).val, hi i⟩ rfl]
    exact e _ (word_lt m h _ _).1 a
  · rw [tr4 m i ⟨(i 0).val, hi i⟩ rfl]
    exact e _ (word_lt m h _ _).1 a

theorem point_lt (hO : Gen.Ok m) (t : Fin (cfgM m hO).N) : t.val < 49 := t.isLt

/-- The queries a grid point holds. -/
theorem blk0 (hO : Gen.Ok m) (c : Dev nD) (t : Fin (cfgM m hO).N) (r : Fin 1024) (d : Fin 384) :
    (iblk m hO c 0 t : FVec Ideal S1x1024x384 .bf16) (ix3 0 r d) = (m ((c.tc : Thread nD τ).loc main_arg0) : FVec Ideal S49x1024x384 .bf16) (ix3 ⟨t.val, point_lt m hO t⟩ r d) := by
  have hx : cc0_transform_0 (grid0.coords t) = ![t.val, 0, 0] :=
    (by decide +kernel : ∀ t : Fin grid0.N, cc0_transform_0 (grid0.coords t) = ![t.val, 0, 0]) t
  show (m ((c.tc : Thread nD τ).loc main_arg0) : FVec Ideal S49x1024x384 .bf16) ((((cfgM m hO).win 0).blk t).view.emb (ix3 0 r d)) = _
  refine congrArg (m ((c.tc : Thread nD τ).loc main_arg0) : FVec Ideal S49x1024x384 .bf16) ?_
  funext a
  refine Fin.ext ?_
  fin_cases a
  · show cc0_transform_0 (grid0.coords t) 0 * 1 + 1 * 0 = t.val
    rw [hx]
    show t.val * 1 + 1 * 0 = t.val
    omega
  · show cc0_transform_0 (grid0.coords t) 1 * 1024 + 1 * r.val = r.val
    rw [hx]
    show 0 * 1024 + 1 * r.val = r.val
    omega
  · show cc0_transform_0 (grid0.coords t) 2 * 384 + 1 * d.val = d.val
    rw [hx]
    show 0 * 384 + 1 * d.val = d.val
    omega

/-- The keys and values a grid point holds of its chosen window 0. -/
theorem blk1 (h : Good m) (c : Dev nD) (t : Fin (cfgM m (ok m h)).N) (s : Fin 16) (d : Fin 768) :
    (iblk m (ok m h) c 1 t : FVec Ideal S1x16x768 .f32) (ix3 0 s d) = (m ((c.tc : Thread nD τ).loc main_arg1) : FVec Ideal S49x16x768 .f32) (ix3 (Cert.AttnReferenceIdeal.Entry.widx (tab m) h ⟨t.val, point_lt m (ok m h) t⟩ 0) s d) := by
  have hx : cc0_transform_1 k0_off1_inb numel1_S1x1 (tbl m) (grid0.coords t) = ![(Cert.AttnReferenceIdeal.Entry.widx (tab m) h ⟨t.val, point_lt m (ok m h) t⟩ 0).val, 0, 0] := by
    refine (tr1 m (grid0.coords t) ⟨t.val, point_lt m (ok m h) t⟩ (coord t)).trans ?_
    exact congrArg (fun z => (![z, 0, 0] : Fin 3 → Nat)) (word_lt m h _ _).2.symm
  generalize Cert.AttnReferenceIdeal.Entry.widx (tab m) h ⟨t.val, point_lt m (ok m h) t⟩ 0 = w at hx ⊢
  show (m ((c.tc : Thread nD τ).loc main_arg1) : FVec Ideal S49x16x768 .f32) ((((cfgM m (ok m h)).win 1).blk t).view.emb (ix3 0 s d)) = _
  refine congrArg (m ((c.tc : Thread nD τ).loc main_arg1) : FVec Ideal S49x16x768 .f32) ?_
  funext a
  refine Fin.ext ?_
  fin_cases a
  · show cc0_transform_1 k0_off1_inb numel1_S1x1 (tbl m) (grid0.coords t) 0 * 1 + 1 * 0 = w.val
    rw [hx]
    show w.val * 1 + 1 * 0 = w.val
    omega
  · show cc0_transform_1 k0_off1_inb numel1_S1x1 (tbl m) (grid0.coords t) 1 * 16 + 1 * s.val = s.val
    rw [hx]
    show 0 * 16 + 1 * s.val = s.val
    omega
  · show cc0_transform_1 k0_off1_inb numel1_S1x1 (tbl m) (grid0.coords t) 2 * 768 + 1 * d.val = d.val
    rw [hx]
    show 0 * 768 + 1 * d.val = d.val
    omega

/-- The keys and values a grid point holds of its chosen window 1. -/
theorem blk2 (h : Good m) (c : Dev nD) (t : Fin (cfgM m (ok m h)).N) (s : Fin 16) (d : Fin 768) :
    (iblk m (ok m h) c 2 t : FVec Ideal S1x16x768 .f32) (ix3 0 s d) = (m ((c.tc : Thread nD τ).loc main_arg1) : FVec Ideal S49x16x768 .f32) (ix3 (Cert.AttnReferenceIdeal.Entry.widx (tab m) h ⟨t.val, point_lt m (ok m h) t⟩ 1) s d) := by
  have hx : cc0_transform_2 k0_off2_inb numel1_S1x1 (tbl m) (grid0.coords t) = ![(Cert.AttnReferenceIdeal.Entry.widx (tab m) h ⟨t.val, point_lt m (ok m h) t⟩ 1).val, 0, 0] := by
    refine (tr2 m (grid0.coords t) ⟨t.val, point_lt m (ok m h) t⟩ (coord t)).trans ?_
    exact congrArg (fun z => (![z, 0, 0] : Fin 3 → Nat)) (word_lt m h _ _).2.symm
  generalize Cert.AttnReferenceIdeal.Entry.widx (tab m) h ⟨t.val, point_lt m (ok m h) t⟩ 1 = w at hx ⊢
  show (m ((c.tc : Thread nD τ).loc main_arg1) : FVec Ideal S49x16x768 .f32) ((((cfgM m (ok m h)).win 2).blk t).view.emb (ix3 0 s d)) = _
  refine congrArg (m ((c.tc : Thread nD τ).loc main_arg1) : FVec Ideal S49x16x768 .f32) ?_
  funext a
  refine Fin.ext ?_
  fin_cases a
  · show cc0_transform_2 k0_off2_inb numel1_S1x1 (tbl m) (grid0.coords t) 0 * 1 + 1 * 0 = w.val
    rw [hx]
    show w.val * 1 + 1 * 0 = w.val
    omega
  · show cc0_transform_2 k0_off2_inb numel1_S1x1 (tbl m) (grid0.coords t) 1 * 16 + 1 * s.val = s.val
    rw [hx]
    show 0 * 16 + 1 * s.val = s.val
    omega
  · show cc0_transform_2 k0_off2_inb numel1_S1x1 (tbl m) (grid0.coords t) 2 * 768 + 1 * d.val = d.val
    rw [hx]
    show 0 * 768 + 1 * d.val = d.val
    omega

/-- The keys and values a grid point holds of its chosen window 2. -/
theorem blk3 (h : Good m) (c : Dev nD) (t : Fin (cfgM m (ok m h)).N) (s : Fin 16) (d : Fin 768) :
    (iblk m (ok m h) c 3 t : FVec Ideal S1x16x768 .f32) (ix3 0 s d) = (m ((c.tc : Thread nD τ).loc main_arg1) : FVec Ideal S49x16x768 .f32) (ix3 (Cert.AttnReferenceIdeal.Entry.widx (tab m) h ⟨t.val, point_lt m (ok m h) t⟩ 2) s d) := by
  have hx : cc0_transform_3 k0_off3_inb numel1_S1x1 (tbl m) (grid0.coords t) = ![(Cert.AttnReferenceIdeal.Entry.widx (tab m) h ⟨t.val, point_lt m (ok m h) t⟩ 2).val, 0, 0] := by
    refine (tr3 m (grid0.coords t) ⟨t.val, point_lt m (ok m h) t⟩ (coord t)).trans ?_
    exact congrArg (fun z => (![z, 0, 0] : Fin 3 → Nat)) (word_lt m h _ _).2.symm
  generalize Cert.AttnReferenceIdeal.Entry.widx (tab m) h ⟨t.val, point_lt m (ok m h) t⟩ 2 = w at hx ⊢
  show (m ((c.tc : Thread nD τ).loc main_arg1) : FVec Ideal S49x16x768 .f32) ((((cfgM m (ok m h)).win 3).blk t).view.emb (ix3 0 s d)) = _
  refine congrArg (m ((c.tc : Thread nD τ).loc main_arg1) : FVec Ideal S49x16x768 .f32) ?_
  funext a
  refine Fin.ext ?_
  fin_cases a
  · show cc0_transform_3 k0_off3_inb numel1_S1x1 (tbl m) (grid0.coords t) 0 * 1 + 1 * 0 = w.val
    rw [hx]
    show w.val * 1 + 1 * 0 = w.val
    omega
  · show cc0_transform_3 k0_off3_inb numel1_S1x1 (tbl m) (grid0.coords t) 1 * 16 + 1 * s.val = s.val
    rw [hx]
    show 0 * 16 + 1 * s.val = s.val
    omega
  · show cc0_transform_3 k0_off3_inb numel1_S1x1 (tbl m) (grid0.coords t) 2 * 768 + 1 * d.val = d.val
    rw [hx]
    show 0 * 768 + 1 * d.val = d.val
    omega

/-- The keys and values a grid point holds of its chosen window 3. -/
theorem blk4 (h : Good m) (c : Dev nD) (t : Fin (cfgM m (ok m h)).N) (s : Fin 16) (d : Fin 768) :
    (iblk m (ok m h) c 4 t : FVec Ideal S1x16x768 .f32) (ix3 0 s d) = (m ((c.tc : Thread nD τ).loc main_arg1) : FVec Ideal S49x16x768 .f32) (ix3 (Cert.AttnReferenceIdeal.Entry.widx (tab m) h ⟨t.val, point_lt m (ok m h) t⟩ 3) s d) := by
  have hx : cc0_transform_4 k0_off4_inb numel1_S1x1 (tbl m) (grid0.coords t) = ![(Cert.AttnReferenceIdeal.Entry.widx (tab m) h ⟨t.val, point_lt m (ok m h) t⟩ 3).val, 0, 0] := by
    refine (tr4 m (grid0.coords t) ⟨t.val, point_lt m (ok m h) t⟩ (coord t)).trans ?_
    exact congrArg (fun z => (![z, 0, 0] : Fin 3 → Nat)) (word_lt m h _ _).2.symm
  generalize Cert.AttnReferenceIdeal.Entry.widx (tab m) h ⟨t.val, point_lt m (ok m h) t⟩ 3 = w at hx ⊢
  show (m ((c.tc : Thread nD τ).loc main_arg1) : FVec Ideal S49x16x768 .f32) ((((cfgM m (ok m h)).win 4).blk t).view.emb (ix3 0 s d)) = _
  refine congrArg (m ((c.tc : Thread nD τ).loc main_arg1) : FVec Ideal S49x16x768 .f32) ?_
  funext a
  refine Fin.ext ?_
  fin_cases a
  · show cc0_transform_4 k0_off4_inb numel1_S1x1 (tbl m) (grid0.coords t) 0 * 1 + 1 * 0 = w.val
    rw [hx]
    show w.val * 1 + 1 * 0 = w.val
    omega
  · show cc0_transform_4 k0_off4_inb numel1_S1x1 (tbl m) (grid0.coords t) 1 * 16 + 1 * s.val = s.val
    rw [hx]
    show 0 * 16 + 1 * s.val = s.val
    omega
  · show cc0_transform_4 k0_off4_inb numel1_S1x1 (tbl m) (grid0.coords t) 2 * 768 + 1 * d.val = d.val
    rw [hx]
    show 0 * 768 + 1 * d.val = d.val
    omega

/-- Four blocks of sixteen keys joined, read at one key. -/
theorem kvAt_of (v5 v7 v9 v11 : Vec Ideal S1x16x768 .f32) (f : Fin 4 → Fin 16 → Fin 768 → EReal)
    (h0 : ∀ s d, v5 (ix3 0 s d) = f 0 s d) (h1 : ∀ s d, v7 (ix3 0 s d) = f 1 s d) (h2 : ∀ s d, v9 (ix3 0 s d) = f 2 s d) (h3 : ∀ s d, v11 (ix3 0 s d) = f 3 s d)
    (k : Fin 64) (d : Fin 768) : kvAt v5 v7 v9 v11 k d = f ⟨k.val / 16, by omega⟩ ⟨k.val % 16, by omega⟩ d := by
  have e : ∀ (i j : Fin 4), i = j → f i ⟨k.val % 16, by omega⟩ d = f j ⟨k.val % 16, by omega⟩ d := fun i j h => by rw [h]
  have hk := k.isLt
  unfold kvAt
  split
  · exact (h0 _ d).trans (e _ _ (Fin.ext (by show 0 = k.val / 16; omega)))
  split
  · exact (h1 _ d).trans (e _ _ (Fin.ext (by show 1 = k.val / 16; omega)))
  split
  · exact (h2 _ d).trans (e _ _ (Fin.ext (by show 2 = k.val / 16; omega)))
  · exact (h3 _ d).trans (e _ _ (Fin.ext (by show 3 = k.val / 16; omega)))

/-- The keys and values a grid point gathers. -/
theorem gathered (h : Good m) (c : Dev nD) (t : Fin (cfgM m (ok m h)).N) (k : Fin 64) (d : Fin 768) :
    kvAt (iblk m (ok m h) c 1 t) (iblk m (ok m h) c 2 t) (iblk m (ok m h) c 3 t) (iblk m (ok m h) c 4 t) k d
      = (m ((c.tc : Thread nD τ).loc main_arg1) : FVec Ideal S49x16x768 .f32) (ix3 (Cert.AttnReferenceIdeal.Entry.widx (tab m) h ⟨t.val, point_lt m (ok m h) t⟩ ⟨k.val / 16, by omega⟩) (⟨k.val % 16, by omega⟩ : Fin 16) d) := by
  exact kvAt_of (iblk m (ok m h) c 1 t) (iblk m (ok m h) c 2 t) (iblk m (ok m h) c 3 t) (iblk m (ok m h) c 4 t)
    (fun i s d => (m ((c.tc : Thread nD τ).loc main_arg1) : FVec Ideal S49x16x768 .f32) (ix3 (Cert.AttnReferenceIdeal.Entry.widx (tab m) h ⟨t.val, point_lt m (ok m h) t⟩ i) s d))
    (blk1 m h c t) (blk2 m h c t) (blk3 m h c t) (blk4 m h c t) k d

/-- The attention of the launch's arguments. -/
abbrev want (c : Dev nD) : FVec Ideal S224x224x384 .bf16 :=
  Cert.AttnReferenceIdeal.Entry.ATT (m ((c.tc : Thread nD τ).loc main_arg0)) (m ((c.tc : Thread nD τ).loc main_arg1)) (tab m)

/-- The place in the image of an entry of a grid point's block. -/
theorem place (hO : Gen.Ok m) (t : Fin (cfgM m hO).N) (a b : Fin 32) (d : Fin 384) :
    (((cfgM m hO).win 5).blk t).view.emb (ix3 a b d) = (ix3 (⟨t.val / 7 * 32 + a.val, by have := point_lt m hO t; omega⟩ : Fin 224) (⟨t.val % 7 * 32 + b.val, by omega⟩ : Fin 224) d : S224x224x384.Idx) := by
  have hx : cc0_transform_5 (grid0.coords t) = ![t.val / 7, t.val % 7, 0] :=
    (by decide +kernel : ∀ t : Fin grid0.N, cc0_transform_5 (grid0.coords t) = ![t.val / 7, t.val % 7, 0]) t
  funext x
  refine Fin.ext ?_
  fin_cases x
  · show cc0_transform_5 (grid0.coords t) 0 * 32 + 1 * a.val = t.val / 7 * 32 + a.val
    rw [hx]
    show t.val / 7 * 32 + 1 * a.val = _
    omega
  · show cc0_transform_5 (grid0.coords t) 1 * 32 + 1 * b.val = t.val % 7 * 32 + b.val
    rw [hx]
    show t.val % 7 * 32 + 1 * b.val = _
    omega
  · show cc0_transform_5 (grid0.coords t) 2 * 384 + 1 * d.val = d.val
    rw [hx]
    show 0 * 384 + 1 * d.val = d.val
    omega

/-- What a grid point computes at an entry of its block is the attention at that entry of the image. -/
theorem computed (h : Good m) (c : Dev nD) (t : Fin (cfgM m (ok m h)).N) (a b : Fin 32) (g : Fin 8) (e : Fin 48) :
    body (k0_pay3 (iblk m (ok m h) c 0 t)) (kmat (iblk m (ok m h) c 1 t) (iblk m (ok m h) c 2 t) (iblk m (ok m h) c 3 t) (iblk m (ok m h) c 4 t)) (vmat (iblk m (ok m h) c 1 t) (iblk m (ok m h) c 2 t) (iblk m (ok m h) c 3 t) (iblk m (ok m h) c 4 t)) (ix3 a b (hd g e))
      = want m c (ix3 (⟨t.val / 7 * 32 + a.val, by have := point_lt m (ok m h) t; omega⟩ : Fin 224) (⟨t.val % 7 * 32 + b.val, by omega⟩ : Fin 224) (hd g e)) := by
  have ht := point_lt m (ok m h) t
  refine (stored _ _ _ _ _ a b g e).trans ?_
  refine Eq.trans ?_ (Cert.AttnReferenceIdeal.Entry.ATT_apply _ _ (tab m) h _ _ g e).symm
  have e1 : (⟨(t.val / 7 * 32 + a.val) / 32 * 7 + (t.val % 7 * 32 + b.val) / 32, by omega⟩ : Fin 49) = ⟨t.val, ht⟩ := Fin.ext (by show (t.val / 7 * 32 + a.val) / 32 * 7 + (t.val % 7 * 32 + b.val) / 32 = t.val; omega)
  have e2 : (⟨(t.val / 7 * 32 + a.val) % 32 * 32 + (t.val % 7 * 32 + b.val) % 32, by omega⟩ : Fin 1024) = ⟨a.val * 32 + b.val, by omega⟩ := Fin.ext (by show (t.val / 7 * 32 + a.val) % 32 * 32 + (t.val % 7 * 32 + b.val) % 32 = a.val * 32 + b.val; omega)
  simp only [e1, e2]
  congr 1
  · funext d
    exact blk0 m (ok m h) c t _ d
  · funext k d
    exact gathered m h c t k _
  · funext k d
    exact gathered m h c t k _

theorem stands (h : Good m) (c : Dev nD) (t : Fin (cfgM m (ok m h)).N) (y : S32x32x384.Idx) :
    body (k0_pay3 (iblk m (ok m h) c 0 t)) (kmat (iblk m (ok m h) c 1 t) (iblk m (ok m h) c 2 t) (iblk m (ok m h) c 3 t) (iblk m (ok m h) c 4 t)) (vmat (iblk m (ok m h) c 1 t) (iblk m (ok m h) c 2 t) (iblk m (ok m h) c 3 t) (iblk m (ok m h) c 4 t)) y
      = want m c ((((cfgM m (ok m h)).win 5).blk t).view.emb y) := by
  idx_vars y
  have e2 : y2 = hd ⟨y2.val / 48, by omega⟩ ⟨y2.val % 48, by omega⟩ := Fin.ext (by show y2.val = 48 * (y2.val / 48) + y2.val % 48; omega)
  rw [e2]
  exact (computed m h c t y0 y1 ⟨y2.val / 48, by omega⟩ ⟨y2.val % 48, by omega⟩).trans (congrArg (want m c) (place m (ok m h) t y0 y1 _).symm)

/-- Every entry of the image is stored at some grid point. -/
theorem covers (hO : Gen.Ok m) : ((cfgM m hO).win 5).Covers := by
  have hs : ∀ i j : Fin 7, ∃ t : Fin grid0.N, cc0_transform_5 (grid0.coords t) = ![i.val, j.val, 0] := by decide +kernel
  refine Pipeline.Window.covers_of_index_surj _ rfl (by decide : ∀ a : Fin 3, 0 < S32x32x384.size a) fun β => ?_
  have n0 : ((cfgM m hO).win 5).nblk (0 : Fin 3) = 7 := by
    show (S224x224x384.size 0 + S32x32x384.size 0 - 1) / S32x32x384.size 0 = 7
    decide
  have n1 : ((cfgM m hO).win 5).nblk (1 : Fin 3) = 7 := by
    show (S224x224x384.size 1 + S32x32x384.size 1 - 1) / S32x32x384.size 1 = 7
    decide
  have n2 : ((cfgM m hO).win 5).nblk (2 : Fin 3) = 1 := by
    show (S224x224x384.size 2 + S32x32x384.size 2 - 1) / S32x32x384.size 2 = 1
    decide
  obtain ⟨t, ht⟩ := hs ⟨(β (0 : Fin 3)).val, (β (0 : Fin 3)).isLt.trans_eq n0⟩ ⟨(β (1 : Fin 3)).val, (β (1 : Fin 3)).isLt.trans_eq n1⟩
  have h2 : (β (2 : Fin 3)).val < 1 := (β (2 : Fin 3)).isLt.trans_eq n2
  have key : ∀ a : Fin 3, cc0_transform_5 (grid0.coords t) a = (β a).val := by
    intro a
    rw [ht]
    fin_cases a
    · rfl
    · rfl
    · show 0 = (β (2 : Fin 3)).val
      omega
  exact ⟨t, key⟩

/-- What the body leaves in its block, as one function of the five blocks it reads. -/
theorem left_eq (c : Dev nD) (i : grid0.Coords) (arg2 : Memref sig .tc .vmem S1x1024x384 .bf16) (harg2 : arg2.IsWhole) (arg3 : Memref sig .tc .vmem S1x16x768 .f32) (harg3 : arg3.IsWhole) (arg4 : Memref sig .tc .vmem S1x16x768 .f32) (harg4 : arg4.IsWhole) (arg5 : Memref sig .tc .vmem S1x16x768 .f32) (harg5 : arg5.IsWhole) (arg6 : Memref sig .tc .vmem S1x16x768 .f32) (harg6 : arg6.IsWhole) (arg7 : Memref sig .tc .vmem S32x32x384 .bf16) (harg7 : arg7.IsWhole)
    (x0 : Vec Ideal S1x1024x384 .bf16) (x1 : Vec Ideal S1x16x768 .f32) (x2 : Vec Ideal S1x16x768 .f32) (x3 : Vec Ideal S1x16x768 .f32) (x4 : Vec Ideal S1x16x768 .f32) (xt0 : TbBuf0 (F := Ideal) c tbM0_0) (y : S32x32x384.Idx) :
    out0_A_5 c i arg2 harg2 arg3 harg3 arg4 harg4 arg5 harg5 arg6 harg6 arg7 harg7 x0 x1 x2 x3 x4 xt0 y = body (k0_pay3 x0) (kmat x1 x2 x3 x4) (vmat x1 x2 x3 x4) y := by
  frame_out
  rfl

/-- The image after the run is the attention of the arguments. -/
theorem final (h : Good m) (c : Dev nD) : (dats m (ok m h) 0 c).arrAt 5 (cfgM m (ok m h)).N = want m c := by
  refine (dats m (ok m h) 0 c).arrAt_eq_of_covers 5 _ (covers m (ok m h)) fun t hf (y : S32x32x384.Idx) => ?_
  blk_simp; rw [after0_5]
  unfold outsAt0
  refine (left_eq c _ _ _ _ _ _ _ _ _ _ _ _ _ (iblk m (ok m h) c 0 t) (iblk m (ok m h) c 1 t) (iblk m (ok m h) c 2 t) (iblk m (ok m h) c 3 t) (iblk m (ok m h) c 4 t) _ y).trans ?_
  exact stands m h c t y

end Cert.AttnIdeal.Entry

end
-- ==== Proof.AttnClaim.lean ====
/- Hand-written: the attention kernel's claims. -/
module

public import proofs.«01_k».proof.Defs
public import proofs.«01_k».proof.Proof.AttnOk
public import proofs.«01_k».proof.Proof.AttnFinal
public import Idealize.ShloMosaic.Lib.Claim
public import Idealize.ShloMosaic.Lib.Quiescent

@[expose] public section

set_option maxRecDepth 16384

noncomputable section

namespace Cert.Proof

open Idealize.ShloMosaic Idealize.SL.Sem

/-- The precondition, read word by word: every chosen window is one of the 49. -/
theorem inRange_of_pre {F : FTy → Type} [FloatOps F] (a0 : FVec F Cert.Pre_windows_exist.S49x1024x384 .bf16) (a1 : FVec F Cert.Pre_windows_exist.S49x16x768 .f32)
    (a2 : IVec Cert.Pre_windows_exist.S49x4 32) (h : Cert.Pre_windows_exist.fn a0 a1 a2 = fun _ => 1#1) : Cert.AttnReferenceIdeal.Entry.InRange a2 := by
  intro p i
  have both : ∀ b b' : Bool, IntOp.andi (BitVec.ofBool b) (BitVec.ofBool b') = 1#1 → b = true ∧ b' = true := by decide
  obtain ⟨ge, lt⟩ := both _ _ (congrFun h (ix2 p i))
  have ge' : BitVec.sle 0#32 (a2 (ix2 p i)) = true := ge
  have lt' : BitVec.slt (a2 (ix2 p i)) 49#32 = true := lt
  simp only [BitVec.sle, BitVec.slt, decide_eq_true_eq] at ge' lt'
  exact ⟨ge', lt'⟩

/-- The attention kernel runs, keeps its arguments and leaves every semaphore at zero. -/
theorem frame_Attn : Cert.quiescent_Attn := fun m ρ h =>
  Cert.Attn.Gen.frame m ρ (Cert.Attn.Entry.ok m (inRange_of_pre _ _ _ (h 0)))

/-- Its idealization does too. -/
theorem frame_AttnIdeal : Cert.quiescent_AttnIdeal := fun m ρ h =>
  Cert.AttnIdeal.Gen.frame m ρ (Cert.AttnIdeal.Entry.ok m (inRange_of_pre _ _ _ (h 0)))

/-- So does the plain attention, which has no semaphore. -/
theorem frame_AttnReferenceIdeal : Cert.quiescent_AttnReferenceIdeal := fun m ρ _ =>
  θ_run_and ((θ_run Cert.AttnReferenceIdeal.defs _ _).mono (fun _ h c => (h c).2) (Cert.AttnReferenceIdeal.Value.run (F := Ideal) m ρ))
    ((θ_run Cert.AttnReferenceIdeal.defs _ _).mono (fun r _ => Idealize.ShloMosaic.sem_eq_zero_of_no_sems (by decide) r.2)
      (Cert.AttnReferenceIdeal.Value.run (F := Ideal) m ρ))

/-- The attention kernel, idealized, computes the plain attention of its arguments. -/
theorem algebraic_AttnIdeal_AttnReferenceIdeal : Cert.algebraic_AttnIdeal_AttnReferenceIdeal := by
  intro m g m' g' hpre hagree
  have good : Cert.AttnIdeal.Entry.Good m := inRange_of_pre _ _ _ (hpre 0)
  refine ⟨fun c => Cert.AttnIdeal.Entry.want m c,
    (θ_run Cert.AttnIdeal.defs _ _).mono (fun r h c => ⟨((h.2 c).1 5).trans (Cert.AttnIdeal.Entry.final m good c), h.1 c⟩)
      (θ_run_and (Cert.AttnIdeal.Gen.unchanged m g (Cert.AttnIdeal.Entry.ok m good)) (Cert.AttnIdeal.Gen.run_main m g (Cert.AttnIdeal.Entry.ok m good))),
    (θ_run Cert.AttnReferenceIdeal.defs _ _).mono (fun r h c => ⟨(h c).1.trans ?_, (h c).2⟩) (Cert.AttnReferenceIdeal.Value.run (F := Ideal) m' g')⟩
  obtain rfl : c = 0 := Subsingleton.elim _ _
  obtain ⟨h0, h1, h2⟩ := hagree 0
  refine (Cert.AttnReferenceIdeal.Entry.res_eq m' 0).trans ?_
  rw [h0, h1, h2]

end Cert.Proof

end
-- ==== Proof.ConvMath.lean ====
/- Hand-written: a five by five stencil of an image with a zero margin, at one entry. -/
module

public import proofs.«01_k».proof.Proof.RowMath

@[expose] public section

noncomputable section

open Idealize.ShloMosaic

namespace Cert.ConvMath

/-- The integer zero as a float is zero. -/
theorem sitofp_zero : FloatOps.sitofp (F := Ideal) .f32 (0#32) = (0 : EReal) := by
  show ((((0#32 : BitVec 32).toInt : ℝ)) : EReal) = 0
  simp

/-- The image read at a row and a column counted from its margin of two zeros. -/
def vpad (v : Fin 224 → Fin 224 → EReal) (r s : ℕ) : EReal :=
  if h : (2 ≤ r ∧ r - 2 < 224) ∧ 2 ≤ s ∧ s - 2 < 224 then v ⟨r - 2, by omega⟩ ⟨s - 2, by omega⟩ else 0

/-- The twenty-five products, summed row by row from zero. -/
def conv25 (P w : Fin 5 → Fin 5 → EReal) : EReal :=
  0 + P 0 0 * w 0 0 + P 0 1 * w 0 1 + P 0 2 * w 0 2 + P 0 3 * w 0 3 + P 0 4 * w 0 4 + P 1 0 * w 1 0 + P 1 1 * w 1 1 + P 1 2 * w 1 2 + P 1 3 * w 1 3 + P 1 4 * w 1 4 + P 2 0 * w 2 0 + P 2 1 * w 2 1 + P 2 2 * w 2 2 + P 2 3 * w 2 3 + P 2 4 * w 2 4 + P 3 0 * w 3 0 + P 3 1 * w 3 1 + P 3 2 * w 3 2 + P 3 3 * w 3 3 + P 3 4 * w 3 4 + P 4 0 * w 4 0 + P 4 1 * w 4 1 + P 4 2 * w 4 2 + P 4 3 * w 4 3 + P 4 4 * w 4 4

end Cert.ConvMath

end
-- ==== Proof.LepeRef.lean ====
/- Hand-written: the plain depthwise convolution, projection and residual read at one entry. -/
module

public import proofs.«01_k».proof.Proof.Gen.LepeReferenceIdeal.Run
public import proofs.«01_k».proof.Proof.RowMath
public import proofs.«01_k».proof.Proof.ConvMath

@[expose] public section

set_option maxRecDepth 16384

noncomputable section

open Idealize.ShloMosaic Idealize.ShloMosaic.TcCoe Idealize.SL.Sem

namespace Cert.LepeReferenceIdeal.Entry

open Cert.LepeReferenceIdeal Cert.LepeReferenceIdeal.Gen Cert.RowMath Cert.ConvMath

/-- The image with its margin of two zeros on every side, as the host's operation makes it. -/
abbrev padRef (a0 : FVec Ideal S224x224x384 .bf16) : FVec Ideal S228x228x384 .f32 :=
  pad S228x228x384 ![2, 2, 0] ![2, 2, 0] ![0, 0, 0] (extf .f32 a0 bitsLt_bf16_f32) (sitofp .f32 (constantI S_ 32 0#32)) pads_S224x224x384_S228x228x384_220_220_000 h_S_

/-- The sum of the twenty-five shifted products, as the host's operations compose it. -/
abbrev convRef (P : FVec Ideal S228x228x384 .f32) (a3 : FVec Ideal S5x5x1x384 .f32) : FVec Ideal S224x224x384 .f32 :=
  addf (addf (addf (addf (addf (addf (addf (addf (addf (addf (addf (addf (addf (addf (addf (addf (addf (addf (addf (addf (addf (addf (addf (addf (addf (broadcastInDim S224x224x384 ![] bcast_S_S224x224x384 (constant S_ .f32 0x00000000#32)) (mulf (extractStridedSlice S224x224x384 ![0, 0, 0] P slices_S228x228x384_S224x224x384_0_0_0) (broadcastInDim S224x224x384 ![0, 1, 2] bcast_S1x1x384_S224x224x384_0_1_2 (broadcastInDim S1x1x384 ![2] bcast_S384_S1x1x384_2 (shapeCast _ (extractStridedSlice S1x1x1x384 ![0, 0, 0, 0] a3 slices_S5x5x1x384_S1x1x1x384_0_0_0_0) shapeCasts_S1x1x1x384_S384))))) (mulf (extractStridedSlice S224x224x384 ![0, 1, 0] P slices_S228x228x384_S224x224x384_0_1_0) (broadcastInDim S224x224x384 ![0, 1, 2] bcast_S1x1x384_S224x224x384_0_1_2 (broadcastInDim S1x1x384 ![2] bcast_S384_S1x1x384_2 (shapeCast _ (extractStridedSlice S1x1x1x384 ![0, 1, 0, 0] a3 slices_S5x5x1x384_S1x1x1x384_0_1_0_0) shapeCasts_S1x1x1x384_S384))))) (mulf (extractStridedSlice S224x224x384 ![0, 2, 0] P slices_S228x228x384_S224x224x384_0_2_0) (broadcastInDim S224x224x384 ![0, 1, 2] bcast_S1x1x384_S224x224x384_0_1_2 (broadcastInDim S1x1x384 ![2] bcast_S384_S1x1x384_2 (shapeCast _ (extractStridedSlice S1x1x1x384 ![0, 2, 0, 0] a3 slices_S5x5x1x384_S1x1x1x384_0_2_0_0) shapeCasts_S1x1x1x384_S384))))) (mulf (extractStridedSlice S224x224x384 ![0, 3, 0] P slices_S228x228x384_S224x224x384_0_3_0) (broadcastInDim S224x224x384 ![0, 1, 2] bcast_S1x1x384_S224x224x384_0_1_2 (broadcastInDim S1x1x384 ![2] bcast_S384_S1x1x384_2 (shapeCast _ (extractStridedSlice S1x1x1x384 ![0, 3, 0, 0] a3 slices_S5x5x1x384_S1x1x1x384_0_3_0_0) shapeCasts_S1x1x1x384_S384))))) (mulf (extractStridedSlice S224x224x384 ![0, 4, 0] P slices_S228x228x384_S224x224x384_0_4_0) (broadcastInDim S224x224x384 ![0, 1, 2] bcast_S1x1x384_S224x224x384_0_1_2 (broadcastInDim S1x1x384 ![2] bcast_S384_S1x1x384_2 (shapeCast _ (extractStridedSlice S1x1x1x384 ![0, 4, 0, 0] a3 slices_S5x5x1x384_S1x1x1x384_0_4_0_0) shapeCasts_S1x1x1x384_S384))))) (mulf (extractStridedSlice S224x224x384 ![1, 0, 0] P slices_S228x228x384_S224x224x384_1_0_0) (broadcastInDim S224x224x384 ![0, 1, 2] bcast_S1x1x384_S224x224x384_0_1_2 (broadcastInDim S1x1x384 ![2] bcast_S384_S1x1x384_2 (shapeCast _ (extractStridedSlice S1x1x1x384 ![1, 0, 0, 0] a3 slices_S5x5x1x384_S1x1x1x384_1_0_0_0) shapeCasts_S1x1x1x384_S384))))) (mulf (extractStridedSlice S224x224x384 ![1, 1, 0] P slices_S228x228x384_S224x224x384_1_1_0) (broadcastInDim S224x224x384 ![0, 1, 2] bcast_S1x1x384_S224x224x384_0_1_2 (broadcastInDim S1x1x384 ![2] bcast_S384_S1x1x384_2 (shapeCast _ (extractStridedSlice S1x1x1x384 ![1, 1, 0, 0] a3 slices_S5x5x1x384_S1x1x1x384_1_1_0_0) shapeCasts_S1x1x1x384_S384))))) (mulf (extractStridedSlice S224x224x384 ![1, 2, 0] P slices_S228x228x384_S224x224x384_1_2_0) (broadcastInDim S224x224x384 ![0, 1, 2] bcast_S1x1x384_S224x224x384_0_1_2 (broadcastInDim S1x1x384 ![2] bcast_S384_S1x1x384_2 (shapeCast _ (extractStridedSlice S1x1x1x384 ![1, 2, 0, 0] a3 slices_S5x5x1x384_S1x1x1x384_1_2_0_0) shapeCasts_S1x1x1x384_S384))))) (mulf (extractStridedSlice S224x224x384 ![1, 3, 0] P slices_S228x228x384_S224x224x384_1_3_0) (broadcastInDim S224x224x384 ![0, 1, 2] bcast_S1x1x384_S224x224x384_0_1_2 (broadcastInDim S1x1x384 ![2] bcast_S384_S1x1x384_2 (shapeCast _ (extractStridedSlice S1x1x1x384 ![1, 3, 0, 0] a3 slices_S5x5x1x384_S1x1x1x384_1_3_0_0) shapeCasts_S1x1x1x384_S384))))) (mulf (extractStridedSlice S224x224x384 ![1, 4, 0] P slices_S228x228x384_S224x224x384_1_4_0) (broadcastInDim S224x224x384 ![0, 1, 2] bcast_S1x1x384_S224x224x384_0_1_2 (broadcastInDim S1x1x384 ![2] bcast_S384_S1x1x384_2 (shapeCast _ (extractStridedSlice S1x1x1x384 ![1, 4, 0, 0] a3 slices_S5x5x1x384_S1x1x1x384_1_4_0_0) shapeCasts_S1x1x1x384_S384))))) (mulf (extractStridedSlice S224x224x384 ![2, 0, 0] P slices_S228x228x384_S224x224x384_2_0_0) (broadcastInDim S224x224x384 ![0, 1, 2] bcast_S1x1x384_S224x224x384_0_1_2 (broadcastInDim S1x1x384 ![2] bcast_S384_S1x1x384_2 (shapeCast _ (extractStridedSlice S1x1x1x384 ![2, 0, 0, 0] a3 slices_S5x5x1x384_S1x1x1x384_2_0_0_0) shapeCasts_S1x1x1x384_S384))))) (mulf (extractStridedSlice S224x224x384 ![2, 1, 0] P slices_S228x228x384_S224x224x384_2_1_0) (broadcastInDim S224x224x384 ![0, 1, 2] bcast_S1x1x384_S224x224x384_0_1_2 (broadcastInDim S1x1x384 ![2] bcast_S384_S1x1x384_2 (shapeCast _ (extractStridedSlice S1x1x1x384 ![2, 1, 0, 0] a3 slices_S5x5x1x384_S1x1x1x384_2_1_0_0) shapeCasts_S1x1x1x384_S384))))) (mulf (extractStridedSlice S224x224x384 ![2, 2, 0] P slices_S228x228x384_S224x224x384_2_2_0) (broadcastInDim S224x224x384 ![0, 1, 2] bcast_S1x1x384_S224x224x384_0_1_2 (broadcastInDim S1x1x384 ![2] bcast_S384_S1x1x384_2 (shapeCast _ (extractStridedSlice S1x1x1x384 ![2, 2, 0, 0] a3 slices_S5x5x1x384_S1x1x1x384_2_2_0_0) shapeCasts_S1x1x1x384_S384))))) (mulf (extractStridedSlice S224x224x384 ![2, 3, 0] P slices_S228x228x384_S224x224x384_2_3_0) (broadcastInDim S224x224x384 ![0, 1, 2] bcast_S1x1x384_S224x224x384_0_1_2 (broadcastInDim S1x1x384 ![2] bcast_S384_S1x1x384_2 (shapeCast _ (extractStridedSlice S1x1x1x384 ![2, 3, 0, 0] a3 slices_S5x5x1x384_S1x1x1x384_2_3_0_0) shapeCasts_S1x1x1x384_S384))))) (mulf (extractStridedSlice S224x224x384 ![2, 4, 0] P slices_S228x228x384_S224x224x384_2_4_0) (broadcastInDim S224x224x384 ![0, 1, 2] bcast_S1x1x384_S224x224x384_0_1_2 (broadcastInDim S1x1x384 ![2] bcast_S384_S1x1x384_2 (shapeCast _ (extractStridedSlice S1x1x1x384 ![2, 4, 0, 0] a3 slices_S5x5x1x384_S1x1x1x384_2_4_0_0) shapeCasts_S1x1x1x384_S384))))) (mulf (extractStridedSlice S224x224x384 ![3, 0, 0] P slices_S228x228x384_S224x224x384_3_0_0) (broadcastInDim S224x224x384 ![0, 1, 2] bcast_S1x1x384_S224x224x384_0_1_2 (broadcastInDim S1x1x384 ![2] bcast_S384_S1x1x384_2 (shapeCast _ (extractStridedSlice S1x1x1x384 ![3, 0, 0, 0] a3 slices_S5x5x1x384_S1x1x1x384_3_0_0_0) shapeCasts_S1x1x1x384_S384))))) (mulf (extractStridedSlice S224x224x384 ![3, 1, 0] P slices_S228x228x384_S224x224x384_3_1_0) (broadcastInDim S224x224x384 ![0, 1, 2] bcast_S1x1x384_S224x224x384_0_1_2 (broadcastInDim S1x1x384 ![2] bcast_S384_S1x1x384_2 (shapeCast _ (extractStridedSlice S1x1x1x384 ![3, 1, 0, 0] a3 slices_S5x5x1x384_S1x1x1x384_3_1_0_0) shapeCasts_S1x1x1x384_S384))))) (mulf (extractStridedSlice S224x224x384 ![3, 2, 0] P slices_S228x228x384_S224x224x384_3_2_0) (broadcastInDim S224x224x384 ![0, 1, 2] bcast_S1x1x384_S224x224x384_0_1_2 (broadcastInDim S1x1x384 ![2] bcast_S384_S1x1x384_2 (shapeCast _ (extractStridedSlice S1x1x1x384 ![3, 2, 0, 0] a3 slices_S5x5x1x384_S1x1x1x384_3_2_0_0) shapeCasts_S1x1x1x384_S384))))) (mulf (extractStridedSlice S224x224x384 ![3, 3, 0] P slices_S228x228x384_S224x224x384_3_3_0) (broadcastInDim S224x224x384 ![0, 1, 2] bcast_S1x1x384_S224x224x384_0_1_2 (broadcastInDim S1x1x384 ![2] bcast_S384_S1x1x384_2 (shapeCast _ (extractStridedSlice S1x1x1x384 ![3, 3, 0, 0] a3 slices_S5x5x1x384_S1x1x1x384_3_3_0_0) shapeCasts_S1x1x1x384_S384))))) (mulf (extractStridedSlice S224x224x384 ![3, 4, 0] P slices_S228x228x384_S224x224x384_3_4_0) (broadcastInDim S224x224x384 ![0, 1, 2] bcast_S1x1x384_S224x224x384_0_1_2 (broadcastInDim S1x1x384 ![2] bcast_S384_S1x1x384_2 (shapeCast _ (extractStridedSlice S1x1x1x384 ![3, 4, 0, 0] a3 slices_S5x5x1x384_S1x1x1x384_3_4_0_0) shapeCasts_S1x1x1x384_S384))))) (mulf (extractStridedSlice S224x224x384 ![4, 0, 0] P slices_S228x228x384_S224x224x384_4_0_0) (broadcastInDim S224x224x384 ![0, 1, 2] bcast_S1x1x384_S224x224x384_0_1_2 (broadcastInDim S1x1x384 ![2] bcast_S384_S1x1x384_2 (shapeCast _ (extractStridedSlice S1x1x1x384 ![4, 0, 0, 0] a3 slices_S5x5x1x384_S1x1x1x384_4_0_0_0) shapeCasts_S1x1x1x384_S384))))) (mulf (extractStridedSlice S224x224x384 ![4, 1, 0] P slices_S228x228x384_S224x224x384_4_1_0) (broadcastInDim S224x224x384 ![0, 1, 2] bcast_S1x1x384_S224x224x384_0_1_2 (broadcastInDim S1x1x384 ![2] bcast_S384_S1x1x384_2 (shapeCast _ (extractStridedSlice S1x1x1x384 ![4, 1, 0, 0] a3 slices_S5x5x1x384_S1x1x1x384_4_1_0_0) shapeCasts_S1x1x1x384_S384))))) (mulf (extractStridedSlice S224x224x384 ![4, 2, 0] P slices_S228x228x384_S224x224x384_4_2_0) (broadcastInDim S224x224x384 ![0, 1, 2] bcast_S1x1x384_S224x224x384_0_1_2 (broadcastInDim S1x1x384 ![2] bcast_S384_S1x1x384_2 (shapeCast _ (extractStridedSlice S1x1x1x384 ![4, 2, 0, 0] a3 slices_S5x5x1x384_S1x1x1x384_4_2_0_0) shapeCasts_S1x1x1x384_S384))))) (mulf (extractStridedSlice S224x224x384 ![4, 3, 0] P slices_S228x228x384_S224x224x384_4_3_0) (broadcastInDim S224x224x384 ![0, 1, 2] bcast_S1x1x384_S224x224x384_0_1_2 (broadcastInDim S1x1x384 ![2] bcast_S384_S1x1x384_2 (shapeCast _ (extractStridedSlice S1x1x1x384 ![4, 3, 0, 0] a3 slices_S5x5x1x384_S1x1x1x384_4_3_0_0) shapeCasts_S1x1x1x384_S384))))) (mulf (extractStridedSlice S224x224x384 ![4, 4, 0] P slices_S228x228x384_S224x224x384_4_4_0) (broadcastInDim S224x224x384 ![0, 1, 2] bcast_S1x1x384_S224x224x384_0_1_2 (broadcastInDim S1x1x384 ![2] bcast_S384_S1x1x384_2 (shapeCast _ (extractStridedSlice S1x1x1x384 ![4, 4, 0, 0] a3 slices_S5x5x1x384_S1x1x1x384_4_4_0_0) shapeCasts_S1x1x1x384_S384))))

/-- The reference's result. -/
abbrev REF (a0 a1 : FVec Ideal S224x224x384 .bf16) (a2 : FVec Ideal S224x224x384 .f32) (a3 : FVec Ideal S5x5x1x384 .f32) (a4 : FVec Ideal S384 .f32) (a5 : FVec Ideal S384x384 .f32) (a6 : FVec Ideal S384 .f32) : FVec Ideal S224x224x384 .f32 :=
  addf a2 (addf (Host.dotGeneral dot_S224x224x384_S384x384_S224x224x384_2_0_01_1_n_n none (addf (extf .f32 a1 bitsLt_bf16_f32) (addf (convRef (padRef a0) a3) (broadcastInDim S224x224x384 ![0, 1, 2] bcast_S1x1x384_S224x224x384_0_1_2 (broadcastInDim S1x1x384 ![2] bcast_S384_S1x1x384_2 a4)))) a5) (broadcastInDim S224x224x384 ![0, 1, 2] bcast_S1x1x384_S224x224x384_0_1_2 (broadcastInDim S1x1x384 ![2] bcast_S384_S1x1x384_2 a6)))

/-- The padded image at one entry. -/
theorem padRef_apply (a0 : FVec Ideal S224x224x384 .bf16) (r s : Fin 228) (k : Fin 384) :
    padRef a0 (ix3 r s k) = vpad (fun p q => a0 (ix3 p q k)) r.val s.val := by
  unfold vpad padRef
  pointwise
  rw [sitofp_zero]

/-- The convolution at one entry. -/
theorem convRef_apply (a0 : FVec Ideal S224x224x384 .bf16) (a3 : FVec Ideal S5x5x1x384 .f32) (p q : Fin 224) (k : Fin 384) :
    convRef (padRef a0) a3 (ix3 p q k) = conv25 (fun dy dx => vpad (fun p q => a0 (ix3 p q k)) (dy.val + p.val) (dx.val + q.val)) (fun dy dx => a3 (ix4 dy dx 0 k)) := by
  unfold conv25
  generalize hP : padRef a0 = P
  pointwise
  subst hP
  simp only [padRef_apply]

/-- The result at one entry. -/
theorem REF_apply (a0 a1 : FVec Ideal S224x224x384 .bf16) (a2 : FVec Ideal S224x224x384 .f32) (a3 : FVec Ideal S5x5x1x384 .f32) (a4 : FVec Ideal S384 .f32)
    (a5 : FVec Ideal S384x384 .f32) (a6 : FVec Ideal S384 .f32) (p q : Fin 224) (l : Fin 384) :
    REF a0 a1 a2 a3 a4 a5 a6 (ix3 p q l)
      = a2 (ix3 p q l) + dense (fun k => a1 (ix3 p q k) + (conv25 (fun dy dx => vpad (fun p q => a0 (ix3 p q k)) (dy.val + p.val) (dx.val + q.val)) (fun dy dx => a3 (ix4 dy dx 0 k)) + a4 (ix1 k)))
          (fun k j => a5 (ix2 k j)) (fun j => a6 (ix1 j)) l := by
  unfold REF
  generalize hL : convRef (padRef a0) a3 = L
  pointwise [dense]
  subst hL
  simp only [convRef_apply]

end Cert.LepeReferenceIdeal.Entry

end
-- ==== Proof.LepeValue.lean ====
/- Hand-written: what the stencil and projection kernel leaves in its result array is the plain reference of its arguments. -/
module

public import proofs.«01_k».proof.Proof.Gen.LepeIdeal.Value
public import proofs.«01_k».proof.Proof.LepeRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LepeIdeal.Entry

open Cert.LepeIdeal Cert.LepeIdeal.Gen Cert.RowMath Cert.ConvMath

/-- Selecting on the grid coordinate being positive. -/
theorem sel_pos (n : ℕ) (hn : n < 56) (x y : EReal) :
    Scalar.select (Scalar.cmpi .sgt (BitVec.ofNat 32 n) 0#32) x y = if 0 < n then x else y := by
  have key : ∀ n : Fin 56, Scalar.cmpi .sgt (BitVec.ofNat 32 n.val) 0#32 = if 0 < n.val then 1#1 else 0#1 := by decide +kernel
  rw [key ⟨n, hn⟩]
  split <;> simp [Scalar.select, *]

/-- Selecting on the grid coordinate not being the last. -/
theorem sel_last (n : ℕ) (hn : n < 56) (x y : EReal) :
    Scalar.select (Scalar.cmpi .slt (BitVec.ofNat 32 n) 55#32) x y = if n < 55 then x else y := by
  have key : ∀ n : Fin 56, Scalar.cmpi .slt (BitVec.ofNat 32 n.val) 55#32 = if n.val < 55 then 1#1 else 0#1 := by decide +kernel
  rw [key ⟨n, hn⟩]
  split <;> simp [Scalar.select, *]

/-- The block of eight image rows with its margin, at one entry. -/
theorem padded (i : grid0.Coords) (v0 : Vec Ideal S4x224x384 .bf16) (v3 v8 : Vec Ideal S2x224x384 .bf16) (k : Fin 384) (V : Fin 224 → Fin 224 → EReal)
    (hi : (i 0).val < 56)
    (h0 : ∀ (a : Fin 4) (b : Fin 224), v0 (ix3 a b k) = V ⟨(i 0).val * 4 + a.val, by omega⟩ b)
    (h3 : 0 < (i 0).val → ∀ (a : Fin 2) (b : Fin 224), v3 (ix3 a b k) = V ⟨(i 0).val * 4 - 2 + a.val, by omega⟩ b)
    (h8 : ∀ h : (i 0).val < 55, ∀ (a : Fin 2) (b : Fin 224), v8 (ix3 a b k) = V ⟨(i 0).val * 4 + 4 + a.val, by omega⟩ b)
    (r : Fin 8) (s : Fin 228) :
    k0_pay2 i v0 v3 v8 (ix3 r s k) = vpad V ((i 0).val * 4 + r.val) s.val := by
  unfold k0_pay2 vpad
  pointwise
  have key : ∀ (p p' : Fin 224) (q q' : Fin 224), p.val = p'.val → q.val = q'.val → V p q = V p' q' := fun p p' q q' h h' => by
    rw [Fin.ext h, Fin.ext h']
  have hr := r.isLt
  by_cases c1 : s.val < 2
  · rw [dif_pos c1, dif_neg (by omega)]
  rw [dif_neg c1]
  by_cases c2 : s.val - 2 < 224
  swap
  · rw [dif_neg c2, dif_neg (by omega)]
  rw [dif_pos c2]
  by_cases c3 : r.val < 2
  · rw [dif_pos c3]
    refine (sel_pos _ hi _ _).trans ?_
    by_cases c4 : 0 < (i 0).val
    · rw [if_pos c4, dif_pos (by omega), h3 c4]
      exact key _ _ _ _ (by show (i 0).val * 4 - 2 + r.val = (i 0).val * 4 + r.val - 2; omega) rfl
    · rw [if_neg c4, dif_neg (by omega)]
  rw [dif_neg c3]
  by_cases c5 : r.val - 2 < 4
  · rw [dif_pos c5, dif_pos (by omega), h0]
    exact key _ _ _ _ (by show (i 0).val * 4 + (r.val - 2) = (i 0).val * 4 + r.val - 2; omega) rfl
  rw [dif_neg c5]
  refine (sel_last _ hi _ _).trans ?_
  by_cases c6 : (i 0).val < 55
  · rw [if_pos c6, dif_pos (by omega), h8 c6]
    exact key _ _ _ _ (by show (i 0).val * 4 + 4 + (r.val - 2 - 4) = (i 0).val * 4 + r.val - 2; omega) rfl
  · rw [if_neg c6, dif_neg (by omega)]

/-- The body's stored value at one entry of its block. -/
theorem stored (i : grid0.Coords) (x0 x1 x2 x3 : Vec Ideal S4x224x384 .bf16) (x4 : Vec Ideal S4x224x384 .f32) (x5 : Vec Ideal S25x384 .f32) (x6 : Vec Ideal S1x384 .f32) (x7 : Vec Ideal S384x384 .f32) (x8 : Vec Ideal S1x384 .f32)
    (a : Fin 4) (b : Fin 224) (l : Fin 384) :
    k0_pay1 (k0_pay12 i x0 x1 x2 x3 x4 x5 x6 x7 x8) (k0_pay10 (k0_pay12 i x0 x1 x2 x3 x4 x5 x6 x7 x8) (k0_pay8 (k0_pay12 i x0 x1 x2 x3 x4 x5 x6 x7 x8) (k0_pay5 (k0_pay12 i x0 x1 x2 x3 x4 x5 x6 x7 x8) (k0_pay3 i x0 (View.ld x1 r0_1) (View.ld x2 r0_2) (View.ld x5 r0_3) (View.ld x5 r0_4) (View.ld x5 r0_5)) (k0_pay4 i x0 (View.ld x1 r0_1) (View.ld x2 r0_2)) (View.ld x5 r0_6) (View.ld x5 r0_7) (View.ld x5 r0_8) (View.ld x5 r0_9) (View.ld x5 r0_10) (View.ld x5 r0_11)) (k0_pay6 (k0_pay12 i x0 x1 x2 x3 x4 x5 x6 x7 x8)) (k0_pay7 (View.ld x5 r0_12)) (View.ld x5 r0_13) (View.ld x5 r0_14) (View.ld x5 r0_15) (View.ld x5 r0_16) (View.ld x5 r0_17) (View.ld x5 r0_18)) (k0_pay9 (k0_pay12 i x0 x1 x2 x3 x4 x5 x6 x7 x8)) (View.ld x5 r0_19) (View.ld x5 r0_20) (View.ld x5 r0_21) (View.ld x5 r0_22) (View.ld x5 r0_23) (View.ld x5 r0_24) (View.ld x5 r0_25)) (k0_pay11 (k0_pay12 i x0 x1 x2 x3 x4 x5 x6 x7 x8)) (View.ld x5 r0_26) (View.ld x5 r0_27) x6 x3 x7 x8 x4 (ix3 a b l)
      = x4 (ix3 a b l) + dense (fun k => x3 (ix3 a b k) + (conv25 (fun dy dx => k0_pay2 i x0 (View.ld x1 r0_1) (View.ld x2 r0_2) (ix3 (⟨dy.val + a.val, by omega⟩ : Fin 8) (⟨dx.val + b.val, by omega⟩ : Fin 228) k)) (fun dy dx => x5 (ix2 (⟨dy.val * 5 + dx.val, by omega⟩ : Fin 25) k)) + x6 (ix2 0 k)))
          (fun k j => x7 (ix2 k j)) (fun j => x8 (ix2 0 j)) l := by
  unfold k0_pay3 k0_pay4
  have hx : View.ld x0 r0_0 = x0 := by
    funext y
    idx_vars y
    pointwise
  unfold k0_pay12
  rw [hx]
  generalize hP : k0_pay2 i x0 (View.ld x1 r0_1) (View.ld x2 r0_2) = P
  unfold k0_pay1 k0_pay10 k0_pay8 k0_pay5 k0_pay6 k0_pay7 k0_pay9 k0_pay11 conv25
  pointwise [dense]

/-- Where each window stands at each grid point. -/
theorem idx : ∀ t : Fin cfg0.N, win0_0.index t = ![t.val, 0, 0]
    ∧ win0_1.index t = ![t.val - 1, 0, 0]
    ∧ win0_2.index t = ![if t.val < 55 then t.val + 1 else 55, 0, 0]
    ∧ win0_3.index t = ![t.val, 0, 0]
    ∧ win0_4.index t = ![t.val, 0, 0]
    ∧ win0_5.index t = ![0, 0]
    ∧ win0_6.index t = ![0, 0]
    ∧ win0_7.index t = ![0, 0]
    ∧ win0_8.index t = ![0, 0]
    ∧ win0_9.index t = ![t.val, 0, 0] :=
  (by decide +kernel : ∀ t : Fin grid0.N, _)

/-- A grid point's coordinate is its number. -/
theorem coord : ∀ t : Fin cfg0.N, (grid0.coords t 0).val = t.val :=
  (by decide +kernel : ∀ t : Fin grid0.N, _)

variable (m : (ℓ : Loc nD τ sig) → Buf (Elt Ideal) ℓ)

/-- The reference of the launch's arguments. -/
abbrev want (c : Dev nD) : FVec Ideal S224x224x384 .f32 :=
  Cert.LepeReferenceIdeal.Entry.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The block with its margin at a grid point is the zero padded image. -/
theorem padBlk (c : Dev nD) (t : Fin cfg0.N) (k : Fin 384) (r : Fin 8) (s : Fin 228) :
    k0_pay2 (grid0.coords t) (iblk m c 0 t) (View.ld (iblk m c 1 t) r0_1) (View.ld (iblk m c 2 t) r0_2) (ix3 r s k)
      = vpad (fun p q => (m ((c : Thread nD τ).loc main_arg0) : FVec Ideal S224x224x384 .bf16) (ix3 p q k)) (t.val * 4 + r.val) s.val := by
  have hN : cfg0.N = 56 := N_0
  have ht := t.isLt
  have hc := coord t
  rw [padded (grid0.coords t) _ _ _ k (fun p q => (m ((c : Thread nD τ).loc main_arg0) : FVec Ideal S224x224x384 .bf16) (ix3 p q k)) (by omega), hc]
  · intro a b
    pointwise
    blk_point [iblk, V, idx t, hc]
  · intro h a b
    pointwise
    blk_point [iblk, V, idx t, hc]
  · intro h a b
    pointwise
    blk_point [iblk, V, idx t, hc]
    rw [if_pos (show t.val < 55 from hc ▸ h)]
    omega

/-- What point `t` stores at an index of its block is the reference at that index of the array. -/
theorem point (c : Dev nD) (t : Fin cfg0.N) (y : S4x224x384.Idx) :
    k0_pay1 (k0_pay12 (grid0.coords t) (iblk m c 0 t) (iblk m c 1 t) (iblk m c 2 t) (iblk m c 3 t) (iblk m c 4 t) (iblk m c 5 t) (iblk m c 6 t) (iblk m c 7 t) (iblk m c 8 t)) (k0_pay10 (k0_pay12 (grid0.coords t) (iblk m c 0 t) (iblk m c 1 t) (iblk m c 2 t) (iblk m c 3 t) (iblk m c 4 t) (iblk m c 5 t) (iblk m c 6 t) (iblk m c 7 t) (iblk m c 8 t)) (k0_pay8 (k0_pay12 (grid0.coords t) (iblk m c 0 t) (iblk m c 1 t) (iblk m c 2 t) (iblk m c 3 t) (iblk m c 4 t) (iblk m c 5 t) (iblk m c 6 t) (iblk m c 7 t) (iblk m c 8 t)) (k0_pay5 (k0_pay12 (grid0.coords t) (iblk m c 0 t) (iblk m c 1 t) (iblk m c 2 t) (iblk m c 3 t) (iblk m c 4 t) (iblk m c 5 t) (iblk m c 6 t) (iblk m c 7 t) (iblk m c 8 t)) (k0_pay3 (grid0.coords t) (iblk m c 0 t) (View.ld (iblk m c 1 t) r0_1) (View.ld (iblk m c 2 t) r0_2) (View.ld (iblk m c 5 t) r0_3) (View.ld (iblk m c 5 t) r0_4) (View.ld (iblk m c 5 t) r0_5)) (k0_pay4 (grid0.coords t) (iblk m c 0 t) (View.ld (iblk m c 1 t) r0_1) (View.ld (iblk m c 2 t) r0_2)) (View.ld (iblk m c 5 t) r0_6) (View.ld (iblk m c 5 t) r0_7) (View.ld (iblk m c 5 t) r0_8) (View.ld (iblk m c 5 t) r0_9) (View.ld (iblk m c 5 t) r0_10) (View.ld (iblk m c 5 t) r0_11)) (k0_pay6 (k0_pay12 (grid0.coords t) (iblk m c 0 t) (iblk m c 1 t) (iblk m c 2 t) (iblk m c 3 t) (iblk m c 4 t) (iblk m c 5 t) (iblk m c 6 t) (iblk m c 7 t) (iblk m c 8 t))) (k0_pay7 (View.ld (iblk m c 5 t) r0_12)) (View.ld (iblk m c 5 t) r0_13) (View.ld (iblk m c 5 t) r0_14) (View.ld (iblk m c 5 t) r0_15) (View.ld (iblk m c 5 t) r0_16) (View.ld (iblk m c 5 t) r0_17) (View.ld (iblk m c 5 t) r0_18)) (k0_pay9 (k0_pay12 (grid0.coords t) (iblk m c 0 t) (iblk m c 1 t) (iblk m c 2 t) (iblk m c 3 t) (iblk m c 4 t) (iblk m c 5 t) (iblk m c 6 t) (iblk m c 7 t) (iblk m c 8 t))) (View.ld (iblk m c 5 t) r0_19) (View.ld (iblk m c 5 t) r0_20) (View.ld (iblk m c 5 t) r0_21) (View.ld (iblk m c 5 t) r0_22) (View.ld (iblk m c 5 t) r0_23) (View.ld (iblk m c 5 t) r0_24) (View.ld (iblk m c 5 t) r0_25)) (k0_pay11 (k0_pay12 (grid0.coords t) (iblk m c 0 t) (iblk m c 1 t) (iblk m c 2 t) (iblk m c 3 t) (iblk m c 4 t) (iblk m c 5 t) (iblk m c 6 t) (iblk m c 7 t) (iblk m c 8 t))) (View.ld (iblk m c 5 t) r0_26) (View.ld (iblk m c 5 t) r0_27) (iblk m c 6 t) (iblk m c 3 t) (iblk m c 7 t) (iblk m c 8 t) (iblk m c 4 t) y
      = want m c (((cfg0.win 9).blk t).view.emb y) := by
  idx_vars y
  refine (stored (grid0.coords t) (iblk m c 0 t) (iblk m c 1 t) (iblk m c 2 t) (iblk m c 3 t) (iblk m c 4 t) (iblk m c 5 t) (iblk m c 6 t) (iblk m c 7 t) (iblk m c 8 t) y0 y1 y2).trans ?_
  have hN : cfg0.N = 56 := N_0
  have ht := t.isLt
  have hp : ((cfg0.win 9).blk t).view.emb (ix3 y0 y1 y2) = ix3 (⟨t.val * 4 + y0.val, by omega⟩ : Fin 224) y1 y2 := by
    blk_ext [idx t]
  show _ = want m c (((cfg0.win 9).blk t).view.emb (ix3 y0 y1 y2))
  rw [hp, want, Cert.LepeReferenceIdeal.Entry.REF_apply]
  congr 1
  · blk_point [iblk, V, idx t]
  · congr 1
    · funext k
      congr 1
      · blk_point [iblk, V, idx t]
      · congr 1
        · congr 1
          · funext dy dx
            refine (padBlk m c t k _ _).trans ?_
            congr 1
            · show t.val * 4 + (dy.val + y0.val) = dy.val + (t.val * 4 + y0.val)
              omega
          · funext dy dx; blk_point [iblk, V, idx t]
        · blk_point [iblk, V, idx t]
    · funext k j; blk_point [iblk, V, idx t]
    · funext k; blk_point [iblk, V, idx t]

/-- The result array after the run is the reference of the arguments. -/
theorem final (c : Dev nD) : (dats m 0 c).arrAt 9 (cfgs 0).N = want m c := by
  refine (dats m 0 c).arrAt_eq_of_covers 9 _ (by decide +kernel) fun t hf y => ?_
  blk_simp; rw [after0_9]; frame_out
  exact point m c t y

end Cert.LepeIdeal.Entry

end
-- ==== Proof.LepeClaim.lean ====
/- Hand-written: the stencil and projection kernel's claims. -/
module

public import proofs.«01_k».proof.Defs
public import proofs.«01_k».proof.Proof.LepeValue
public import Idealize.ShloMosaic.Lib.Claim
public import Idealize.ShloMosaic.Lib.Quiescent

@[expose] public section

set_option maxRecDepth 16384

noncomputable section

namespace Cert.Proof

open Idealize.ShloMosaic Idealize.SL.Sem

/-- The stencil and projection kernel, idealized, computes its plain reference. -/
theorem algebraic_LepeIdeal_LepeReferenceIdeal : Cert.algebraic_LepeIdeal_LepeReferenceIdeal := by
  pair_intro
  · run_from Cert.LepeIdeal.Gen.run_main m g
  · run_from Cert.LepeReferenceIdeal.Value.run (F := Ideal) m' g'
    obtain ⟨h0, h1, h2, h3, h4, h5, h6⟩ := hagree c
    rw [Cert.LepeIdeal.Entry.final m c]
    unfold Cert.LepeIdeal.Entry.want
    rw [← h0, ← h1, ← h2, ← h3, ← h4, ← h5, ← h6]
    rfl

/-- The plain reference runs, keeps its arguments and has no semaphore. -/
theorem frame_LepeReferenceIdeal : Cert.quiescent_LepeReferenceIdeal := fun m ρ _ =>
  θ_run_and ((θ_run Cert.LepeReferenceIdeal.defs _ _).mono (fun _ h c => (h c).2) (Cert.LepeReferenceIdeal.Value.run (F := Ideal) m ρ))
    ((θ_run Cert.LepeReferenceIdeal.defs _ _).mono (fun r _ => Idealize.ShloMosaic.sem_eq_zero_of_no_sems (by decide) r.2)
      (Cert.LepeReferenceIdeal.Value.run (F := Ideal) m ρ))

end Cert.Proof

end
-- ==== Proof.MlpRef.lean ====
/- Hand-written: the plain two-layer reference read at one entry, as a function of the entry's row. -/
module

public import proofs.«01_k».proof.Proof.Gen.MlpReferenceIdeal.Run
public import proofs.«01_k».proof.Proof.RowMath

@[expose] public section

set_option maxRecDepth 16384

noncomputable section

open Idealize.ShloMosaic Idealize.ShloMosaic.TcCoe Idealize.SL.Sem

namespace Cert.MlpReferenceIdeal.Entry

open Cert.MlpReferenceIdeal Cert.MlpReferenceIdeal.Gen Cert.RowMath

/-- The reference's layer normalisation as composed by its host operations. -/
abbrev lnRef (a0 : FVec Ideal S224x224x384 .f32) (a1 a2 : FVec Ideal S384 .f32) : FVec Ideal S224x224x384 .f32 :=
  addf (mulf (Host.divf (subf a0 (broadcastInDim S224x224x384 ![0, 1, 2] bcast_S224x224x1_S224x224x384_0_1_2 (Host.divf (broadcastInDim S224x224x1 ![0, 1] bcast_S224x224_S224x224x1_0_1 (Host.reduceAdd a0 (constant S_ .f32 0x00000000#32) reducesTo_S224x224x384_S224x224_d2 h_S_)) (broadcastInDim S224x224x1 ![] bcast_S_S224x224x1 (constant S_ .f32 0x43C00000#32))))) (broadcastInDim S224x224x384 ![0, 1, 2] bcast_S224x224x1_S224x224x384_0_1_2 (Host.sqrt (addf (select (broadcastInDim S224x224x1 ![] bcast_S_S224x224x1 (cmpf .ogt (subf (constant S_ .f32 0x43C00000#32) (sitofp .f32 (constantI S_ 32 0#32)) : FVec Ideal S_ .f32) (constant S_ .f32 0x00000000#32))) (Host.divf (broadcastInDim S224x224x1 ![0, 1] bcast_S224x224_S224x224x1_0_1 (Host.reduceAdd (mulf (subf a0 (broadcastInDim S224x224x384 ![0, 1, 2] bcast_S224x224x1_S224x224x384_0_1_2 (Host.divf (broadcastInDim S224x224x1 ![0, 1] bcast_S224x224_S224x224x1_0_1 (Host.reduceAdd a0 (constant S_ .f32 0x00000000#32) reducesTo_S224x224x384_S224x224_d2 h_S_)) (broadcastInDim S224x224x1 ![] bcast_S_S224x224x1 (constant S_ .f32 0x43C00000#32))))) (subf a0 (broadcastInDim S224x224x384 ![0, 1, 2] bcast_S224x224x1_S224x224x384_0_1_2 (Host.divf (broadcastInDim S224x224x1 ![0, 1] bcast_S224x224_S224x224x1_0_1 (Host.reduceAdd a0 (constant S_ .f32 0x00000000#32) reducesTo_S224x224x384_S224x224_d2 h_S_)) (broadcastInDim S224x224x1 ![] bcast_S_S224x224x1 (constant S_ .f32 0x43C00000#32)))))) (constant S_ .f32 0x00000000#32) reducesTo_S224x224x384_S224x224_d2 h_S_)) (broadcastInDim S224x224x1 ![] bcast_S_S224x224x1 (subf (constant S_ .f32 0x43C00000#32) (sitofp .f32 (constantI S_ 32 0#32))))) (broadcastInDim S224x224x1 ![] bcast_S_S224x224x1 (id (constant S_ .f32 0x7FC00000#32)))) (broadcastInDim S224x224x1 ![] bcast_S_S224x224x1 (constant S_ .f32 0x358637BD#32)))))) (broadcastInDim S224x224x384 ![0, 1, 2] bcast_S1x1x384_S224x224x384_0_1_2 (broadcastInDim S1x1x384 ![2] bcast_S384_S1x1x384_2 a1))) (broadcastInDim S224x224x384 ![0, 1, 2] bcast_S1x1x384_S224x224x384_0_1_2 (broadcastInDim S1x1x384 ![2] bcast_S384_S1x1x384_2 a2))

/-- The reference's first dense layer. -/
abbrev hidRef (a0 : FVec Ideal S224x224x384 .f32) (a1 a2 : FVec Ideal S384 .f32) (a3 : FVec Ideal S384x1536 .f32) (a4 : FVec Ideal S1536 .f32) : FVec Ideal S224x224x1536 .f32 :=
  addf (Host.dotGeneral dot_S224x224x384_S384x1536_S224x224x1536_2_0_01_1_n_n none (lnRef a0 a1 a2) a3) (broadcastInDim S224x224x1536 ![0, 1, 2] bcast_S1x1x1536_S224x224x1536_0_1_2 (broadcastInDim S1x1x1536 ![2] bcast_S1536_S1x1x1536_2 a4))

/-- The reference's result. -/
abbrev REF (a0 : FVec Ideal S224x224x384 .f32) (a1 a2 : FVec Ideal S384 .f32) (a3 : FVec Ideal S384x1536 .f32) (a4 : FVec Ideal S1536 .f32) (a5 : FVec Ideal S1536x384 .f32) (a6 : FVec Ideal S384 .f32) : FVec Ideal S224x224x384 .f32 :=
  addf a0 (addf (Host.dotGeneral dot_S224x224x1536_S1536x384_S224x224x384_2_0_01_1_n_n none (mulf (mulf (broadcastInDim S224x224x1536 ![] bcast_S_S224x224x1536 (constant S_ .f32 0x3F000000#32)) (hidRef a0 a1 a2 a3 a4)) (addf (broadcastInDim S224x224x1536 ![] bcast_S_S224x224x1536 (constant S_ .f32 0x3F800000#32)) (Host.erf (mulf (hidRef a0 a1 a2 a3 a4) (broadcastInDim S224x224x1536 ![] bcast_S_S224x224x1536 (constant S_ .f32 0x3F3504F3#32)))))) a5) (broadcastInDim S224x224x384 ![0, 1, 2] bcast_S1x1x384_S224x224x384_0_1_2 (broadcastInDim S1x1x384 ![2] bcast_S384_S1x1x384_2 a6)))

/-- The layer normalisation at one entry: the row's own. -/
theorem lnRef_apply (a0 : FVec Ideal S224x224x384 .f32) (a1 a2 : FVec Ideal S384 .f32) (p q : Fin 224) (k : Fin 384) :
    lnRef a0 a1 a2 (ix3 p q k) = lnRow (fun j => a0 (ix3 p q j)) (fun j => a1 (ix1 j)) (fun j => a2 (ix1 j)) k := by
  unfold lnRow
  rw [← div_sqrt _ _ (var_pos _)]
  pointwise [lnRef, lnRow, var, mean]
  rw [w384_sub, if_pos (by rw [w384]; norm_num)]

/-- The first dense layer at one entry. -/
theorem hidRef_apply (a0 : FVec Ideal S224x224x384 .f32) (a1 a2 : FVec Ideal S384 .f32) (a3 : FVec Ideal S384x1536 .f32) (a4 : FVec Ideal S1536 .f32)
    (p q : Fin 224) (j : Fin 1536) :
    hidRef a0 a1 a2 a3 a4 (ix3 p q j)
      = dense (lnRow (fun j => a0 (ix3 p q j)) (fun j => a1 (ix1 j)) (fun j => a2 (ix1 j))) (fun k j => a3 (ix2 k j)) (fun j => a4 (ix1 j)) j := by
  have h : hidRef a0 a1 a2 a3 a4 = addf (Host.dotGeneral dot_S224x224x384_S384x1536_S224x224x1536_2_0_01_1_n_n none (lnRef a0 a1 a2) a3) (broadcastInDim S224x224x1536 ![0, 1, 2] bcast_S1x1x1536_S224x224x1536_0_1_2 (broadcastInDim S1x1x1536 ![2] bcast_S1536_S1x1x1536_2 a4)) := rfl
  rw [h]
  generalize hL : lnRef a0 a1 a2 = L
  pointwise [dense]
  subst hL
  simp only [lnRef_apply]

/-- The result at one entry. -/
theorem REF_apply (a0 : FVec Ideal S224x224x384 .f32) (a1 a2 : FVec Ideal S384 .f32) (a3 : FVec Ideal S384x1536 .f32) (a4 : FVec Ideal S1536 .f32)
    (a5 : FVec Ideal S1536x384 .f32) (a6 : FVec Ideal S384 .f32) (p q : Fin 224) (l : Fin 384) :
    REF a0 a1 a2 a3 a4 a5 a6 (ix3 p q l)
      = mlpRow (fun j => a0 (ix3 p q j)) (fun j => a1 (ix1 j)) (fun j => a2 (ix1 j)) (fun k j => a3 (ix2 k j)) (fun j => a4 (ix1 j))
          (fun k j => a5 (ix2 k j)) (fun j => a6 (ix1 j)) l := by
  unfold REF mlpRow
  generalize hL : hidRef a0 a1 a2 a3 a4 = L
  pointwise [dense, gelu]
  subst hL
  simp only [hidRef_apply]
  simp only [dense]

/-- The reference run's result is this function of its arguments. -/
theorem res_eq (m : (ℓ : Loc nD τ sig) → Buf (Elt Ideal) ℓ) (c : Dev nD) :
    Cert.MlpReferenceIdeal.Value.res_out0 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.MlpReferenceIdeal.Entry

end
-- ==== Proof.MlpValue.lean ====
/- Hand-written: what the residual two-layer kernel leaves in its result array is the plain reference of its arguments. -/
module

public import proofs.«01_k».proof.Proof.Gen.MlpIdeal.Value
public import proofs.«01_k».proof.Proof.MlpRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Entry

open Cert.MlpIdeal Cert.MlpIdeal.Gen Cert.RowMath

/-- The body's first dense layer at row `r` of the block's 896 rows. -/
theorem hidden (v0 : Vec Ideal S4x224x384 .f32) (v18 v23 : Vec Ideal S1x384 .f32) (v28 : Vec Ideal S384x1536 .f32) (v30 : Vec Ideal S1x1536 .f32)
    (r : Fin 896) (j : Fin 1536) :
    k0_pay3 v0 v18 v23 v28 v30 (ix2 r j)
      = dense (lnRow (fun k => k0_pay2 v0 (ix2 r k)) (fun k => v18 (ix2 0 k)) (fun k => v23 (ix2 0 k))) (fun k j => v28 (ix2 k j)) (fun j => v30 (ix2 0 j)) j := by
  unfold k0_pay3 dense lnRow
  generalize k0_pay2 v0 = X
  pointwise [mean, var]

/-- The body's stored value at row `r`, before it is laid back as an image block. -/
theorem stored (v0 : Vec Ideal S4x224x384 .f32) (v18 v23 : Vec Ideal S1x384 .f32) (v28 : Vec Ideal S384x1536 .f32) (v30 : Vec Ideal S1x1536 .f32)
    (v43 : Vec Ideal S1536x384 .f32) (v45 : Vec Ideal S1x384 .f32) (a : Fin 4) (b : Fin 224) (l : Fin 384) :
    k0_pay1 (k0_pay2 v0) (k0_pay4 v0 v18 v23 v28 v30) (k0_pay5 v0 v18 v23 v28 v30) v43 v45 (ix3 a b l)
      = mlpRow (fun k => v0 (ix3 a b k)) (fun k => v18 (ix2 0 k)) (fun k => v23 (ix2 0 k)) (fun k j => v28 (ix2 k j)) (fun j => v30 (ix2 0 j))
          (fun k j => v43 (ix2 k j)) (fun j => v45 (ix2 0 j)) l := by
  have h2 : ∀ k : Fin 384, ∀ r : Fin 896, r.val = a.val * 224 + b.val → k0_pay2 v0 (ix2 r k) = v0 (ix3 a b k) := by
    intro k r hr
    pointwise [k0_pay2]
    have e1 : (⟨r.val / 224, by omega⟩ : Fin 4) = a := Fin.ext (by show r.val / 224 = a.val; omega)
    have e2 : (⟨r.val % 224, by omega⟩ : Fin 224) = b := Fin.ext (by show r.val % 224 = b.val; omega)
    rw [e1, e2]
  unfold k0_pay1 k0_pay4 k0_pay5
  generalize hL : k0_pay3 v0 v18 v23 v28 v30 = L
  generalize hX : k0_pay2 v0 = X
  pointwise
  subst hL hX
  simp only [hidden, h2 _ ⟨a.val * 224 + b.val, by omega⟩ rfl]
  unfold mlpRow dense gelu
  pointwise [dense]
  rfl

/-- Where each window stands at each grid point. -/
theorem idx : ∀ t : Fin cfg0.N, win0_0.index t = ![t.val, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0, 0] :=
  (by decide +kernel : ∀ t : Fin grid0.N, _)

variable (m : (ℓ : Loc nD τ sig) → Buf (Elt Ideal) ℓ)

/-- The reference of the launch's arguments. -/
abbrev want (c : Dev nD) : FVec Ideal S224x224x384 .f32 :=
  Cert.MlpReferenceIdeal.Entry.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` stores at an index of its block is the reference at that index of the array. -/
theorem point (c : Dev nD) (t : Fin cfg0.N) (y : S4x224x384.Idx) :
    k0_pay1 (k0_pay2 (iblk m c 0 t)) (k0_pay4 (iblk m c 0 t) (iblk m c 1 t) (iblk m c 2 t) (iblk m c 3 t) (iblk m c 4 t)) (k0_pay5 (iblk m c 0 t) (iblk m c 1 t) (iblk m c 2 t) (iblk m c 3 t) (iblk m c 4 t)) (iblk m c 5 t) (iblk m c 6 t) y
      = want m c (((cfg0.win 7).blk t).view.emb y) := by
  idx_vars y
  rw [stored]
  have hN : cfg0.N = 56 := N_0
  have ht := t.isLt
  have hp : ((cfg0.win 7).blk t).view.emb (ix3 y0 y1 y2) = ix3 (⟨t.val * 4 + y0.val, by omega⟩ : Fin 224) y1 y2 := by
    blk_ext [idx t]
  show _ = want m c (((cfg0.win 7).blk t).view.emb (ix3 y0 y1 y2))
  rw [hp, want, Cert.MlpReferenceIdeal.Entry.REF_apply]
  congr 1
  · funext k; blk_point [iblk, V, idx t]
  · funext k; blk_point [iblk, V, idx t]
  · funext k; blk_point [iblk, V, idx t]
  · funext k j; blk_point [iblk, V, idx t]
  · funext k; blk_point [iblk, V, idx t]
  · funext k j; blk_point [iblk, V, idx t]
  · funext k; blk_point [iblk, V, idx t]

/-- The result array after the run is the reference of the arguments. -/
theorem final (c : Dev nD) : (dats m 0 c).arrAt 7 (cfgs 0).N = want m c := by
  refine (dats m 0 c).arrAt_eq_of_covers 7 _ (by decide +kernel) fun t hf y => ?_
  blk_simp; rw [after0_7]; frame_out
  exact point m c t y

end Cert.MlpIdeal.Entry

end
-- ==== Proof.MlpClaim.lean ====
/- Hand-written: the residual two-layer kernel's claims. -/
module

public import proofs.«01_k».proof.Defs
public import proofs.«01_k».proof.Proof.MlpValue
public import Idealize.ShloMosaic.Lib.Claim
public import Idealize.ShloMosaic.Lib.Quiescent

@[expose] public section

set_option maxRecDepth 16384

noncomputable section

namespace Cert.Proof

open Idealize.ShloMosaic Idealize.SL.Sem

/-- The residual two-layer kernel, idealized, computes its plain reference. -/
theorem algebraic_MlpIdeal_MlpReferenceIdeal : Cert.algebraic_MlpIdeal_MlpReferenceIdeal := by
  pair_intro
  · run_from Cert.MlpIdeal.Gen.run_main m g
  · run_from Cert.MlpReferenceIdeal.Value.run (F := Ideal) m' g'
    obtain ⟨h0, h1, h2, h3, h4, h5, h6⟩ := hagree c
    rw [Cert.MlpIdeal.Entry.final m c]
    refine (Cert.MlpReferenceIdeal.Entry.res_eq m' c).trans ?_
    rw [h0, h1, h2, h3, h4, h5, h6]

/-- The plain reference runs, keeps its arguments and has no semaphore. -/
theorem frame_MlpReferenceIdeal : Cert.quiescent_MlpReferenceIdeal := fun m ρ _ =>
  θ_run_and ((θ_run Cert.MlpReferenceIdeal.defs _ _).mono (fun _ h c => (h c).2) (Cert.MlpReferenceIdeal.Value.run (F := Ideal) m ρ))
    ((θ_run Cert.MlpReferenceIdeal.defs _ _).mono (fun r _ => Idealize.ShloMosaic.sem_eq_zero_of_no_sems (by decide) r.2)
      (Cert.MlpReferenceIdeal.Value.run (F := Ideal) m ρ))

end Cert.Proof

end
-- ==== Proof.KernelReg.lean ====
/- Hand-written: one region of the whole layer's program as a segment between two contents of every unscoped buffer. -/
module

public import proofs.«01_k».proof.Proof.Gen.KernelIdeal.Launch
public import Idealize.ShloMosaic.Lib.Pipeline.RegionsLoop
public import Idealize.ShloMosaic.Lib.Pipeline.FrameTail
public import Idealize.ShloMosaic.Lib.Tactic

@[expose] public section

set_option maxRecDepth 4096

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

/-- Nothing is owed between the cores, so no level is used. -/
abbrev noL : GSem nD τ sig → Finset Unit := fun _ => ∅
/-- The level of everything. -/
abbrev noLv : GSem nD τ sig → Unit → ℕ := fun _ _ => 0

/-- What a core carries from one item to the next beside its buffers. -/
abbrev Carry (c : Dev nD) : sProp 𝕄 :=
  iprop((∃ r, prngReg c r) ∗ ∃ W, owes (c : Thread nD τ) (0 : CellTallies nD τ sig Unit) W)

variable (a : (p : Fin 5) → (pcfgs (F := F) p).Adm)
  (pdats : (p : Fin 5) → (c : Dev nD) → Dat τ (Elt F) Unit ℕ (UR sig nD τ) ℕ (Pipeline.pin (pcfgs (F := F)) a p) c)
  (p : Fin 5)

set_option backward.isDefEq.respectTransparency.types false in
/-- A region as a segment from the contents `V` to the contents `V'` of the unscoped buffers. -/
def region (kit : Pipeline.PLaunchFacts₀ (nD := nD) (τ := τ) (pcfgs (F := F)) p)
    (V V' : (c : Dev nD) → (b : Ref sig .tc) → Buf (Elt F) ((c : Thread nD τ).loc b))
    (hbody : ∀ c, Pipeline.BodyObligation (pdats p c) (defs₀ (F := F)) Variants.none () Set.univ)
    (hq : ∀ c w, ((Pipeline.pin (pcfgs (F := F)) a p).spec w).isOut = false → (pdats p c).q w = Pipeline.shareOf (Pipeline.pin (pcfgs (F := F)) a p).spec w)
    (howed : ∀ c t, (pdats p c).owed t = 0)
    (hrec : ∀ c, (pdats p c).recorded 0 = Set.univ)
    (hA : ∀ c w, (pdats p c).A w = V c (Pipeline.arrRef (Pipeline.pin (pcfgs (F := F)) a p).spec w))
    (hpf : ∀ c k, V c ((pcfgs (F := F) p).pre.ref k) = (a p).1 k)
    (hin : ∀ c, iprop((∃ r, prngReg c r) ∗ Pipeline.prefHeld (pcfgs (F := F) p).pre c (fun _ => fullShare) (a p).1 ∗ Pipeline.scopedRest (pcfgs (F := F) p).spec c) ⊢ (pdats p c).Φ 0)
    (hout : ∀ c, (pdats p c).Φ (Fin.last (Pipeline.pin (pcfgs (F := F)) a p).N) ⊢ iprop((∃ r, prngReg c r) ∗ Pipeline.prefHeld (pcfgs (F := F) p).pre c (fun _ => fullShare) (a p).1 ∗ Pipeline.scopedRest (pcfgs (F := F) p).spec c))
    (hF : ∀ c w, (pdats p c).arrAt w (Pipeline.pin (pcfgs (F := F)) a p).N = V' c (Pipeline.arrRef (Pipeline.pin (pcfgs (F := F)) a p).spec w))
    (hrest : ∀ c b, b ∉ Finset.univ.image (Pipeline.arrRef (Pipeline.pin (pcfgs (F := F)) a p).spec) → V' c b = V c b) :
    RegionSeg (pcfgs (F := F)) a pdats () defs₀ Variants.none noL noLv p where
  win := kit.win
  block_pos := kit.block_pos
  stage_whole := kit.stage_whole
  K := PEmpty
  osem k := k.elim
  ho := Pipeline.OwnSemFacts.none _
  hbody c := (hbody c).loose
  hwaits := Pipeline.hwaits_of_owed_zero _ _ _ _ noL noLv p howed
  pre c := iprop(unscopedBufs c (V c) ∗ Carry c)
  post c := iprop(unscopedBufs c (V' c) ∗ Carry c)
  X c := iprop(∃ r, prngReg c r)
  Y c := iprop((∃ r, prngReg c r) ∗ Pipeline.prefHeld (pcfgs (F := F) p).pre c (fun _ => fullShare) (a p).1)
  Z c := Pipeline.unscopedRestP (Ix := Unit) (Name := ℕ) (U := UR sig nD τ) (Lvl := ℕ) (pcfgs (F := F) p).pre (pcfgs (F := F) p).spec c (V c)
  hentry c := by
    rw [Pipeline.ownSems0_none]
    have hsplit := Pipeline.arrays_of_unscopedBufs_shared (p := p) (pcfgs (F := F)) a pdats kit.win kit.sharedIn kit.arr_whole c
      (hq c) (V c) (hA c)
    have hur := Pipeline.unscopedRest_split (Ix := Unit) (Name := ℕ) (U := UR sig nD τ) (Lvl := ℕ) kit.pre c (V c)
    rw [show (fun k => V c ((pcfgs (F := F) p).pre.ref k)) = (a p).1 from funext (hpf c)] at hur
    iintro ⟨⟨Hub, HR, HO⟩, -, -⟩
    ihave H := hsplit $$ Hub
    icases H with ⟨Ha, Hrest⟩
    ihave H2 := (Entails.of_eq hur) $$ Hrest
    icases H2 with ⟨Hp, Hrest⟩
    imodintro
    isplitl [Ha]; · iexact Ha
    isplitl [Hp]; · iexact Hp
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [HR]; · iexact HR
    iexact Hrest
  hin := hin
  hout c := by
    rw [Pipeline.ownSems0_none]
    refine (hout c).trans ?_
    iintro ⟨H1, H2, H3⟩
    isplitl [H1 H2]
    · isplitl [H1] <;> iassumption
    isplitr; · iempintro
    iexact H3
  hexit c := by
    have hur := Pipeline.unscopedRest_split (Ix := Unit) (Name := ℕ) (U := UR sig nD τ) (Lvl := ℕ) kit.pre c (V c)
    rw [show (fun k => V c ((pcfgs (F := F) p).pre.ref k)) = (a p).1 from funext (hpf c)] at hur
    have hjoin := Pipeline.unscopedBufs_of_arrays_shared (p := p) (pcfgs (F := F)) a (Ix := Unit) (Name := ℕ) (U := UR sig nD τ) (Lvl := ℕ) kit.win kit.sharedIn kit.arr_whole c
      pdats (hq c) (V c) (V' c) ((pdats p c).arrAt · (Pipeline.pin (pcfgs (F := F)) a p).N) (hF c) (hrest c)
    unfold Pipeline.Dat.owesAt Pipeline.owesWithin
    rw [howed c (Fin.last _)]
    iintro ⟨Ha, HO, ⟨Hp, Hpf⟩, Hrest⟩
    imodintro
    isplitl [Ha Hrest Hpf]
    · iapply hjoin
      isplitl [Ha]; · iexact Ha
      iapply (Entails.of_eq hur.symm)
      isplitl [Hpf] <;> iassumption
    isplitl [Hp]; · iexact Hp
    icases HO with ⟨%W, -, HO⟩; iexists W; iexact HO

end Cert.KernelIdeal.Whole

end
-- ==== Proof.KernelR0.lean ====
/- Hand-written: region 0 of the whole layer's program (qkv), over any contents of its arrays at entry:
   what its body leaves at each point, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S32x32x384 := Rect.unit (s := S32x32x384) ![0, 0, 0] S32x32x384.size inb_S32x32x384_S32x32x384_0_0_0
abbrev r0_1 : Rect S1x384 := Rect.unit (s := S1x384) ![0, 0] S1x384.size inb_S1x384_S1x384_0_0
abbrev r0_2 : Rect S384x1152 := Rect.unit (s := S384x1152) ![0, 0] S384x1152.size inb_S384x1152_S384x1152_0_0
abbrev r0_3 : Rect S1x1152 := Rect.unit (s := S1x1152) ![0, 0] S1x1152.size inb_S1x1152_S1x1152_0_0
abbrev r0_4 : Rect S1x1024x384 := Rect.unit (s := S1x1024x384) ![0, 0, 0] S1x1024x384.size inb_S1x1024x384_S1x1024x384_0_0_0
abbrev r0_5 : Rect S16x1024 := Rect.unit (s := S16x1024) ![0, 0] S16x1024.size inb_S16x1024_S16x1024_0_0
abbrev r0_6 : Rect S1x16x768 := Rect.unit (s := S1x16x768) ![0, 0, 0] S1x16x768.size inb_S1x16x768_S1x16x768_0_0_0
abbrev r0_7 : Rect S1x8x384 := Rect.unit (s := S1x8x384) ![0, 0, 0] S1x8x384.size inb_S1x8x384_S1x8x384_0_0_0

def k0_pay10 (x0 : Vec F S32x32x384 .f32) (x1 : Vec F S1x384 .f32) (x2 : Vec F S1x384 .f32) (x3 : Vec F S384x1152 .f32) (x4 : Vec F S1x1152 .f32) (x5 : Vec F S16x1024 .f32) : FVec F S1024x384 .f32 :=
  k0_pay7 (View.ld x0 r0_0) (View.ld x1 r0_1) (View.ld x2 r0_1) (View.ld x3 r0_2) (View.ld x4 r0_3) -- `v37`
def k0_pay11 (x0 : Vec F S32x32x384 .f32) (x1 : Vec F S1x384 .f32) (x2 : Vec F S1x384 .f32) (x3 : Vec F S384x1152 .f32) (x4 : Vec F S1x1152 .f32) (x5 : Vec F S16x1024 .f32) : FVec F S1024x384 .f32 :=
  k0_pay8 (View.ld x0 r0_0) (View.ld x1 r0_1) (View.ld x2 r0_1) (View.ld x3 r0_2) (View.ld x4 r0_3) -- `v38`

def out0_6 (x0 : Vec F S32x32x384 .f32) (x1 : Vec F S1x384 .f32) (x2 : Vec F S1x384 .f32) (x3 : Vec F S384x1152 .f32) (x4 : Vec F S1x1152 .f32) (x5 : Vec F S16x1024 .f32) : Vec F S1x1024x384 .bf16 :=
  View.canon [⟨r0_4, k0_pay1 (k0_pay9 (View.ld x0 r0_0) (View.ld x1 r0_1) (View.ld x2 r0_1) (View.ld x3 r0_2) (View.ld x4 r0_3))⟩]

theorem cover0_6 (p0 : Vec F S1x1024x384 .bf16) (y : S1x1024x384.Idx) :
    ∃ pc ∈ ([⟨r0_4, p0⟩] : List (View.Piece (Elt F) S1x1024x384 .bf16)), y ∈ pc.1.set :=
  View.cover_of_tiled [⟨r0_4, p0⟩] S1x1024x384.size (by rfl) y

def out0_7 (x0 : Vec F S32x32x384 .f32) (x1 : Vec F S1x384 .f32) (x2 : Vec F S1x384 .f32) (x3 : Vec F S384x1152 .f32) (x4 : Vec F S1x1152 .f32) (x5 : Vec F S16x1024 .f32) : Vec F S32x32x384 .bf16 :=
  View.canon [⟨r0_0, k0_pay2 (k0_pay11 x0 x1 x2 x3 x4 x5)⟩]

theorem cover0_7 (p0 : Vec F S32x32x384 .bf16) (y : S32x32x384.Idx) :
    ∃ pc ∈ ([⟨r0_0, p0⟩] : List (View.Piece (Elt F) S32x32x384 .bf16)), y ∈ pc.1.set :=
  View.cover_of_tiled [⟨r0_0, p0⟩] S32x32x384.size (by rfl) y

def out0_8 (x0 : Vec F S32x32x384 .f32) (x1 : Vec F S1x384 .f32) (x2 : Vec F S1x384 .f32) (x3 : Vec F S384x1152 .f32) (x4 : Vec F S1x1152 .f32) (x5 : Vec F S16x1024 .f32) : Vec F S1x16x768 .f32 :=
  View.canon [⟨r0_6, k0_pay3 (k0_pay10 x0 x1 x2 x3 x4 x5) (k0_pay11 x0 x1 x2 x3 x4 x5) (View.ld x5 r0_5)⟩]

theorem cover0_8 (p0 : Vec F S1x16x768 .f32) (y : S1x16x768.Idx) :
    ∃ pc ∈ ([⟨r0_6, p0⟩] : List (View.Piece (Elt F) S1x16x768 .f32)), y ∈ pc.1.set :=
  View.cover_of_tiled [⟨r0_6, p0⟩] S1x16x768.size (by rfl) y

def out0_9 (x0 : Vec F S32x32x384 .f32) (x1 : Vec F S1x384 .f32) (x2 : Vec F S1x384 .f32) (x3 : Vec F S384x1152 .f32) (x4 : Vec F S1x1152 .f32) (x5 : Vec F S16x1024 .f32) : Vec F S1x8x384 .f32 :=
  View.canon [⟨r0_7, k0_pay4 (k0_pay6 (View.ld x0 r0_0) (View.ld x1 r0_1) (View.ld x2 r0_1) (View.ld x3 r0_2) (View.ld x4 r0_3)) (k0_pay10 x0 x1 x2 x3 x4 x5)⟩]

theorem cover0_9 (p0 : Vec F S1x8x384 .f32) (y : S1x8x384.Idx) :
    ∃ pc ∈ ([⟨r0_7, p0⟩] : List (View.Piece (Elt F) S1x8x384 .f32)), y ∈ pc.1.set :=
  View.cover_of_tiled [⟨r0_7, p0⟩] S1x8x384.size (by rfl) y

set_option maxHeartbeats 1000000 in
theorem sound_kernel (c : Dev nD) (E : Set ℕ) (i : grid0.Coords) (arg1 : Memref sig .tc .vmem S32x32x384 .f32) (harg1 : arg1.IsWhole) (arg2 : Memref sig .tc .vmem S1x384 .f32) (harg2 : arg2.IsWhole) (arg3 : Memref sig .tc .vmem S1x384 .f32) (harg3 : arg3.IsWhole) (arg4 : Memref sig .tc .vmem S384x1152 .f32) (harg4 : arg4.IsWhole) (arg5 : Memref sig .tc .vmem S1x1152 .f32) (harg5 : arg5.IsWhole) (arg6 : Memref sig .tc .vmem S16x1024 .f32) (harg6 : arg6.IsWhole) (arg7 : Memref sig .tc .vmem S1x1024x384 .bf16) (harg7 : arg7.IsWhole) (arg8 : Memref sig .tc .vmem S32x32x384 .bf16) (harg8 : arg8.IsWhole) (arg9 : Memref sig .tc .vmem S1x16x768 .f32) (harg9 : arg9.IsWhole) (arg10 : Memref sig .tc .vmem S1x8x384 .f32) (harg10 : arg10.IsWhole)
    (x0 : Vec F S32x32x384 .f32) (x1 : Vec F S1x384 .f32) (x2 : Vec F S1x384 .f32) (x3 : Vec F S384x1152 .f32) (x4 : Vec F S1x1152 .f32) (x5 : Vec F S16x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5)) -∗ K ⟨⟩))
      ⊢ wp frame (wpE (defs₀ (F := F)) Variants.none c none) E (cc0__qkv_body i arg1 harg1 arg2 harg2 arg3 harg3 arg4 harg4 arg5 harg5 arg6 harg6 arg7 harg7 arg8 harg8 arg9 harg9 arg10 harg10) K := by
  simp only [cc0__qkv_body_eq_skeleton]; unfold cc0__qkv_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  iexists _; isplitr
  swap; · iexact H9
  ipureintro
  refine (View.read_writes_eq_canon _ _ _ (cover0_9 _)).trans ?_
  rfl

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out0_6 (iblk V c 0 t) (iblk V c 1 t) (iblk V c 2 t) (iblk V c 3 t) (iblk V c 4 t) (iblk V c 5 t)
    | ⟨7, _⟩ => out0_7 (iblk V c 0 t) (iblk V c 1 t) (iblk V c 2 t) (iblk V c 3 t) (iblk V c 4 t) (iblk V c 5 t)
    | ⟨8, _⟩ => out0_8 (iblk V c 0 t) (iblk V c 1 t) (iblk V c 2 t) (iblk V c 3 t) (iblk V c 4 t) (iblk V c 5 t)
    | ⟨9, _⟩ => out0_9 (iblk V c 0 t) (iblk V c 1 t) (iblk V c 2 t) (iblk V c 3 t) (iblk V c 4 t) (iblk V c 5 t)
  Φ _ := Pipeline.ΦA spec0 c
  q _ := fullShare
  owed _ := 0

theorem A_eq (c : Dev nD) (w : Fin cfg0.W) : (dats V c).A w = V c (Pipeline.arrRef spec0 w) := by
  dsimp only [dats]

theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = iblk V c 5 t := by dsimp only [dats]
theorem after0_6 (c : Dev nD) (t : Fin cfg0.N) : (dats V c).after 6 t = out0_6 (iblk V c 0 t) (iblk V c 1 t) (iblk V c 2 t) (iblk V c 3 t) (iblk V c 4 t) (iblk V c 5 t) := by dsimp only [dats]
theorem after0_7 (c : Dev nD) (t : Fin cfg0.N) : (dats V c).after 7 t = out0_7 (iblk V c 0 t) (iblk V c 1 t) (iblk V c 2 t) (iblk V c 3 t) (iblk V c 4 t) (iblk V c 5 t) := by dsimp only [dats]
theorem after0_8 (c : Dev nD) (t : Fin cfg0.N) : (dats V c).after 8 t = out0_8 (iblk V c 0 t) (iblk V c 1 t) (iblk V c 2 t) (iblk V c 3 t) (iblk V c 4 t) (iblk V c 5 t) := by dsimp only [dats]
theorem after0_9 (c : Dev nD) (t : Fin cfg0.N) : (dats V c).after 9 t = out0_9 (iblk V c 0 t) (iblk V c 1 t) (iblk V c 2 t) (iblk V c 3 t) (iblk V c 4 t) (iblk V c 5 t) := by dsimp only [dats]

theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d
theorem before0_5 (c : Dev nD) (t : Fin cfg0.N) (d) : (dats V c).before 5 t d = iblk V c 5 t :=
  before0_5_of V (dats V c) (A_eq V c 5) (after0_5 V c) t d

def bodyPre (c : Dev nD) (t : Fin cfg0.N) : sProp 𝕄 :=
  iprop((dats V c).Φ t.castSucc ∗ (dats V c).owesAt () t.castSucc
    ∗ (∃ d, owns (c : Thread nD τ) (st0_0 t) fullShare ((dats V c).before 0 t d))
    ∗ (∃ d, owns (c : Thread nD τ) (st0_1 t) fullShare ((dats V c).before 1 t d))
    ∗ (∃ d, owns (c : Thread nD τ) (st0_2 t) fullShare ((dats V c).before 2 t d))
    ∗ (∃ d, owns (c : Thread nD τ) (st0_3 t) fullShare ((dats V c).before 3 t d))
    ∗ (∃ d, owns (c : Thread nD τ) (st0_4 t) fullShare ((dats V c).before 4 t d))
    ∗ (∃ d, owns (c : Thread nD τ) (st0_5 t) fullShare ((dats V c).before 5 t d))
    ∗ (∃ d, owns (c : Thread nD τ) (st0_6 t) fullShare ((dats V c).before 6 t d))
    ∗ (∃ d, owns (c : Thread nD τ) (st0_7 t) fullShare ((dats V c).before 7 t d))
    ∗ (∃ d, owns (c : Thread nD τ) (st0_8 t) fullShare ((dats V c).before 8 t d))
    ∗ (∃ d, owns (c : Thread nD τ) (st0_9 t) fullShare ((dats V c).before 9 t d)))

def bodyPost (c : Dev nD) (t : Fin cfg0.N) : sProp 𝕄 :=
  iprop((dats V c).Φ t.succ ∗ (dats V c).owesAt () t.succ
    ∗ owns (c : Thread nD τ) (st0_0 t) fullShare ((dats V c).after 0 t)
    ∗ owns (c : Thread nD τ) (st0_1 t) fullShare ((dats V c).after 1 t)
    ∗ owns (c : Thread nD τ) (st0_2 t) fullShare ((dats V c).after 2 t)
    ∗ owns (c : Thread nD τ) (st0_3 t) fullShare ((dats V c).after 3 t)
    ∗ owns (c : Thread nD τ) (st0_4 t) fullShare ((dats V c).after 4 t)
    ∗ owns (c : Thread nD τ) (st0_5 t) fullShare ((dats V c).after 5 t)
    ∗ owns (c : Thread nD τ) (st0_6 t) fullShare ((dats V c).after 6 t)
    ∗ owns (c : Thread nD τ) (st0_7 t) fullShare ((dats V c).after 7 t)
    ∗ owns (c : Thread nD τ) (st0_8 t) fullShare ((dats V c).after 8 t)
    ∗ owns (c : Thread nD τ) (st0_9 t) fullShare ((dats V c).after 9 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dats V c).Φ t.succ = (dats V c).Φ t.castSucc from rfl,
    show (dats V c).owesAt () t.succ = (dats V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) V c) (defs₀ (F := F)) Variants.none () Set.univ := fun t => by
  rw [bigSep_W0, bigSep_W0, defs₀_row]
  exact triple_restated (sound_body V c t) rfl .rfl fun _ => .rfl

end Cert.KernelIdeal.R0

end
-- ==== Proof.KernelR1.lean ====
/- Hand-written: region 1 of the whole layer's program (route), over any contents of its arrays at entry:
   what its body leaves at each point, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S49x8x384 := Rect.unit (s := S49x8x384) ![0, 0, 0] S49x8x384.size inb_S49x8x384_S49x8x384_0_0_0
abbrev r0_1 : Rect S49x8 := Rect.unit (s := S49x8) ![0, 0] S49x8.size inb_S49x8_S49x8_0_0

def out0_1 (x0 : Vec F S49x8x384 .f32) : Vec F S49x8 .i32 :=
  View.canon [⟨r0_1, k1_pay1 (iota .tc S49x49 32 [1] iota_S49x49_d1_w32) (k1_pay4 (View.ld x0 r0_0)) (k1_pay7 (View.ld x0 r0_0)) (k1_pay8 (View.ld x0 r0_0)) (k1_pay9 (View.ld x0 r0_0))⟩]

theorem cover0_1 (p0 : Vec F S49x8 .i32) (y : S49x8.Idx) :
    ∃ pc ∈ ([⟨r0_1, p0⟩] : List (View.Piece (Elt F) S49x8 .i32)), y ∈ pc.1.set :=
  View.cover_of_tiled [⟨r0_1, p0⟩] S49x8.size (by rfl) y

set_option maxHeartbeats 1000000 in
theorem sound_kernel (c : Dev nD) (E : Set ℕ) (i : grid1.Coords) (arg1 : Memref sig .tc .vmem S49x8x384 .f32) (harg1 : arg1.IsWhole) (arg2 : Memref sig .tc .vmem S49x8 .i32) (harg2 : arg2.IsWhole)
    (x0 : Vec F S49x8x384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc1__route_body i arg1 harg1 arg2 harg2) K := by
  simp only [cc1__route_body_eq_skeleton]; unfold cc1__route_body_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dats (c : Dev nD) : Dat τ (Elt F) Unit ℕ (UR sig nD τ) ℕ cfg1 c where
  A w := V c (Pipeline.arrRef spec1 w)
  after w t := match w with
    | ⟨0, _⟩ => iblk V c 0 t
    | ⟨1, _⟩ => out0_1 (iblk V c 0 t)
  Φ _ := Pipeline.ΦA spec1 c
  q _ := fullShare
  owed _ := 0

theorem A_eq (c : Dev nD) (w : Fin cfg1.W) : (dats V c).A w = V c (Pipeline.arrRef spec1 w) := by
  dsimp only [dats]

theorem after0_0 (c : Dev nD) (t : Fin cfg1.N) : (dats V c).after 0 t = iblk V c 0 t := by dsimp only [dats]
theorem after0_1 (c : Dev nD) (t : Fin cfg1.N) : (dats V c).after 1 t = out0_1 (iblk V c 0 t) := by dsimp only [dats]

theorem before0_0 (c : Dev nD) (t : Fin cfg1.N) (d) : (dats V c).before 0 t d = iblk V c 0 t :=
  before0_0_of V (dats V c) (A_eq V c 0) (after0_0 V c) t d

def bodyPre (c : Dev nD) (t : Fin cfg1.N) : sProp 𝕄 :=
  iprop((dats V c).Φ t.castSucc ∗ (dats V c).owesAt () t.castSucc
    ∗ (∃ d, owns (c : Thread nD τ) (st1_0 t) fullShare ((dats V c).before 0 t d))
    ∗ (∃ d, owns (c : Thread nD τ) (st1_1 t) fullShare ((dats V c).before 1 t d)))

def bodyPost (c : Dev nD) (t : Fin cfg1.N) : sProp 𝕄 :=
  iprop((dats V c).Φ t.succ ∗ (dats V c).owesAt () t.succ
    ∗ owns (c : Thread nD τ) (st1_0 t) fullShare ((dats V c).after 0 t)
    ∗ owns (c : Thread nD τ) (st1_1 t) fullShare ((dats V c).after 1 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0]
  rw [show (dats V c).Φ t.succ = (dats V c).Φ t.castSucc from rfl,
    show (dats V c).owesAt () t.succ = (dats V c).owesAt () t.castSucc from rfl,
    after0_0, after0_1]
  iintro ⟨HΦ, Ho, ⟨%d0, H0⟩, ⟨%d1, H1⟩⟩
  iapply (sound_kernel c Set.univ (grid1.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dats (F := F) V c) (defs₀ (F := F)) Variants.none () Set.univ := fun t => by
  rw [bigSep_W1, bigSep_W1, defs₀_row]
  exact triple_restated (sound_body V c t) rfl .rfl fun _ => .rfl

end Cert.KernelIdeal.R1

end
-- ==== Proof.KernelR2.lean ====
/- Hand-written: region 2 of the whole layer's program (attention), over any contents of its arrays at entry:
   what its body leaves at each point, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev bodyAt2 (a : (pcfg2 (F := F)).Adm) (t : Fin (cfg2 a).N) : Prog (TpuEff nD τ sig (Elt F) Λ₀ .tc) PUnit :=
  cc2__attn_body (grid2.coords t) (Memref.whole main_v24) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5))

def tbl : pre2.Contents (Elt F) := fun j => V (0 : Dev nD) (pre2.ref j)
theorem V_pre (c : Dev nD) (j : Fin 1) : V c (pre2.ref j) = tbl V j := by
  obtain rfl : c = 0 := Subsingleton.elim _ _; rfl
abbrev Ok : Prop := ok2 (F := F) (tbl V)
abbrev adm (hO : Ok V) : (pcfg2 (F := F)).Adm := ⟨tbl V, hO⟩
abbrev cfgM (hO : Ok V) : Pipeline.Cfg sig Λ₀ := cfg2 (adm V hO)

abbrev tbM0_0 : Memref sig .tc .smem S49x4 .i32 := Memref.whole main_v24
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre2 (tbl V) c : sProp 𝕄) = iprop(tbPt0 c tbM0_0 (tbl V 0)) := by
  unfold Pipeline.ΦT Pipeline.prefHeld
  rw [show (Finset.univ : Finset (Fin 1)) = {(0 : Fin 1)} from by decide, bigSep_singleton]
  rfl

def iblk (hO : Ok V) (c : Dev nD) (w : Fin (cfgM V hO).W) (t : Fin (cfgM V hO).N) : (((cfgM V hO).win w).xblock ((cfgM V hO).grid.coords t)).Idx → Elt F ((cfgM V hO).win w).elt :=
  (((cfgM V hO).win w).blk t).view.read (Elt F) (V c (Pipeline.arrRef spec2 w))

theorem before0_0_of (hO : Ok V) {c : Dev nD} (dat : Dat τ (Elt F) Unit ℕ (UR sig nD τ) ℕ (cfgM V hO) c) (hA : dat.A 0 = V c (Pipeline.arrRef spec2 0))
    (hafter : ∀ t, dat.after 0 t = iblk V hO c 0 t) (t : Fin (cfgM V hO).N) (d) : dat.before 0 t d = iblk V hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok V) {c : Dev nD} (dat : Dat τ (Elt F) Unit ℕ (UR sig nD τ) ℕ (cfgM V hO) c) (hA : dat.A 1 = V c (Pipeline.arrRef spec2 1))
    (hafter : ∀ t, dat.after 1 t = iblk V hO c 1 t) (t : Fin (cfgM V hO).N) (d) : dat.before 1 t d = iblk V hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok V) {c : Dev nD} (dat : Dat τ (Elt F) Unit ℕ (UR sig nD τ) ℕ (cfgM V hO) c) (hA : dat.A 2 = V c (Pipeline.arrRef spec2 2))
    (hafter : ∀ t, dat.after 2 t = iblk V hO c 2 t) (t : Fin (cfgM V hO).N) (d) : dat.before 2 t d = iblk V hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok V) {c : Dev nD} (dat : Dat τ (Elt F) Unit ℕ (UR sig nD τ) ℕ (cfgM V hO) c) (hA : dat.A 3 = V c (Pipeline.arrRef spec2 3))
    (hafter : ∀ t, dat.after 3 t = iblk V hO c 3 t) (t : Fin (cfgM V hO).N) (d) : dat.before 3 t d = iblk V hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok V) {c : Dev nD} (dat : Dat τ (Elt F) Unit ℕ (UR sig nD τ) ℕ (cfgM V hO) c) (hA : dat.A 4 = V c (Pipeline.arrRef spec2 4))
    (hafter : ∀ t, dat.after 4 t = iblk V hO c 4 t) (t : Fin (cfgM V hO).N) (d) : dat.before 4 t d = iblk V hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev VO0_5 : View sig .tc .vmem S32x32x384 .bf16 := (Memref.whole cc2_stg5_0 : Memref sig .tc .vmem S32x32x384 .bf16).view
abbrev ms0_0 (hO : Ok V) (t : Fin (cfgM V hO).N) : Memref sig .tc .vmem S1x1024x384 .bf16 := spec2_0.stage ((cfgM V hO).slots t 0)
abbrev hs0_0 (hO : Ok V) (t : Fin (cfgM V hO).N) : (ms0_0 V hO t).IsWhole := hstage2_0 (((cfgM V hO).slots t 0).cast nbuf2_0)
abbrev ms0_1 (hO : Ok V) (t : Fin (cfgM V hO).N) : Memref sig .tc .vmem S1x16x768 .f32 := spec2_1.stage ((cfgM V hO).slots t 1)
abbrev hs0_1 (hO : Ok V) (t : Fin (cfgM V hO).N) : (ms0_1 V hO t).IsWhole := hstage2_1 (((cfgM V hO).slots t 1).cast nbuf2_1)
abbrev ms0_2 (hO : Ok V) (t : Fin (cfgM V hO).N) : Memref sig .tc .vmem S1x16x768 .f32 := spec2_2.stage ((cfgM V hO).slots t 2)
abbrev hs0_2 (hO : Ok V) (t : Fin (cfgM V hO).N) : (ms0_2 V hO t).IsWhole := hstage2_2 (((cfgM V hO).slots t 2).cast nbuf2_2)
abbrev ms0_3 (hO : Ok V) (t : Fin (cfgM V hO).N) : Memref sig .tc .vmem S1x16x768 .f32 := spec2_3.stage ((cfgM V hO).slots t 3)
abbrev hs0_3 (hO : Ok V) (t : Fin (cfgM V hO).N) : (ms0_3 V hO t).IsWhole := hstage2_3 (((cfgM V hO).slots t 3).cast nbuf2_3)
abbrev ms0_4 (hO : Ok V) (t : Fin (cfgM V hO).N) : Memref sig .tc .vmem S1x16x768 .f32 := spec2_4.stage ((cfgM V hO).slots t 4)
abbrev hs0_4 (hO : Ok V) (t : Fin (cfgM V hO).N) : (ms0_4 V hO t).IsWhole := hstage2_4 (((cfgM V hO).slots t 4).cast nbuf2_4)
abbrev ms0_5 (hO : Ok V) (t : Fin (cfgM V hO).N) : Memref sig .tc .vmem S32x32x384 .bf16 := spec2_5.stage ((cfgM V hO).slots t 5)
abbrev hs0_5 (hO : Ok V) (t : Fin (cfgM V hO).N) : (ms0_5 V hO t).IsWhole := hstage2_5 (((cfgM V hO).slots t 5).cast nbuf2_5)

noncomputable def kernelRun0_A (c : Dev nD) (i : grid2.Coords) (arg2 : Memref sig .tc .vmem S1x1024x384 .bf16) (harg2 : arg2.IsWhole) (arg3 : Memref sig .tc .vmem S1x16x768 .f32) (harg3 : arg3.IsWhole) (arg4 : Memref sig .tc .vmem S1x16x768 .f32) (harg4 : arg4.IsWhole) (arg5 : Memref sig .tc .vmem S1x16x768 .f32) (harg5 : arg5.IsWhole) (arg6 : Memref sig .tc .vmem S1x16x768 .f32) (harg6 : arg6.IsWhole) (arg7 : Memref sig .tc .vmem S32x32x384 .bf16) (harg7 : arg7.IsWhole)
    (x0 : Vec F S1x1024x384 .bf16) (x1 : Vec F S1x16x768 .f32) (x2 : Vec F S1x16x768 .f32) (x3 : Vec F S1x16x768 .f32) (x4 : Vec F S1x16x768 .f32) (xt0 : TbBuf0 (F := F) c tbM0_0) :
    { L5 : List (View.Piece (Elt F) S32x32x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ tbPt0 c tbM0_0 xt0) -∗ K ⟨⟩))
          ⊢ wp frame (wpE (defs₀ (F := F)) Variants.none c none) E (cc2__attn_body i tbM0_0 htbM0_0 arg2 harg2 arg3 harg3 arg4 harg4 arg5 harg5 arg6 harg6 arg7 harg7) K } := by
  refine ⟨?_, fun E K => ?run⟩
  case run =>
    simp only [cc2__attn_body_eq_skeleton]; unfold cc2__attn_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HT0

theorem cover0_A_5 (c : Dev nD) (i : grid2.Coords) (arg2 : Memref sig .tc .vmem S1x1024x384 .bf16) (harg2 : arg2.IsWhole) (arg3 : Memref sig .tc .vmem S1x16x768 .f32) (harg3 : arg3.IsWhole) (arg4 : Memref sig .tc .vmem S1x16x768 .f32) (harg4 : arg4.IsWhole) (arg5 : Memref sig .tc .vmem S1x16x768 .f32) (harg5 : arg5.IsWhole) (arg6 : Memref sig .tc .vmem S1x16x768 .f32) (harg6 : arg6.IsWhole) (arg7 : Memref sig .tc .vmem S32x32x384 .bf16) (harg7 : arg7.IsWhole)
    (x0 : Vec F S1x1024x384 .bf16) (x1 : Vec F S1x16x768 .f32) (x2 : Vec F S1x16x768 .f32) (x3 : Vec F S1x16x768 .f32) (x4 : Vec F S1x16x768 .f32) (xt0 : TbBuf0 (F := F) c tbM0_0) (y : S32x32x384.Idx) :
    ∃ pc ∈ (kernelRun0_A c i arg2 harg2 arg3 harg3 arg4 harg4 arg5 harg5 arg6 harg6 arg7 harg7 x0 x1 x2 x3 x4 xt0).1, y ∈ pc.1.set :=
  View.cover_of_tiledL (kernelRun0_A c i arg2 harg2 arg3 harg3 arg4 harg4 arg5 harg5 arg6 harg6 arg7 harg7 x0 x1 x2 x3 x4 xt0).1 S32x32x384.size (by sl_kernel_rfl) y

def out0_A_5 (c : Dev nD) (i : grid2.Coords) (arg2 : Memref sig .tc .vmem S1x1024x384 .bf16) (harg2 : arg2.IsWhole) (arg3 : Memref sig .tc .vmem S1x16x768 .f32) (harg3 : arg3.IsWhole) (arg4 : Memref sig .tc .vmem S1x16x768 .f32) (harg4 : arg4.IsWhole) (arg5 : Memref sig .tc .vmem S1x16x768 .f32) (harg5 : arg5.IsWhole) (arg6 : Memref sig .tc .vmem S1x16x768 .f32) (harg6 : arg6.IsWhole) (arg7 : Memref sig .tc .vmem S32x32x384 .bf16) (harg7 : arg7.IsWhole)
    (x0 : Vec F S1x1024x384 .bf16) (x1 : Vec F S1x16x768 .f32) (x2 : Vec F S1x16x768 .f32) (x3 : Vec F S1x16x768 .f32) (x4 : Vec F S1x16x768 .f32) (xt0 : TbBuf0 (F := F) c tbM0_0) : Vec F S32x32x384 .bf16 :=
  VO0_5.read (Elt F) (VO0_5.writes (Elt F) VO0_5.junk (kernelRun0_A c i arg2 harg2 arg3 harg3 arg4 harg4 arg5 harg5 arg6 harg6 arg7 harg7 x0 x1 x2 x3 x4 xt0).1)

def outsAt0 (hO : Ok V) (c : Dev nD) (t : Fin (cfgM V hO).N) : Vec F S32x32x384 .bf16 :=
  out0_A_5 c (grid2.coords t) (ms0_0 V hO t) (hs0_0 V hO t) (ms0_1 V hO t) (hs0_1 V hO t) (ms0_2 V hO t) (hs0_2 V hO t) (ms0_3 V hO t) (hs0_3 V hO t) (ms0_4 V hO t) (hs0_4 V hO t) (ms0_5 V hO t) (hs0_5 V hO t) (iblk V hO c 0 t) (iblk V hO c 1 t) (iblk V hO c 2 t) (iblk V hO c 3 t) (iblk V hO c 4 t) (tbl V 0)

def dats (hO : Ok V) (c : Dev nD) : Dat τ (Elt F) Unit ℕ (UR sig nD τ) ℕ (cfgM V hO) c where
  A w := V c (Pipeline.arrRef spec2 w)
  after w t := match w with
    | ⟨0, _⟩ => iblk V hO c 0 t
    | ⟨1, _⟩ => iblk V hO c 1 t
    | ⟨2, _⟩ => iblk V hO c 2 t
    | ⟨3, _⟩ => iblk V hO c 3 t
    | ⟨4, _⟩ => iblk V hO c 4 t
    | ⟨5, _⟩ => (outsAt0 V hO c t)
  Φ _ := iprop(iprop(Pipeline.ΦA spec2 c ∗ Pipeline.prefHeld (Ix := Unit) (Name := ℕ) (U := UR sig nD τ) (Lvl := ℕ) pre2 c (fun _ => fullShare.left) (tbl V)) ∗ Pipeline.ΦT pre2 (tbl V) c)
  q w := Pipeline.shareOf spec2 w
  owed _ := 0

theorem A_eq (hO : Ok V) (c : Dev nD) (w : Fin (cfgM V hO).W) : (dats V hO c).A w = V c (Pipeline.arrRef spec2 w) := by
  dsimp only [dats]

theorem after0_0 (hO : Ok V) (c : Dev nD) (t : Fin (cfgM V hO).N) : (dats V hO c).after 0 t = iblk V hO c 0 t := by dsimp only [dats]; try rfl
theorem after0_1 (hO : Ok V) (c : Dev nD) (t : Fin (cfgM V hO).N) : (dats V hO c).after 1 t = iblk V hO c 1 t := by dsimp only [dats]; try rfl
theorem after0_2 (hO : Ok V) (c : Dev nD) (t : Fin (cfgM V hO).N) : (dats V hO c).after 2 t = iblk V hO c 2 t := by dsimp only [dats]; try rfl
theorem after0_3 (hO : Ok V) (c : Dev nD) (t : Fin (cfgM V hO).N) : (dats V hO c).after 3 t = iblk V hO c 3 t := by dsimp only [dats]; try rfl
theorem after0_4 (hO : Ok V) (c : Dev nD) (t : Fin (cfgM V hO).N) : (dats V hO c).after 4 t = iblk V hO c 4 t := by dsimp only [dats]; try rfl
theorem after0_5 (hO : Ok V) (c : Dev nD) (t : Fin (cfgM V hO).N) : (dats V hO c).after 5 t = (outsAt0 V hO c t) := by dsimp only [dats]; try rfl

theorem before0_0 (hO : Ok V) (c : Dev nD) (t : Fin (cfgM V hO).N) (d) : (dats V hO c).before 0 t d = iblk V hO c 0 t :=
  before0_0_of V hO (dats V hO c) (A_eq V hO c 0) (after0_0 V hO c) t d
theorem before0_1 (hO : Ok V) (c : Dev nD) (t : Fin (cfgM V hO).N) (d) : (dats V hO c).before 1 t d = iblk V hO c 1 t :=
  before0_1_of V hO (dats V hO c) (A_eq V hO c 1) (after0_1 V hO c) t d
theorem before0_2 (hO : Ok V) (c : Dev nD) (t : Fin (cfgM V hO).N) (d) : (dats V hO c).before 2 t d = iblk V hO c 2 t :=
  before0_2_of V hO (dats V hO c) (A_eq V hO c 2) (after0_2 V hO c) t d
theorem before0_3 (hO : Ok V) (c : Dev nD) (t : Fin (cfgM V hO).N) (d) : (dats V hO c).before 3 t d = iblk V hO c 3 t :=
  before0_3_of V hO (dats V hO c) (A_eq V hO c 3) (after0_3 V hO c) t d
theorem before0_4 (hO : Ok V) (c : Dev nD) (t : Fin (cfgM V hO).N) (d) : (dats V hO c).before 4 t d = iblk V hO c 4 t :=
  before0_4_of V hO (dats V hO c) (A_eq V hO c 4) (after0_4 V hO c) t d

def bodyPre (hO : Ok V) (c : Dev nD) (t : Fin (cfgM V hO).N) : sProp 𝕄 :=
  iprop((dats V hO c).Φ t.castSucc ∗ (dats V hO c).owesAt () t.castSucc
    ∗ (∃ d, owns (c : Thread nD τ) (ms0_0 V hO t) fullShare ((dats V hO c).before 0 t d))
    ∗ (∃ d, owns (c : Thread nD τ) (ms0_1 V hO t) fullShare ((dats V hO c).before 1 t d))
    ∗ (∃ d, owns (c : Thread nD τ) (ms0_2 V hO t) fullShare ((dats V hO c).before 2 t d))
    ∗ (∃ d, owns (c : Thread nD τ) (ms0_3 V hO t) fullShare ((dats V hO c).before 3 t d))
    ∗ (∃ d, owns (c : Thread nD τ) (ms0_4 V hO t) fullShare ((dats V hO c).before 4 t d))
    ∗ (∃ d, owns (c : Thread nD τ) (ms0_5 V hO t) fullShare ((dats V hO c).before 5 t d)))

def bodyPost (hO : Ok V) (c : Dev nD) (t : Fin (cfgM V hO).N) : sProp 𝕄 :=
  iprop((dats V hO c).Φ t.succ ∗ (dats V hO c).owesAt () t.succ
    ∗ owns (c : Thread nD τ) (ms0_0 V hO t) fullShare ((dats V hO c).after 0 t)
    ∗ owns (c : Thread nD τ) (ms0_1 V hO t) fullShare ((dats V hO c).after 1 t)
    ∗ owns (c : Thread nD τ) (ms0_2 V hO t) fullShare ((dats V hO c).after 2 t)
    ∗ owns (c : Thread nD τ) (ms0_3 V hO t) fullShare ((dats V hO c).after 3 t)
    ∗ owns (c : Thread nD τ) (ms0_4 V hO t) fullShare ((dats V hO c).after 4 t)
    ∗ owns (c : Thread nD τ) (ms0_5 V hO t) fullShare ((dats V hO c).after 5 t))

theorem sound_body (hO : Ok V) (c : Dev nD) (t : Fin (cfgM V hO).N) :
    bodyPre V hO c t ⊢ wp frame (wpE (defs₀ (F := F)) Variants.none c none) Set.univ (bodyAt2 (adm V hO) t) (fun _ => bodyPost V hO c t) := by
  unfold bodyPre bodyPost bodyAt2
  simp only [before0_0, before0_1, before0_2, before0_3, before0_4]
  rw [show (dats V hO c).Φ t.succ = (dats V hO c).Φ t.castSucc from rfl,
    show (dats V hO c).owesAt () t.succ = (dats V hO c).owesAt () t.castSucc from rfl,
    after0_0, after0_1, after0_2, after0_3, after0_4, after0_5]
  rw [show (dats V hO c).Φ t.castSucc = iprop(iprop(Pipeline.ΦA spec2 c ∗ Pipeline.prefHeld (Ix := Unit) (Name := ℕ) (U := UR sig nD τ) (Lvl := ℕ) pre2 c (fun _ => fullShare.left) (tbl V)) ∗ Pipeline.ΦT pre2 (tbl V) c) from rfl, PhiT0_eq]
  unfold outsAt0
  unfold out0_A_5
  iintro ⟨⟨HΦ, HT0⟩, Ho, ⟨%d0, H0⟩, ⟨%d1, H1⟩, ⟨%d2, H2⟩, ⟨%d3, H3⟩, ⟨%d4, H4⟩, ⟨%d5, H5⟩⟩
  iapply ((kernelRun0_A c (grid2.coords t) _ _ _ _ _ _ _ _ _ _ _ _ (iblk V hO c 0 t) (iblk V hO c 1 t) (iblk V hO c 2 t) (iblk V hO c 3 t) (iblk V hO c 4 t) (tbl V 0)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  iintro ⟨H0, H1, H2, H3, H4, ⟨%e5, H5⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _)

theorem defs₀_row (hO : Ok V) (t : Fin (cfgM V hO).N) :
    defs₀ (F := F) .tc (cfgM V hO).body ((cfgM V hO).bodyArgs t ((cfgM V hO).slots t)) = bodyAt2 (adm V hO) t := by
  unfold defs₀; rw [Defs.onTc_tc]

theorem body_obligation (hO : Ok V) (c : Dev nD) : BodyObligation (dats (F := F) V hO c) (defs₀ (F := F)) Variants.none () Set.univ := fun t => by
  rw [bigSep_W2, bigSep_W2, defs₀_row V hO]
  exact triple_restated (sound_body V hO c t) rfl .rfl fun _ => .rfl

end Cert.KernelIdeal.R2

end
-- ==== Proof.KernelR3.lean ====
/- Hand-written: region 3 of the whole layer's program (convolution and output product), over any contents of its arrays at entry:
   what its body leaves at each point, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before0_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S4x224x384 := Rect.unit (s := S4x224x384) ![0, 0, 0] S4x224x384.size inb_S4x224x384_S4x224x384_0_0_0
abbrev r0_1 : Rect S4x224x384 := Rect.unit (s := S4x224x384) ![2, 0, 0] S2x224x384.size inb_S4x224x384_S2x224x384_2_0_0
abbrev r0_2 : Rect S4x224x384 := Rect.unit (s := S4x224x384) ![0, 0, 0] S2x224x384.size inb_S4x224x384_S2x224x384_0_0_0
abbrev r0_3 : Rect S25x384 := Rect.unit (s := S25x384) ![0, 0] S1x384.size inb_S25x384_S1x384_0_0
abbrev r0_4 : Rect S25x384 := Rect.unit (s := S25x384) ![1, 0] S1x384.size inb_S25x384_S1x384_1_0
abbrev r0_5 : Rect S25x384 := Rect.unit (s := S25x384) ![2, 0] S1x384.size inb_S25x384_S1x384_2_0
abbrev r0_6 : Rect S25x384 := Rect.unit (s := S25x384) ![3, 0] S1x384.size inb_S25x384_S1x384_3_0
abbrev r0_7 : Rect S25x384 := Rect.unit (s := S25x384) ![4, 0] S1x384.size inb_S25x384_S1x384_4_0
abbrev r0_8 : Rect S25x384 := Rect.unit (s := S25x384) ![5, 0] S1x384.size inb_S25x384_S1x384_5_0
abbrev r0_9 : Rect S25x384 := Rect.unit (s := S25x384) ![6, 0] S1x384.size inb_S25x384_S1x384_6_0
abbrev r0_10 : Rect S25x384 := Rect.unit (s := S25x384) ![7, 0] S1x384.size inb_S25x384_S1x384_7_0
abbrev r0_11 : Rect S25x384 := Rect.unit (s := S25x384) ![8, 0] S1x384.size inb_S25x384_S1x384_8_0
abbrev r0_12 : Rect S25x384 := Rect.unit (s := S25x384) ![9, 0] S1x384.size inb_S25x384_S1x384_9_0
abbrev r0_13 : Rect S25x384 := Rect.unit (s := S25x384) ![10, 0] S1x384.size inb_S25x384_S1x384_10_0
abbrev r0_14 : Rect S25x384 := Rect.unit (s := S25x384) ![11, 0] S1x384.size inb_S25x384_S1x384_11_0
abbrev r0_15 : Rect S25x384 := Rect.unit (s := S25x384) ![12, 0] S1x384.size inb_S25x384_S1x384_12_0
abbrev r0_16 : Rect S25x384 := Rect.unit (s := S25x384) ![13, 0] S1x384.size inb_S25x384_S1x384_13_0
abbrev r0_17 : Rect S25x384 := Rect.unit (s := S25x384) ![14, 0] S1x384.size inb_S25x384_S1x384_14_0
abbrev r0_18 : Rect S25x384 := Rect.unit (s := S25x384) ![15, 0] S1x384.size inb_S25x384_S1x384_15_0
abbrev r0_19 : Rect S25x384 := Rect.unit (s := S25x384) ![16, 0] S1x384.size inb_S25x384_S1x384_16_0
abbrev r0_20 : Rect S25x384 := Rect.unit (s := S25x384) ![17, 0] S1x384.size inb_S25x384_S1x384_17_0
abbrev r0_21 : Rect S25x384 := Rect.unit (s := S25x384) ![18, 0] S1x384.size inb_S25x384_S1x384_18_0
abbrev r0_22 : Rect S25x384 := Rect.unit (s := S25x384) ![19, 0] S1x384.size inb_S25x384_S1x384_19_0
abbrev r0_23 : Rect S25x384 := Rect.unit (s := S25x384) ![20, 0] S1x384.size inb_S25x384_S1x384_20_0
abbrev r0_24 : Rect S25x384 := Rect.unit (s := S25x384) ![21, 0] S1x384.size inb_S25x384_S1x384_21_0
abbrev r0_25 : Rect S25x384 := Rect.unit (s := S25x384) ![22, 0] S1x384.size inb_S25x384_S1x384_22_0
abbrev r0_26 : Rect S25x384 := Rect.unit (s := S25x384) ![23, 0] S1x384.size inb_S25x384_S1x384_23_0
abbrev r0_27 : Rect S25x384 := Rect.unit (s := S25x384) ![24, 0] S1x384.size inb_S25x384_S1x384_24_0
abbrev r0_28 : Rect S1x384 := Rect.unit (s := S1x384) ![0, 0] S1x384.size inb_S1x384_S1x384_0_0
abbrev r0_29 : Rect S384x384 := Rect.unit (s := S384x384) ![0, 0] S384x384.size inb_S384x384_S384x384_0_0

def out0_9 (i : grid3.Coords) (x0 : Vec F S4x224x384 .bf16) (x1 : Vec F S4x224x384 .bf16) (x2 : Vec F S4x224x384 .bf16) (x3 : Vec F S4x224x384 .bf16) (x4 : Vec F S4x224x384 .f32) (x5 : Vec F S25x384 .f32) (x6 : Vec F S1x384 .f32) (x7 : Vec F S384x384 .f32) (x8 : Vec F S1x384 .f32) : Vec F S4x224x384 .f32 :=
  View.canon [⟨r0_0, k3_pay12 (k3_pay1 i (View.ld x0 r0_0) (View.ld x1 r0_1) (View.ld x2 r0_2)) (k3_pay9 (k3_pay1 i (View.ld x0 r0_0) (View.ld x1 r0_1) (View.ld x2 r0_2)) (k3_pay7 (k3_pay1 i (View.ld x0 r0_0) (View.ld x1 r0_1) (View.ld x2 r0_2)) (k3_pay5 (k3_pay1 i (View.ld x0 r0_0) (View.ld x1 r0_1) (View.ld x2 r0_2)) (k3_pay2 i (View.ld x0 r0_0) (View.ld x1 r0_1) (View.ld x2 r0_2) (View.ld x5 r0_3) (View.ld x5 r0_4)) (k3_pay3 i (View.ld x0 r0_0) (View.ld x1 r0_1) (View.ld x2 r0_2)) (k3_pay4 (View.ld x5 r0_5)) (View.ld x5 r0_6) (View.ld x5 r0_7) (View.ld x5 r0_8) (View.ld x5 r0_9) (View.ld x5 r0_10) (View.ld x5 r0_11)) (k3_pay6 (k3_pay1 i (View.ld x0 r0_0) (View.ld x1 r0_1) (View.ld x2 r0_2))) (View.ld x5 r0_12) (View.ld x5 r0_13) (View.ld x5 r0_14) (View.ld x5 r0_15) (View.ld x5 r0_16) (View.ld x5 r0_17) (View.ld x5 r0_18)) (k3_pay8 (k3_pay1 i (View.ld x0 r0_0) (View.ld x1 r0_1) (View.ld x2 r0_2))) (View.ld x5 r0_19) (View.ld x5 r0_20) (View.ld x5 r0_21) (View.ld x5 r0_22) (View.ld x5 r0_23) (View.ld x5 r0_24)) (k3_pay10 (k3_pay1 i (View.ld x0 r0_0) (View.ld x1 r0_1) (View.ld x2 r0_2))) (k3_pay11 (View.ld x5 r0_25)) (View.ld x5 r0_26) (View.ld x5 r0_27) (View.ld x6 r0_28) (View.ld x3 r0_0) (View.ld x7 r0_29) (View.ld x8 r0_28) (View.ld x4 r0_0)⟩]

theorem cover0_9 (p0 : Vec F S4x224x384 .f32) (y : S4x224x384.Idx) :
    ∃ pc ∈ ([⟨r0_0, p0⟩] : List (View.Piece (Elt F) S4x224x384 .f32)), y ∈ pc.1.set :=
  View.cover_of_tiled [⟨r0_0, p0⟩] S4x224x384.size (by rfl) y

set_option maxHeartbeats 1000000 in
theorem sound_kernel (c : Dev nD) (E : Set ℕ) (i : grid3.Coords) (arg1 : Memref sig .tc .vmem S4x224x384 .bf16) (harg1 : arg1.IsWhole) (arg2 : Memref sig .tc .vmem S4x224x384 .bf16) (harg2 : arg2.IsWhole) (arg3 : Memref sig .tc .vmem S4x224x384 .bf16) (harg3 : arg3.IsWhole) (arg4 : Memref sig .tc .vmem S4x224x384 .bf16) (harg4 : arg4.IsWhole) (arg5 : Memref sig .tc .vmem S4x224x384 .f32) (harg5 : arg5.IsWhole) (arg6 : Memref sig .tc .vmem S25x384 .f32) (harg6 : arg6.IsWhole) (arg7 : Memref sig .tc .vmem S1x384 .f32) (harg7 : arg7.IsWhole) (arg8 : Memref sig .tc .vmem S384x384 .f32) (harg8 : arg8.IsWhole) (arg9 : Memref sig .tc .vmem S1x384 .f32) (harg9 : arg9.IsWhole) (arg10 : Memref sig .tc .vmem S4x224x384 .f32) (harg10 : arg10.IsWhole)
    (x0 : Vec F S4x224x384 .bf16) (x1 : Vec F S4x224x384 .bf16) (x2 : Vec F S4x224x384 .bf16) (x3 : Vec F S4x224x384 .bf16) (x4 : Vec F S4x224x384 .f32) (x5 : Vec F S25x384 .f32) (x6 : Vec F S1x384 .f32) (x7 : Vec F S384x384 .f32) (x8 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 i x0 x1 x2 x3 x4 x5 x6 x7 x8)) -∗ K ⟨⟩))
      ⊢ wp frame (wpE (defs₀ (F := F)) Variants.none c none) E (cc3__lepe_wo_body i arg1 harg1 arg2 harg2 arg3 harg3 arg4 harg4 arg5 harg5 arg6 harg6 arg7 harg7 arg8 harg8 arg9 harg9 arg10 harg10) K := by
  simp only [cc3__lepe_wo_body_eq_skeleton]; unfold cc3__lepe_wo_body_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover0_9 _)).trans ?_
  rfl

def dats (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out0_9 (grid3.coords t) (iblk V c 0 t) (iblk V c 1 t) (iblk V c 2 t) (iblk V c 3 t) (iblk V c 4 t) (iblk V c 5 t) (iblk V c 6 t) (iblk V c 7 t) (iblk V c 8 t)
  Φ _ := Pipeline.ΦA spec3 c
  q w := Pipeline.shareOf spec3 w
  owed _ := 0

theorem A_eq (c : Dev nD) (w : Fin cfg3.W) : (dats V c).A w = V c (Pipeline.arrRef spec3 w) := by
  dsimp only [dats]

theorem after0_0 (c : Dev nD) (t : Fin cfg3.N) : (dats V c).after 0 t = iblk V c 0 t := by dsimp only [dats]
theorem after0_1 (c : Dev nD) (t : Fin cfg3.N) : (dats V c).after 1 t = iblk V c 1 t := by dsimp only [dats]
theorem after0_2 (c : Dev nD) (t : Fin cfg3.N) : (dats V c).after 2 t = iblk V c 2 t := by dsimp only [dats]
theorem after0_3 (c : Dev nD) (t : Fin cfg3.N) : (dats V c).after 3 t = iblk V c 3 t := by dsimp only [dats]
theorem after0_4 (c : Dev nD) (t : Fin cfg3.N) : (dats V c).after 4 t = iblk V c 4 t := by dsimp only [dats]
theorem after0_5 (c : Dev nD) (t : Fin cfg3.N) : (dats V c).after 5 t = iblk V c 5 t := by dsimp only [dats]
theorem after0_6 (c : Dev nD) (t : Fin cfg3.N) : (dats V c).after 6 t = iblk V c 6 t := by dsimp only [dats]
theorem after0_7 (c : Dev nD) (t : Fin cfg3.N) : (dats V c).after 7 t = iblk V c 7 t := by dsimp only [dats]
theorem after0_8 (c : Dev nD) (t : Fin cfg3.N) : (dats V c).after 8 t = iblk V c 8 t := by dsimp only [dats]
theorem after0_9 (c : Dev nD) (t : Fin cfg3.N) : (dats V c).after 9 t = out0_9 (grid3.coords t) (iblk V c 0 t) (iblk V c 1 t) (iblk V c 2 t) (iblk V c 3 t) (iblk V c 4 t) (iblk V c 5 t) (iblk V c 6 t) (iblk V c 7 t) (iblk V c 8 t) := by dsimp only [dats]

theorem before0_0 (c : Dev nD) (t : Fin cfg3.N) (d) : (dats V c).before 0 t d = iblk V c 0 t :=
  before0_0_of V (dats V c) (A_eq V c 0) (after0_0 V c) t d
theorem before0_1 (c : Dev nD) (t : Fin cfg3.N) (d) : (dats V c).before 1 t d = iblk V c 1 t :=
  before0_1_of V (dats V c) (A_eq V c 1) (after0_1 V c) t d
theorem before0_2 (c : Dev nD) (t : Fin cfg3.N) (d) : (dats V c).before 2 t d = iblk V c 2 t :=
  before0_2_of V (dats V c) (A_eq V c 2) (after0_2 V c) t d
theorem before0_3 (c : Dev nD) (t : Fin cfg3.N) (d) : (dats V c).before 3 t d = iblk V c 3 t :=
  before0_3_of V (dats V c) (A_eq V c 3) (after0_3 V c) t d
theorem before0_4 (c : Dev nD) (t : Fin cfg3.N) (d) : (dats V c).before 4 t d = iblk V c 4 t :=
  before0_4_of V (dats V c) (A_eq V c 4) (after0_4 V c) t d
theorem before0_5 (c : Dev nD) (t : Fin cfg3.N) (d) : (dats V c).before 5 t d = iblk V c 5 t :=
  before0_5_of V (dats V c) (A_eq V c 5) (after0_5 V c) t d
theorem before0_6 (c : Dev nD) (t : Fin cfg3.N) (d) : (dats V c).before 6 t d = iblk V c 6 t :=
  before0_6_of V (dats V c) (A_eq V c 6) (after0_6 V c) t d
theorem before0_7 (c : Dev nD) (t : Fin cfg3.N) (d) : (dats V c).before 7 t d = iblk V c 7 t :=
  before0_7_of V (dats V c) (A_eq V c 7) (after0_7 V c) t d
theorem before0_8 (c : Dev nD) (t : Fin cfg3.N) (d) : (dats V c).before 8 t d = iblk V c 8 t :=
  before0_8_of V (dats V c) (A_eq V c 8) (after0_8 V c) t d

def bodyPre (c : Dev nD) (t : Fin cfg3.N) : sProp 𝕄 :=
  iprop((dats V c).Φ t.castSucc ∗ (dats V c).owesAt () t.castSucc
    ∗ (∃ d, owns (c : Thread nD τ) (st3_0 t) fullShare ((dats V c).before 0 t d))
    ∗ (∃ d, owns (c : Thread nD τ) (st3_1 t) fullShare ((dats V c).before 1 t d))
    ∗ (∃ d, owns (c : Thread nD τ) (st3_2 t) fullShare ((dats V c).before 2 t d))
    ∗ (∃ d, owns (c : Thread nD τ) (st3_3 t) fullShare ((dats V c).before 3 t d))
    ∗ (∃ d, owns (c : Thread nD τ) (st3_4 t) fullShare ((dats V c).before 4 t d))
    ∗ (∃ d, owns (c : Thread nD τ) (st3_5 t) fullShare ((dats V c).before 5 t d))
    ∗ (∃ d, owns (c : Thread nD τ) (st3_6 t) fullShare ((dats V c).before 6 t d))
    ∗ (∃ d, owns (c : Thread nD τ) (st3_7 t) fullShare ((dats V c).before 7 t d))
    ∗ (∃ d, owns (c : Thread nD τ) (st3_8 t) fullShare ((dats V c).before 8 t d))
    ∗ (∃ d, owns (c : Thread nD τ) (st3_9 t) fullShare ((dats V c).before 9 t d)))

def bodyPost (c : Dev nD) (t : Fin cfg3.N) : sProp 𝕄 :=
  iprop((dats V c).Φ t.succ ∗ (dats V c).owesAt () t.succ
    ∗ owns (c : Thread nD τ) (st3_0 t) fullShare ((dats V c).after 0 t)
    ∗ owns (c : Thread nD τ) (st3_1 t) fullShare ((dats V c).after 1 t)
    ∗ owns (c : Thread nD τ) (st3_2 t) fullShare ((dats V c).after 2 t)
    ∗ owns (c : Thread nD τ) (st3_3 t) fullShare ((dats V c).after 3 t)
    ∗ owns (c : Thread nD τ) (st3_4 t) fullShare ((dats V c).after 4 t)
    ∗ owns (c : Thread nD τ) (st3_5 t) fullShare ((dats V c).after 5 t)
    ∗ owns (c : Thread nD τ) (st3_6 t) fullShare ((dats V c).after 6 t)
    ∗ owns (c : Thread nD τ) (st3_7 t) fullShare ((dats V c).after 7 t)
    ∗ owns (c : Thread nD τ) (st3_8 t) fullShare ((dats V c).after 8 t)
    ∗ owns (c : Thread nD τ) (st3_9 t) fullShare ((dats V c).after 9 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0_0, before0_1, before0_2, before0_3, before0_4, before0_5, before0_6, before0_7, before0_8]
  rw [show (dats V c).Φ t.succ = (dats V c).Φ t.castSucc from rfl,
    show (dats V c).owesAt () t.succ = (dats V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid3.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg3.N) :
    defs₀ (F := F) .tc cfg3.body (cfg3.bodyArgs t (cfg3.slots t)) = bodyAt3 t := by
  unfold defs₀; rw [Defs.onTc_tc]

theorem body_obligation (c : Dev nD) : BodyObligation (dats (F := F) V c) (defs₀ (F := F)) Variants.none () Set.univ := fun t => by
  rw [bigSep_W3, bigSep_W3, defs₀_row]
  exact triple_restated (sound_body V c t) rfl .rfl fun _ => .rfl

end Cert.KernelIdeal.R3

end
-- ==== Proof.KernelR4.lean ====
/- Hand-written: region 4 of the whole layer's program (two-layer residual), over any contents of its arrays at entry:
   what its body leaves at each point, and that the body runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R4

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before0_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg4 c) (hA : dat.A 5 = V c (Pipeline.arrRef spec4 5))
    (hafter : ∀ t, dat.after 5 t = iblk V c 5 t) (t : Fin cfg4.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg4 c) (hA : dat.A 6 = V c (Pipeline.arrRef spec4 6))
    (hafter : ∀ t, dat.after 6 t = iblk V c 6 t) (t : Fin cfg4.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S4x224x384 := Rect.unit (s := S4x224x384) ![0, 0, 0] S4x224x384.size inb_S4x224x384_S4x224x384_0_0_0
abbrev r0_1 : Rect S1x384 := Rect.unit (s := S1x384) ![0, 0] S1x384.size inb_S1x384_S1x384_0_0
abbrev r0_2 : Rect S384x1536 := Rect.unit (s := S384x1536) ![0, 0] S384x1536.size inb_S384x1536_S384x1536_0_0
abbrev r0_3 : Rect S1x1536 := Rect.unit (s := S1x1536) ![0, 0] S1x1536.size inb_S1x1536_S1x1536_0_0
abbrev r0_4 : Rect S1536x384 := Rect.unit (s := S1536x384) ![0, 0] S1536x384.size inb_S1536x384_S1536x384_0_0

def out0_7 (x0 : Vec F S4x224x384 .f32) (x1 : Vec F S1x384 .f32) (x2 : Vec F S1x384 .f32) (x3 : Vec F S384x1536 .f32) (x4 : Vec F S1x1536 .f32) (x5 : Vec F S1536x384 .f32) (x6 : Vec F S1x384 .f32) : Vec F S4x224x384 .f32 :=
  View.canon [⟨r0_0, k4_pay1 (k4_pay2 (View.ld x0 r0_0)) (k4_pay4 (View.ld x0 r0_0) (View.ld x1 r0_1) (View.ld x2 r0_1) (View.ld x3 r0_2) (View.ld x4 r0_3)) (k4_pay5 (View.ld x0 r0_0) (View.ld x1 r0_1) (View.ld x2 r0_1) (View.ld x3 r0_2) (View.ld x4 r0_3)) (View.ld x5 r0_4) (View.ld x6 r0_1)⟩]

theorem cover0_7 (p0 : Vec F S4x224x384 .f32) (y : S4x224x384.Idx) :
    ∃ pc ∈ ([⟨r0_0, p0⟩] : List (View.Piece (Elt F) S4x224x384 .f32)), y ∈ pc.1.set :=
  View.cover_of_tiled [⟨r0_0, p0⟩] S4x224x384.size (by rfl) y

set_option maxHeartbeats 1000000 in
theorem sound_kernel (c : Dev nD) (E : Set ℕ) (i : grid4.Coords) (arg1 : Memref sig .tc .vmem S4x224x384 .f32) (harg1 : arg1.IsWhole) (arg2 : Memref sig .tc .vmem S1x384 .f32) (harg2 : arg2.IsWhole) (arg3 : Memref sig .tc .vmem S1x384 .f32) (harg3 : arg3.IsWhole) (arg4 : Memref sig .tc .vmem S384x1536 .f32) (harg4 : arg4.IsWhole) (arg5 : Memref sig .tc .vmem S1x1536 .f32) (harg5 : arg5.IsWhole) (arg6 : Memref sig .tc .vmem S1536x384 .f32) (harg6 : arg6.IsWhole) (arg7 : Memref sig .tc .vmem S1x384 .f32) (harg7 : arg7.IsWhole) (arg8 : Memref sig .tc .vmem S4x224x384 .f32) (harg8 : arg8.IsWhole)
    (x0 : Vec F S4x224x384 .f32) (x1 : Vec F S1x384 .f32) (x2 : Vec F S1x384 .f32) (x3 : Vec F S384x1536 .f32) (x4 : Vec F S1x1536 .f32) (x5 : Vec F S1536x384 .f32) (x6 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc4__mlp_body i arg1 harg1 arg2 harg2 arg3 harg3 arg4 harg4 arg5 harg5 arg6 harg6 arg7 harg7 arg8 harg8) K := by
  simp only [cc4__mlp_body_eq_skeleton]; unfold cc4__mlp_body_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

def dats (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out0_7 (iblk V c 0 t) (iblk V c 1 t) (iblk V c 2 t) (iblk V c 3 t) (iblk V c 4 t) (iblk V c 5 t) (iblk V c 6 t)
  Φ _ := Pipeline.ΦA spec4 c
  q _ := fullShare
  owed _ := 0

theorem A_eq (c : Dev nD) (w : Fin cfg4.W) : (dats V c).A w = V c (Pipeline.arrRef spec4 w) := by
  dsimp only [dats]

theorem after0_0 (c : Dev nD) (t : Fin cfg4.N) : (dats V c).after 0 t = iblk V c 0 t := by dsimp only [dats]
theorem after0_1 (c : Dev nD) (t : Fin cfg4.N) : (dats V c).after 1 t = iblk V c 1 t := by dsimp only [dats]
theorem after0_2 (c : Dev nD) (t : Fin cfg4.N) : (dats V c).after 2 t = iblk V c 2 t := by dsimp only [dats]
theorem after0_3 (c : Dev nD) (t : Fin cfg4.N) : (dats V c).after 3 t = iblk V c 3 t := by dsimp only [dats]
theorem after0_4 (c : Dev nD) (t : Fin cfg4.N) : (dats V c).after 4 t = iblk V c 4 t := by dsimp only [dats]
theorem after0_5 (c : Dev nD) (t : Fin cfg4.N) : (dats V c).after 5 t = iblk V c 5 t := by dsimp only [dats]
theorem after0_6 (c : Dev nD) (t : Fin cfg4.N) : (dats V c).after 6 t = iblk V c 6 t := by dsimp only [dats]
theorem after0_7 (c : Dev nD) (t : Fin cfg4.N) : (dats V c).after 7 t = out0_7 (iblk V c 0 t) (iblk V c 1 t) (iblk V c 2 t) (iblk V c 3 t) (iblk V c 4 t) (iblk V c 5 t) (iblk V c 6 t) := by dsimp only [dats]

theorem before0_0 (c : Dev nD) (t : Fin cfg4.N) (d) : (dats V c).before 0 t d = iblk V c 0 t :=
  before0_0_of V (dats V c) (A_eq V c 0) (after0_0 V c) t d
theorem before0_1 (c : Dev nD) (t : Fin cfg4.N) (d) : (dats V c).before 1 t d = iblk V c 1 t :=
  before0_1_of V (dats V c) (A_eq V c 1) (after0_1 V c) t d
theorem before0_2 (c : Dev nD) (t : Fin cfg4.N) (d) : (dats V c).before 2 t d = iblk V c 2 t :=
  before0_2_of V (dats V c) (A_eq V c 2) (after0_2 V c) t d
theorem before0_3 (c : Dev nD) (t : Fin cfg4.N) (d) : (dats V c).before 3 t d = iblk V c 3 t :=
  before0_3_of V (dats V c) (A_eq V c 3) (after0_3 V c) t d
theorem before0_4 (c : Dev nD) (t : Fin cfg4.N) (d) : (dats V c).before 4 t d = iblk V c 4 t :=
  before0_4_of V (dats V c) (A_eq V c 4) (after0_4 V c) t d
theorem before0_5 (c : Dev nD) (t : Fin cfg4.N) (d) : (dats V c).before 5 t d = iblk V c 5 t :=
  before0_5_of V (dats V c) (A_eq V c 5) (after0_5 V c) t d
theorem before0_6 (c : Dev nD) (t : Fin cfg4.N) (d) : (dats V c).before 6 t d = iblk V c 6 t :=
  before0_6_of V (dats V c) (A_eq V c 6) (after0_6 V c) t d

def bodyPre (c : Dev nD) (t : Fin cfg4.N) : sProp 𝕄 :=
  iprop((dats V c).Φ t.castSucc ∗ (dats V c).owesAt () t.castSucc
    ∗ (∃ d, owns (c : Thread nD τ) (st4_0 t) fullShare ((dats V c).before 0 t d))
    ∗ (∃ d, owns (c : Thread nD τ) (st4_1 t) fullShare ((dats V c).before 1 t d))
    ∗ (∃ d, owns (c : Thread nD τ) (st4_2 t) fullShare ((dats V c).before 2 t d))
    ∗ (∃ d, owns (c : Thread nD τ) (st4_3 t) fullShare ((dats V c).before 3 t d))
    ∗ (∃ d, owns (c : Thread nD τ) (st4_4 t) fullShare ((dats V c).before 4 t d))
    ∗ (∃ d, owns (c : Thread nD τ) (st4_5 t) fullShare ((dats V c).before 5 t d))
    ∗ (∃ d, owns (c : Thread nD τ) (st4_6 t) fullShare ((dats V c).before 6 t d))
    ∗ (∃ d, owns (c : Thread nD τ) (st4_7 t) fullShare ((dats V c).before 7 t d)))

def bodyPost (c : Dev nD) (t : Fin cfg4.N) : sProp 𝕄 :=
  iprop((dats V c).Φ t.succ ∗ (dats V c).owesAt () t.succ
    ∗ owns (c : Thread nD τ) (st4_0 t) fullShare ((dats V c).after 0 t)
    ∗ owns (c : Thread nD τ) (st4_1 t) fullShare ((dats V c).after 1 t)
    ∗ owns (c : Thread nD τ) (st4_2 t) fullShare ((dats V c).after 2 t)
    ∗ owns (c : Thread nD τ) (st4_3 t) fullShare ((dats V c).after 3 t)
    ∗ owns (c : Thread nD τ) (st4_4 t) fullShare ((dats V c).after 4 t)
    ∗ owns (c : Thread nD τ) (st4_5 t) fullShare ((dats V c).after 5 t)
    ∗ owns (c : Thread nD τ) (st4_6 t) fullShare ((dats V c).after 6 t)
    ∗ owns (c : Thread nD τ) (st4_7 t) fullShare ((dats V c).after 7 t))

theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0_0, before0_1, before0_2, before0_3, before0_4, before0_5, before0_6]
  rw [show (dats V c).Φ t.succ = (dats V c).Φ t.castSucc from rfl,
    show (dats V c).owesAt () t.succ = (dats V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid4.coords t) _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg4.N) :
    defs₀ (F := F) .tc cfg4.body (cfg4.bodyArgs t (cfg4.slots t)) = bodyAt4 t := by
  unfold defs₀; rw [Defs.onTc_tc]

theorem body_obligation (c : Dev nD) : BodyObligation (dats (F := F) V c) (defs₀ (F := F)) Variants.none () Set.univ := fun t => by
  rw [bigSep_W4, bigSep_W4, defs₀_row]
  exact triple_restated (sound_body V c t) rfl .rfl fun _ => .rfl

end Cert.KernelIdeal.R4

end
-- ==== Proof.KernelRun.lean ====
/- Hand-written: the whole layer's program run at any float model, its five regions one after another: what every
   unscoped buffer holds at the end. -/
module

public import proofs.«01_k».proof.Proof.Gen.KernelIdeal.Regions
public import proofs.«01_k».proof.Proof.KernelReg
public import proofs.«01_k».proof.Proof.KernelR0
public import proofs.«01_k».proof.Proof.KernelR1
public import proofs.«01_k».proof.Proof.KernelR2
public import proofs.«01_k».proof.Proof.KernelR3
public import proofs.«01_k».proof.Proof.KernelR4

@[expose] public section

set_option maxRecDepth 4096

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg Seg HostSeg cellOf)

variable {F : FTy → Type} [FloatOps F]

local notation "𝕄" => MT nD τ sig Unit (Elt F) ℕ (UR sig nD τ) ℕ

variable (m : (ℓ : Loc nD τ sig) → Buf (Elt F) ℓ)

/-- A valuation read at the references of the core. -/
abbrev at' (W : Dev nD → Valuation τ sig (Elt F)) : (c : Dev nD) → (b : Ref sig .tc) → Buf (Elt F) ((c : Thread nD τ).loc b) := fun c b => W c b

/-- The buffers after region 0. -/
def X10 (c : Dev nD) : Valuation τ sig (Elt F) :=
  (Function.update (Function.update (Function.update (Function.update (V9 m c) (Proc.devRef .tc main_v22_0) ((R0.dats (at' (V9 m)) c).arrAt 6 cfg0.N)) (Proc.devRef .tc main_v22_1) ((R0.dats (at' (V9 m)) c).arrAt 7 cfg0.N)) (Proc.devRef .tc main_v22_2) ((R0.dats (at' (V9 m)) c).arrAt 8 cfg0.N)) (Proc.devRef .tc main_v22_3) ((R0.dats (at' (V9 m)) c).arrAt 9 cfg0.N))

theorem X10_of (c : Dev nD) (r : Ref sig .tc) (h : r ∉ ([main_v22_0, main_v22_1, main_v22_2, main_v22_3] : List (Ref sig .tc))) : X10 m c (Proc.devRef .tc r) = V9 m c (Proc.devRef .tc r) := by
  unfold X10
  rw [Function.update_of_ne (StableHlo.devRef_ne_of_ne (fun e => h (by rw [e]; decide)) : (Proc.devRef .tc r : DevRef τ sig) ≠ Proc.devRef .tc main_v22_3), Function.update_of_ne (StableHlo.devRef_ne_of_ne (fun e => h (by rw [e]; decide)) : (Proc.devRef .tc r : DevRef τ sig) ≠ Proc.devRef .tc main_v22_2), Function.update_of_ne (StableHlo.devRef_ne_of_ne (fun e => h (by rw [e]; decide)) : (Proc.devRef .tc r : DevRef τ sig) ≠ Proc.devRef .tc main_v22_1), Function.update_of_ne (StableHlo.devRef_ne_of_ne (fun e => h (by rw [e]; decide)) : (Proc.devRef .tc r : DevRef τ sig) ≠ Proc.devRef .tc main_v22_0)]

theorem X10_main_v22_0 (c : Dev nD) : X10 m c (Proc.devRef .tc main_v22_0) = (R0.dats (at' (V9 m)) c).arrAt 6 cfg0.N := by
  unfold X10
  rw [Function.update_of_ne (StableHlo.devRef_ne_of_ne (by decide) : (Proc.devRef .tc main_v22_0 : DevRef τ sig) ≠ Proc.devRef .tc main_v22_3), Function.update_of_ne (StableHlo.devRef_ne_of_ne (by decide) : (Proc.devRef .tc main_v22_0 : DevRef τ sig) ≠ Proc.devRef .tc main_v22_2), Function.update_of_ne (StableHlo.devRef_ne_of_ne (by decide) : (Proc.devRef .tc main_v22_0 : DevRef τ sig) ≠ Proc.devRef .tc main_v22_1), Function.update_self]

theorem X10_main_v22_1 (c : Dev nD) : X10 m c (Proc.devRef .tc main_v22_1) = (R0.dats (at' (V9 m)) c).arrAt 7 cfg0.N := by
  unfold X10
  rw [Function.update_of_ne (StableHlo.devRef_ne_of_ne (by decide) : (Proc.devRef .tc main_v22_1 : DevRef τ sig) ≠ Proc.devRef .tc main_v22_3), Function.update_of_ne (StableHlo.devRef_ne_of_ne (by decide) : (Proc.devRef .tc main_v22_1 : DevRef τ sig) ≠ Proc.devRef .tc main_v22_2), Function.update_self]

theorem X10_main_v22_2 (c : Dev nD) : X10 m c (Proc.devRef .tc main_v22_2) = (R0.dats (at' (V9 m)) c).arrAt 8 cfg0.N := by
  unfold X10
  rw [Function.update_of_ne (StableHlo.devRef_ne_of_ne (by decide) : (Proc.devRef .tc main_v22_2 : DevRef τ sig) ≠ Proc.devRef .tc main_v22_3), Function.update_self]

theorem X10_main_v22_3 (c : Dev nD) : X10 m c (Proc.devRef .tc main_v22_3) = (R0.dats (at' (V9 m)) c).arrAt 9 cfg0.N := by
  unfold X10
  rw [Function.update_self]

/-- The buffers after region 1. -/
def X11 (c : Dev nD) : Valuation τ sig (Elt F) :=
  (Function.update (X10 m c) (Proc.devRef .tc main_v23) ((R1.dats (at' (X10 m)) c).arrAt 1 cfg1.N))

theorem X11_of (c : Dev nD) (r : Ref sig .tc) (h : r ∉ ([main_v23] : List (Ref sig .tc))) : X11 m c (Proc.devRef .tc r) = X10 m c (Proc.devRef .tc r) := by
  unfold X11
  rw [Function.update_of_ne (StableHlo.devRef_ne_of_ne (fun e => h (by rw [e]; decide)) : (Proc.devRef .tc r : DevRef τ sig) ≠ Proc.devRef .tc main_v23)]

theorem X11_main_v23 (c : Dev nD) : X11 m c (Proc.devRef .tc main_v23) = (R1.dats (at' (X10 m)) c).arrAt 1 cfg1.N := by
  unfold X11
  rw [Function.update_self]

/-- The buffers after the table is cut to its four places. -/
abbrev X12 (c : Dev nD) : Valuation τ sig (Elt F) := StableHlo.after hostOps2 (X11 m c)

/-- The table names a window in every place. -/
abbrev TableOk : Prop := R2.Ok (at' (X12 m))

variable (hO : TableOk m)

/-- Attention's result array when its region is left. -/
def A25 (hO : TableOk m) (c : Dev nD) : (Proc.devRef .tc main_v25 : DevRef τ sig).ty.Contents (Elt F) := (R2.dats (at' (X12 m)) hO c).arrAt 5 (R2.cfgM (at' (X12 m)) hO).N

/-- The buffers after region 2. -/
def X13 (c : Dev nD) : Valuation τ sig (Elt F) := Function.update (X12 m c) (Proc.devRef .tc main_v25) (A25 m hO c)

theorem X13_of (c : Dev nD) (r : Ref sig .tc) (h : r ∉ ([main_v25] : List (Ref sig .tc))) : X13 m hO c (Proc.devRef .tc r) = X12 m c (Proc.devRef .tc r) := by
  unfold X13
  rw [Function.update_of_ne (StableHlo.devRef_ne_of_ne (fun e => h (by rw [e]; decide)) : (Proc.devRef .tc r : DevRef τ sig) ≠ Proc.devRef .tc main_v25)]

theorem X13_main_v25 (c : Dev nD) : X13 m hO c (Proc.devRef .tc main_v25) = A25 m hO c := by
  unfold X13
  rw [Function.update_self]

/-- The buffers after the depthwise weights are laid flat. -/
abbrev X14 (c : Dev nD) : Valuation τ sig (Elt F) := StableHlo.after hostOps3 (X13 m hO c)

/-- The buffers after region 3. -/
def X15 (c : Dev nD) : Valuation τ sig (Elt F) :=
  (Function.update (X14 m hO c) (Proc.devRef .tc main_v30) ((R3.dats (at' (X14 m hO)) c).arrAt 9 cfg3.N))

theorem X15_of (c : Dev nD) (r : Ref sig .tc) (h : r ∉ ([main_v30] : List (Ref sig .tc))) : X15 m hO c (Proc.devRef .tc r) = X14 m hO c (Proc.devRef .tc r) := by
  unfold X15
  rw [Function.update_of_ne (StableHlo.devRef_ne_of_ne (fun e => h (by rw [e]; decide)) : (Proc.devRef .tc r : DevRef τ sig) ≠ Proc.devRef .tc main_v30)]

theorem X15_main_v30 (c : Dev nD) : X15 m hO c (Proc.devRef .tc main_v30) = (R3.dats (at' (X14 m hO)) c).arrAt 9 cfg3.N := by
  unfold X15
  rw [Function.update_self]

/-- The buffers after the last vectors are laid as rows. -/
abbrev X16 (c : Dev nD) : Valuation τ sig (Elt F) := StableHlo.after hostOps4 (X15 m hO c)

/-- The buffers after region 4. -/
def X17 (c : Dev nD) : Valuation τ sig (Elt F) :=
  (Function.update (X16 m hO c) (Proc.devRef .tc main_v35) ((R4.dats (at' (X16 m hO)) c).arrAt 7 cfg4.N))

theorem X17_of (c : Dev nD) (r : Ref sig .tc) (h : r ∉ ([main_v35] : List (Ref sig .tc))) : X17 m hO c (Proc.devRef .tc r) = X16 m hO c (Proc.devRef .tc r) := by
  unfold X17
  rw [Function.update_of_ne (StableHlo.devRef_ne_of_ne (fun e => h (by rw [e]; decide)) : (Proc.devRef .tc r : DevRef τ sig) ≠ Proc.devRef .tc main_v35)]

theorem X17_main_v35 (c : Dev nD) : X17 m hO c (Proc.devRef .tc main_v35) = (R4.dats (at' (X16 m hO)) c).arrAt 7 cfg4.N := by
  unfold X17
  rw [Function.update_self]

/-- The buffers at the end. -/
abbrev X18 (c : Dev nD) : Valuation τ sig (Elt F) := StableHlo.after hostOps5 (X17 m hO c)

/-- The table each region's pipeline is pinned at. -/
def adms : (p : Fin 5) → (pcfgs (F := F) p).Adm
  | ⟨0, _⟩ => cfg0.toPCfg_adm
  | ⟨1, _⟩ => cfg1.toPCfg_adm
  | ⟨2, _⟩ => R2.adm (at' (X12 m)) hO
  | ⟨3, _⟩ => cfg3.toPCfg_adm
  | ⟨4, _⟩ => cfg4.toPCfg_adm

/-- The regions' data, each at the contents it is entered from. -/
def pd : (p : Fin 5) → (c : Dev nD) → Dat τ (Elt F) Unit ℕ (UR sig nD τ) ℕ (Pipeline.pin (pcfgs (F := F)) (adms m hO) p) c
  | ⟨0, _⟩ => fun c => R0.dats (at' (V9 m)) c
  | ⟨1, _⟩ => fun c => R1.dats (at' (X10 m)) c
  | ⟨2, _⟩ => fun c => R2.dats (at' (X12 m)) hO c
  | ⟨3, _⟩ => fun c => R3.dats (at' (X14 m hO)) c
  | ⟨4, _⟩ => fun c => R4.dats (at' (X16 m hO)) c

theorem fin0_0 (c : Dev nD) : (R0.dats (at' (V9 m)) c).arrAt 0 cfg0.N = X10 m c (Proc.devRef .tc main_v1) :=
  ((R0.dats (at' (V9 m)) c).arrAt_in 0 rfl _).trans ((R0.A_eq (at' (V9 m)) c 0).trans (X10_of m c main_v1 (by decide)).symm)

theorem fin0_1 (c : Dev nD) : (R0.dats (at' (V9 m)) c).arrAt 1 cfg0.N = X10 m c (Proc.devRef .tc main_v19) :=
  ((R0.dats (at' (V9 m)) c).arrAt_in 1 rfl _).trans ((R0.A_eq (at' (V9 m)) c 1).trans (X10_of m c main_v19 (by decide)).symm)

theorem fin0_2 (c : Dev nD) : (R0.dats (at' (V9 m)) c).arrAt 2 cfg0.N = X10 m c (Proc.devRef .tc main_v20) :=
  ((R0.dats (at' (V9 m)) c).arrAt_in 2 rfl _).trans ((R0.A_eq (at' (V9 m)) c 2).trans (X10_of m c main_v20 (by decide)).symm)

theorem fin0_3 (c : Dev nD) : (R0.dats (at' (V9 m)) c).arrAt 3 cfg0.N = X10 m c (Proc.devRef .tc main_arg3) :=
  ((R0.dats (at' (V9 m)) c).arrAt_in 3 rfl _).trans ((R0.A_eq (at' (V9 m)) c 3).trans (X10_of m c main_arg3 (by decide)).symm)

theorem fin0_4 (c : Dev nD) : (R0.dats (at' (V9 m)) c).arrAt 4 cfg0.N = X10 m c (Proc.devRef .tc main_v21) :=
  ((R0.dats (at' (V9 m)) c).arrAt_in 4 rfl _).trans ((R0.A_eq (at' (V9 m)) c 4).trans (X10_of m c main_v21 (by decide)).symm)

theorem fin0_5 (c : Dev nD) : (R0.dats (at' (V9 m)) c).arrAt 5 cfg0.N = X10 m c (Proc.devRef .tc main_v18) :=
  ((R0.dats (at' (V9 m)) c).arrAt_in 5 rfl _).trans ((R0.A_eq (at' (V9 m)) c 5).trans (X10_of m c main_v18 (by decide)).symm)

theorem fin0_6 (c : Dev nD) : (R0.dats (at' (V9 m)) c).arrAt 6 cfg0.N = X10 m c (Proc.devRef .tc main_v22_0) :=
  (X10_main_v22_0 m c).symm

theorem fin0_7 (c : Dev nD) : (R0.dats (at' (V9 m)) c).arrAt 7 cfg0.N = X10 m c (Proc.devRef .tc main_v22_1) :=
  (X10_main_v22_1 m c).symm

theorem fin0_8 (c : Dev nD) : (R0.dats (at' (V9 m)) c).arrAt 8 cfg0.N = X10 m c (Proc.devRef .tc main_v22_2) :=
  (X10_main_v22_2 m c).symm

theorem fin0_9 (c : Dev nD) : (R0.dats (at' (V9 m)) c).arrAt 9 cfg0.N = X10 m c (Proc.devRef .tc main_v22_3) :=
  (X10_main_v22_3 m c).symm

set_option maxHeartbeats 4000000 in
set_option backward.isDefEq.respectTransparency.types false in
/-- Region 0 as a segment. -/
def reg0 : RegionSeg (pcfgs (F := F)) (adms m hO) (pd m hO) () defs₀ Variants.none noL noLv 0 :=
  region (adms m hO) (pd m hO) 0 (launch0 (F := F)).to₀ (at' (V9 m)) (at' (X10 m))
    (fun c => R0.body_obligation (at' (V9 m)) c)
    (fun c w _ => (Pipeline.shareOf_eq_fullShare_of_injective _ (launch0 (F := F)).win.arr_inj w).symm) (fun _ _ => rfl) (fun _ => rfl) (fun _ _ => rfl) (fun c k => k.elim0)
    (fun c => by
      change _ ⊢ Pipeline.ΦA spec0 c
      unfold Pipeline.ΦA
      iintro ⟨H1, -, H3⟩
      isplitl [H3] <;> iassumption)
    (fun c => by
      change Pipeline.ΦA spec0 c ⊢ _
      unfold Pipeline.ΦA Pipeline.prefHeld
      rw [show (Finset.univ : Finset (Fin 0)) = ∅ from rfl, BI.bigSep_empty]
      iintro ⟨H1, H2⟩
      isplitl [H2]; · iexact H2
      isplitr; · iempintro
      iexact H1)
    (fun c w => by
      match w with
      | ⟨0, _⟩ => exact fin0_0 m c
      | ⟨1, _⟩ => exact fin0_1 m c
      | ⟨2, _⟩ => exact fin0_2 m c
      | ⟨3, _⟩ => exact fin0_3 m c
      | ⟨4, _⟩ => exact fin0_4 m c
      | ⟨5, _⟩ => exact fin0_5 m c
      | ⟨6, _⟩ => exact fin0_6 m c
      | ⟨7, _⟩ => exact fin0_7 m c
      | ⟨8, _⟩ => exact fin0_8 m c
      | ⟨9, _⟩ => exact fin0_9 m c)
    (fun c b hb => X10_of m c b (by
      intro hm
      apply hb
      simp only [List.mem_cons, List.not_mem_nil, _root_.or_false] at hm
      rcases hm with h | h | h | h
      · exact h ▸ Finset.mem_image.mpr ⟨(6 : Fin 10), Finset.mem_univ _, rfl⟩
      · exact h ▸ Finset.mem_image.mpr ⟨(7 : Fin 10), Finset.mem_univ _, rfl⟩
      · exact h ▸ Finset.mem_image.mpr ⟨(8 : Fin 10), Finset.mem_univ _, rfl⟩
      · exact h ▸ Finset.mem_image.mpr ⟨(9 : Fin 10), Finset.mem_univ _, rfl⟩
      ))

theorem fin1_0 (c : Dev nD) : (R1.dats (at' (X10 m)) c).arrAt 0 cfg1.N = X11 m c (Proc.devRef .tc main_v22_3) :=
  ((R1.dats (at' (X10 m)) c).arrAt_in 0 rfl _).trans ((R1.A_eq (at' (X10 m)) c 0).trans (X11_of m c main_v22_3 (by decide)).symm)

theorem fin1_1 (c : Dev nD) : (R1.dats (at' (X10 m)) c).arrAt 1 cfg1.N = X11 m c (Proc.devRef .tc main_v23) :=
  (X11_main_v23 m c).symm

set_option maxHeartbeats 4000000 in
set_option backward.isDefEq.respectTransparency.types false in
/-- Region 1 as a segment. -/
def reg1 : RegionSeg (pcfgs (F := F)) (adms m hO) (pd m hO) () defs₀ Variants.none noL noLv 1 :=
  region (adms m hO) (pd m hO) 1 (launch1 (F := F)).to₀ (at' (X10 m)) (at' (X11 m))
    (fun c => R1.body_obligation (at' (X10 m)) c)
    (fun c w _ => (Pipeline.shareOf_eq_fullShare_of_injective _ (launch1 (F := F)).win.arr_inj w).symm) (fun _ _ => rfl) (fun _ => rfl) (fun _ _ => rfl) (fun c k => k.elim0)
    (fun c => by
      change _ ⊢ Pipeline.ΦA spec1 c
      unfold Pipeline.ΦA
      iintro ⟨H1, -, H3⟩
      isplitl [H3] <;> iassumption)
    (fun c => by
      change Pipeline.ΦA spec1 c ⊢ _
      unfold Pipeline.ΦA Pipeline.prefHeld
      rw [show (Finset.univ : Finset (Fin 0)) = ∅ from rfl, BI.bigSep_empty]
      iintro ⟨H1, H2⟩
      isplitl [H2]; · iexact H2
      isplitr; · iempintro
      iexact H1)
    (fun c w => by
      match w with
      | ⟨0, _⟩ => exact fin1_0 m c
      | ⟨1, _⟩ => exact fin1_1 m c)
    (fun c b hb => X11_of m c b (by
      intro hm
      apply hb
      simp only [List.mem_cons, List.not_mem_nil, _root_.or_false] at hm
      exact hm ▸ Finset.mem_image.mpr ⟨(1 : Fin 2), Finset.mem_univ _, rfl⟩))

theorem fin2_0 (hO : TableOk m) (c : Dev nD) : (R2.dats (at' (X12 m)) hO c).arrAt 0 (R2.cfgM (at' (X12 m)) hO).N = X13 m hO c (Proc.devRef .tc main_v22_0) :=
  ((R2.dats (at' (X12 m)) hO c).arrAt_in 0 rfl _).trans ((R2.A_eq (at' (X12 m)) hO c 0).trans (X13_of m hO c main_v22_0 (by decide)).symm)

theorem fin2_1 (hO : TableOk m) (c : Dev nD) : (R2.dats (at' (X12 m)) hO c).arrAt 1 (R2.cfgM (at' (X12 m)) hO).N = X13 m hO c (Proc.devRef .tc main_v22_2) :=
  ((R2.dats (at' (X12 m)) hO c).arrAt_in 1 rfl _).trans ((R2.A_eq (at' (X12 m)) hO c 1).trans (X13_of m hO c main_v22_2 (by decide)).symm)

theorem fin2_2 (hO : TableOk m) (c : Dev nD) : (R2.dats (at' (X12 m)) hO c).arrAt 2 (R2.cfgM (at' (X12 m)) hO).N = X13 m hO c (Proc.devRef .tc main_v22_2) :=
  ((R2.dats (at' (X12 m)) hO c).arrAt_in 2 rfl _).trans ((R2.A_eq (at' (X12 m)) hO c 2).trans (X13_of m hO c main_v22_2 (by decide)).symm)

theorem fin2_3 (hO : TableOk m) (c : Dev nD) : (R2.dats (at' (X12 m)) hO c).arrAt 3 (R2.cfgM (at' (X12 m)) hO).N = X13 m hO c (Proc.devRef .tc main_v22_2) :=
  ((R2.dats (at' (X12 m)) hO c).arrAt_in 3 rfl _).trans ((R2.A_eq (at' (X12 m)) hO c 3).trans (X13_of m hO c main_v22_2 (by decide)).symm)

theorem fin2_4 (hO : TableOk m) (c : Dev nD) : (R2.dats (at' (X12 m)) hO c).arrAt 4 (R2.cfgM (at' (X12 m)) hO).N = X13 m hO c (Proc.devRef .tc main_v22_2) :=
  ((R2.dats (at' (X12 m)) hO c).arrAt_in 4 rfl _).trans ((R2.A_eq (at' (X12 m)) hO c 4).trans (X13_of m hO c main_v22_2 (by decide)).symm)

theorem fin2_5 (hO : TableOk m) (c : Dev nD) : (R2.dats (at' (X12 m)) hO c).arrAt 5 (R2.cfgM (at' (X12 m)) hO).N = X13 m hO c (Proc.devRef .tc main_v25) :=
  (X13_main_v25 m hO c).symm

set_option maxHeartbeats 4000000 in
set_option backward.isDefEq.respectTransparency.types false in
/-- Region 2 as a segment. -/
def reg2 : RegionSeg (pcfgs (F := F)) (adms m hO) (pd m hO) () defs₀ Variants.none noL noLv 2 :=
  region (adms m hO) (pd m hO) 2 launch₀2 (at' (X12 m)) (at' (X13 m hO))
    (fun c => R2.body_obligation (at' (X12 m)) hO c)
    (fun _ _ _ => rfl) (fun _ _ => rfl) (fun _ => rfl) (fun _ _ => rfl) (fun c k => R2.V_pre (at' (X12 m)) c k)
    (fun c => by
      change iprop((∃ r, prngReg c r) ∗ Pipeline.prefHeld (Ix := Unit) (Name := ℕ) (U := UR sig nD τ) (Lvl := ℕ) pre2 c (fun _ => fullShare) (R2.tbl (at' (X12 m))) ∗ Pipeline.scopedRest spec2 c) ⊢ iprop(iprop(Pipeline.ΦA spec2 c ∗ Pipeline.prefHeld (Ix := Unit) (Name := ℕ) (U := UR sig nD τ) (Lvl := ℕ) pre2 c (fun _ => fullShare.left) (R2.tbl (at' (X12 m)))) ∗ Pipeline.ΦT pre2 (R2.tbl (at' (X12 m))) c)
      unfold Pipeline.ΦA Pipeline.ΦT
      have hs := (Pipeline.prefHeld_share (τ := τ) (Ix := Unit) (Name := ℕ) (U := UR sig nD τ) (Lvl := ℕ) pre2 c (PosShare.mem_left_op_right fullShare) (R2.tbl (at' (X12 m)))).1
      iintro ⟨H1, H2, H3⟩
      ihave H := hs $$ H2
      icases H with ⟨HL, HR⟩
      isplitr [HR]
      · isplitr [HL]
        · isplitl [H3] <;> iassumption
        · iexact HL
      · iexact HR)
    (fun c => by
      change iprop(iprop(Pipeline.ΦA spec2 c ∗ Pipeline.prefHeld (Ix := Unit) (Name := ℕ) (U := UR sig nD τ) (Lvl := ℕ) pre2 c (fun _ => fullShare.left) (R2.tbl (at' (X12 m)))) ∗ Pipeline.ΦT pre2 (R2.tbl (at' (X12 m))) c) ⊢ iprop((∃ r, prngReg c r) ∗ Pipeline.prefHeld (Ix := Unit) (Name := ℕ) (U := UR sig nD τ) (Lvl := ℕ) pre2 c (fun _ => fullShare) (R2.tbl (at' (X12 m))) ∗ Pipeline.scopedRest spec2 c)
      unfold Pipeline.ΦA Pipeline.ΦT
      have hs := (Pipeline.prefHeld_share (τ := τ) (Ix := Unit) (Name := ℕ) (U := UR sig nD τ) (Lvl := ℕ) pre2 c (PosShare.mem_left_op_right fullShare) (R2.tbl (at' (X12 m)))).2
      iintro ⟨⟨⟨H1, H2⟩, HL⟩, HR⟩
      isplitl [H2]; · iexact H2
      isplitr [H1]
      · iapply hs
        isplitl [HL] <;> iassumption
      · iexact H1)
    (fun c w => by
      match w with
      | ⟨0, _⟩ => exact fin2_0 m hO c
      | ⟨1, _⟩ => exact fin2_1 m hO c
      | ⟨2, _⟩ => exact fin2_2 m hO c
      | ⟨3, _⟩ => exact fin2_3 m hO c
      | ⟨4, _⟩ => exact fin2_4 m hO c
      | ⟨5, _⟩ => exact fin2_5 m hO c)
    (fun c b hb => X13_of m hO c b (by
      intro hm
      apply hb
      simp only [List.mem_cons, List.not_mem_nil, _root_.or_false] at hm
      exact hm ▸ Finset.mem_image.mpr ⟨(5 : Fin 6), Finset.mem_univ _, rfl⟩))

theorem fin3_0 (hO : TableOk m) (c : Dev nD) : (R3.dats (at' (X14 m hO)) c).arrAt 0 cfg3.N = X15 m hO c (Proc.devRef .tc main_v22_1) :=
  ((R3.dats (at' (X14 m hO)) c).arrAt_in 0 rfl _).trans ((R3.A_eq (at' (X14 m hO)) c 0).trans (X15_of m hO c main_v22_1 (by decide)).symm)

theorem fin3_1 (hO : TableOk m) (c : Dev nD) : (R3.dats (at' (X14 m hO)) c).arrAt 1 cfg3.N = X15 m hO c (Proc.devRef .tc main_v22_1) :=
  ((R3.dats (at' (X14 m hO)) c).arrAt_in 1 rfl _).trans ((R3.A_eq (at' (X14 m hO)) c 1).trans (X15_of m hO c main_v22_1 (by decide)).symm)

theorem fin3_2 (hO : TableOk m) (c : Dev nD) : (R3.dats (at' (X14 m hO)) c).arrAt 2 cfg3.N = X15 m hO c (Proc.devRef .tc main_v22_1) :=
  ((R3.dats (at' (X14 m hO)) c).arrAt_in 2 rfl _).trans ((R3.A_eq (at' (X14 m hO)) c 2).trans (X15_of m hO c main_v22_1 (by decide)).symm)

theorem fin3_3 (hO : TableOk m) (c : Dev nD) : (R3.dats (at' (X14 m hO)) c).arrAt 3 cfg3.N = X15 m hO c (Proc.devRef .tc main_v25) :=
  ((R3.dats (at' (X14 m hO)) c).arrAt_in 3 rfl _).trans ((R3.A_eq (at' (X14 m hO)) c 3).trans (X15_of m hO c main_v25 (by decide)).symm)

theorem fin3_4 (hO : TableOk m) (c : Dev nD) : (R3.dats (at' (X14 m hO)) c).arrAt 4 cfg3.N = X15 m hO c (Proc.devRef .tc main_v1) :=
  ((R3.dats (at' (X14 m hO)) c).arrAt_in 4 rfl _).trans ((R3.A_eq (at' (X14 m hO)) c 4).trans (X15_of m hO c main_v1 (by decide)).symm)

theorem fin3_5 (hO : TableOk m) (c : Dev nD) : (R3.dats (at' (X14 m hO)) c).arrAt 5 cfg3.N = X15 m hO c (Proc.devRef .tc main_v27) :=
  ((R3.dats (at' (X14 m hO)) c).arrAt_in 5 rfl _).trans ((R3.A_eq (at' (X14 m hO)) c 5).trans (X15_of m hO c main_v27 (by decide)).symm)

theorem fin3_6 (hO : TableOk m) (c : Dev nD) : (R3.dats (at' (X14 m hO)) c).arrAt 6 cfg3.N = X15 m hO c (Proc.devRef .tc main_v28) :=
  ((R3.dats (at' (X14 m hO)) c).arrAt_in 6 rfl _).trans ((R3.A_eq (at' (X14 m hO)) c 6).trans (X15_of m hO c main_v28 (by decide)).symm)

theorem fin3_7 (hO : TableOk m) (c : Dev nD) : (R3.dats (at' (X14 m hO)) c).arrAt 7 cfg3.N = X15 m hO c (Proc.devRef .tc main_arg7) :=
  ((R3.dats (at' (X14 m hO)) c).arrAt_in 7 rfl _).trans ((R3.A_eq (at' (X14 m hO)) c 7).trans (X15_of m hO c main_arg7 (by decide)).symm)

theorem fin3_8 (hO : TableOk m) (c : Dev nD) : (R3.dats (at' (X14 m hO)) c).arrAt 8 cfg3.N = X15 m hO c (Proc.devRef .tc main_v29) :=
  ((R3.dats (at' (X14 m hO)) c).arrAt_in 8 rfl _).trans ((R3.A_eq (at' (X14 m hO)) c 8).trans (X15_of m hO c main_v29 (by decide)).symm)

theorem fin3_9 (hO : TableOk m) (c : Dev nD) : (R3.dats (at' (X14 m hO)) c).arrAt 9 cfg3.N = X15 m hO c (Proc.devRef .tc main_v30) :=
  (X15_main_v30 m hO c).symm

set_option maxHeartbeats 4000000 in
set_option backward.isDefEq.respectTransparency.types false in
/-- Region 3 as a segment. -/
def reg3 : RegionSeg (pcfgs (F := F)) (adms m hO) (pd m hO) () defs₀ Variants.none noL noLv 3 :=
  region (adms m hO) (pd m hO) 3 launch₀3 (at' (X14 m hO)) (at' (X15 m hO))
    (fun c => R3.body_obligation (at' (X14 m hO)) c)
    (fun _ _ _ => rfl) (fun _ _ => rfl) (fun _ => rfl) (fun _ _ => rfl) (fun c k => k.elim0)
    (fun c => by
      change _ ⊢ Pipeline.ΦA spec3 c
      unfold Pipeline.ΦA
      iintro ⟨H1, -, H3⟩
      isplitl [H3] <;> iassumption)
    (fun c => by
      change Pipeline.ΦA spec3 c ⊢ _
      unfold Pipeline.ΦA Pipeline.prefHeld
      rw [show (Finset.univ : Finset (Fin 0)) = ∅ from rfl, BI.bigSep_empty]
      iintro ⟨H1, H2⟩
      isplitl [H2]; · iexact H2
      isplitr; · iempintro
      iexact H1)
    (fun c w => by
      match w with
      | ⟨0, _⟩ => exact fin3_0 m hO c
      | ⟨1, _⟩ => exact fin3_1 m hO c
      | ⟨2, _⟩ => exact fin3_2 m hO c
      | ⟨3, _⟩ => exact fin3_3 m hO c
      | ⟨4, _⟩ => exact fin3_4 m hO c
      | ⟨5, _⟩ => exact fin3_5 m hO c
      | ⟨6, _⟩ => exact fin3_6 m hO c
      | ⟨7, _⟩ => exact fin3_7 m hO c
      | ⟨8, _⟩ => exact fin3_8 m hO c
      | ⟨9, _⟩ => exact fin3_9 m hO c)
    (fun c b hb => X15_of m hO c b (by
      intro hm
      apply hb
      simp only [List.mem_cons, List.not_mem_nil, _root_.or_false] at hm
      exact hm ▸ Finset.mem_image.mpr ⟨(9 : Fin 10), Finset.mem_univ _, rfl⟩))

theorem fin4_0 (hO : TableOk m) (c : Dev nD) : (R4.dats (at' (X16 m hO)) c).arrAt 0 cfg4.N = X17 m hO c (Proc.devRef .tc main_v30) :=
  ((R4.dats (at' (X16 m hO)) c).arrAt_in 0 rfl _).trans ((R4.A_eq (at' (X16 m hO)) c 0).trans (X17_of m hO c main_v30 (by decide)).symm)

theorem fin4_1 (hO : TableOk m) (c : Dev nD) : (R4.dats (at' (X16 m hO)) c).arrAt 1 cfg4.N = X17 m hO c (Proc.devRef .tc main_v31) :=
  ((R4.dats (at' (X16 m hO)) c).arrAt_in 1 rfl _).trans ((R4.A_eq (at' (X16 m hO)) c 1).trans (X17_of m hO c main_v31 (by decide)).symm)

theorem fin4_2 (hO : TableOk m) (c : Dev nD) : (R4.dats (at' (X16 m hO)) c).arrAt 2 cfg4.N = X17 m hO c (Proc.devRef .tc main_v32) :=
  ((R4.dats (at' (X16 m hO)) c).arrAt_in 2 rfl _).trans ((R4.A_eq (at' (X16 m hO)) c 2).trans (X17_of m hO c main_v32 (by decide)).symm)

theorem fin4_3 (hO : TableOk m) (c : Dev nD) : (R4.dats (at' (X16 m hO)) c).arrAt 3 cfg4.N = X17 m hO c (Proc.devRef .tc main_arg11) :=
  ((R4.dats (at' (X16 m hO)) c).arrAt_in 3 rfl _).trans ((R4.A_eq (at' (X16 m hO)) c 3).trans (X17_of m hO c main_arg11 (by decide)).symm)

theorem fin4_4 (hO : TableOk m) (c : Dev nD) : (R4.dats (at' (X16 m hO)) c).arrAt 4 cfg4.N = X17 m hO c (Proc.devRef .tc main_v33) :=
  ((R4.dats (at' (X16 m hO)) c).arrAt_in 4 rfl _).trans ((R4.A_eq (at' (X16 m hO)) c 4).trans (X17_of m hO c main_v33 (by decide)).symm)

theorem fin4_5 (hO : TableOk m) (c : Dev nD) : (R4.dats (at' (X16 m hO)) c).arrAt 5 cfg4.N = X17 m hO c (Proc.devRef .tc main_arg13) :=
  ((R4.dats (at' (X16 m hO)) c).arrAt_in 5 rfl _).trans ((R4.A_eq (at' (X16 m hO)) c 5).trans (X17_of m hO c main_arg13 (by decide)).symm)

theorem fin4_6 (hO : TableOk m) (c : Dev nD) : (R4.dats (at' (X16 m hO)) c).arrAt 6 cfg4.N = X17 m hO c (Proc.devRef .tc main_v34) :=
  ((R4.dats (at' (X16 m hO)) c).arrAt_in 6 rfl _).trans ((R4.A_eq (at' (X16 m hO)) c 6).trans (X17_of m hO c main_v34 (by decide)).symm)

theorem fin4_7 (hO : TableOk m) (c : Dev nD) : (R4.dats (at' (X16 m hO)) c).arrAt 7 cfg4.N = X17 m hO c (Proc.devRef .tc main_v35) :=
  (X17_main_v35 m hO c).symm

set_option maxHeartbeats 4000000 in
set_option backward.isDefEq.respectTransparency.types false in
/-- Region 4 as a segment. -/
def reg4 : RegionSeg (pcfgs (F := F)) (adms m hO) (pd m hO) () defs₀ Variants.none noL noLv 4 :=
  region (adms m hO) (pd m hO) 4 (launch4 (F := F)).to₀ (at' (X16 m hO)) (at' (X17 m hO))
    (fun c => R4.body_obligation (at' (X16 m hO)) c)
    (fun c w _ => (Pipeline.shareOf_eq_fullShare_of_injective _ (launch4 (F := F)).win.arr_inj w).symm) (fun _ _ => rfl) (fun _ => rfl) (fun _ _ => rfl) (fun c k => k.elim0)
    (fun c => by
      change _ ⊢ Pipeline.ΦA spec4 c
      unfold Pipeline.ΦA
      iintro ⟨H1, -, H3⟩
      isplitl [H3] <;> iassumption)
    (fun c => by
      change Pipeline.ΦA spec4 c ⊢ _
      unfold Pipeline.ΦA Pipeline.prefHeld
      rw [show (Finset.univ : Finset (Fin 0)) = ∅ from rfl, BI.bigSep_empty]
      iintro ⟨H1, H2⟩
      isplitl [H2]; · iexact H2
      isplitr; · iempintro
      iexact H1)
    (fun c w => by
      match w with
      | ⟨0, _⟩ => exact fin4_0 m hO c
      | ⟨1, _⟩ => exact fin4_1 m hO c
      | ⟨2, _⟩ => exact fin4_2 m hO c
      | ⟨3, _⟩ => exact fin4_3 m hO c
      | ⟨4, _⟩ => exact fin4_4 m hO c
      | ⟨5, _⟩ => exact fin4_5 m hO c
      | ⟨6, _⟩ => exact fin4_6 m hO c
      | ⟨7, _⟩ => exact fin4_7 m hO c)
    (fun c b hb => X17_of m hO c b (by
      intro hm
      apply hb
      simp only [List.mem_cons, List.not_mem_nil, _root_.or_false] at hm
      exact hm ▸ Finset.mem_image.mpr ⟨(7 : Fin 8), Finset.mem_univ _, rfl⟩))

/-- The host operations `hostOps2` as a segment. -/
def h2 : HostSeg (Ix := Unit) (Name := ℕ) (U := UR sig nD τ) (Lvl := ℕ) (pcfgs (F := F)) defs₀ Variants.none noL noLv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (X11 m) Carry

/-- The host operations `hostOps3` as a segment. -/
def h3 : HostSeg (Ix := Unit) (Name := ℕ) (U := UR sig nD τ) (Lvl := ℕ) (pcfgs (F := F)) defs₀ Variants.none noL noLv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (X13 m hO) Carry

/-- The host operations `hostOps4` as a segment. -/
def h4 : HostSeg (Ix := Unit) (Name := ℕ) (U := UR sig nD τ) (Lvl := ℕ) (pcfgs (F := F)) defs₀ Variants.none noL noLv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (X15 m hO) Carry

/-- The host operations `hostOps5` as a segment. -/
def h5 : HostSeg (Ix := Unit) (Name := ℕ) (U := UR sig nD τ) (Lvl := ℕ) (pcfgs (F := F)) defs₀ Variants.none noL noLv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (X17 m hO) Carry

/-- The program's items in order. -/
abbrev items (_ : Dev nD) : List (Seg (pcfgs (F := F)) (adms m hO) (pd m hO) () defs₀ Variants.none noL noLv) :=
  [.host (seg0 m Variants.none noL noLv fun _ => Carry), .host (seg1 m Variants.none noL noLv fun _ => Carry), .host (seg2 m Variants.none noL noLv fun _ => Carry),
   .host (seg3 m Variants.none noL noLv fun _ => Carry), .host (seg4 m Variants.none noL noLv fun _ => Carry), .host (seg5 m Variants.none noL noLv fun _ => Carry),
   .host (seg6 m Variants.none noL noLv fun _ => Carry), .host (seg7 m Variants.none noL noLv fun _ => Carry), .host (seg8 m Variants.none noL noLv fun _ => Carry),
   .region (reg0 m hO), .region (reg1 m hO), .host (h2 m), .region (reg2 m hO), .host (h3 m hO), .region (reg3 m hO), .host (h4 m hO), .region (reg4 m hO), .host (h5 m hO)]

/-- Every unscoped buffer held at a valuation is the launch's form of the same. -/
theorem held_eq (c : Dev nD) (W : Dev nD → Valuation τ sig (Elt F)) :
    (iprop(StableHlo.held (c : Thread nD τ) (Pipeline.ucRefs τ sig) (W c) ∗ Carry c) : sProp 𝕄) = iprop(unscopedBufs c (at' W c) ∗ Carry c) := by
  rw [← Pipeline.unscopedBufs_held (Ix := Unit) (Name := ℕ) (U := UR sig nD τ) (Lvl := ℕ) c (W c)]

/-- What a core begins with is what its first item takes. -/
theorem start (ρ : Dev nD → PrngReg) (c : Dev nD) : (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)) : sProp 𝕄)
        ⊢ iprop(StableHlo.held (c : Thread nD τ) (Pipeline.ucRefs τ sig) (V0 m c) ∗ Carry c) := by
  rw [held_eq c (V0 m)]
  iintro ⟨Hb, -, Ho, -, Hp, -⟩
  isplitl [Hb]; · iexact Hb
  isplitl [Hp]; · iexists _; iexact Hp
  iexists _; iexact Ho

set_option maxHeartbeats 4000000 in
set_option backward.isDefEq.respectTransparency.types false in
/-- THE RUN: it ends with every unscoped buffer at `X18` and every counter at zero. -/
theorem run (ρ : Dev nD → PrngReg) :
    θ_run defs (onTc (τ := τ) (main (F := F))) ⟨m, fun _ => 0, ρ⟩ (fun r => (∀ c : Dev nD, ∀ b ∈ Pipeline.ucRefs τ sig, r.2.mem (c, b) = X18 m hO c b)
      ∧ r.2.sem = fun _ => 0) := by
  refine Pipeline.θ_run_regions_kit_dev_sems (pcfgs (F := F)) (adms m hO) (pd m hO) () (cellOf_inj (adms m hO)) emb₁ defs₀ Variants.none noL noLv m ρ main
    (items m hO)
    (fun c Q => by
      rewrite [main_chain c, Seg.run_eq_chain,
        show (items m hO c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()), Prog.lift (.customCall (Pipeline.entry 1) ()), StableHlo.seq hostOps2,
          Prog.lift (.customCall (Pipeline.entry 2) ()), StableHlo.seq hostOps3, Prog.lift (.customCall (Pipeline.entry 3) ()),
          StableHlo.seq hostOps4, Prog.lift (.customCall (Pipeline.entry 4) ()), StableHlo.seq hostOps5 ] from rfl]
      dsimp (config := { failIfUnchanged := false }) only
      exact .rfl)
    (fun c => by simp only [items, Seg.pipes_host, Seg.pipes_region, Seg.pipes_nil]; decide) (fun _ => 0) (fun _ _ => rfl) (fun _ => iprop(emp))
    (initOf (Pipeline.cells (Pipeline.pin (pcfgs (F := F)) (adms m hO)) (cellOf_inj (adms m hO))) (Pipeline.launchToks (Pipeline.pin (pcfgs (F := F)) (adms m hO)) (cellOf_inj (adms m hO))))
    (by
      iintro Hu; imodintro
      isplitl [Hu]
      · iapply (show (ownU _ : sProp 𝕄) ⊢ BI.own (emb₁ (initOf (Pipeline.cells (Pipeline.pin (pcfgs (F := F)) (adms m hO)) (cellOf_inj (adms m hO))) (Pipeline.launchToks (Pipeline.pin (pcfgs (F := F)) (adms m hO)) (cellOf_inj (adms m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Carry c))
    (Tₙ := fun c => StableHlo.held (c : Thread nD τ) (Pipeline.ucRefs τ sig) (X18 m hO c))
    (hch := fun c => ⟨.rfl, .rfl, .rfl, .rfl, .rfl, .rfl, .rfl, .rfl, .rfl, Entails.of_eq (held_eq c (V9 m)), .rfl, Entails.of_eq (held_eq c (X11 m)).symm,
      Entails.of_eq (held_eq c (X12 m)), Entails.of_eq (held_eq c (X13 m hO)).symm, Entails.of_eq (held_eq c (X14 m hO)), Entails.of_eq (held_eq c (X15 m hO)).symm,
      Entails.of_eq (held_eq c (X16 m hO)), Entails.of_eq (held_eq c (X17 m hO)).symm, sep_mono .rfl (by iintro ⟨-, H⟩; iexact H)⟩)
    (hinit := ?_) (QY := fun c s => ∀ b ∈ Pipeline.ucRefs τ sig, s.mem (c, b) = X18 m hO c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (Pipeline.ucRefs τ sig) (V0 m c) ∗ Carry c) : sProp 𝕄) := by
      refine bigSep_mono fun c _ => start m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (X18 m hO c) s') $$ [Hh HSI]
    · isplitl [Hh] <;> iassumption
    icases Hr with ⟨%h, HSI⟩
    imodintro
    isplitr
    · ipureintro; exact h
    · iexact HSI

/-- A reference that no host operation and no region writes ends as it began. -/
theorem X18_keep (c : Dev nD) (r : Ref sig .tc)
    (h : r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W
      ∧ r ∉ ([main_v22_0, main_v22_1, main_v22_2, main_v22_3] : List (Ref sig .tc)) ∧ r ∉ ([main_v23] : List (Ref sig .tc)) ∧ r ∉ hostOps2_W
      ∧ r ∉ ([main_v25] : List (Ref sig .tc)) ∧ r ∉ hostOps3_W ∧ r ∉ ([main_v30] : List (Ref sig .tc)) ∧ r ∉ hostOps4_W ∧ r ∉ ([main_v35] : List (Ref sig .tc)) ∧ r ∉ hostOps5_W) :
    X18 m hO c (Proc.devRef .tc r) = m ((c : Thread nD τ).loc r) := by
  obtain ⟨h0, h1, h2, h3, h4, h5, h6, h7, h8, h9, h10, h11, h12, h13, h14, h15, h16, h17⟩ := h
  exact (StableHlo.after_of_writes_sub hostOps5 _ hostOps5_writes h17).trans <| (X17_of m hO c r h16).trans <|
    (StableHlo.after_of_writes_sub hostOps4 _ hostOps4_writes h15).trans <| (X15_of m hO c r h14).trans <|
    (StableHlo.after_of_writes_sub hostOps3 _ hostOps3_writes h13).trans <| (X13_of m hO c r h12).trans <|
    (StableHlo.after_of_writes_sub hostOps2 _ hostOps2_writes h11).trans <| (X11_of m c r h10).trans <| (X10_of m c r h9).trans <|
    (V9_of m c r h8).trans <| (V8_of m c r h7).trans <| (V7_of m c r h6).trans <| (V6_of m c r h5).trans <| (V5_of m c r h4).trans <|
    (V4_of m c r h3).trans <| (V3_of m c r h2).trans <| (V2_of m c r h1).trans (V1_of m c r h0)

end Cert.KernelIdeal.Whole

end
-- ==== Proof.KernelV0.lean ====
/- Hand-written: what region 0 of the whole layer's program (the projection) leaves in its four result arrays is the plain reference of its arguments. -/
module

public import proofs.«01_k».proof.Proof.KernelR0
public import proofs.«01_k».proof.Proof.PoolMath
public import proofs.«01_k».proof.Proof.QkvRef
public import Idealize.ShloMosaic.Lib.Pipeline.ValueKit
public import Idealize.ShloMosaic.Lib.StableHlo.ReadAt

@[expose] public section

set_option pp.maxSteps 400
set_option maxRecDepth 16384

noncomputable section

open Idealize.ShloMosaic Idealize.ShloMosaic.TcCoe Idealize.SL.Sem
open Idealize.ShloMosaic.Pipeline (Dat)

namespace Cert.KV0

open Cert.KernelIdeal hiding ix2
open Cert.RowMath Cert.PoolMath
open Cert.KernelIdeal.Gen
open Cert.KernelIdeal.R0 hiding iblk dats

variable (m : (ℓ : Loc nD τ sig) → Buf (Elt Ideal) ℓ)

/-- The arrays when the region starts. -/
def V (c : Dev nD) (b : DevRef τ sig) : Buf (Elt Ideal) (c, b) :=
  StableHlo.after (List.flatten [hostOps0 (F := Ideal), hostOps0_1, hostOps0_2, hostOps0_3, hostOps0_4, hostOps0_5, hostOps0_6, hostOps0_7, hostOps0_8]) (fun b => m (c, b)) b

/-- The arrays when the region starts, by reference. -/
abbrev VV (c : Dev nD) (b : Ref sig .tc) : Buf (Elt Ideal) ((c : Thread nD τ).loc b) := V m c (Proc.devRef .tc b)

/-- A window's block at a grid point. -/
abbrev iblk (c : Dev nD) (w : Fin cfg0.W) (t : Fin cfg0.N) := Cert.KernelIdeal.R0.iblk (VV m) c w t

/-- The region's data. -/
abbrev dats (c : Dev nD) := Cert.KernelIdeal.R0.dats (VV m) c

theorem V_main_arg3 (c : Dev nD) : VV m c main_arg3 = m ((c : Thread nD τ).loc main_arg3) := by
  unfold VV V
  after_reads_at

/-- The pool number the host computes for a window's pixel. -/
theorem V_v10 (c : Dev nD) (s : Fin 1024) : (VV m c main_v10 : IVec S1x1024 32) (ix2 0 s) = BitVec.ofNat 32 (cell s) := by
  unfold VV V
  after_reads_at
  revert s
  decide +kernel

/-- The host's pooling matrix: one sixty-fourth on a pool's pixels. -/
theorem V_v18 (c : Dev nD) (u : Fin 16) (s : Fin 1024) :
    (VV m c main_v18 : FVec Ideal S16x1024 .f32) (ix2 u s) = Ideal.div (if cell s = u.val then 1 else 0) (Ideal.ofBits .f32 0x42800000#32) := by
  have key : (VV m c main_v18 : FVec Ideal S16x1024 .f32) (ix2 u s)
      = Ideal.div (FloatOps.uitofp (F := Ideal) .f32 (IntOp.cmpi .eq ((VV m c main_v10 : IVec S1x1024 32) (ix2 0 s)) (BitVec.ofNat 32 u.val))) (Ideal.ofBits .f32 0x42800000#32) := by
    unfold VV V
    after_reads_at
  rw [key, V_v10]
  have hb : IntOp.cmpi .eq (BitVec.ofNat 32 (cell s)) (BitVec.ofNat 32 u.val) = if cell s = u.val then 1#1 else 0#1 := by
    have h : ∀ (a : Fin 16) (u : Fin 16), IntOp.cmpi .eq (BitVec.ofNat 32 a.val) (BitVec.ofNat 32 u.val) = if a.val = u.val then 1#1 else 0#1 := by
      decide +kernel
    have hc : cell s < 16 := by unfold cell; omega
    exact h ⟨cell s, hc⟩ u
  rw [hb]
  congr 1
  split
  · show (((1#1 : BitVec 1).toNat : ℝ) : EReal) = 1
    simp
  · show (((0#1 : BitVec 1).toNat : ℝ) : EReal) = 0
    simp

/-- The body's dense layer at pixel `s` of the window. -/
theorem dense5 (v0 : Vec Ideal S32x32x384 .f32) (v19 v24 : Vec Ideal S1x384 .f32) (v29 : Vec Ideal S384x1152 .f32) (v31 : Vec Ideal S1x1152 .f32)
    (s : Fin 1024) (n : Fin 1152) :
    k0_pay5 v0 v19 v24 v29 v31 (ix2 s n)
      = dense (lnRow (fun k => v0 (ix3 (⟨s.val / 32, by omega⟩ : Fin 32) (⟨s.val % 32, by omega⟩ : Fin 32) k)) (fun k => v19 (ix2 0 k)) (fun k => v24 (ix2 0 k))) (fun k j => v29 (ix2 k j)) (fun j => v31 (ix2 0 j)) n := by
  unfold k0_pay5 dense lnRow
  pointwise [mean, var]

section
variable (x0 : Vec Ideal S32x32x384 .f32) (x1 x2 : Vec Ideal S1x384 .f32) (x3 : Vec Ideal S384x1152 .f32) (x4 : Vec Ideal S1x1152 .f32) (x5 : Vec Ideal S16x1024 .f32)

theorem ld0 : View.ld x0 r0_0 = x0 := by
  funext y
  idx_vars y
  pointwise

theorem ld1 (x : Vec Ideal S1x384 .f32) : View.ld x r0_1 = x := by
  funext y
  idx_vars y
  obtain rfl : y0 = 0 := Subsingleton.elim _ _
  pointwise

theorem ld3 : View.ld x3 r0_2 = x3 := by
  funext y
  idx_vars y
  pointwise

theorem ld4 : View.ld x4 r0_3 = x4 := by
  funext y
  idx_vars y
  obtain rfl : y0 = 0 := Subsingleton.elim _ _
  pointwise

/-- The queries the body stores. -/
theorem storedQ (s : Fin 1024) (k : Fin 384) (z : Fin 1) :
    k0_pay1 (k0_pay9 x0 x1 x2 x3 x4) (ix3 z s k) = k0_pay5 x0 x1 x2 x3 x4 (ix2 s (⟨k.val, by omega⟩ : Fin 1152)) := by
  unfold k0_pay1 k0_pay9 k0_pay6
  generalize k0_pay5 x0 x1 x2 x3 x4 = Q
  pointwise

/-- The values the body stores. -/
theorem storedV (a b : Fin 32) (k : Fin 384) :
    k0_pay2 (k0_pay11 x0 x1 x2 x3 x4 x5) (ix3 a b k) = k0_pay5 x0 x1 x2 x3 x4 (ix2 (⟨a.val * 32 + b.val, by omega⟩ : Fin 1024) (⟨384 + (384 + k.val), by omega⟩ : Fin 1152)) := by
  unfold k0_pay2 k0_pay11 k0_pay8
  rw [ld0, ld1, ld1, ld3, ld4]
  generalize k0_pay5 x0 x1 x2 x3 x4 = Q
  pointwise
  exact congrArg (fun j : Fin 1152 => Q (ix2 (⟨a.val * 32 + b.val, by omega⟩ : Fin 1024) j)) (Fin.mk_eq_mk.mpr (by omega))

/-- The pools the body stores: sums against the pooling matrix. -/
theorem storedP (u : Fin 16) (n : Fin 768) (z : Fin 1) :
    k0_pay3 (k0_pay10 x0 x1 x2 x3 x4 x5) (k0_pay11 x0 x1 x2 x3 x4 x5) x5 (ix3 z u n) = ∑ s : Fin 1024, x5 (ix2 u s) * k0_pay5 x0 x1 x2 x3 x4 (ix2 s (⟨384 + n.val, by omega⟩ : Fin 1152)) := by
  unfold k0_pay3 k0_pay10 k0_pay11 k0_pay7 k0_pay8
  rw [ld0, ld1, ld1, ld3, ld4]
  generalize k0_pay5 x0 x1 x2 x3 x4 = Q
  pointwise
  split
  · rfl
  · refine Finset.sum_congr rfl fun s _ => congrArg (fun j : Fin 1152 => x5 (ix2 u s) * Q (ix2 s j)) (Fin.mk_eq_mk.mpr (by omega))

/-- The window means the body stores. -/
theorem storedW (r : Fin 8) (n : Fin 384) (z : Fin 1) :
    k0_pay4 (k0_pay6 x0 x1 x2 x3 x4) (k0_pay10 x0 x1 x2 x3 x4 x5) (ix3 z r n) =
      if r.val < 1 then Ideal.div (∑ s : Fin 1024, k0_pay5 x0 x1 x2 x3 x4 (ix2 s (⟨n.val, by omega⟩ : Fin 1152))) (Ideal.ofBits .f32 0x44800000#32)
      else if r.val - 1 < 1 then Ideal.div (∑ s : Fin 1024, k0_pay5 x0 x1 x2 x3 x4 (ix2 s (⟨384 + n.val, by omega⟩ : Fin 1152))) (Ideal.ofBits .f32 0x44800000#32)
      else 0 := by
  unfold k0_pay4 k0_pay10 k0_pay6 k0_pay7
  rw [ld0, ld1, ld1, ld3, ld4]
  generalize k0_pay5 x0 x1 x2 x3 x4 = Q
  pointwise
  simp only [dite_eq_ite]

end

/-- Where each window stands at each grid point. -/
theorem idx : ∀ t : Fin cfg0.N, win0_0.index t = ![t.val / 7, t.val % 7, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0, 0]
    ∧ win0_7.index t = ![t.val / 7, t.val % 7, 0]
    ∧ win0_8.index t = ![t.val, 0, 0]
    ∧ win0_9.index t = ![t.val, 0, 0] :=
  (by decide +kernel : ∀ t : Fin grid0.N, _)

/-- A pixel's projection, from equal rows and weights. -/
theorem pix_of (r g b : Fin 384 → EReal) (w : Fin 384 → Fin 1152 → EReal) (d : Fin 1152 → EReal) (a0 : FVec Ideal S1x384x224x224 .f32) (a1 a2 : FVec Ideal S384 .f32) (a3 : FVec Ideal S384x1152 .f32) (a4 : FVec Ideal S1152 .f32) (p q : Fin 224) (n : Fin 1152)
    (h0 : ∀ k, r k = a0 (ix4 0 k p q)) (h1 : ∀ k, g k = a1 (ix1 k)) (h2 : ∀ k, b k = a2 (ix1 k)) (h3 : ∀ k j, w k j = a3 (ix2 k j)) (h4 : ∀ j, d j = a4 (ix1 j)) :
    dense (lnRow r g b) w d n = Cert.QkvReferenceIdeal.Entry.pix a0 a1 a2 a3 a4 p q n := by
  obtain rfl : r = fun k => a0 (ix4 0 k p q) := funext h0
  obtain rfl : g = fun k => a1 (ix1 k) := funext h1
  obtain rfl : b = fun k => a2 (ix1 k) := funext h2
  obtain rfl : w = fun k j => a3 (ix2 k j) := funext fun k => funext (h3 k)
  obtain rfl : d = fun j => a4 (ix1 j) := funext h4
  rfl

/-- The whole projection of the launch's arguments. -/
abbrev proj (c : Dev nD) : FVec Ideal Cert.QkvReferenceIdeal.S7x7x32x32x1152 .f32 :=
  Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4))

/-- The image the host hands to the kernel, at one entry. -/
theorem V_v1 (c : Dev nD) (p q : Fin 224) (k : Fin 384) : (VV m c main_v1 : FVec Ideal S224x224x384 .f32) (ix3 p q k) = (m ((c : Thread nD τ).loc main_arg0) : FVec Ideal S1x384x224x224 .f32) (ix4 0 k p q) := by
  unfold VV V
  after_reads_at

/-- The scale as a row. -/
theorem V_v19 (c : Dev nD) (k : Fin 384) : (VV m c main_v19 : FVec Ideal S1x384 .f32) (ix2 0 k) = (m ((c : Thread nD τ).loc main_arg1) : FVec Ideal S384 .f32) (ix1 k) := by
  unfold VV V
  after_reads_at

/-- The shift as a row. -/
theorem V_v20 (c : Dev nD) (k : Fin 384) : (VV m c main_v20 : FVec Ideal S1x384 .f32) (ix2 0 k) = (m ((c : Thread nD τ).loc main_arg2) : FVec Ideal S384 .f32) (ix1 k) := by
  unfold VV V
  after_reads_at

/-- The bias as a row. -/
theorem V_v21 (c : Dev nD) (k : Fin 1152) : (VV m c main_v21 : FVec Ideal S1x1152 .f32) (ix2 0 k) = (m ((c : Thread nD τ).loc main_arg4) : FVec Ideal S1152 .f32) (ix1 k) := by
  unfold VV V
  after_reads_at

/-- The image block at a grid point. -/
theorem blk0 (c : Dev nD) (t : Fin cfg0.N) (ht : t.val < 49) (a b : Fin 32) (k : Fin 384) :
    iblk m c 0 t (ix3 a b k) = (VV m c main_v1 : FVec Ideal S224x224x384 .f32) (ix3 (⟨t.val / 7 * 32 + a.val, by omega⟩ : Fin 224) (⟨t.val % 7 * 32 + b.val, by omega⟩ : Fin 224) k) := by
  have hp : ((cfg0.win 0).blk t).view.emb (ix3 a b k) = (ix3 (⟨t.val / 7 * 32 + a.val, by omega⟩ : Fin 224) (⟨t.val % 7 * 32 + b.val, by omega⟩ : Fin 224) k) := by
    blk_ext [idx t]
  show (VV m c main_v1 : FVec Ideal S224x224x384 .f32) (((cfg0.win 0).blk t).view.emb (ix3 a b k)) = _
  rw [hp]

/-- The scale at a grid point. -/
theorem blk1 (c : Dev nD) (t : Fin cfg0.N) (k : Fin 384) :
    iblk m c 1 t (ix2 0 k) = (VV m c main_v19 : FVec Ideal S1x384 .f32) (ix2 0 k) := by
  have hp : ((cfg0.win 1).blk t).view.emb (ix2 0 k) = (ix2 0 k) := by
    blk_ext [idx t]
  show (VV m c main_v19 : FVec Ideal S1x384 .f32) (((cfg0.win 1).blk t).view.emb (ix2 0 k)) = _
  rw [hp]

/-- The shift at a grid point. -/
theorem blk2 (c : Dev nD) (t : Fin cfg0.N) (k : Fin 384) :
    iblk m c 2 t (ix2 0 k) = (VV m c main_v20 : FVec Ideal S1x384 .f32) (ix2 0 k) := by
  have hp : ((cfg0.win 2).blk t).view.emb (ix2 0 k) = (ix2 0 k) := by
    blk_ext [idx t]
  show (VV m c main_v20 : FVec Ideal S1x384 .f32) (((cfg0.win 2).blk t).view.emb (ix2 0 k)) = _
  rw [hp]

/-- The weight at a grid point. -/
theorem blk3 (c : Dev nD) (t : Fin cfg0.N) (k : Fin 384) (n : Fin 1152) :
    iblk m c 3 t (ix2 k n) = (VV m c main_arg3 : FVec Ideal S384x1152 .f32) (ix2 k n) := by
  have hp : ((cfg0.win 3).blk t).view.emb (ix2 k n) = (ix2 k n) := by
    blk_ext [idx t]
  show (VV m c main_arg3 : FVec Ideal S384x1152 .f32) (((cfg0.win 3).blk t).view.emb (ix2 k n)) = _
  rw [hp]

/-- The bias at a grid point. -/
theorem blk4 (c : Dev nD) (t : Fin cfg0.N) (k : Fin 1152) :
    iblk m c 4 t (ix2 0 k) = (VV m c main_v21 : FVec Ideal S1x1152 .f32) (ix2 0 k) := by
  have hp : ((cfg0.win 4).blk t).view.emb (ix2 0 k) = (ix2 0 k) := by
    blk_ext [idx t]
  show (VV m c main_v21 : FVec Ideal S1x1152 .f32) (((cfg0.win 4).blk t).view.emb (ix2 0 k)) = _
  rw [hp]

/-- The pooling matrix at a grid point. -/
theorem blk5P (c : Dev nD) (t : Fin cfg0.N) (u : Fin 16) (s : Fin 1024) :
    iblk m c 5 t (ix2 u s) = (VV m c main_v18 : FVec Ideal S16x1024 .f32) (ix2 u s) := by
  have hp : ((cfg0.win 5).blk t).view.emb (ix2 u s) = (ix2 u s) := by
    blk_ext [idx t]
  show (VV m c main_v18 : FVec Ideal S16x1024 .f32) (((cfg0.win 5).blk t).view.emb (ix2 u s)) = _
  rw [hp]

/-- The projection the body computes at a grid point is its window's. -/
theorem proj5 (c : Dev nD) (t : Fin cfg0.N) (ht : t.val < 49) (s : Fin 1024) (n : Fin 1152) :
    k0_pay5 (iblk m c 0 t) (iblk m c 1 t) (iblk m c 2 t) (iblk m c 3 t) (iblk m c 4 t) (ix2 s n)
      = Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) (⟨s.val / 32, by omega⟩ : Fin 32) (⟨s.val % 32, by omega⟩ : Fin 32) n) := by
  refine (dense5 (iblk m c 0 t) (iblk m c 1 t) (iblk m c 2 t) (iblk m c 3 t) (iblk m c 4 t) s n).trans (Eq.trans ?_ (Cert.QkvReferenceIdeal.Entry.QREF_apply (m ((c : Thread nD τ).loc main_arg0)) (m ((c : Thread nD τ).loc main_arg1)) (m ((c : Thread nD τ).loc main_arg2)) (m ((c : Thread nD τ).loc main_arg3)) (m ((c : Thread nD τ).loc main_arg4)) _ _ _ _ n).symm)
  refine pix_of _ _ _ _ _ _ _ _ _ _ _ _ n ?_ ?_ ?_ ?_ ?_
  · intro k; rw [blk0 m c t ht, V_v1]
  · intro k; rw [blk1, V_v19]
  · intro k; rw [blk2, V_v20]
  · intro k j; rw [blk3, V_main_arg3]
  · intro k; rw [blk4, V_v21]

/-- Two entries of the projection with equal positions. -/
theorem congr5 (Q : FVec Ideal Cert.QkvReferenceIdeal.S7x7x32x32x1152 .f32) (n : Fin 1152) (i j i' j' : Fin 7) (r s r' s' : Fin 32)
    (hi : i.val = i'.val) (hj : j.val = j'.val) (hr : r.val = r'.val) (hs : s.val = s'.val) :
    Q (ix5 i j r s n) = Q (ix5 i' j' r' s' n) := by
  rw [Fin.ext hi, Fin.ext hj, Fin.ext hr, Fin.ext hs]

/-- The pooling matrix as a grid point holds it. -/
abbrev poolBlk (c : Dev nD) (t : Fin cfg0.N) : FVec Ideal S16x1024 .f32 := iblk m c 5 t

/-- The pooling matrix's product with the projection at a grid point is the mean over each pool. -/
theorem poolSum (c : Dev nD) (t : Fin cfg0.N) (ht : t.val < 49) (u : Fin 16) (n : Fin 1152) :
    (∑ s : Fin 1024, poolBlk m c t (ix2 u s) * k0_pay5 (iblk m c 0 t) (iblk m c 1 t) (iblk m c 2 t) (iblk m c 3 t) (iblk m c 4 t) (ix2 s n))
      = Ideal.div (∑ x : Fin 64, Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) (⟨u.val / 4 * 8 + x.val / 8, by omega⟩ : Fin 32) (⟨u.val % 4 * 8 + x.val % 8, by omega⟩ : Fin 32) n)) (Ideal.ofBits .f32 0x42800000#32) := by
  have h1 : ∀ s : Fin 1024, poolBlk m c t (ix2 u s) = Ideal.div (if cell s = u.val then 1 else 0) (Ideal.ofBits .f32 0x42800000#32) := fun s =>
    (blk5P m c t u s).trans (V_v18 m c u s)
  have h2 : ∀ x : Fin 64, k0_pay5 (iblk m c 0 t) (iblk m c 1 t) (iblk m c 2 t) (iblk m c 3 t) (iblk m c 4 t) (ix2 (pixel u x) n) = Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) (⟨u.val / 4 * 8 + x.val / 8, by omega⟩ : Fin 32) (⟨u.val % 4 * 8 + x.val % 8, by omega⟩ : Fin 32) n) := by
    intro x
    refine (proj5 m c t ht _ _).trans ?_
    have h0 := x.isLt
    have h1 := u.isLt
    refine congr5 _ _ _ _ _ _ _ _ _ _ rfl rfl ?_ ?_
    · show ((u.val / 4 * 8 + x.val / 8) * 32 + (u.val % 4 * 8 + x.val % 8)) / 32 = u.val / 4 * 8 + x.val / 8
      omega
    · show ((u.val / 4 * 8 + x.val / 8) * 32 + (u.val % 4 * 8 + x.val % 8)) % 32 = u.val % 4 * 8 + x.val % 8
      omega
  generalize poolBlk m c t = P at h1 ⊢
  generalize hK : k0_pay5 (iblk m c 0 t) (iblk m c 1 t) (iblk m c 2 t) (iblk m c 3 t) (iblk m c 4 t) = K at h2 ⊢
  generalize hQ : Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) = Q at h2 ⊢
  refine (pool_sum u (fun s => P (ix2 u s)) (fun s => K (ix2 s n)) h1).trans ?_
  rw [Finset.sum_congr rfl (fun x _ => h2 x)]

/-- The queries of the launch's arguments. -/
abbrev wantQ (c : Dev nD) : FVec Ideal S49x1024x384 .bf16 :=
  Cert.QkvReferenceIdeal.Entry.qRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The queries stored at a grid point are the reference's. -/
theorem pointQ (c : Dev nD) (t : Fin cfg0.N) (y : S1x1024x384.Idx) :
    k0_pay1 (k0_pay9 (iblk m c 0 t) (iblk m c 1 t) (iblk m c 2 t) (iblk m c 3 t) (iblk m c 4 t)) y = wantQ m c (((cfg0.win 6).blk t).view.emb y) := by
  idx_vars y
  refine (storedQ (iblk m c 0 t) (iblk m c 1 t) (iblk m c 2 t) (iblk m c 3 t) (iblk m c 4 t) y1 y2 y0).trans ?_
  have hN : cfg0.N = 49 := N_0
  have ht := t.isLt
  have hp : ((cfg0.win 6).blk t).view.emb (ix3 y0 y1 y2) = (ix3 (⟨t.val, by omega⟩ : Fin 49) y1 y2) := by
    blk_ext [idx t]
  show _ = wantQ m c (((cfg0.win 6).blk t).view.emb (ix3 y0 y1 y2))
  rw [hp]
  refine Eq.trans ?_ (Cert.QkvReferenceIdeal.Entry.qRef_apply _ _ _ _).symm
  refine (proj5 m c t (by omega) y1 _).trans ?_
  rfl

/-- The queries after the run. -/
theorem finalQ (c : Dev nD) : (dats m c).arrAt 6 cfg0.N = wantQ m c := by
  refine (dats m c).arrAt_eq_of_covers 6 _ (by decide +kernel) fun t hf y => ?_
  blk_simp; rw [Cert.KernelIdeal.R0.after0_6]; unfold Cert.KernelIdeal.R0.out0_6; frame_out
  exact pointQ m c t y

/-- The value image of the launch's arguments. -/
abbrev wantV (c : Dev nD) : FVec Ideal S224x224x384 .bf16 :=
  Cert.QkvReferenceIdeal.Entry.vRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The value image stored at a grid point are the reference's. -/
theorem pointV (c : Dev nD) (t : Fin cfg0.N) (y : S32x32x384.Idx) :
    k0_pay2 (k0_pay11 (iblk m c 0 t) (iblk m c 1 t) (iblk m c 2 t) (iblk m c 3 t) (iblk m c 4 t) (iblk m c 5 t)) y = wantV m c (((cfg0.win 7).blk t).view.emb y) := by
  idx_vars y
  refine (storedV (iblk m c 0 t) (iblk m c 1 t) (iblk m c 2 t) (iblk m c 3 t) (iblk m c 4 t) (iblk m c 5 t) y0 y1 y2).trans ?_
  have hN : cfg0.N = 49 := N_0
  have ht := t.isLt
  have hp : ((cfg0.win 7).blk t).view.emb (ix3 y0 y1 y2) = (ix3 (⟨t.val / 7 * 32 + y0.val, by omega⟩ : Fin 224) (⟨t.val % 7 * 32 + y1.val, by omega⟩ : Fin 224) y2) := by
    blk_ext [idx t]
  show _ = wantV m c (((cfg0.win 7).blk t).view.emb (ix3 y0 y1 y2))
  rw [hp]
  refine Eq.trans ?_ (Cert.QkvReferenceIdeal.Entry.vRef_apply _ _ _ _).symm
  refine (proj5 m c t (by omega) _ _).trans ?_
  have h0 := y0.isLt
  have h1 := y1.isLt
  refine congr5 _ _ _ _ _ _ _ _ _ _ ?_ ?_ ?_ ?_
  · show t.val / 7 = (t.val / 7 * 32 + y0.val) / 32
    omega
  · show t.val % 7 = (t.val % 7 * 32 + y1.val) / 32
    omega
  · show (y0.val * 32 + y1.val) / 32 = (t.val / 7 * 32 + y0.val) % 32
    omega
  · show (y0.val * 32 + y1.val) % 32 = (t.val % 7 * 32 + y1.val) % 32
    omega

/-- The value image after the run. -/
theorem finalV (c : Dev nD) : (dats m c).arrAt 7 cfg0.N = wantV m c := by
  refine (dats m c).arrAt_eq_of_covers 7 _ (by decide +kernel) fun t hf y => ?_
  blk_simp; rw [Cert.KernelIdeal.R0.after0_7]; unfold Cert.KernelIdeal.R0.out0_7; frame_out
  exact pointV m c t y

/-- The pooled keys and values of the launch's arguments. -/
abbrev wantP (c : Dev nD) : FVec Ideal S49x16x768 .f32 :=
  Cert.QkvReferenceIdeal.Entry.kvpRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The pooled keys and values stored at a grid point are the reference's. -/
theorem pointP (c : Dev nD) (t : Fin cfg0.N) (y : S1x16x768.Idx) :
    k0_pay3 (k0_pay10 (iblk m c 0 t) (iblk m c 1 t) (iblk m c 2 t) (iblk m c 3 t) (iblk m c 4 t) (iblk m c 5 t)) (k0_pay11 (iblk m c 0 t) (iblk m c 1 t) (iblk m c 2 t) (iblk m c 3 t) (iblk m c 4 t) (iblk m c 5 t)) (iblk m c 5 t) y = wantP m c (((cfg0.win 8).blk t).view.emb y) := by
  idx_vars y
  refine (storedP (iblk m c 0 t) (iblk m c 1 t) (iblk m c 2 t) (iblk m c 3 t) (iblk m c 4 t) (iblk m c 5 t) y1 y2 y0).trans ?_
  have hN : cfg0.N = 49 := N_0
  have ht := t.isLt
  have hp : ((cfg0.win 8).blk t).view.emb (ix3 y0 y1 y2) = (ix3 (⟨t.val, by omega⟩ : Fin 49) y1 y2) := by
    blk_ext [idx t]
  show _ = wantP m c (((cfg0.win 8).blk t).view.emb (ix3 y0 y1 y2))
  rw [hp]
  refine Eq.trans ?_ (Cert.QkvReferenceIdeal.Entry.kvpRef_apply _ _ _ _).symm
  exact poolSum m c t (by omega) y1 _

/-- The pooled keys and values after the run. -/
theorem finalP (c : Dev nD) : (dats m c).arrAt 8 cfg0.N = wantP m c := by
  refine (dats m c).arrAt_eq_of_covers 8 _ (by decide +kernel) fun t hf y => ?_
  blk_simp; rw [Cert.KernelIdeal.R0.after0_8]; unfold Cert.KernelIdeal.R0.out0_8; frame_out
  exact pointP m c t y

/-- The window means of the launch's arguments. -/
abbrev wantW (c : Dev nD) : FVec Ideal S49x8x384 .f32 :=
  Cert.QkvReferenceIdeal.Entry.winRef (Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)))

/-- The window means stored at a grid point are the reference's. -/
theorem pointW (c : Dev nD) (t : Fin cfg0.N) (y : S1x8x384.Idx) :
    k0_pay4 (k0_pay6 (iblk m c 0 t) (iblk m c 1 t) (iblk m c 2 t) (iblk m c 3 t) (iblk m c 4 t)) (k0_pay10 (iblk m c 0 t) (iblk m c 1 t) (iblk m c 2 t) (iblk m c 3 t) (iblk m c 4 t) (iblk m c 5 t)) y = wantW m c (((cfg0.win 9).blk t).view.emb y) := by
  idx_vars y
  refine (storedW (iblk m c 0 t) (iblk m c 1 t) (iblk m c 2 t) (iblk m c 3 t) (iblk m c 4 t) (iblk m c 5 t) y1 y2 y0).trans ?_
  have hN : cfg0.N = 49 := N_0
  have ht := t.isLt
  have hp : ((cfg0.win 9).blk t).view.emb (ix3 y0 y1 y2) = (ix3 (⟨t.val, by omega⟩ : Fin 49) y1 y2) := by
    blk_ext [idx t]
  show _ = wantW m c (((cfg0.win 9).blk t).view.emb (ix3 y0 y1 y2))
  rw [hp]
  refine Eq.trans ?_ (Cert.QkvReferenceIdeal.Entry.winRef_apply _ _ _ _).symm
  have key : ∀ n : Fin 1152, (∑ s : Fin 1024, k0_pay5 (iblk m c 0 t) (iblk m c 1 t) (iblk m c 2 t) (iblk m c 3 t) (iblk m c 4 t) (ix2 s n)) = ∑ x : Fin 32, ∑ y : Fin 32, Cert.QkvReferenceIdeal.Entry.QREF (m ((c : Thread nD τ).loc main_arg0)) (m ((c : Thread nD τ).loc main_arg1)) (m ((c : Thread nD τ).loc main_arg2)) (m ((c : Thread nD τ).loc main_arg3)) (m ((c : Thread nD τ).loc main_arg4)) (ix5 (⟨t.val / 7, by omega⟩ : Fin 7) (⟨t.val % 7, by omega⟩ : Fin 7) x y n) := by
    intro n
    refine (sum1024 _).trans ?_
    refine Finset.sum_congr rfl fun x _ => Finset.sum_congr rfl fun y _ => ?_
    refine (proj5 m c t (by omega) _ _).trans ?_
    have h0 := x.isLt
    have h1 := y.isLt
    refine congr5 _ _ _ _ _ _ _ _ _ _ rfl rfl ?_ ?_
    · show (x.val * 32 + y.val) / 32 = x.val
      omega
    · show (x.val * 32 + y.val) % 32 = y.val
      omega
  rw [key, key]

/-- The window means after the run. -/
theorem finalW (c : Dev nD) : (dats m c).arrAt 9 cfg0.N = wantW m c := by
  refine (dats m c).arrAt_eq_of_covers 9 _ (by decide +kernel) fun t hf y => ?_
  blk_simp; rw [Cert.KernelIdeal.R0.after0_9]; unfold Cert.KernelIdeal.R0.out0_9; frame_out
  exact pointW m c t y

end Cert.KV0

end
-- ==== Proof.KernelV1.lean ====
/- Hand-written: the window table the choice region leaves. -/
module

public import proofs.«01_k».proof.Proof.RouteClaim
public import proofs.«01_k».proof.Proof.KernelR1

@[expose] public section

set_option maxRecDepth 16384

noncomputable section

open Idealize.ShloMosaic Idealize.ShloMosaic.TcCoe Idealize.SL.Sem

namespace Cert.KV1

open Cert.KernelIdeal hiding ix2
open Cert.RouteMath
open Cert.KernelIdeal.Gen Cert.KernelIdeal.R1

variable (V : (c : Dev nD) → (b : Ref sig .tc) → Buf (Elt Ideal) ((c : Thread nD τ).loc b))

/-- The one block of windows is the whole argument. -/
theorem blk0 (c : Dev nD) (t : Fin cfg1.N) : (iblk V c 0 t : FVec Ideal S49x8x384 .f32) = (V c main_v22_3 : FVec Ideal S49x8x384 .f32) := by
  have hx : cc1_transform_0 (grid1.coords t) = ![0, 0, 0] :=
    (by decide +kernel : ∀ t : Fin grid1.N, cc1_transform_0 (grid1.coords t) = ![0, 0, 0]) t
  funext y
  show (V c main_v22_3 : FVec Ideal S49x8x384 .f32) (((cfg1.win 0).blk t).view.emb y) = _
  refine congrArg (V c main_v22_3 : FVec Ideal S49x8x384 .f32) ?_
  funext a
  refine Fin.ext ?_
  fin_cases a
  · show cc1_transform_0 (grid1.coords t) 0 * 49 + 1 * (y 0).val = (y 0).val
    rw [hx]
    show 0 * 49 + 1 * (y 0).val = _
    omega
  · show cc1_transform_0 (grid1.coords t) 1 * 8 + 1 * (y 1).val = (y 1).val
    rw [hx]
    show 0 * 8 + 1 * (y 1).val = _
    omega
  · show cc1_transform_0 (grid1.coords t) 2 * 384 + 1 * (y 2).val = (y 2).val
    rw [hx]
    show 0 * 384 + 1 * (y 2).val = _
    omega

/-- The place in the table of an entry of the one block. -/
theorem place (t : Fin cfg1.N) (y : S49x8.Idx) : ((cfg1.win 1).blk t).view.emb y = y := by
  have hx : cc1_transform_1 (grid1.coords t) = ![0, 0] :=
    (by decide +kernel : ∀ t : Fin grid1.N, cc1_transform_1 (grid1.coords t) = ![0, 0]) t
  funext a
  refine Fin.ext ?_
  fin_cases a
  · show cc1_transform_1 (grid1.coords t) 0 * 49 + 1 * (y 0).val = (y 0).val
    rw [hx]
    show 0 * 49 + 1 * (y 0).val = _
    omega
  · show cc1_transform_1 (grid1.coords t) 1 * 8 + 1 * (y 1).val = (y 1).val
    rw [hx]
    show 0 * 8 + 1 * (y 1).val = _
    omega

/-- Every entry of the table is stored. -/
theorem covers : (cfg1.win 1).Covers := by
  refine Pipeline.Window.covers_of_index_surj _ rfl (by decide : ∀ a : Fin 2, 0 < S49x8.size a) fun β => ?_
  have n0 : (cfg1.win 1).nblk (0 : Fin 2) = 1 := by
    show (S49x8.size 0 + S49x8.size 0 - 1) / S49x8.size 0 = 1
    decide
  have n1 : (cfg1.win 1).nblk (1 : Fin 2) = 1 := by
    show (S49x8.size 1 + S49x8.size 1 - 1) / S49x8.size 1 = 1
    decide
  have h0 : (β (0 : Fin 2)).val < 1 := (β (0 : Fin 2)).isLt.trans_eq n0
  have h1 : (β (1 : Fin 2)).val < 1 := (β (1 : Fin 2)).isLt.trans_eq n1
  obtain ⟨t, ht⟩ : ∃ t : Fin grid1.N, cc1_transform_1 (grid1.coords t) = ![0, 0] := by decide +kernel
  have key : ∀ a : Fin 2, cc1_transform_1 (grid1.coords t) a = (β a).val := by
    intro a
    rw [ht]
    fin_cases a
    · show 0 = (β (0 : Fin 2)).val
      omega
    · show 0 = (β (1 : Fin 2)).val
      omega
  exact ⟨t, key⟩

open Cert.RouteIdeal.Entry (pickOf nextOf)

/-- The logits. -/
theorem e2 (v0 : FVec Ideal S49x8x384 .f32) : (k1_pay2 (F := Ideal) v0 : FVec Ideal S49x49 .f32) = Cert.RouteIdeal.Gen.k0_pay2 (F := Ideal) v0 := by
  unfold k1_pay2
  have hs : shapeCast S49x8x384 v0 shapeCasts_S49x8x384_S49x8x384 = v0 := by
    funext y
    idx_vars y
    pointwise
  rw [hs]
  rfl

theorem e3 (v0 : FVec Ideal S49x8x384 .f32) : (k1_pay3 (F := Ideal) v0 : IVec S49 32) = Cert.RouteIdeal.Gen.k0_pay3 (F := Ideal) v0 :=
  (show k1_pay3 (F := Ideal) v0 = pickOf (k1_pay2 (F := Ideal) v0) from rfl).trans (congrArg pickOf (e2 v0))

theorem e5 (v0 : FVec Ideal S49x8x384 .f32) : (k1_pay5 (F := Ideal) v0 : FVec Ideal S49x49 .f32) = Cert.RouteIdeal.Gen.k0_pay5 (F := Ideal) v0 :=
  (show k1_pay5 (F := Ideal) v0 = nextOf (k1_pay2 (F := Ideal) v0) (k1_pay3 (F := Ideal) v0) from rfl).trans (congrArg₂ nextOf (e2 v0) (e3 v0))

theorem e6 (v0 : FVec Ideal S49x8x384 .f32) : (k1_pay6 (F := Ideal) v0 : IVec S49 32) = Cert.RouteIdeal.Gen.k0_pay6 (F := Ideal) v0 :=
  (show k1_pay6 (F := Ideal) v0 = pickOf (k1_pay5 (F := Ideal) v0) from rfl).trans (congrArg pickOf (e5 v0))

theorem e8 (v0 : FVec Ideal S49x8x384 .f32) : (k1_pay8 (F := Ideal) v0 : FVec Ideal S49x49 .f32) = Cert.RouteIdeal.Gen.k0_pay8 (F := Ideal) v0 :=
  (show k1_pay8 (F := Ideal) v0 = nextOf (k1_pay5 (F := Ideal) v0) (k1_pay6 (F := Ideal) v0) from rfl).trans (congrArg₂ nextOf (e5 v0) (e6 v0))

theorem e9 (v0 : FVec Ideal S49x8x384 .f32) : (k1_pay9 (F := Ideal) v0 : IVec S49 32) = Cert.RouteIdeal.Gen.k0_pay9 (F := Ideal) v0 :=
  (show k1_pay9 (F := Ideal) v0 = pickOf (k1_pay8 (F := Ideal) v0) from rfl).trans (congrArg pickOf (e8 v0))

/-- The body's last part, from the three words and the third row. -/
def last4 (a b : IVec S49 32) (X : FVec Ideal S49x49 .f32) (w : IVec S49 32) : IVec S49x8 32 :=
  Cert.RouteIdeal.Gen.k0_pay1 (F := Ideal) (iota .tc S49x49 32 [1] iota_S49x49_d1_w32) (shapeCast S49x1 a shapeCasts_S49_S49x1) (shapeCast S49x1 b shapeCasts_S49_S49x1) X w (shapeCast S49x1 w shapeCasts_S49_S49x1)

/-- What the region's body leaves in its block is what the call's own body does. -/
theorem left_eq (x0 : Vec Ideal S49x8x384 .f32) (y : S49x8.Idx) : out0_1 x0 y = Cert.RouteIdeal.Entry.result x0 y := by
  unfold out0_1
  frame_out
  have h : k1_pay1 (F := Ideal) (iota .tc S49x49 32 [1] iota_S49x49_d1_w32) (k1_pay4 (F := Ideal) x0) (k1_pay7 (F := Ideal) x0) (k1_pay8 (F := Ideal) x0) (k1_pay9 (F := Ideal) x0)
      = last4 (k1_pay3 (F := Ideal) x0) (k1_pay6 (F := Ideal) x0) (k1_pay8 (F := Ideal) x0) (k1_pay9 (F := Ideal) x0) := rfl
  have h' : Cert.RouteIdeal.Entry.result x0 = last4 (Cert.RouteIdeal.Gen.k0_pay3 (F := Ideal) x0) (Cert.RouteIdeal.Gen.k0_pay6 (F := Ideal) x0) (Cert.RouteIdeal.Gen.k0_pay8 (F := Ideal) x0) (Cert.RouteIdeal.Gen.k0_pay9 (F := Ideal) x0) := rfl
  rw [h']
  refine (congrFun h y).trans ?_
  rw [e3, e6, e8, e9]

/-- The table after the region. -/
theorem final (c : Dev nD) : (dats V c).arrAt 1 cfg1.N = Cert.RouteIdeal.Entry.result (V c main_v22_3) := by
  refine (dats V c).arrAt_eq_of_covers 1 _ covers fun t hf (y : S49x8.Idx) => ?_
  blk_simp; rw [after0_1]
  refine (left_eq (iblk V c 0 t) y).trans ?_
  rw [blk0 V c t]
  exact congrArg (Cert.RouteIdeal.Entry.result (V c main_v22_3)) (place t y).symm

/-- The table of rows with logits above the least value is the plain choice. -/
theorem result_of (v0 : FVec Ideal S49x8x384 .f32) (h : ∀ p j, Cert.RouteReferenceIdeal.Entry.LG v0 (ix2 p j) ≠ ⊥) :
    Cert.RouteIdeal.Entry.result v0 = Cert.RouteReferenceIdeal.Entry.CH v0 := by
  funext y
  idx_vars y
  refine (Cert.RouteIdeal.Entry.body_apply v0 y0 y1).trans ?_
  refine Eq.trans ?_ (Cert.RouteReferenceIdeal.Entry.CH_apply v0 y0 (h y0) y1).symm
  have e : Cert.RouteIdeal.Entry.lg v0 y0 = fun k => Cert.RouteReferenceIdeal.Entry.LG v0 (ix2 y0 k) := by
    funext k
    exact (Cert.RouteIdeal.Entry.logit_apply v0 y0 k).trans (Cert.RouteReferenceIdeal.Entry.LG_apply v0 y0 k).symm
  rw [e]

/-- The first four words of every row name one of the 49 windows. -/
theorem result_lt (v0 : FVec Ideal S49x8x384 .f32) (p : Fin 49) (i : Fin 4) :
    ∃ w : Fin 49, Cert.RouteIdeal.Entry.result v0 (ix2 p (⟨i.val, by omega⟩ : Fin 8)) = BitVec.ofNat 32 w.val := by
  refine ⟨pick (Cert.RouteIdeal.Entry.lg v0 p) i.val, (Cert.RouteIdeal.Entry.body_apply v0 p (⟨i.val, by omega⟩ : Fin 8)).trans ?_⟩
  exact if_pos i.isLt

end Cert.KV1

end
-- ==== Proof.KernelV2.lean ====
/- Hand-written: what the attention kernel leaves in its result array is the plain attention of its arguments. -/
module

public import proofs.«01_k».proof.Proof.KernelR2
public import proofs.«01_k».proof.Proof.AttnBody
public import proofs.«01_k».proof.Proof.AttnRef
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KV2

open Cert.KernelIdeal hiding ix2
open Cert.AttnMath
open Cert.KernelIdeal.Gen Cert.KernelIdeal.R2
open Cert.AttnIdeal.Entry (body kmat vmat kvAt stored)

variable (V : (c : Dev nD) → (b : Ref sig .tc) → Buf (Elt Ideal) ((c : Thread nD τ).loc b))

/-- The chosen windows. -/
abbrev tab : IVec S49x4 32 := V (0 : Dev nD) main_v24

/-- Every chosen window exists. -/
abbrev Good : Prop := Cert.AttnReferenceIdeal.Entry.InRange (tab V)

/-- A grid point's only coordinate is its number. -/
theorem coord : ∀ t : Fin grid2.N, (grid2.coords t 0).val = t.val := by decide +kernel

/-- The block index of the keys' and values' window 0. -/
theorem tr1 (i : grid2.Coords) (p : Fin 49) (h : (i 0).val = p.val) :
    cc2_transform_1 k2_off1_inb numel1_S1x1 (tbl V) i = ![(tab V (ix2 p 0)).toNat, 0, 0] := by
  have e : ∀ j j' : S49x4.Idx, j = j' → ![(tab V j).toNat, 0, 0] = ![(tab V j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 0 + 1 * 0 = 0
    rfl

/-- The block index of the keys' and values' window 1. -/
theorem tr2 (i : grid2.Coords) (p : Fin 49) (h : (i 0).val = p.val) :
    cc2_transform_2 k2_off2_inb numel1_S1x1 (tbl V) i = ![(tab V (ix2 p 1)).toNat, 0, 0] := by
  have e : ∀ j j' : S49x4.Idx, j = j' → ![(tab V j).toNat, 0, 0] = ![(tab V j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 1 + 1 * 0 = 1
    rfl

/-- The block index of the keys' and values' window 2. -/
theorem tr3 (i : grid2.Coords) (p : Fin 49) (h : (i 0).val = p.val) :
    cc2_transform_3 k2_off3_inb numel1_S1x1 (tbl V) i = ![(tab V (ix2 p 2)).toNat, 0, 0] := by
  have e : ∀ j j' : S49x4.Idx, j = j' → ![(tab V j).toNat, 0, 0] = ![(tab V j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 2 + 1 * 0 = 2
    rfl

/-- The block index of the keys' and values' window 3. -/
theorem tr4 (i : grid2.Coords) (p : Fin 49) (h : (i 0).val = p.val) :
    cc2_transform_4 k2_off4_inb numel1_S1x1 (tbl V) i = ![(tab V (ix2 p 3)).toNat, 0, 0] := by
  have e : ∀ j j' : S49x4.Idx, j = j' → ![(tab V j).toNat, 0, 0] = ![(tab V j').toNat, 0, 0] := fun j j' h => by rw [h]
  refine e _ _ ?_
  funext a
  refine Fin.ext ?_
  have hp := p.isLt
  fin_cases a
  · show (BitVec.ofNat 32 (i 0).val).toNat + 1 * 0 = p.val
    rw [BitVec.toNat_ofNat, h, Nat.mod_eq_of_lt (by omega)]
    rfl
  · show 3 + 1 * 0 = 3
    rfl

/-- A word of the table names one of the 49 windows. -/
theorem word_lt (h : Good V) (p : Fin 49) (k : Fin 4) : (tab V (ix2 p k)).toNat < 49 ∧ (tab V (ix2 p k)).toInt.toNat = (tab V (ix2 p k)).toNat := by
  have := h p k
  generalize tab V (ix2 p k) = w at this ⊢
  rw [BitVec.toInt_eq_toNat_cond] at this ⊢
  split at this <;> split <;> omega

/-- The windows the table names lie in the array. -/
theorem ok (h : Good V) : Ok V := by
  have e : ∀ (w : Nat), w < 49 → ∀ a : Fin 3, ((![w, 0, 0] : Fin 3 → Nat) a + 1) * S1x16x768.size a ≤ S49x16x768.size a := by
    intro w hw a
    fin_cases a
    · show (w + 1) * 1 ≤ 49
      omega
    · show (0 + 1) * 16 ≤ 16
      omega
    · show (0 + 1) * 768 ≤ 768
      omega
  have hi : ∀ i : grid2.Coords, (i 0).val < 49 := fun i => (i 0).isLt
  refine ⟨fun i => ⟨fun a => ?_, .inl rfl⟩, fun i => ⟨fun a => ?_, .inl rfl⟩, fun i => ⟨fun a => ?_, .inl rfl⟩, fun i => ⟨fun a => ?_, .inl rfl⟩⟩
  · rw [tr1 V i ⟨(i 0).val, hi i⟩ rfl]
    exact e _ (word_lt V h _ _).1 a
  · rw [tr2 V i ⟨(i 0).val, hi i⟩ rfl]
    exact e _ (word_lt V h _ _).1 a
  · rw [tr3 V i ⟨(i 0).val, hi i⟩ rfl]
    exact e _ (word_lt V h _ _).1 a
  · rw [tr4 V i ⟨(i 0).val, hi i⟩ rfl]
    exact e _ (word_lt V h _ _).1 a

theorem point_lt (hO : Ok V) (t : Fin (cfgM V hO).N) : t.val < 49 := t.isLt

/-- The queries a grid point holds. -/
theorem blk0 (hO : Ok V) (c : Dev nD) (t : Fin (cfgM V hO).N) (r : Fin 1024) (d : Fin 384) :
    (iblk V hO c 0 t : FVec Ideal S1x1024x384 .bf16) (ix3 0 r d) = (V c main_v22_0 : FVec Ideal S49x1024x384 .bf16) (ix3 ⟨t.val, point_lt V hO t⟩ r d) := by
  have hx : cc2_transform_0 (grid2.coords t) = ![t.val, 0, 0] :=
    (by decide +kernel : ∀ t : Fin grid2.N, cc2_transform_0 (grid2.coords t) = ![t.val, 0, 0]) t
  show (V c main_v22_0 : FVec Ideal S49x1024x384 .bf16) ((((cfgM V hO).win 0).blk t).view.emb (ix3 0 r d)) = _
  refine congrArg (V c main_v22_0 : FVec Ideal S49x1024x384 .bf16) ?_
  funext a
  refine Fin.ext ?_
  fin_cases a
  · show cc2_transform_0 (grid2.coords t) 0 * 1 + 1 * 0 = t.val
    rw [hx]
    show t.val * 1 + 1 * 0 = t.val
    omega
  · show cc2_transform_0 (grid2.coords t) 1 * 1024 + 1 * r.val = r.val
    rw [hx]
    show 0 * 1024 + 1 * r.val = r.val
    omega
  · show cc2_transform_0 (grid2.coords t) 2 * 384 + 1 * d.val = d.val
    rw [hx]
    show 0 * 384 + 1 * d.val = d.val
    omega

/-- The keys and values a grid point holds of its chosen window 0. -/
theorem blk1 (h : Good V) (c : Dev nD) (t : Fin (cfgM V (ok V h)).N) (s : Fin 16) (d : Fin 768) :
    (iblk V (ok V h) c 1 t : FVec Ideal S1x16x768 .f32) (ix3 0 s d) = (V c main_v22_2 : FVec Ideal S49x16x768 .f32) (ix3 (Cert.AttnReferenceIdeal.Entry.widx (tab V) h ⟨t.val, point_lt V (ok V h) t⟩ 0) s d) := by
  have hx : cc2_transform_1 k2_off1_inb numel1_S1x1 (tbl V) (grid2.coords t) = ![(Cert.AttnReferenceIdeal.Entry.widx (tab V) h ⟨t.val, point_lt V (ok V h) t⟩ 0).val, 0, 0] := by
    refine (tr1 V (grid2.coords t) ⟨t.val, point_lt V (ok V h) t⟩ (coord t)).trans ?_
    exact congrArg (fun z => (![z, 0, 0] : Fin 3 → Nat)) (word_lt V h _ _).2.symm
  generalize Cert.AttnReferenceIdeal.Entry.widx (tab V) h ⟨t.val, point_lt V (ok V h) t⟩ 0 = w at hx ⊢
  show (V c main_v22_2 : FVec Ideal S49x16x768 .f32) ((((cfgM V (ok V h)).win 1).blk t).view.emb (ix3 0 s d)) = _
  refine congrArg (V c main_v22_2 : FVec Ideal S49x16x768 .f32) ?_
  funext a
  refine Fin.ext ?_
  fin_cases a
  · show cc2_transform_1 k2_off1_inb numel1_S1x1 (tbl V) (grid2.coords t) 0 * 1 + 1 * 0 = w.val
    rw [hx]
    show w.val * 1 + 1 * 0 = w.val
    omega
  · show cc2_transform_1 k2_off1_inb numel1_S1x1 (tbl V) (grid2.coords t) 1 * 16 + 1 * s.val = s.val
    rw [hx]
    show 0 * 16 + 1 * s.val = s.val
    omega
  · show cc2_transform_1 k2_off1_inb numel1_S1x1 (tbl V) (grid2.coords t) 2 * 768 + 1 * d.val = d.val
    rw [hx]
    show 0 * 768 + 1 * d.val = d.val
    omega

/-- The keys and values a grid point holds of its chosen window 1. -/
theorem blk2 (h : Good V) (c : Dev nD) (t : Fin (cfgM V (ok V h)).N) (s : Fin 16) (d : Fin 768) :
    (iblk V (ok V h) c 2 t : FVec Ideal S1x16x768 .f32) (ix3 0 s d) = (V c main_v22_2 : FVec Ideal S49x16x768 .f32) (ix3 (Cert.AttnReferenceIdeal.Entry.widx (tab V) h ⟨t.val, point_lt V (ok V h) t⟩ 1) s d) := by
  have hx : cc2_transform_2 k2_off2_inb numel1_S1x1 (tbl V) (grid2.coords t) = ![(Cert.AttnReferenceIdeal.Entry.widx (tab V) h ⟨t.val, point_lt V (ok V h) t⟩ 1).val, 0, 0] := by
    refine (tr2 V (grid2.coords t) ⟨t.val, point_lt V (ok V h) t⟩ (coord t)).trans ?_
    exact congrArg (fun z => (![z, 0, 0] : Fin 3 → Nat)) (word_lt V h _ _).2.symm
  generalize Cert.AttnReferenceIdeal.Entry.widx (tab V) h ⟨t.val, point_lt V (ok V h) t⟩ 1 = w at hx ⊢
  show (V c main_v22_2 : FVec Ideal S49x16x768 .f32) ((((cfgM V (ok V h)).win 2).blk t).view.emb (ix3 0 s d)) = _
  refine congrArg (V c main_v22_2 : FVec Ideal S49x16x768 .f32) ?_
  funext a
  refine Fin.ext ?_
  fin_cases a
  · show cc2_transform_2 k2_off2_inb numel1_S1x1 (tbl V) (grid2.coords t) 0 * 1 + 1 * 0 = w.val
    rw [hx]
    show w.val * 1 + 1 * 0 = w.val
    omega
  · show cc2_transform_2 k2_off2_inb numel1_S1x1 (tbl V) (grid2.coords t) 1 * 16 + 1 * s.val = s.val
    rw [hx]
    show 0 * 16 + 1 * s.val = s.val
    omega
  · show cc2_transform_2 k2_off2_inb numel1_S1x1 (tbl V) (grid2.coords t) 2 * 768 + 1 * d.val = d.val
    rw [hx]
    show 0 * 768 + 1 * d.val = d.val
    omega

/-- The keys and values a grid point holds of its chosen window 2. -/
theorem blk3 (h : Good V) (c : Dev nD) (t : Fin (cfgM V (ok V h)).N) (s : Fin 16) (d : Fin 768) :
    (iblk V (ok V h) c 3 t : FVec Ideal S1x16x768 .f32) (ix3 0 s d) = (V c main_v22_2 : FVec Ideal S49x16x768 .f32) (ix3 (Cert.AttnReferenceIdeal.Entry.widx (tab V) h ⟨t.val, point_lt V (ok V h) t⟩ 2) s d) := by
  have hx : cc2_transform_3 k2_off3_inb numel1_S1x1 (tbl V) (grid2.coords t) = ![(Cert.AttnReferenceIdeal.Entry.widx (tab V) h ⟨t.val, point_lt V (ok V h) t⟩ 2).val, 0, 0] := by
    refine (tr3 V (grid2.coords t) ⟨t.val, point_lt V (ok V h) t⟩ (coord t)).trans ?_
    exact congrArg (fun z => (![z, 0, 0] : Fin 3 → Nat)) (word_lt V h _ _).2.symm
  generalize Cert.AttnReferenceIdeal.Entry.widx (tab V) h ⟨t.val, point_lt V (ok V h) t⟩ 2 = w at hx ⊢
  show (V c main_v22_2 : FVec Ideal S49x16x768 .f32) ((((cfgM V (ok V h)).win 3).blk t).view.emb (ix3 0 s d)) = _
  refine congrArg (V c main_v22_2 : FVec Ideal S49x16x768 .f32) ?_
  funext a
  refine Fin.ext ?_
  fin_cases a
  · show cc2_transform_3 k2_off3_inb numel1_S1x1 (tbl V) (grid2.coords t) 0 * 1 + 1 * 0 = w.val
    rw [hx]
    show w.val * 1 + 1 * 0 = w.val
    omega
  · show cc2_transform_3 k2_off3_inb numel1_S1x1 (tbl V) (grid2.coords t) 1 * 16 + 1 * s.val = s.val
    rw [hx]
    show 0 * 16 + 1 * s.val = s.val
    omega
  · show cc2_transform_3 k2_off3_inb numel1_S1x1 (tbl V) (grid2.coords t) 2 * 768 + 1 * d.val = d.val
    rw [hx]
    show 0 * 768 + 1 * d.val = d.val
    omega

/-- The keys and values a grid point holds of its chosen window 3. -/
theorem blk4 (h : Good V) (c : Dev nD) (t : Fin (cfgM V (ok V h)).N) (s : Fin 16) (d : Fin 768) :
    (iblk V (ok V h) c 4 t : FVec Ideal S1x16x768 .f32) (ix3 0 s d) = (V c main_v22_2 : FVec Ideal S49x16x768 .f32) (ix3 (Cert.AttnReferenceIdeal.Entry.widx (tab V) h ⟨t.val, point_lt V (ok V h) t⟩ 3) s d) := by
  have hx : cc2_transform_4 k2_off4_inb numel1_S1x1 (tbl V) (grid2.coords t) = ![(Cert.AttnReferenceIdeal.Entry.widx (tab V) h ⟨t.val, point_lt V (ok V h) t⟩ 3).val, 0, 0] := by
    refine (tr4 V (grid2.coords t) ⟨t.val, point_lt V (ok V h) t⟩ (coord t)).trans ?_
    exact congrArg (fun z => (![z, 0, 0] : Fin 3 → Nat)) (word_lt V h _ _).2.symm
  generalize Cert.AttnReferenceIdeal.Entry.widx (tab V) h ⟨t.val, point_lt V (ok V h) t⟩ 3 = w at hx ⊢
  show (V c main_v22_2 : FVec Ideal S49x16x768 .f32) ((((cfgM V (ok V h)).win 4).blk t).view.emb (ix3 0 s d)) = _
  refine congrArg (V c main_v22_2 : FVec Ideal S49x16x768 .f32) ?_
  funext a
  refine Fin.ext ?_
  fin_cases a
  · show cc2_transform_4 k2_off4_inb numel1_S1x1 (tbl V) (grid2.coords t) 0 * 1 + 1 * 0 = w.val
    rw [hx]
    show w.val * 1 + 1 * 0 = w.val
    omega
  · show cc2_transform_4 k2_off4_inb numel1_S1x1 (tbl V) (grid2.coords t) 1 * 16 + 1 * s.val = s.val
    rw [hx]
    show 0 * 16 + 1 * s.val = s.val
    omega
  · show cc2_transform_4 k2_off4_inb numel1_S1x1 (tbl V) (grid2.coords t) 2 * 768 + 1 * d.val = d.val
    rw [hx]
    show 0 * 768 + 1 * d.val = d.val
    omega

/-- Four blocks of sixteen keys joined, read at one key. -/
theorem kvAt_of (v5 v7 v9 v11 : Vec Ideal S1x16x768 .f32) (f : Fin 4 → Fin 16 → Fin 768 → EReal)
    (h0 : ∀ s d, v5 (ix3 0 s d) = f 0 s d) (h1 : ∀ s d, v7 (ix3 0 s d) = f 1 s d) (h2 : ∀ s d, v9 (ix3 0 s d) = f 2 s d) (h3 : ∀ s d, v11 (ix3 0 s d) = f 3 s d)
    (k : Fin 64) (d : Fin 768) : kvAt v5 v7 v9 v11 k d = f ⟨k.val / 16, by omega⟩ ⟨k.val % 16, by omega⟩ d := by
  have e : ∀ (i j : Fin 4), i = j → f i ⟨k.val % 16, by omega⟩ d = f j ⟨k.val % 16, by omega⟩ d := fun i j h => by rw [h]
  have hk := k.isLt
  unfold kvAt
  split
  · exact (h0 _ d).trans (e _ _ (Fin.ext (by show 0 = k.val / 16; omega)))
  split
  · exact (h1 _ d).trans (e _ _ (Fin.ext (by show 1 = k.val / 16; omega)))
  split
  · exact (h2 _ d).trans (e _ _ (Fin.ext (by show 2 = k.val / 16; omega)))
  · exact (h3 _ d).trans (e _ _ (Fin.ext (by show 3 = k.val / 16; omega)))

/-- The keys and values a grid point gathers. -/
theorem gathered (h : Good V) (c : Dev nD) (t : Fin (cfgM V (ok V h)).N) (k : Fin 64) (d : Fin 768) :
    kvAt (iblk V (ok V h) c 1 t) (iblk V (ok V h) c 2 t) (iblk V (ok V h) c 3 t) (iblk V (ok V h) c 4 t) k d
      = (V c main_v22_2 : FVec Ideal S49x16x768 .f32) (ix3 (Cert.AttnReferenceIdeal.Entry.widx (tab V) h ⟨t.val, point_lt V (ok V h) t⟩ ⟨k.val / 16, by omega⟩) (⟨k.val % 16, by omega⟩ : Fin 16) d) := by
  exact kvAt_of (iblk V (ok V h) c 1 t) (iblk V (ok V h) c 2 t) (iblk V (ok V h) c 3 t) (iblk V (ok V h) c 4 t)
    (fun i s d => (V c main_v22_2 : FVec Ideal S49x16x768 .f32) (ix3 (Cert.AttnReferenceIdeal.Entry.widx (tab V) h ⟨t.val, point_lt V (ok V h) t⟩ i) s d))
    (blk1 V h c t) (blk2 V h c t) (blk3 V h c t) (blk4 V h c t) k d

/-- The attention of the launch's arguments. -/
abbrev want (c : Dev nD) : FVec Ideal S224x224x384 .bf16 :=
  Cert.AttnReferenceIdeal.Entry.ATT (V c main_v22_0) (V c main_v22_2) (tab V)

/-- The place in the image of an entry of a grid point's block. -/
theorem place (hO : Ok V) (t : Fin (cfgM V hO).N) (a b : Fin 32) (d : Fin 384) :
    (((cfgM V hO).win 5).blk t).view.emb (ix3 a b d) = (ix3 (⟨t.val / 7 * 32 + a.val, by have := point_lt V hO t; omega⟩ : Fin 224) (⟨t.val % 7 * 32 + b.val, by omega⟩ : Fin 224) d : S224x224x384.Idx) := by
  have hx : cc2_transform_5 (grid2.coords t) = ![t.val / 7, t.val % 7, 0] :=
    (by decide +kernel : ∀ t : Fin grid2.N, cc2_transform_5 (grid2.coords t) = ![t.val / 7, t.val % 7, 0]) t
  funext x
  refine Fin.ext ?_
  fin_cases x
  · show cc2_transform_5 (grid2.coords t) 0 * 32 + 1 * a.val = t.val / 7 * 32 + a.val
    rw [hx]
    show t.val / 7 * 32 + 1 * a.val = _
    omega
  · show cc2_transform_5 (grid2.coords t) 1 * 32 + 1 * b.val = t.val % 7 * 32 + b.val
    rw [hx]
    show t.val % 7 * 32 + 1 * b.val = _
    omega
  · show cc2_transform_5 (grid2.coords t) 2 * 384 + 1 * d.val = d.val
    rw [hx]
    show 0 * 384 + 1 * d.val = d.val
    omega

/-- What a grid point computes at an entry of its block is the attention at that entry of the image. -/
theorem computed (h : Good V) (c : Dev nD) (t : Fin (cfgM V (ok V h)).N) (a b : Fin 32) (g : Fin 8) (e : Fin 48) :
    body (Cert.AttnIdeal.Gen.k0_pay3 (iblk V (ok V h) c 0 t)) (kmat (iblk V (ok V h) c 1 t) (iblk V (ok V h) c 2 t) (iblk V (ok V h) c 3 t) (iblk V (ok V h) c 4 t)) (vmat (iblk V (ok V h) c 1 t) (iblk V (ok V h) c 2 t) (iblk V (ok V h) c 3 t) (iblk V (ok V h) c 4 t)) (ix3 a b (hd g e))
      = want V c (ix3 (⟨t.val / 7 * 32 + a.val, by have := point_lt V (ok V h) t; omega⟩ : Fin 224) (⟨t.val % 7 * 32 + b.val, by omega⟩ : Fin 224) (hd g e)) := by
  have ht := point_lt V (ok V h) t
  refine (stored _ _ _ _ _ a b g e).trans ?_
  refine Eq.trans ?_ (Cert.AttnReferenceIdeal.Entry.ATT_apply _ _ (tab V) h _ _ g e).symm
  have e1 : (⟨(t.val / 7 * 32 + a.val) / 32 * 7 + (t.val % 7 * 32 + b.val) / 32, by omega⟩ : Fin 49) = ⟨t.val, ht⟩ := Fin.ext (by show (t.val / 7 * 32 + a.val) / 32 * 7 + (t.val % 7 * 32 + b.val) / 32 = t.val; omega)
  have e2 : (⟨(t.val / 7 * 32 + a.val) % 32 * 32 + (t.val % 7 * 32 + b.val) % 32, by omega⟩ : Fin 1024) = ⟨a.val * 32 + b.val, by omega⟩ := Fin.ext (by show (t.val / 7 * 32 + a.val) % 32 * 32 + (t.val % 7 * 32 + b.val) % 32 = a.val * 32 + b.val; omega)
  simp only [e1, e2]
  congr 1
  · funext d
    exact blk0 V (ok V h) c t _ d
  · funext k d
    exact gathered V h c t k _
  · funext k d
    exact gathered V h c t k _

theorem stands (h : Good V) (c : Dev nD) (t : Fin (cfgM V (ok V h)).N) (y : S32x32x384.Idx) :
    body (Cert.AttnIdeal.Gen.k0_pay3 (iblk V (ok V h) c 0 t)) (kmat (iblk V (ok V h) c 1 t) (iblk V (ok V h) c 2 t) (iblk V (ok V h) c 3 t) (iblk V (ok V h) c 4 t)) (vmat (iblk V (ok V h) c 1 t) (iblk V (ok V h) c 2 t) (iblk V (ok V h) c 3 t) (iblk V (ok V h) c 4 t)) y
      = want V c ((((cfgM V (ok V h)).win 5).blk t).view.emb y) := by
  idx_vars y
  have e2 : y2 = hd ⟨y2.val / 48, by omega⟩ ⟨y2.val % 48, by omega⟩ := Fin.ext (by show y2.val = 48 * (y2.val / 48) + y2.val % 48; omega)
  rw [e2]
  exact (computed V h c t y0 y1 ⟨y2.val / 48, by omega⟩ ⟨y2.val % 48, by omega⟩).trans (congrArg (want V c) (place V (ok V h) t y0 y1 _).symm)

/-- Every entry of the image is stored at some grid point. -/
theorem covers (hO : Ok V) : ((cfgM V hO).win 5).Covers := by
  have hs : ∀ i j : Fin 7, ∃ t : Fin grid2.N, cc2_transform_5 (grid2.coords t) = ![i.val, j.val, 0] := by decide +kernel
  refine Pipeline.Window.covers_of_index_surj _ rfl (by decide : ∀ a : Fin 3, 0 < S32x32x384.size a) fun β => ?_
  have n0 : ((cfgM V hO).win 5).nblk (0 : Fin 3) = 7 := by
    show (S224x224x384.size 0 + S32x32x384.size 0 - 1) / S32x32x384.size 0 = 7
    decide
  have n1 : ((cfgM V hO).win 5).nblk (1 : Fin 3) = 7 := by
    show (S224x224x384.size 1 + S32x32x384.size 1 - 1) / S32x32x384.size 1 = 7
    decide
  have n2 : ((cfgM V hO).win 5).nblk (2 : Fin 3) = 1 := by
    show (S224x224x384.size 2 + S32x32x384.size 2 - 1) / S32x32x384.size 2 = 1
    decide
  obtain ⟨t, ht⟩ := hs ⟨(β (0 : Fin 3)).val, (β (0 : Fin 3)).isLt.trans_eq n0⟩ ⟨(β (1 : Fin 3)).val, (β (1 : Fin 3)).isLt.trans_eq n1⟩
  have h2 : (β (2 : Fin 3)).val < 1 := (β (2 : Fin 3)).isLt.trans_eq n2
  have key : ∀ a : Fin 3, cc2_transform_5 (grid2.coords t) a = (β a).val := by
    intro a
    rw [ht]
    fin_cases a
    · rfl
    · rfl
    · show 0 = (β (2 : Fin 3)).val
      omega
  exact ⟨t, key⟩

/-- What the body leaves in its block, as one function of the five blocks it reads. -/
theorem left_eq (c : Dev nD) (i : grid2.Coords) (arg2 : Memref sig .tc .vmem S1x1024x384 .bf16) (harg2 : arg2.IsWhole) (arg3 : Memref sig .tc .vmem S1x16x768 .f32) (harg3 : arg3.IsWhole) (arg4 : Memref sig .tc .vmem S1x16x768 .f32) (harg4 : arg4.IsWhole) (arg5 : Memref sig .tc .vmem S1x16x768 .f32) (harg5 : arg5.IsWhole) (arg6 : Memref sig .tc .vmem S1x16x768 .f32) (harg6 : arg6.IsWhole) (arg7 : Memref sig .tc .vmem S32x32x384 .bf16) (harg7 : arg7.IsWhole)
    (x0 : Vec Ideal S1x1024x384 .bf16) (x1 : Vec Ideal S1x16x768 .f32) (x2 : Vec Ideal S1x16x768 .f32) (x3 : Vec Ideal S1x16x768 .f32) (x4 : Vec Ideal S1x16x768 .f32) (xt0 : TbBuf0 (F := Ideal) c tbM0_0) (y : S32x32x384.Idx) :
    out0_A_5 c i arg2 harg2 arg3 harg3 arg4 harg4 arg5 harg5 arg6 harg6 arg7 harg7 x0 x1 x2 x3 x4 xt0 y = body (Cert.AttnIdeal.Gen.k0_pay3 x0) (kmat x1 x2 x3 x4) (vmat x1 x2 x3 x4) y := by
  unfold out0_A_5
  frame_out
  rfl

/-- The image after the run is the attention of the arguments. -/
theorem final (h : Good V) (c : Dev nD) : (dats V (ok V h) c).arrAt 5 (cfgM V (ok V h)).N = want V c := by
  refine (dats V (ok V h) c).arrAt_eq_of_covers 5 _ (covers V (ok V h)) fun t hf (y : S32x32x384.Idx) => ?_
  blk_simp; rw [after0_5]
  unfold outsAt0
  refine (left_eq c _ _ _ _ _ _ _ _ _ _ _ _ _ (iblk V (ok V h) c 0 t) (iblk V (ok V h) c 1 t) (iblk V (ok V h) c 2 t) (iblk V (ok V h) c 3 t) (iblk V (ok V h) c 4 t) _ y).trans ?_
  exact stands V h c t y

end Cert.KV2

end
-- ==== Proof.KernelV3.lean ====
/- Hand-written: what the stencil and projection kernel leaves in its result array is the plain reference of its arguments. -/
module

public import proofs.«01_k».proof.Proof.KernelR3
public import proofs.«01_k».proof.Proof.LepeRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KV3

open Cert.KernelIdeal hiding ix2
open Cert.RowMath Cert.ConvMath
open Cert.KernelIdeal.Gen Cert.KernelIdeal.R3

/-- Selecting on the grid coordinate being positive. -/
theorem sel_pos (n : ℕ) (hn : n < 56) (x y : EReal) :
    Scalar.select (Scalar.cmpi .sgt (BitVec.ofNat 32 n) 0#32) x y = if 0 < n then x else y := by
  have key : ∀ n : Fin 56, Scalar.cmpi .sgt (BitVec.ofNat 32 n.val) 0#32 = if 0 < n.val then 1#1 else 0#1 := by decide +kernel
  rw [key ⟨n, hn⟩]
  split <;> simp [Scalar.select, *]

/-- Selecting on the grid coordinate not being the last. -/
theorem sel_last (n : ℕ) (hn : n < 56) (x y : EReal) :
    Scalar.select (Scalar.cmpi .slt (BitVec.ofNat 32 n) 55#32) x y = if n < 55 then x else y := by
  have key : ∀ n : Fin 56, Scalar.cmpi .slt (BitVec.ofNat 32 n.val) 55#32 = if n.val < 55 then 1#1 else 0#1 := by decide +kernel
  rw [key ⟨n, hn⟩]
  split <;> simp [Scalar.select, *]

/-- The block of eight image rows with its margin, at one entry. -/
theorem padded (i : grid3.Coords) (v0 : Vec Ideal S4x224x384 .bf16) (v3 v8 : Vec Ideal S2x224x384 .bf16) (k : Fin 384) (V : Fin 224 → Fin 224 → EReal)
    (hi : (i 0).val < 56)
    (h0 : ∀ (a : Fin 4) (b : Fin 224), v0 (ix3 a b k) = V ⟨(i 0).val * 4 + a.val, by omega⟩ b)
    (h3 : 0 < (i 0).val → ∀ (a : Fin 2) (b : Fin 224), v3 (ix3 a b k) = V ⟨(i 0).val * 4 - 2 + a.val, by omega⟩ b)
    (h8 : ∀ h : (i 0).val < 55, ∀ (a : Fin 2) (b : Fin 224), v8 (ix3 a b k) = V ⟨(i 0).val * 4 + 4 + a.val, by omega⟩ b)
    (r : Fin 8) (s : Fin 228) :
    k3_pay1 i v0 v3 v8 (ix3 r s k) = vpad V ((i 0).val * 4 + r.val) s.val := by
  unfold k3_pay1 vpad
  pointwise
  have key : ∀ (p p' : Fin 224) (q q' : Fin 224), p.val = p'.val → q.val = q'.val → V p q = V p' q' := fun p p' q q' h h' => by
    rw [Fin.ext h, Fin.ext h']
  have hr := r.isLt
  by_cases c1 : s.val < 2
  · rw [dif_pos c1, dif_neg (by omega)]
  rw [dif_neg c1]
  by_cases c2 : s.val - 2 < 224
  swap
  · rw [dif_neg c2, dif_neg (by omega)]
  rw [dif_pos c2]
  by_cases c3 : r.val < 2
  · rw [dif_pos c3]
    refine (sel_pos _ hi _ _).trans ?_
    by_cases c4 : 0 < (i 0).val
    · rw [if_pos c4, dif_pos (by omega), h3 c4]
      exact key _ _ _ _ (by show (i 0).val * 4 - 2 + r.val = (i 0).val * 4 + r.val - 2; omega) rfl
    · rw [if_neg c4, dif_neg (by omega)]
  rw [dif_neg c3]
  by_cases c5 : r.val - 2 < 4
  · rw [dif_pos c5, dif_pos (by omega), h0]
    exact key _ _ _ _ (by show (i 0).val * 4 + (r.val - 2) = (i 0).val * 4 + r.val - 2; omega) rfl
  rw [dif_neg c5]
  refine (sel_last _ hi _ _).trans ?_
  by_cases c6 : (i 0).val < 55
  · rw [if_pos c6, dif_pos (by omega), h8 c6]
    exact key _ _ _ _ (by show (i 0).val * 4 + 4 + (r.val - 2 - 4) = (i 0).val * 4 + r.val - 2; omega) rfl
  · rw [if_neg c6, dif_neg (by omega)]

/-- A whole block read back. -/
theorem ldBlk {e : EltTy} (x : Vec Ideal S4x224x384 e) : View.ld x r0_0 = x := by
  funext y
  idx_vars y
  pointwise

theorem ldRow (x : Vec Ideal S1x384 .f32) : View.ld x r0_28 = x := by
  funext y
  idx_vars y
  obtain rfl : y0 = 0 := Subsingleton.elim _ _
  pointwise

theorem ldSq (x : Vec Ideal S384x384 .f32) : View.ld x r0_29 = x := by
  funext y
  idx_vars y
  pointwise

/-- The body's stored value at one entry of its block. -/
theorem stored (i : grid3.Coords) (x0 x1 x2 x3 : Vec Ideal S4x224x384 .bf16) (x4 : Vec Ideal S4x224x384 .f32) (x5 : Vec Ideal S25x384 .f32) (x6 : Vec Ideal S1x384 .f32) (x7 : Vec Ideal S384x384 .f32) (x8 : Vec Ideal S1x384 .f32)
    (a : Fin 4) (b : Fin 224) (l : Fin 384) :
    k3_pay12 (k3_pay1 i x0 (View.ld x1 r0_1) (View.ld x2 r0_2)) (k3_pay9 (k3_pay1 i x0 (View.ld x1 r0_1) (View.ld x2 r0_2)) (k3_pay7 (k3_pay1 i x0 (View.ld x1 r0_1) (View.ld x2 r0_2)) (k3_pay5 (k3_pay1 i x0 (View.ld x1 r0_1) (View.ld x2 r0_2)) (k3_pay2 i x0 (View.ld x1 r0_1) (View.ld x2 r0_2) (View.ld x5 r0_3) (View.ld x5 r0_4)) (k3_pay3 i x0 (View.ld x1 r0_1) (View.ld x2 r0_2)) (k3_pay4 (View.ld x5 r0_5)) (View.ld x5 r0_6) (View.ld x5 r0_7) (View.ld x5 r0_8) (View.ld x5 r0_9) (View.ld x5 r0_10) (View.ld x5 r0_11)) (k3_pay6 (k3_pay1 i x0 (View.ld x1 r0_1) (View.ld x2 r0_2))) (View.ld x5 r0_12) (View.ld x5 r0_13) (View.ld x5 r0_14) (View.ld x5 r0_15) (View.ld x5 r0_16) (View.ld x5 r0_17) (View.ld x5 r0_18)) (k3_pay8 (k3_pay1 i x0 (View.ld x1 r0_1) (View.ld x2 r0_2))) (View.ld x5 r0_19) (View.ld x5 r0_20) (View.ld x5 r0_21) (View.ld x5 r0_22) (View.ld x5 r0_23) (View.ld x5 r0_24)) (k3_pay10 (k3_pay1 i x0 (View.ld x1 r0_1) (View.ld x2 r0_2))) (k3_pay11 (View.ld x5 r0_25)) (View.ld x5 r0_26) (View.ld x5 r0_27) x6 x3 x7 x8 x4 (ix3 a b l)
      = x4 (ix3 a b l) + dense (fun k => x3 (ix3 a b k) + (conv25 (fun dy dx => k3_pay1 i x0 (View.ld x1 r0_1) (View.ld x2 r0_2) (ix3 (⟨dy.val + a.val, by omega⟩ : Fin 8) (⟨dx.val + b.val, by omega⟩ : Fin 228) k)) (fun dy dx => x5 (ix2 (⟨dy.val * 5 + dx.val, by omega⟩ : Fin 25) k)) + x6 (ix2 0 k)))
          (fun k j => x7 (ix2 k j)) (fun j => x8 (ix2 0 j)) l := by
  unfold k3_pay2 k3_pay3
  generalize hP : k3_pay1 i x0 (View.ld x1 r0_1) (View.ld x2 r0_2) = P
  unfold k3_pay12 k3_pay11 k3_pay10 k3_pay9 k3_pay8 k3_pay7 k3_pay6 k3_pay5 k3_pay4 conv25
  pointwise [dense]

/-- Where each window stands at each grid point. -/
theorem idx : ∀ t : Fin cfg3.N, win3_0.index t = ![t.val, 0, 0]
    ∧ win3_1.index t = ![t.val - 1, 0, 0]
    ∧ win3_2.index t = ![if t.val < 55 then t.val + 1 else 55, 0, 0]
    ∧ win3_3.index t = ![t.val, 0, 0]
    ∧ win3_4.index t = ![t.val, 0, 0]
    ∧ win3_5.index t = ![0, 0]
    ∧ win3_6.index t = ![0, 0]
    ∧ win3_7.index t = ![0, 0]
    ∧ win3_8.index t = ![0, 0]
    ∧ win3_9.index t = ![t.val, 0, 0] :=
  (by decide +kernel : ∀ t : Fin grid3.N, _)

/-- A grid point's coordinate is its number. -/
theorem coord : ∀ t : Fin cfg3.N, (grid3.coords t 0).val = t.val :=
  (by decide +kernel : ∀ t : Fin grid3.N, _)

variable (V : (c : Dev nD) → (b : Ref sig .tc) → Buf (Elt Ideal) ((c : Thread nD τ).loc b))

/-- The rows and the tap table the region finds are the flat arguments. -/
structure Rows (a3 : FVec Ideal S5x5x1x384 .f32) (a4 a6 : FVec Ideal S384 .f32) (c : Dev nD) : Prop where
  taps : ∀ (dy dx : Fin 5) (k : Fin 384), (V c main_v27 : FVec Ideal S25x384 .f32) (ix2 (⟨dy.val * 5 + dx.val, by omega⟩ : Fin 25) k) = a3 (ix4 dy dx 0 k)
  bias : ∀ k : Fin 384, (V c main_v28 : FVec Ideal S1x384 .f32) (ix2 0 k) = a4 (ix1 k)
  wob : ∀ k : Fin 384, (V c main_v29 : FVec Ideal S1x384 .f32) (ix2 0 k) = a6 (ix1 k)

/-- The block with its margin at a grid point is the zero padded image. -/
theorem padBlk (c : Dev nD) (t : Fin cfg3.N) (k : Fin 384) (r : Fin 8) (s : Fin 228) :
    k3_pay1 (grid3.coords t) (iblk V c 0 t) (View.ld (iblk V c 1 t) r0_1) (View.ld (iblk V c 2 t) r0_2) (ix3 r s k)
      = vpad (fun p q => (V c main_v22_1 : FVec Ideal S224x224x384 .bf16) (ix3 p q k)) (t.val * 4 + r.val) s.val := by
  have hN : cfg3.N = 56 := N_3
  have ht := t.isLt
  have hc := coord t
  rw [padded (grid3.coords t) _ _ _ k (fun p q => (V c main_v22_1 : FVec Ideal S224x224x384 .bf16) (ix3 p q k)) (by omega), hc]
  · intro a b
    pointwise
    blk_point [iblk, idx t, hc]
  · intro h a b
    pointwise
    blk_point [iblk, idx t, hc]
  · intro h a b
    pointwise
    blk_point [iblk, idx t, hc]
    rw [if_pos (show t.val < 55 from hc ▸ h)]
    omega

set_option maxHeartbeats 4000000 in
/-- What point `t` stores at an index of its block is the reference at that index of the array. -/
theorem point (a3 : FVec Ideal S5x5x1x384 .f32) (a4 a6 : FVec Ideal S384 .f32) (c : Dev nD) (h : Rows V a3 a4 a6 c) (t : Fin cfg3.N) (y : S4x224x384.Idx) :
    k3_pay12 (k3_pay1 (grid3.coords t) (iblk V c 0 t) (View.ld (iblk V c 1 t) r0_1) (View.ld (iblk V c 2 t) r0_2)) (k3_pay9 (k3_pay1 (grid3.coords t) (iblk V c 0 t) (View.ld (iblk V c 1 t) r0_1) (View.ld (iblk V c 2 t) r0_2)) (k3_pay7 (k3_pay1 (grid3.coords t) (iblk V c 0 t) (View.ld (iblk V c 1 t) r0_1) (View.ld (iblk V c 2 t) r0_2)) (k3_pay5 (k3_pay1 (grid3.coords t) (iblk V c 0 t) (View.ld (iblk V c 1 t) r0_1) (View.ld (iblk V c 2 t) r0_2)) (k3_pay2 (grid3.coords t) (iblk V c 0 t) (View.ld (iblk V c 1 t) r0_1) (View.ld (iblk V c 2 t) r0_2) (View.ld (iblk V c 5 t) r0_3) (View.ld (iblk V c 5 t) r0_4)) (k3_pay3 (grid3.coords t) (iblk V c 0 t) (View.ld (iblk V c 1 t) r0_1) (View.ld (iblk V c 2 t) r0_2)) (k3_pay4 (View.ld (iblk V c 5 t) r0_5)) (View.ld (iblk V c 5 t) r0_6) (View.ld (iblk V c 5 t) r0_7) (View.ld (iblk V c 5 t) r0_8) (View.ld (iblk V c 5 t) r0_9) (View.ld (iblk V c 5 t) r0_10) (View.ld (iblk V c 5 t) r0_11)) (k3_pay6 (k3_pay1 (grid3.coords t) (iblk V c 0 t) (View.ld (iblk V c 1 t) r0_1) (View.ld (iblk V c 2 t) r0_2))) (View.ld (iblk V c 5 t) r0_12) (View.ld (iblk V c 5 t) r0_13) (View.ld (iblk V c 5 t) r0_14) (View.ld (iblk V c 5 t) r0_15) (View.ld (iblk V c 5 t) r0_16) (View.ld (iblk V c 5 t) r0_17) (View.ld (iblk V c 5 t) r0_18)) (k3_pay8 (k3_pay1 (grid3.coords t) (iblk V c 0 t) (View.ld (iblk V c 1 t) r0_1) (View.ld (iblk V c 2 t) r0_2))) (View.ld (iblk V c 5 t) r0_19) (View.ld (iblk V c 5 t) r0_20) (View.ld (iblk V c 5 t) r0_21) (View.ld (iblk V c 5 t) r0_22) (View.ld (iblk V c 5 t) r0_23) (View.ld (iblk V c 5 t) r0_24)) (k3_pay10 (k3_pay1 (grid3.coords t) (iblk V c 0 t) (View.ld (iblk V c 1 t) r0_1) (View.ld (iblk V c 2 t) r0_2))) (k3_pay11 (View.ld (iblk V c 5 t) r0_25)) (View.ld (iblk V c 5 t) r0_26) (View.ld (iblk V c 5 t) r0_27) (iblk V c 6 t) (iblk V c 3 t) (iblk V c 7 t) (iblk V c 8 t) (iblk V c 4 t) y
      = Cert.LepeReferenceIdeal.Entry.REF (V c main_v22_1) (V c main_v25) (V c main_v1) a3 a4 (V c main_arg7) a6 (((cfg3.win 9).blk t).view.emb y) := by
  idx_vars y
  refine (stored (grid3.coords t) (iblk V c 0 t) (iblk V c 1 t) (iblk V c 2 t) (iblk V c 3 t) (iblk V c 4 t) (iblk V c 5 t) (iblk V c 6 t) (iblk V c 7 t) (iblk V c 8 t) y0 y1 y2).trans ?_
  have hN : cfg3.N = 56 := N_3
  have ht := t.isLt
  have hp : ((cfg3.win 9).blk t).view.emb (ix3 y0 y1 y2) = ix3 (⟨t.val * 4 + y0.val, by omega⟩ : Fin 224) y1 y2 := by
    blk_ext [idx t]
  show _ = Cert.LepeReferenceIdeal.Entry.REF (V c main_v22_1) (V c main_v25) (V c main_v1) a3 a4 (V c main_arg7) a6 (((cfg3.win 9).blk t).view.emb (ix3 y0 y1 y2))
  rw [hp, Cert.LepeReferenceIdeal.Entry.REF_apply]
  congr 1
  · blk_point [iblk, idx t]
  · congr 1
    · funext k
      congr 1
      · blk_point [iblk, idx t]
      · congr 1
        · congr 1
          · funext dy dx
            refine (padBlk V c t k _ _).trans ?_
            congr 1
            · show t.val * 4 + (dy.val + y0.val) = dy.val + (t.val * 4 + y0.val)
              omega
          · funext dy dx
            refine Eq.trans ?_ (h.taps dy dx k)
            blk_point [iblk, idx t]
        · refine Eq.trans ?_ (h.bias k)
          blk_point [iblk, idx t]
    · funext k j; blk_point [iblk, idx t]
    · funext k
      refine Eq.trans ?_ (h.wob k)
      blk_point [iblk, idx t]

set_option maxHeartbeats 4000000 in
/-- The result array after the region is the reference of the arrays before it. -/
theorem final (a3 : FVec Ideal S5x5x1x384 .f32) (a4 a6 : FVec Ideal S384 .f32) (c : Dev nD) (h : Rows V a3 a4 a6 c) :
    (dats V c).arrAt 9 cfg3.N = Cert.LepeReferenceIdeal.Entry.REF (V c main_v22_1) (V c main_v25) (V c main_v1) a3 a4 (V c main_arg7) a6 := by
  refine (dats V c).arrAt_eq_of_covers 9 _ (by decide +kernel) fun t hf y => ?_
  blk_simp; rw [after0_9]; unfold out0_9; frame_out
  exact point V a3 a4 a6 c h t y

end Cert.KV3

end
-- ==== Proof.KernelV4.lean ====
/- Hand-written: what the residual two-layer kernel leaves in its result array is the plain reference of its arguments. -/
module

public import proofs.«01_k».proof.Proof.KernelR4
public import proofs.«01_k».proof.Proof.MlpRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KV4

open Cert.KernelIdeal hiding ix2
open Cert.RowMath
open Cert.KernelIdeal.Gen Cert.KernelIdeal.R4

/-- The body's first dense layer at row `r` of the block's 896 rows. -/
theorem hidden (v0 : Vec Ideal S4x224x384 .f32) (v18 v23 : Vec Ideal S1x384 .f32) (v28 : Vec Ideal S384x1536 .f32) (v30 : Vec Ideal S1x1536 .f32)
    (r : Fin 896) (j : Fin 1536) :
    k4_pay3 v0 v18 v23 v28 v30 (ix2 r j)
      = dense (lnRow (fun k => k4_pay2 v0 (ix2 r k)) (fun k => v18 (ix2 0 k)) (fun k => v23 (ix2 0 k))) (fun k j => v28 (ix2 k j)) (fun j => v30 (ix2 0 j)) j := by
  unfold k4_pay3 dense lnRow
  generalize k4_pay2 v0 = X
  pointwise [mean, var]

/-- The body's stored value at row `r`, before it is laid back as an image block. -/
theorem stored (v0 : Vec Ideal S4x224x384 .f32) (v18 v23 : Vec Ideal S1x384 .f32) (v28 : Vec Ideal S384x1536 .f32) (v30 : Vec Ideal S1x1536 .f32)
    (v43 : Vec Ideal S1536x384 .f32) (v45 : Vec Ideal S1x384 .f32) (a : Fin 4) (b : Fin 224) (l : Fin 384) :
    k4_pay1 (k4_pay2 v0) (k4_pay4 v0 v18 v23 v28 v30) (k4_pay5 v0 v18 v23 v28 v30) v43 v45 (ix3 a b l)
      = mlpRow (fun k => v0 (ix3 a b k)) (fun k => v18 (ix2 0 k)) (fun k => v23 (ix2 0 k)) (fun k j => v28 (ix2 k j)) (fun j => v30 (ix2 0 j))
          (fun k j => v43 (ix2 k j)) (fun j => v45 (ix2 0 j)) l := by
  have h2 : ∀ k : Fin 384, ∀ r : Fin 896, r.val = a.val * 224 + b.val → k4_pay2 v0 (ix2 r k) = v0 (ix3 a b k) := by
    intro k r hr
    pointwise [k4_pay2]
    have e1 : (⟨r.val / 224, by omega⟩ : Fin 4) = a := Fin.ext (by show r.val / 224 = a.val; omega)
    have e2 : (⟨r.val % 224, by omega⟩ : Fin 224) = b := Fin.ext (by show r.val % 224 = b.val; omega)
    rw [e1, e2]
  unfold k4_pay1 k4_pay4 k4_pay5
  generalize hL : k4_pay3 v0 v18 v23 v28 v30 = L
  generalize hX : k4_pay2 v0 = X
  pointwise
  subst hL hX
  simp only [hidden, h2 _ ⟨a.val * 224 + b.val, by omega⟩ rfl]
  unfold mlpRow dense gelu
  pointwise [dense]
  rfl

/-- Where each window stands at each grid point. -/
theorem idx : ∀ t : Fin cfg4.N, win4_0.index t = ![t.val, 0, 0]
    ∧ win4_1.index t = ![0, 0]
    ∧ win4_2.index t = ![0, 0]
    ∧ win4_3.index t = ![0, 0]
    ∧ win4_4.index t = ![0, 0]
    ∧ win4_5.index t = ![0, 0]
    ∧ win4_6.index t = ![0, 0]
    ∧ win4_7.index t = ![t.val, 0, 0] :=
  (by decide +kernel : ∀ t : Fin grid4.N, _)

variable (V : (c : Dev nD) → (b : Ref sig .tc) → Buf (Elt Ideal) ((c : Thread nD τ).loc b))
variable (a1 a2 : FVec Ideal S384 .f32) (a4 : FVec Ideal S1536 .f32) (a6 : FVec Ideal S384 .f32)

/-- The reference of what the region finds. -/
abbrev want (c : Dev nD) : FVec Ideal S224x224x384 .f32 :=
  Cert.MlpReferenceIdeal.Entry.REF (V c main_v30) a1 a2 (V c main_arg11) a4 (V c main_arg13) a6

/-- The rows the region finds are these vectors. -/
structure Rows (c : Dev nD) : Prop where
  h1 : ∀ k : Fin 384, (V c main_v31 : FVec Ideal S1x384 .f32) (ix2 0 k) = a1 (ix1 k)
  h2 : ∀ k : Fin 384, (V c main_v32 : FVec Ideal S1x384 .f32) (ix2 0 k) = a2 (ix1 k)
  h4 : ∀ k : Fin 1536, (V c main_v33 : FVec Ideal S1x1536 .f32) (ix2 0 k) = a4 (ix1 k)
  h6 : ∀ k : Fin 384, (V c main_v34 : FVec Ideal S1x384 .f32) (ix2 0 k) = a6 (ix1 k)

/-- What point `t` stores at an index of its block is the reference at that index of the array. -/
theorem point (c : Dev nD) (h : Rows V a1 a2 a4 a6 c) (t : Fin cfg4.N) (y : S4x224x384.Idx) :
    k4_pay1 (k4_pay2 (iblk V c 0 t)) (k4_pay4 (iblk V c 0 t) (iblk V c 1 t) (iblk V c 2 t) (iblk V c 3 t) (iblk V c 4 t)) (k4_pay5 (iblk V c 0 t) (iblk V c 1 t) (iblk V c 2 t) (iblk V c 3 t) (iblk V c 4 t)) (iblk V c 5 t) (iblk V c 6 t) y
      = want V a1 a2 a4 a6 c (((cfg4.win 7).blk t).view.emb y) := by
  idx_vars y
  rw [stored]
  have hN : cfg4.N = 56 := N_4
  have ht := t.isLt
  have hp : ((cfg4.win 7).blk t).view.emb (ix3 y0 y1 y2) = ix3 (⟨t.val * 4 + y0.val, by omega⟩ : Fin 224) y1 y2 := by
    blk_ext [idx t]
  show _ = want V a1 a2 a4 a6 c (((cfg4.win 7).blk t).view.emb (ix3 y0 y1 y2))
  rw [hp, want, Cert.MlpReferenceIdeal.Entry.REF_apply]
  have e1 : ∀ k : Fin 384, iblk V c 1 t (ix2 0 k) = (V c main_v31 : FVec Ideal S1x384 .f32) (ix2 0 k) := fun k => by blk_point [iblk, idx t]
  have e2 : ∀ k : Fin 384, iblk V c 2 t (ix2 0 k) = (V c main_v32 : FVec Ideal S1x384 .f32) (ix2 0 k) := fun k => by blk_point [iblk, idx t]
  have e4 : ∀ k : Fin 1536, iblk V c 4 t (ix2 0 k) = (V c main_v33 : FVec Ideal S1x1536 .f32) (ix2 0 k) := fun k => by blk_point [iblk, idx t]
  have e6 : ∀ k : Fin 384, iblk V c 6 t (ix2 0 k) = (V c main_v34 : FVec Ideal S1x384 .f32) (ix2 0 k) := fun k => by blk_point [iblk, idx t]
  congr 1
  · funext k; blk_point [iblk, idx t]
  · funext k; exact (e1 k).trans (h.h1 k)
  · funext k; exact (e2 k).trans (h.h2 k)
  · funext k j; blk_point [iblk, idx t]
  · funext k; exact (e4 k).trans (h.h4 k)
  · funext k j; blk_point [iblk, idx t]
  · funext k; exact (e6 k).trans (h.h6 k)

/-- The result array after the region is the reference of what it found. -/
theorem final (c : Dev nD) (h : Rows V a1 a2 a4 a6 c) : (dats V c).arrAt 7 cfg4.N = want V a1 a2 a4 a6 c := by
  refine (dats V c).arrAt_eq_of_covers 7 _ (by decide +kernel) fun t hf y => ?_
  blk_simp; rw [after0_7]; unfold out0_7; frame_out
  exact point V a1 a2 a4 a6 c h t y

end Cert.KV4

end
-- ==== Proof.KernelRef.lean ====
/- Hand-written: the plain whole layer is its five plain parts one after another; the precision their interfaces carry changes nothing in the extended reals. -/
module

public import proofs.«01_k».proof.Proof.Gen.KernelReferenceIdeal.Run
public import proofs.«01_k».proof.Proof.QkvRef
public import proofs.«01_k».proof.Proof.RouteRef
public import proofs.«01_k».proof.Proof.AttnRef
public import proofs.«01_k».proof.Proof.LepeRef
public import proofs.«01_k».proof.Proof.MlpRef

@[expose] public section

set_option maxRecDepth 16384

noncomputable section

open Idealize.ShloMosaic Idealize.ShloMosaic.TcCoe Idealize.SL.Sem

namespace Cert.KernelReferenceIdeal.Entry

open Cert.KernelReferenceIdeal Cert.KernelReferenceIdeal.Gen Cert.KernelReferenceIdeal.Value
open Cert.QkvReferenceIdeal.Entry (QREF qRef vRef kvpRef winRef img)
open Cert.AttnReferenceIdeal.Entry (ATT gat lg ex wt outOf)

open Cert.RouteReferenceIdeal (S49x8)
open Cert.RouteReferenceIdeal.Entry (LG LG_apply topOf CH)

theorem slices_S49x8_S49x4_0_0 : Shape.Slices S49x8 ![0, 0] S49x4 := by decide

/-- The first four columns of the table. -/
abbrev four (T : IVec S49x8 32) : IVec S49x4 32 := extractStridedSlice S49x4 ![0, 0] T slices_S49x8_S49x4_0_0

/-- The layer before its last block, from the projection. -/
abbrev MID (Q : FVec Ideal S7x7x32x32x1152 .f32) (X : FVec Ideal S224x224x384 .f32) (a5 : FVec Ideal S5x5x1x384 .f32) (a6 : FVec Ideal S384 .f32) (a7 : FVec Ideal S384x384 .f32) (a8 : FVec Ideal S384 .f32) : FVec Ideal S224x224x384 .f32 :=
  Cert.LepeReferenceIdeal.Entry.REF (vRef Q) (ATT (qRef Q) (kvpRef Q) (four (Cert.RouteReferenceIdeal.Entry.CH (winRef Q)))) X a5 a6 a7 a8

/-- The image laid back with its channels first. -/
abbrev back (Y : FVec Ideal S224x224x384 .f32) : FVec Ideal S1x384x224x224 .f32 :=
  broadcastInDim S1x384x224x224 ![1, 2, 3] bcast_S384x224x224_S1x384x224x224_1_2_3 (transpose S384x224x224 [2, 0, 1] Y transposes_S224x224x384_S384x224x224_2_0_1)

variable (V0 : Valuation τ sig (Elt Ideal))

/-- The projection of the arguments. -/
abbrev Q0 : FVec Ideal S7x7x32x32x1152 .f32 :=
  QREF (V0 (Proc.devRef .tc main_arg0)) (V0 (Proc.devRef .tc main_arg1)) (V0 (Proc.devRef .tc main_arg2)) (V0 (Proc.devRef .tc main_arg3)) (V0 (Proc.devRef .tc main_arg4))

/-- The logits, as the whole layer composes them of the projection. -/
def lgp (Q : FVec Ideal S7x7x32x32x1152 .f32) : FVec Ideal S49x49 .f32 :=
  Host.dotGeneral dot_S49x384_S384x49_S49x49_1_0_0_1_n_n none (mulf (shapeCast _ (Host.divf (Host.reduceAdd (extractStridedSlice S7x7x32x32x384 ![0, 0, 0, 0, 0] Q slices_S7x7x32x32x1152_S7x7x32x32x384_0_0_0_0_0) (constant S_ .f32 0x00000000#32) reducesTo_S7x7x32x32x384_S7x7x384_d2_3 h_S_) (broadcastInDim S7x7x384 ![] bcast_S_S7x7x384 (constant S_ .f32 0x44800000#32))) shapeCasts_S7x7x384_S49x384) (broadcastInDim S49x384 ![] bcast_S_S49x384 (constant S_ .f32 0x3D5105EC#32))) (transpose S384x49 [1, 0] (shapeCast _ (Host.divf (Host.reduceAdd (extractStridedSlice S7x7x32x32x384 ![0, 0, 0, 0, 0] (extractStridedSlice S7x7x32x32x768 ![0, 0, 0, 0, 384] Q slices_S7x7x32x32x1152_S7x7x32x32x768_0_0_0_0_384) slices_S7x7x32x32x768_S7x7x32x32x384_0_0_0_0_0) (constant S_ .f32 0x00000000#32) reducesTo_S7x7x32x32x384_S7x7x384_d2_3 h_S_) (broadcastInDim S7x7x384 ![] bcast_S_S7x7x384 (constant S_ .f32 0x44800000#32))) shapeCasts_S7x7x384_S49x384) transposes_S49x384_S384x49_1_0)

/-- They are the logits of the window means. -/
theorem lgp_eq (Q : FVec Ideal S7x7x32x32x1152 .f32) : lgp Q = LG (winRef Q) := by
  funext i
  obtain ⟨p, j, rfl⟩ : ∃ (p j : Fin 49), i = ix2 p j := ⟨i 0, i 1, by funext a; fin_cases a <;> rfl⟩
  rw [LG_apply]
  simp only [Cert.QkvReferenceIdeal.Entry.winRef_apply]
  pointwise [lgp]

/-- The table's first four columns are the choice itself. -/
theorem four_eq (a0 : FVec Ideal Cert.RouteReferenceIdeal.S49x8x384 .f32) : four (CH a0) = topOf (LG a0) := by
  unfold CH
  generalize topOf (LG a0) = T
  funext i
  obtain ⟨p, j, rfl⟩ : ∃ (p : Fin 49) (j : Fin 4), i = ix2 p j := ⟨i 0, i 1, by funext a; fin_cases a <;> rfl⟩
  pointwise [four]

theorem e25 : res_main_v25 V0 = Q0 V0 := rfl

theorem e40 : res_main_v40 V0 = lgp (res_main_v25 V0) := rfl

theorem eidx : res_main_indices V0 = topOf (res_main_v40 V0) := rfl

theorem e54 : res_main_v54 V0 = gat (kvpRef (res_main_v25 V0)) (res_main_indices V0) := rfl

theorem e65 : res_main_v65 V0 = lg (qRef (res_main_v25 V0)) (kvpRef (res_main_v25 V0)) (res_main_indices V0) := rfl

theorem e72 : res_main_v72 V0 = ex (res_main_v65 V0) := rfl

theorem e87 : res_main_v87 V0 = Cert.LepeReferenceIdeal.Entry.padRef (vRef (res_main_v25 V0)) := rfl

theorem e272 : res_main_v272 V0 = Cert.LepeReferenceIdeal.Entry.REF (vRef (res_main_v25 V0)) (outOf (wt (res_main_v72 V0)) (res_main_v54 V0)) (img (V0 (Proc.devRef .tc main_arg0))) (V0 (Proc.devRef .tc main_arg5)) (V0 (Proc.devRef .tc main_arg6)) (V0 (Proc.devRef .tc main_arg7)) (V0 (Proc.devRef .tc main_arg8)) := by
  unfold res_main_v272 res_main_v228 res_main_v158
  rw [e87]
  rfl

theorem mid : res_main_v272 V0 = MID (Q0 V0) (img (V0 (Proc.devRef .tc main_arg0))) (V0 (Proc.devRef .tc main_arg5)) (V0 (Proc.devRef .tc main_arg6)) (V0 (Proc.devRef .tc main_arg7)) (V0 (Proc.devRef .tc main_arg8)) := by
  rw [e272, e72, e65, e54, eidx, e40, lgp_eq, ← four_eq, e25]
  rfl

theorem e294 : res_main_v294 V0 = Cert.MlpReferenceIdeal.Entry.hidRef (res_main_v272 V0) (V0 (Proc.devRef .tc main_arg9)) (V0 (Proc.devRef .tc main_arg10)) (V0 (Proc.devRef .tc main_arg11)) (V0 (Proc.devRef .tc main_arg12)) := rfl

/-- The whole layer's result. -/
abbrev WHOLE (Q : FVec Ideal S7x7x32x32x1152 .f32) (X : FVec Ideal S224x224x384 .f32) (a5 : FVec Ideal S5x5x1x384 .f32) (a6 : FVec Ideal S384 .f32) (a7 : FVec Ideal S384x384 .f32) (a8 a9 a10 : FVec Ideal S384 .f32) (a11 : FVec Ideal S384x1536 .f32) (a12 : FVec Ideal S1536 .f32) (a13 : FVec Ideal S1536x384 .f32) (a14 : FVec Ideal S384 .f32) : FVec Ideal S1x384x224x224 .f32 :=
  back (Cert.MlpReferenceIdeal.Entry.REF (MID Q X a5 a6 a7 a8) a9 a10 a11 a12 a13 a14)

theorem whole : val6 V0 (Proc.devRef .tc main_v309) = WHOLE (Q0 V0) (img (V0 (Proc.devRef .tc main_arg0))) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  refine (val6_main_v309 V0).trans ?_
  rw [e294, mid]
  rfl

end Cert.KernelReferenceIdeal.Entry

end
-- ==== Proof.KernelFin.lean ====
/- Hand-written: from finite arguments of the first block, the logits of the windows' means are finite. -/
module

public import proofs.«01_k».proof.Proof.Gen.Pre_inputs_finite
public import proofs.«01_k».proof.Proof.RouteClaim
public import proofs.«01_k».proof.Proof.QkvRef
public import Idealize.ShloMosaic.Lib.ReduceAll

@[expose] public section

set_option maxRecDepth 16384

noncomputable section

open Idealize.ShloMosaic Idealize.ShloMosaic.TcCoe Idealize.SL.Sem

namespace Cert.KFin

open Cert.RouteIdeal.Entry (Fin' fin_mul fin_sum fin_scale)
open Cert.RowMath Cert.QkvReferenceIdeal

theorem fin_add {x y : EReal} (hx : Fin' x) (hy : Fin' y) : Fin' (x + y) := by
  obtain ⟨a, rfl⟩ := hx
  obtain ⟨b, rfl⟩ := hy
  exact ⟨a + b, (EReal.coe_add a b).symm⟩

theorem fin_sub {x y : EReal} (hx : Fin' x) (hy : Fin' y) : Fin' (x - y) := by
  obtain ⟨a, rfl⟩ := hx
  obtain ⟨b, rfl⟩ := hy
  exact ⟨a - b, (EReal.coe_sub a b).symm⟩

/-- Dividing by a real that is not zero keeps a number finite. -/
theorem fin_div {x : EReal} (r : ℝ) (hr : r ≠ 0) (hx : Fin' x) : Fin' (Ideal.div x (r : EReal)) := by
  rw [Ideal.div, if_neg (by exact_mod_cast hr)]
  exact fin_mul hx ⟨r⁻¹, (EReal.coe_inv r).symm⟩

/-- The reciprocal root of a positive finite number is finite. -/
theorem fin_rsqrt {x : EReal} (h : 0 < x) (hx : Fin' x) : Fin' (Ideal.rsqrt x) := by
  obtain ⟨r, rfl⟩ := hx
  have hr : 0 < r := by exact_mod_cast h
  rw [Ideal.rsqrt_coe, if_neg (not_lt.2 hr.le), if_neg hr.ne']
  exact ⟨_, rfl⟩

theorem fin_mean {r : Fin 384 → EReal} (h : ∀ k, Fin' (r k)) : Fin' (mean r) := by
  unfold mean
  rw [w384]
  exact fin_div 384 (by norm_num) (fin_sum _ h)

theorem fin_var {r : Fin 384 → EReal} (h : ∀ k, Fin' (r k)) : Fin' (var r) := by
  unfold var
  rw [w384]
  exact fin_div 384 (by norm_num) (fin_sum _ fun k => fin_mul (fin_sub (h k) (fin_mean h)) (fin_sub (h k) (fin_mean h)))

/-- A finite row stays finite when normalised. -/
theorem fin_lnRow {r g b : Fin 384 → EReal} (hr : ∀ k, Fin' (r k)) (hg : ∀ k, Fin' (g k)) (hb : ∀ k, Fin' (b k)) (k : Fin 384) : Fin' (lnRow r g b k) := by
  unfold lnRow
  obtain ⟨e, -, he⟩ := wEps
  exact fin_add (fin_mul (fin_mul (fin_sub (hr k) (fin_mean hr)) (fin_rsqrt (var_pos r) (fin_add (fin_var hr) ⟨e, he⟩))) (hg k)) (hb k)

theorem fin_dense {n l : Nat} {r : Fin n → EReal} {w : Fin n → Fin l → EReal} {b : Fin l → EReal} (hr : ∀ k, Fin' (r k)) (hw : ∀ k j, Fin' (w k j))
    (hb : ∀ j, Fin' (b j)) (j : Fin l) : Fin' (dense r w b j) := by
  unfold dense
  exact fin_add (fin_sum _ fun k => fin_mul (hr k) (hw k j)) (hb j)

/-- The word of the number of a window's pixels. -/
theorem w1024 : Ideal.ofBits .f32 0x44800000#32 = ((1024 : ℝ) : EReal) := by
  simp [Ideal.ofBits, Ideal.ieee, -EReal.coe_mul]; norm_num

section
variable {a0 : FVec Ideal S1x384x224x224 .f32} {a1 a2 : FVec Ideal S384 .f32} {a3 : FVec Ideal S384x1152 .f32} {a4 : FVec Ideal S1152 .f32}
variable (h0 : ∀ i, Fin' (a0 i)) (h1 : ∀ i, Fin' (a1 i)) (h2 : ∀ i, Fin' (a2 i)) (h3 : ∀ i, Fin' (a3 i)) (h4 : ∀ i, Fin' (a4 i))
include h0 h1 h2 h3 h4

/-- The projection of finite arguments is finite. -/
theorem fin_QREF (i j : Fin 7) (r s : Fin 32) (n : Fin 1152) : Fin' (Entry.QREF a0 a1 a2 a3 a4 (ix5 i j r s n)) := by
  rw [Entry.QREF_apply]
  exact fin_dense (fin_lnRow (fun _ => h0 _) (fun _ => h1 _) fun _ => h2 _) (fun _ _ => h3 _) (fun _ => h4 _) n

/-- So are the windows' means. -/
theorem fin_win (w : Fin 49) (r : Fin 8) (n : Fin 384) : Fin' (Entry.winRef (Entry.QREF a0 a1 a2 a3 a4) (ix3 w r n)) := by
  rw [Entry.winRef_apply, w1024]
  split
  · exact fin_div 1024 (by norm_num) (fin_sum _ fun x => fin_sum _ fun y => fin_QREF h0 h1 h2 h3 h4 _ _ _ _ _)
  split
  · exact fin_div 1024 (by norm_num) (fin_sum _ fun x => fin_sum _ fun y => fin_QREF h0 h1 h2 h3 h4 _ _ _ _ _)
  · exact ⟨0, EReal.coe_zero.symm⟩

/-- And no logit is minus infinity. -/
theorem logit_ne (p j : Fin 49) : Cert.RouteReferenceIdeal.Entry.LG (Entry.winRef (Entry.QREF a0 a1 a2 a3 a4)) (ix2 p j) ≠ ⊥ := by
  generalize hW : Entry.winRef (Entry.QREF a0 a1 a2 a3 a4) = W
  have hf : ∀ w r n, Fin' (W (ix3 w r n)) := by
    subst hW
    exact fin_win h0 h1 h2 h3 h4
  rw [Cert.RouteReferenceIdeal.Entry.LG_apply]
  obtain ⟨r, hr⟩ := fin_sum (fun k => W (ix3 p 0 k) * Ideal.ofBits .f32 0x3D5105EC#32 * W (ix3 j 1 k)) fun k => fin_mul (fin_mul (hf _ _ _) fin_scale) (hf _ _ _)
  rw [hr]
  exact EReal.coe_ne_bot r

end

/-- An entry whose size is below the word of infinity is finite. -/
theorem fin_of_lt (x : EReal) (h : BitVec.ofBool (decide (FloatOps.absf (F := Ideal) (φ := .f32) x < Ideal.ofBits .f32 0x7F800000#32)) = 1#1) : Fin' x := by
  have one : ∀ b : Bool, BitVec.ofBool b = 1#1 → b = true := by decide
  have lt : max x (-x) < Ideal.ofBits .f32 0x7F800000#32 := of_decide_eq_true (one _ h)
  have wTop : Ideal.ofBits .f32 0x7F800000#32 = ⊤ := by simp [Ideal.ofBits, Ideal.ieee]
  rw [wTop] at lt
  refine ⟨x.toReal, (EReal.coe_toReal ?_ ?_).symm⟩
  · rintro rfl
    simp at lt
  · rintro rfl
    simp at lt

/-- What the precondition says of the first block's arguments. -/
theorem fins (a0 : FVec Ideal S1x384x224x224 .f32) (a1 a2 : FVec Ideal S384 .f32) (a3 : FVec Ideal S384x1152 .f32) (a4 : FVec Ideal S1152 .f32)
    (a5 : FVec Ideal Cert.Pre_inputs_finite.S5x5x1x384 .f32) (a6 : FVec Ideal S384 .f32) (a7 : FVec Ideal Cert.Pre_inputs_finite.S384x384 .f32) (a8 a9 a10 : FVec Ideal S384 .f32)
    (a11 : FVec Ideal Cert.Pre_inputs_finite.S384x1536 .f32) (a12 : FVec Ideal Cert.Pre_inputs_finite.S1536 .f32) (a13 : FVec Ideal Cert.Pre_inputs_finite.S1536x384 .f32) (a14 : FVec Ideal S384 .f32)
    (h : Cert.Pre_inputs_finite.fn (F := Ideal) a0 a1 a2 a3 a4 a5 a6 a7 a8 a9 a10 a11 a12 a13 a14 = fun _ => 1#1) :
    (∀ i, Fin' (a0 i)) ∧ (∀ i, Fin' (a1 i)) ∧ (∀ i, Fin' (a2 i)) ∧ (∀ i, Fin' (a3 i)) ∧ (∀ i, Fin' (a4 i)) := by
  have both : ∀ a b : BitVec 1, IntOp.andi a b = 1#1 → a = 1#1 ∧ b = 1#1 := by decide
  haveI : Subsingleton Cert.Pre_inputs_finite.S_.Idx := ⟨fun a b => funext fun x => x.elim0⟩
  have h' := congrFun h (fun a => a.elim0)
  unfold Cert.Pre_inputs_finite.fn Cert.Pre_inputs_finite.fn_part1 at h'
  obtain ⟨hA, e4⟩ := both _ _ h'
  obtain ⟨hB, e3⟩ := both _ _ hA
  obtain ⟨hC, e2⟩ := both _ _ hB
  obtain ⟨e0, e1⟩ := both _ _ hC
  exact ⟨fun i => fin_of_lt _ (Host.reduce_andi_all _ _ _ _ _ e0 i), fun i => fin_of_lt _ (Host.reduce_andi_all _ _ _ _ _ e1 i),
    fun i => fin_of_lt _ (Host.reduce_andi_all _ _ _ _ _ e2 i), fun i => fin_of_lt _ (Host.reduce_andi_all _ _ _ _ _ e3 i),
    fun i => fin_of_lt _ (Host.reduce_andi_all _ _ _ _ _ e4 i)⟩

end Cert.KFin

end
-- ==== Proof.KernelWhole.lean ====
/- Hand-written: what the whole layer's program leaves in its result is the plain layer of its arguments, each region's
   result read at what the region finds. -/
module

public import proofs.«01_k».proof.Proof.KernelRun
public import proofs.«01_k».proof.Proof.KernelV0
public import proofs.«01_k».proof.Proof.KernelV1
public import proofs.«01_k».proof.Proof.KernelV2
public import proofs.«01_k».proof.Proof.KernelV3
public import proofs.«01_k».proof.Proof.KernelV4
public import proofs.«01_k».proof.Proof.KernelRef
public import proofs.«01_k».proof.Proof.KernelFin

@[expose] public section

set_option maxRecDepth 16384

noncomputable section

open Idealize.ShloMosaic Idealize.ShloMosaic.TcCoe Idealize.SL.Sem

namespace Cert.KW

open Cert.KernelIdeal hiding ix2
open Cert.KernelIdeal.Gen Cert.KernelIdeal.Whole
open Cert.QkvReferenceIdeal.Entry (QREF qRef vRef kvpRef winRef img)
open Cert.KernelReferenceIdeal.Entry (four MID back WHOLE)
open Cert.RouteReferenceIdeal.Entry (CH LG)

variable (m : (ℓ : Loc nD τ sig) → Buf (Elt Ideal) ℓ)

/-- The projection of the arguments. -/
abbrev Q (c : Dev nD) : FVec Ideal Cert.QkvReferenceIdeal.S7x7x32x32x1152 .f32 :=
  QREF (m ((c : Thread nD τ).loc main_arg0)) (m ((c : Thread nD τ).loc main_arg1)) (m ((c : Thread nD τ).loc main_arg2)) (m ((c : Thread nD τ).loc main_arg3)) (m ((c : Thread nD τ).loc main_arg4))

/-- The arrays at the first region, all the host's stretches taken as one. -/
theorem v9_at : at' (V9 m) = Cert.KV0.VV m := by
  funext c b
  show V9 m c (Proc.devRef .tc b) = Cert.KV0.V m c (Proc.devRef .tc b)
  unfold Cert.KV0.V
  simp only [List.flatten_cons, List.flatten_nil, List.append_nil, StableHlo.after_append]

/-- What the first region leaves in each of its results. -/
theorem q10 (c : Dev nD) : X10 m c (Proc.devRef .tc main_v22_0) = qRef (Q m c) := by
  rw [X10_main_v22_0, v9_at]
  exact Cert.KV0.finalQ m c

theorem v10 (c : Dev nD) : X10 m c (Proc.devRef .tc main_v22_1) = vRef (Q m c) := by
  rw [X10_main_v22_1, v9_at]
  exact Cert.KV0.finalV m c

theorem p10 (c : Dev nD) : X10 m c (Proc.devRef .tc main_v22_2) = kvpRef (Q m c) := by
  rw [X10_main_v22_2, v9_at]
  exact Cert.KV0.finalP m c

theorem w10 (c : Dev nD) : X10 m c (Proc.devRef .tc main_v22_3) = winRef (Q m c) := by
  rw [X10_main_v22_3, v9_at]
  exact Cert.KV0.finalW m c

/-- The image the host hands on. -/
theorem img9 (c : Dev nD) : V9 m c (Proc.devRef .tc main_v1) = img (m ((c : Thread nD τ).loc main_arg0)) := by
  refine (congrFun (congrFun (v9_at m) c) main_v1).trans ?_
  funext (y : S224x224x384.Idx)
  idx_vars y
  refine (Cert.KV0.V_v1 m c y0 y1 y2).trans ?_
  generalize (m ((c : Thread nD τ).loc main_arg0) : FVec Ideal S1x384x224x224 .f32) = a
  pointwise [img]

/-- The table the second region leaves. -/
theorem t11 (c : Dev nD) : X11 m c (Proc.devRef .tc main_v23) = Cert.RouteIdeal.Entry.result (winRef (Q m c)) := by
  rw [X11_main_v23]
  refine (Cert.KV1.final (at' (X10 m)) c).trans ?_
  exact congrArg Cert.RouteIdeal.Entry.result (w10 m c)

/-- Its first four columns. -/
theorem t12 (c : Dev nD) : X12 m c (Proc.devRef .tc main_v24) = four (Cert.RouteIdeal.Entry.result (winRef (Q m c))) :=
  (show X12 m c (Proc.devRef .tc main_v24) = four (X11 m c (Proc.devRef .tc main_v23)) by
    unfold X12
    generalize X11 m c = W
    rfl).trans (congrArg four (t11 m c))

/-- The table names windows. -/
theorem good : Cert.KV2.Good (at' (X12 m)) := by
  intro p i
  obtain ⟨w, hw⟩ := Cert.KV1.result_lt (winRef (Q m 0)) p i
  have e : (Cert.KV2.tab (at' (X12 m))) (ix2 p i) = BitVec.ofNat 32 w.val := by
    refine (congrFun (t12 m 0) (ix2 p i)).trans (Eq.trans ?_ hw)
    generalize Cert.RouteIdeal.Entry.result (winRef (Q m 0)) = T
    pointwise [four]
  have small : ∀ w : Fin 49, 0 ≤ (BitVec.ofNat 32 w.val).toInt ∧ (BitVec.ofNat 32 w.val).toInt < 49 := by decide
  rw [e]
  exact small w

/-- So the third region runs. -/
theorem tok : TableOk m := Cert.KV2.ok (at' (X12 m)) (good m)

/-- A reference no host stretch before the first region writes. -/
theorem V9_keep (c : Dev nD) (r : Ref sig .tc)
    (h : r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W) :
    V9 m c (Proc.devRef .tc r) = m ((c : Thread nD τ).loc r) := by
  obtain ⟨h0, h1, h2, h3, h4, h5, h6, h7, h8⟩ := h
  exact (V9_of m c r h8).trans <| (V8_of m c r h7).trans <| (V7_of m c r h6).trans <| (V6_of m c r h5).trans <| (V5_of m c r h4).trans <|
    (V4_of m c r h3).trans <| (V3_of m c r h2).trans <| (V2_of m c r h1).trans (V1_of m c r h0)

theorem X12_keep (c : Dev nD) (r : Ref sig .tc)
    (h : r ∉ ([main_v23] : List (Ref sig .tc)) ∧ r ∉ hostOps2_W) :
    X12 m c (Proc.devRef .tc r) = X10 m c (Proc.devRef .tc r) :=
  (StableHlo.after_of_writes_sub hostOps2 _ hostOps2_writes h.2).trans (X11_of m c r h.1)

variable (hO : TableOk m)

theorem X14_keep (c : Dev nD) (r : Ref sig .tc)
    (h : r ∉ ([main_v25] : List (Ref sig .tc)) ∧ r ∉ hostOps3_W) :
    X14 m hO c (Proc.devRef .tc r) = X12 m c (Proc.devRef .tc r) :=
  (StableHlo.after_of_writes_sub hostOps3 _ hostOps3_writes h.2).trans (X13_of m hO c r h.1)

theorem X16_keep (c : Dev nD) (r : Ref sig .tc)
    (h : r ∉ ([main_v30] : List (Ref sig .tc)) ∧ r ∉ hostOps4_W) :
    X16 m hO c (Proc.devRef .tc r) = X14 m hO c (Proc.devRef .tc r) :=
  (StableHlo.after_of_writes_sub hostOps4 _ hostOps4_writes h.2).trans (X15_of m hO c r h.1)

/-- An argument, as far as the fourth region. -/
theorem arg12 (c : Dev nD) (r : Ref sig .tc)
    (h9 : r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W)
    (h10 : r ∉ ([main_v22_0, main_v22_1, main_v22_2, main_v22_3] : List (Ref sig .tc)))
    (h12 : r ∉ ([main_v23] : List (Ref sig .tc)) ∧ r ∉ hostOps2_W) :
    X12 m c (Proc.devRef .tc r) = m ((c : Thread nD τ).loc r) :=
  (X12_keep m c r h12).trans ((X10_of m c r h10).trans (V9_keep m c r h9))

/-- What attention leaves. -/
theorem a25 (hne : ∀ c p j, LG (winRef (Q m c)) (ix2 p j) ≠ ⊥) (c : Dev nD) :
    A25 m (tok m) c = Cert.AttnReferenceIdeal.Entry.ATT (qRef (Q m c)) (kvpRef (Q m c)) (four (CH (winRef (Q m c)))) := by
  obtain rfl : c = 0 := Subsingleton.elim _ _
  refine (Cert.KV2.final (at' (X12 m)) (good m) 0).trans ?_
  have h0 : X12 m 0 (Proc.devRef .tc main_v22_0) = qRef (Q m 0) := (X12_keep m 0 main_v22_0 (by decide)).trans (q10 m 0)
  have h2 : X12 m 0 (Proc.devRef .tc main_v22_2) = kvpRef (Q m 0) := (X12_keep m 0 main_v22_2 (by decide)).trans (p10 m 0)
  have h4 : X12 m 0 (Proc.devRef .tc main_v24) = four (CH (winRef (Q m 0))) := (t12 m 0).trans (congrArg four (Cert.KV1.result_of _ (hne 0)))
  show Cert.AttnReferenceIdeal.Entry.ATT (X12 m 0 (Proc.devRef .tc main_v22_0)) (X12 m 0 (Proc.devRef .tc main_v22_2)) (X12 m 0 (Proc.devRef .tc main_v24)) = _
  rw [h0, h2, h4]

/-- The rows the fourth region finds. -/
theorem rows3 (c : Dev nD) : Cert.KV3.Rows (at' (X14 m hO)) (m ((c : Thread nD τ).loc main_arg5)) (m ((c : Thread nD τ).loc main_arg6)) (m ((c : Thread nD τ).loc main_arg8)) c := by
  have e5 : X13 m hO c (Proc.devRef .tc main_arg5) = m ((c : Thread nD τ).loc main_arg5) :=
    (X13_of m hO c main_arg5 (by decide)).trans (arg12 m c main_arg5 (by decide) (by decide) (by decide))
  have e6 : X13 m hO c (Proc.devRef .tc main_arg6) = m ((c : Thread nD τ).loc main_arg6) :=
    (X13_of m hO c main_arg6 (by decide)).trans (arg12 m c main_arg6 (by decide) (by decide) (by decide))
  have e8 : X13 m hO c (Proc.devRef .tc main_arg8) = m ((c : Thread nD τ).loc main_arg8) :=
    (X13_of m hO c main_arg8 (by decide)).trans (arg12 m c main_arg8 (by decide) (by decide) (by decide))
  rw [← e5, ← e6, ← e8]
  refine ⟨fun dy dx k => ?_, fun k => ?_, fun k => ?_⟩
  · unfold at' X14
    generalize X13 m hO c = W
    after_reads_at
    congr 2 <;> exact Fin.ext (by show _ = _; simp only; omega)
  · unfold at' X14
    generalize X13 m hO c = W
    after_reads_at
  · unfold at' X14
    generalize X13 m hO c = W
    after_reads_at

/-- The rows the last region finds. -/
theorem rows4 (c : Dev nD) : Cert.KV4.Rows (at' (X16 m hO)) (m ((c : Thread nD τ).loc main_arg9)) (m ((c : Thread nD τ).loc main_arg10)) (m ((c : Thread nD τ).loc main_arg12)) (m ((c : Thread nD τ).loc main_arg14)) c := by
  have e9 : X15 m hO c (Proc.devRef .tc main_arg9) = m ((c : Thread nD τ).loc main_arg9) :=
    (X15_of m hO c main_arg9 (by decide)).trans ((X14_keep m hO c main_arg9 (by decide)).trans (arg12 m c main_arg9 (by decide) (by decide) (by decide)))
  have e10 : X15 m hO c (Proc.devRef .tc main_arg10) = m ((c : Thread nD τ).loc main_arg10) :=
    (X15_of m hO c main_arg10 (by decide)).trans ((X14_keep m hO c main_arg10 (by decide)).trans (arg12 m c main_arg10 (by decide) (by decide) (by decide)))
  have e12 : X15 m hO c (Proc.devRef .tc main_arg12) = m ((c : Thread nD τ).loc main_arg12) :=
    (X15_of m hO c main_arg12 (by decide)).trans ((X14_keep m hO c main_arg12 (by decide)).trans (arg12 m c main_arg12 (by decide) (by decide) (by decide)))
  have e14 : X15 m hO c (Proc.devRef .tc main_arg14) = m ((c : Thread nD τ).loc main_arg14) :=
    (X15_of m hO c main_arg14 (by decide)).trans ((X14_keep m hO c main_arg14 (by decide)).trans (arg12 m c main_arg14 (by decide) (by decide) (by decide)))
  rw [← e9, ← e10, ← e12, ← e14]
  refine ⟨fun k => ?_, fun k => ?_, fun k => ?_, fun k => ?_⟩
  · unfold at' X16
    generalize X15 m hO c = W
    after_reads_at
  · unfold at' X16
    generalize X15 m hO c = W
    after_reads_at
  · unfold at' X16
    generalize X15 m hO c = W
    after_reads_at
  · unfold at' X16
    generalize X15 m hO c = W
    after_reads_at

/-- What the fourth region leaves. -/
theorem v30 (hne : ∀ c p j, LG (winRef (Q m c)) (ix2 p j) ≠ ⊥) (c : Dev nD) :
    X15 m (tok m) c (Proc.devRef .tc main_v30) = MID (Q m c) (img (m ((c : Thread nD τ).loc main_arg0))) (m ((c : Thread nD τ).loc main_arg5)) (m ((c : Thread nD τ).loc main_arg6)) (m ((c : Thread nD τ).loc main_arg7)) (m ((c : Thread nD τ).loc main_arg8)) := by
  rw [X15_main_v30]
  refine (Cert.KV3.final (at' (X14 m (tok m))) _ _ _ c (rows3 m (tok m) c)).trans ?_
  have h1 : X14 m (tok m) c (Proc.devRef .tc main_v22_1) = vRef (Q m c) :=
    (X14_keep m (tok m) c main_v22_1 (by decide)).trans ((X12_keep m c main_v22_1 (by decide)).trans (v10 m c))
  have h2 : X14 m (tok m) c (Proc.devRef .tc main_v25) = Cert.AttnReferenceIdeal.Entry.ATT (qRef (Q m c)) (kvpRef (Q m c)) (four (CH (winRef (Q m c)))) :=
    (StableHlo.after_of_writes_sub hostOps3 _ hostOps3_writes (by decide : main_v25 ∉ hostOps3_W)).trans ((X13_main_v25 m (tok m) c).trans (a25 m hne c))
  have h3 : X14 m (tok m) c (Proc.devRef .tc main_v1) = img (m ((c : Thread nD τ).loc main_arg0)) :=
    (X14_keep m (tok m) c main_v1 (by decide)).trans ((X12_keep m c main_v1 (by decide)).trans ((X10_of m c main_v1 (by decide)).trans (img9 m c)))
  have h7 : X14 m (tok m) c (Proc.devRef .tc main_arg7) = m ((c : Thread nD τ).loc main_arg7) :=
    (X14_keep m (tok m) c main_arg7 (by decide)).trans (arg12 m c main_arg7 (by decide) (by decide) (by decide))
  show Cert.LepeReferenceIdeal.Entry.REF (X14 m (tok m) c (Proc.devRef .tc main_v22_1)) (X14 m (tok m) c (Proc.devRef .tc main_v25)) (X14 m (tok m) c (Proc.devRef .tc main_v1)) _ _ (X14 m (tok m) c (Proc.devRef .tc main_arg7)) _ = _
  rw [h1, h2, h3, h7]

/-- What the last region leaves. -/
theorem v35 (hne : ∀ c p j, LG (winRef (Q m c)) (ix2 p j) ≠ ⊥) (c : Dev nD) :
    X17 m (tok m) c (Proc.devRef .tc main_v35) = Cert.MlpReferenceIdeal.Entry.REF (MID (Q m c) (img (m ((c : Thread nD τ).loc main_arg0))) (m ((c : Thread nD τ).loc main_arg5)) (m ((c : Thread nD τ).loc main_arg6)) (m ((c : Thread nD τ).loc main_arg7)) (m ((c : Thread nD τ).loc main_arg8)))
      (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [X17_main_v35]
  refine (Cert.KV4.final (at' (X16 m (tok m))) _ _ _ _ c (rows4 m (tok m) c)).trans ?_
  have h0 : X16 m (tok m) c (Proc.devRef .tc main_v30) = MID (Q m c) (img (m ((c : Thread nD τ).loc main_arg0))) (m ((c : Thread nD τ).loc main_arg5)) (m ((c : Thread nD τ).loc main_arg6)) (m ((c : Thread nD τ).loc main_arg7)) (m ((c : Thread nD τ).loc main_arg8)) :=
    (StableHlo.after_of_writes_sub hostOps4 _ hostOps4_writes (by decide : main_v30 ∉ hostOps4_W)).trans (v30 m hne c)
  have h11 : X16 m (tok m) c (Proc.devRef .tc main_arg11) = m ((c : Thread nD τ).loc main_arg11) :=
    (X16_keep m (tok m) c main_arg11 (by decide)).trans ((X14_keep m (tok m) c main_arg11 (by decide)).trans (arg12 m c main_arg11 (by decide) (by decide) (by decide)))
  have h13 : X16 m (tok m) c (Proc.devRef .tc main_arg13) = m ((c : Thread nD τ).loc main_arg13) :=
    (X16_keep m (tok m) c main_arg13 (by decide)).trans ((X14_keep m (tok m) c main_arg13 (by decide)).trans (arg12 m c main_arg13 (by decide) (by decide) (by decide)))
  show Cert.MlpReferenceIdeal.Entry.REF (X16 m (tok m) c (Proc.devRef .tc main_v30)) _ _ (X16 m (tok m) c (Proc.devRef .tc main_arg11)) _ (X16 m (tok m) c (Proc.devRef .tc main_arg13)) _ = _
  rw [h0, h11, h13]

/-- The plain layer of the arguments. -/
abbrev want (c : Dev nD) : FVec Ideal S1x384x224x224 .f32 :=
  WHOLE (Q m c) (img (m ((c : Thread nD τ).loc main_arg0))) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The layer's result at the end. -/
theorem final (hne : ∀ c p j, LG (winRef (Q m c)) (ix2 p j) ≠ ⊥) (c : Dev nD) : X18 m (tok m) c (Proc.devRef .tc main_v37) = want m c :=
  (show X18 m (tok m) c (Proc.devRef .tc main_v37) = back (X17 m (tok m) c (Proc.devRef .tc main_v35)) by
    unfold X18
    generalize X17 m (tok m) c = W
    rfl).trans (congrArg back (v35 m hne c))

end Cert.KW

end
-- ==== Proof.KernelClaim.lean ====
/- Hand-written: the whole layer's claims. -/
module

public import proofs.«01_k».proof.Defs
public import proofs.«01_k».proof.Proof.KernelWhole
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.KW

open Cert.KernelIdeal hiding ix2
open Cert.KernelIdeal.Gen Cert.KernelIdeal.Whole

variable (m : (ℓ : Loc nD τ sig) → Buf (Elt Ideal) ℓ)

/-- A buffer of the whole program at its end. -/
theorem at_end {μ : (ℓ : Loc nD τ sig) → Buf (Elt Ideal) ℓ} (h : ∀ c : Dev nD, ∀ b ∈ Pipeline.ucRefs τ sig, μ (c, b) = X18 m (tok m) c b) (c : Dev nD) (b : Ref sig .tc)
    (hb : Proc.devRef .tc b ∈ Pipeline.ucRefs τ sig) : μ ((c.tc : Thread nD τ).loc b) = X18 m (tok m) c (Proc.devRef .tc b) := h c _ hb

/-- The arguments at the end. -/
theorem kept {μ : (ℓ : Loc nD τ sig) → Buf (Elt Ideal) ℓ} (h : ∀ c : Dev nD, ∀ b ∈ Pipeline.ucRefs τ sig, μ (c, b) = X18 m (tok m) c b) (c : Dev nD) :
    μ (((c.tc : Thread nD τ).loc main_arg0)) = m (((c.tc : Thread nD τ).loc main_arg0))
      ∧ μ (((c.tc : Thread nD τ).loc main_arg1)) = m (((c.tc : Thread nD τ).loc main_arg1))
      ∧ μ (((c.tc : Thread nD τ).loc main_arg2)) = m (((c.tc : Thread nD τ).loc main_arg2))
      ∧ μ (((c.tc : Thread nD τ).loc main_arg3)) = m (((c.tc : Thread nD τ).loc main_arg3))
      ∧ μ (((c.tc : Thread nD τ).loc main_arg4)) = m (((c.tc : Thread nD τ).loc main_arg4))
      ∧ μ (((c.tc : Thread nD τ).loc main_arg5)) = m (((c.tc : Thread nD τ).loc main_arg5))
      ∧ μ (((c.tc : Thread nD τ).loc main_arg6)) = m (((c.tc : Thread nD τ).loc main_arg6))
      ∧ μ (((c.tc : Thread nD τ).loc main_arg7)) = m (((c.tc : Thread nD τ).loc main_arg7))
      ∧ μ (((c.tc : Thread nD τ).loc main_arg8)) = m (((c.tc : Thread nD τ).loc main_arg8))
      ∧ μ (((c.tc : Thread nD τ).loc main_arg9)) = m (((c.tc : Thread nD τ).loc main_arg9))
      ∧ μ (((c.tc : Thread nD τ).loc main_arg10)) = m (((c.tc : Thread nD τ).loc main_arg10))
      ∧ μ (((c.tc : Thread nD τ).loc main_arg11)) = m (((c.tc : Thread nD τ).loc main_arg11))
      ∧ μ (((c.tc : Thread nD τ).loc main_arg12)) = m (((c.tc : Thread nD τ).loc main_arg12))
      ∧ μ (((c.tc : Thread nD τ).loc main_arg13)) = m (((c.tc : Thread nD τ).loc main_arg13))
      ∧ μ (((c.tc : Thread nD τ).loc main_arg14)) = m (((c.tc : Thread nD τ).loc main_arg14)) :=
  ⟨(at_end m h c main_arg0 (Finset.mem_filter.mpr ⟨StableHlo.devRef_mem_tcRefs main_arg0, by decide⟩)).trans (X18_keep m (tok m) c main_arg0 (by decide)),
    (at_end m h c main_arg1 (Finset.mem_filter.mpr ⟨StableHlo.devRef_mem_tcRefs main_arg1, by decide⟩)).trans (X18_keep m (tok m) c main_arg1 (by decide)),
    (at_end m h c main_arg2 (Finset.mem_filter.mpr ⟨StableHlo.devRef_mem_tcRefs main_arg2, by decide⟩)).trans (X18_keep m (tok m) c main_arg2 (by decide)),
    (at_end m h c main_arg3 (Finset.mem_filter.mpr ⟨StableHlo.devRef_mem_tcRefs main_arg3, by decide⟩)).trans (X18_keep m (tok m) c main_arg3 (by decide)),
    (at_end m h c main_arg4 (Finset.mem_filter.mpr ⟨StableHlo.devRef_mem_tcRefs main_arg4, by decide⟩)).trans (X18_keep m (tok m) c main_arg4 (by decide)),
    (at_end m h c main_arg5 (Finset.mem_filter.mpr ⟨StableHlo.devRef_mem_tcRefs main_arg5, by decide⟩)).trans (X18_keep m (tok m) c main_arg5 (by decide)),
    (at_end m h c main_arg6 (Finset.mem_filter.mpr ⟨StableHlo.devRef_mem_tcRefs main_arg6, by decide⟩)).trans (X18_keep m (tok m) c main_arg6 (by decide)),
    (at_end m h c main_arg7 (Finset.mem_filter.mpr ⟨StableHlo.devRef_mem_tcRefs main_arg7, by decide⟩)).trans (X18_keep m (tok m) c main_arg7 (by decide)),
    (at_end m h c main_arg8 (Finset.mem_filter.mpr ⟨StableHlo.devRef_mem_tcRefs main_arg8, by decide⟩)).trans (X18_keep m (tok m) c main_arg8 (by decide)),
    (at_end m h c main_arg9 (Finset.mem_filter.mpr ⟨StableHlo.devRef_mem_tcRefs main_arg9, by decide⟩)).trans (X18_keep m (tok m) c main_arg9 (by decide)),
    (at_end m h c main_arg10 (Finset.mem_filter.mpr ⟨StableHlo.devRef_mem_tcRefs main_arg10, by decide⟩)).trans (X18_keep m (tok m) c main_arg10 (by decide)),
    (at_end m h c main_arg11 (Finset.mem_filter.mpr ⟨StableHlo.devRef_mem_tcRefs main_arg11, by decide⟩)).trans (X18_keep m (tok m) c main_arg11 (by decide)),
    (at_end m h c main_arg12 (Finset.mem_filter.mpr ⟨StableHlo.devRef_mem_tcRefs main_arg12, by decide⟩)).trans (X18_keep m (tok m) c main_arg12 (by decide)),
    (at_end m h c main_arg13 (Finset.mem_filter.mpr ⟨StableHlo.devRef_mem_tcRefs main_arg13, by decide⟩)).trans (X18_keep m (tok m) c main_arg13 (by decide)),
    (at_end m h c main_arg14 (Finset.mem_filter.mpr ⟨StableHlo.devRef_mem_tcRefs main_arg14, by decide⟩)).trans (X18_keep m (tok m) c main_arg14 (by decide))⟩

end Cert.KW

namespace Cert.Proof

/-- The whole layer, idealized, runs, keeps its arguments and leaves every semaphore at zero. -/
theorem frame_KernelIdeal : Cert.quiescent_KernelIdeal := fun m ρ _ =>
  (θ_run Cert.KernelIdeal.defs _ _).mono (fun r h => ⟨fun c => Cert.KW.kept m h.1 c, h.2⟩) (Cert.KernelIdeal.Whole.run m (Cert.KW.tok m) ρ)

/-- So does the plain layer, which has no semaphore. -/
theorem frame_KernelReferenceIdeal : Cert.quiescent_KernelReferenceIdeal := fun m ρ _ =>
  θ_run_and ((θ_run Cert.KernelReferenceIdeal.defs _ _).mono (fun _ h c => (h c).2) (Cert.KernelReferenceIdeal.Value.run (F := Ideal) m ρ))
    ((θ_run Cert.KernelReferenceIdeal.defs _ _).mono (fun r _ => Idealize.ShloMosaic.sem_eq_zero_of_no_sems (by decide) r.2)
      (Cert.KernelReferenceIdeal.Value.run (F := Ideal) m ρ))

/-- The whole layer, idealized, computes the plain layer of its arguments. -/
theorem algebraic_KernelIdeal_KernelReferenceIdeal : Cert.algebraic_KernelIdeal_KernelReferenceIdeal := by
  intro m g m' g' hpre hagree
  have hne : ∀ c p j, Cert.RouteReferenceIdeal.Entry.LG (Cert.QkvReferenceIdeal.Entry.winRef (Cert.KW.Q m c)) (ix2 p j) ≠ ⊥ := by
    intro c p j
    obtain ⟨f0, f1, f2, f3, f4⟩ := Cert.KFin.fins _ _ _ _ _ _ _ _ _ _ _ _ _ _ _ (hpre c)
    exact Cert.KFin.logit_ne f0 f1 f2 f3 f4 p j
  refine ⟨fun c => Cert.KW.want m c,
    (θ_run Cert.KernelIdeal.defs _ _).mono (fun r h c => ⟨(Cert.KW.at_end m h.1 c Cert.KernelIdeal.main_v37 (Finset.mem_filter.mpr ⟨StableHlo.devRef_mem_tcRefs Cert.KernelIdeal.main_v37, by decide⟩)).trans (Cert.KW.final m hne c), Cert.KW.kept m h.1 c⟩)
      (Cert.KernelIdeal.Whole.run m (Cert.KW.tok m) g),
    (θ_run Cert.KernelReferenceIdeal.defs _ _).mono (fun r h c => ⟨(h c).1.trans ?_, (h c).2⟩) (Cert.KernelReferenceIdeal.Value.run (F := Ideal) m' g')⟩
  refine ((Cert.KernelReferenceIdeal.Value.val6_main_v309 (StableHlo.launchContents m' c)).symm.trans (Cert.KernelReferenceIdeal.Entry.whole _)).trans ?_
  obtain ⟨h0, h1, h2, h3, h4, h5, h6, h7, h8, h9, h10, h11, h12, h13, h14⟩ := hagree c
  show Cert.KernelReferenceIdeal.Entry.WHOLE (Cert.QkvReferenceIdeal.Entry.QREF (m' ((c.tc : Thread Cert.KernelReferenceIdeal.nD Cert.KernelReferenceIdeal.τ).loc Cert.KernelReferenceIdeal.main_arg0)) (m' ((c.tc : Thread Cert.KernelReferenceIdeal.nD Cert.KernelReferenceIdeal.τ).loc Cert.KernelReferenceIdeal.main_arg1)) (m' ((c.tc : Thread Cert.KernelReferenceIdeal.nD Cert.KernelReferenceIdeal.τ).loc Cert.KernelReferenceIdeal.main_arg2)) (m' ((c.tc : Thread Cert.KernelReferenceIdeal.nD Cert.KernelReferenceIdeal.τ).loc Cert.KernelReferenceIdeal.main_arg3)) (m' ((c.tc : Thread Cert.KernelReferenceIdeal.nD Cert.KernelReferenceIdeal.τ).loc Cert.KernelReferenceIdeal.main_arg4))) (Cert.QkvReferenceIdeal.Entry.img (m' ((c.tc : Thread Cert.KernelReferenceIdeal.nD Cert.KernelReferenceIdeal.τ).loc Cert.KernelReferenceIdeal.main_arg0))) (m' ((c.tc : Thread Cert.KernelReferenceIdeal.nD Cert.KernelReferenceIdeal.τ).loc Cert.KernelReferenceIdeal.main_arg5)) (m' ((c.tc : Thread Cert.KernelReferenceIdeal.nD Cert.KernelReferenceIdeal.τ).loc Cert.KernelReferenceIdeal.main_arg6)) (m' ((c.tc : Thread Cert.KernelReferenceIdeal.nD Cert.KernelReferenceIdeal.τ).loc Cert.KernelReferenceIdeal.main_arg7)) (m' ((c.tc : Thread Cert.KernelReferenceIdeal.nD Cert.KernelReferenceIdeal.τ).loc Cert.KernelReferenceIdeal.main_arg8)) (m' ((c.tc : Thread Cert.KernelReferenceIdeal.nD Cert.KernelReferenceIdeal.τ).loc Cert.KernelReferenceIdeal.main_arg9)) (m' ((c.tc : Thread Cert.KernelReferenceIdeal.nD Cert.KernelReferenceIdeal.τ).loc Cert.KernelReferenceIdeal.main_arg10)) (m' ((c.tc : Thread Cert.KernelReferenceIdeal.nD Cert.KernelReferenceIdeal.τ).loc Cert.KernelReferenceIdeal.main_arg11)) (m' ((c.tc : Thread Cert.KernelReferenceIdeal.nD Cert.KernelReferenceIdeal.τ).loc Cert.KernelReferenceIdeal.main_arg12)) (m' ((c.tc : Thread Cert.KernelReferenceIdeal.nD Cert.KernelReferenceIdeal.τ).loc Cert.KernelReferenceIdeal.main_arg13)) (m' ((c.tc : Thread Cert.KernelReferenceIdeal.nD Cert.KernelReferenceIdeal.τ).loc Cert.KernelReferenceIdeal.main_arg14)) = _
  rw [h0, h1, h2, h3, h4, h5, h6, h7, h8, h9, h10, h11, h12, h13, h14]

end Cert.Proof

end
-- ==== Proof.lean ====
/- The claims proved: the whole layer, idealized, runs, leaves its arguments as they were and computes its plain reference;
   and one call at a time, each call's program and its idealization run and leave their arguments as they were, and the
   idealized call computes its plain reference. -/
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Run
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteReferenceIdeal
public import proofs.«01_k».proof.Proof.Gen.RouteReferenceIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.AttnReferenceIdeal.Run
public import proofs.«01_k».proof.Proof.Gen.Lepe
public import proofs.«01_k».proof.Proof.Gen.Lepe.Skeleton
public import proofs.«01_k».proof.Proof.Gen.Lepe.Launch
public import proofs.«01_k».proof.Proof.Gen.Lepe.Points
public import proofs.«01_k».proof.Proof.Gen.Lepe.Frame
public import proofs.«01_k».proof.Proof.Gen.LepeIdeal
public import proofs.«01_k».proof.Proof.Gen.LepeIdeal.Skeleton
public import proofs.«01_k».proof.Proof.Gen.LepeIdeal.Launch
public import proofs.«01_k».proof.Proof.Gen.LepeIdeal.Points
public import proofs.«01_k».proof.Proof.Gen.LepeIdeal.Frame
public import proofs.«01_k».proof.Proof.Gen.LepeReferenceIdeal
public import proofs.«01_k».proof.Proof.Gen.LepeReferenceIdeal.Run
public import proofs.«01_k».proof.Proof.Gen.LepeIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.MlpIdeal.Value
public import proofs.«01_k».proof.Proof.Gen.Pre_means_finite
public import proofs.«01_k».proof.Proof.Gen.Pre_windows_exist
public import proofs.«01_k».proof.Proof.QkvClaim
public import proofs.«01_k».proof.Proof.RouteClaim
public import proofs.«01_k».proof.Proof.AttnClaim
public import proofs.«01_k».proof.Proof.LepeClaim
public import proofs.«01_k».proof.Proof.MlpClaim
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelReferenceIdeal
public import proofs.«01_k».proof.Proof.Gen.KernelReferenceIdeal.Run
public import proofs.«01_k».proof.Proof.Gen.Pre_inputs_finite
public import proofs.«01_k».proof.Proof.KernelClaim
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.KernelIdeal.Gen.facts, Cert.KernelReferenceIdeal.Gen.facts, Cert.Qkv.Gen.facts, Cert.QkvIdeal.Gen.facts, Cert.QkvReferenceIdeal.Gen.facts, Cert.Route.Gen.facts, Cert.RouteIdeal.Gen.facts, Cert.RouteReferenceIdeal.Gen.facts, Cert.Attn.Gen.facts, Cert.AttnIdeal.Gen.facts, Cert.AttnReferenceIdeal.Gen.facts, Cert.Lepe.Gen.facts, Cert.LepeIdeal.Gen.facts, Cert.LepeReferenceIdeal.Gen.facts, Cert.Mlp.Gen.facts, Cert.MlpIdeal.Gen.facts, Cert.MlpReferenceIdeal.Gen.facts, Cert.Pre_inputs_finite.Gen.facts, Cert.Pre_means_finite.Gen.facts, Cert.Pre_windows_exist.Gen.facts,
    frame_KernelIdeal, frame_KernelReferenceIdeal,
    fun m ρ _ => Cert.Qkv.Gen.frame m ρ, fun m ρ _ => Cert.QkvIdeal.Gen.frame m ρ, frame_QkvReferenceIdeal,
    fun m ρ _ => Cert.Route.Gen.frame m ρ, fun m ρ _ => Cert.RouteIdeal.Gen.frame m ρ, frame_RouteReferenceIdeal,
    frame_Attn, frame_AttnIdeal, frame_AttnReferenceIdeal,
    fun m ρ _ => Cert.Lepe.Gen.frame m ρ, fun m ρ _ => Cert.LepeIdeal.Gen.frame m ρ, frame_LepeReferenceIdeal,
    fun m ρ _ => Cert.Mlp.Gen.frame m ρ, fun m ρ _ => Cert.MlpIdeal.Gen.frame m ρ, frame_MlpReferenceIdeal,
    algebraic_KernelIdeal_KernelReferenceIdeal,
    trivial, algebraic_QkvIdeal_QkvReferenceIdeal,
    trivial, algebraic_RouteIdeal_RouteReferenceIdeal,
    trivial, algebraic_AttnIdeal_AttnReferenceIdeal,
    trivial, algebraic_LepeIdeal_LepeReferenceIdeal,
    trivial, algebraic_MlpIdeal_MlpReferenceIdeal⟩

end Cert.Proof

end
